-- ==== Defs.lean ====
def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_KernelKvIdeal_finite [hPre_finite : Cert.Pre_finite.Facts] (m : (ℓ : Loc Cert.KernelKvIdeal.nD Cert.KernelKvIdeal.τ Cert.KernelKvIdeal.sig) → Buf (Elt Ideal) ℓ) : Prop :=
  ∀ c : Dev Cert.KernelKvIdeal.nD,
    (Cert.Pre_finite.fn (F := Ideal) (m ((c.tc : Thread Cert.KernelKvIdeal.nD Cert.KernelKvIdeal.τ).loc Cert.KernelKvIdeal.main_arg0)) (m ((c.tc : Thread Cert.KernelKvIdeal.nD Cert.KernelKvIdeal.τ).loc Cert.KernelKvIdeal.main_arg1)) (m ((c.tc : Thread Cert.KernelKvIdeal.nD Cert.KernelKvIdeal.τ).loc Cert.KernelKvIdeal.main_arg2)) (m ((c.tc : Thread Cert.KernelKvIdeal.nD Cert.KernelKvIdeal.τ).loc Cert.KernelKvIdeal.main_arg3)) (m ((c.tc : Thread Cert.KernelKvIdeal.nD Cert.KernelKvIdeal.τ).loc Cert.KernelKvIdeal.main_arg4))) = (fun _ => 1#1)

def Pre_ReferenceKvIdeal (m : (ℓ : Loc Cert.ReferenceKvIdeal.nD Cert.ReferenceKvIdeal.τ Cert.ReferenceKvIdeal.sig) → Buf (Elt Ideal) ℓ) : Prop :=
  True

def Pre_ReferenceKvIdeal_finite [hPre_finite : Cert.Pre_finite.Facts] (m : (ℓ : Loc Cert.ReferenceKvIdeal.nD Cert.ReferenceKvIdeal.τ Cert.ReferenceKvIdeal.sig) → Buf (Elt Ideal) ℓ) : Prop :=
  ∀ c : Dev Cert.ReferenceKvIdeal.nD,
    (Cert.Pre_finite.fn (F := Ideal) (m ((c.tc : Thread Cert.ReferenceKvIdeal.nD Cert.ReferenceKvIdeal.τ).loc Cert.ReferenceKvIdeal.main_arg0)) (m ((c.tc : Thread Cert.ReferenceKvIdeal.nD Cert.ReferenceKvIdeal.τ).loc Cert.ReferenceKvIdeal.main_arg1)) (m ((c.tc : Thread Cert.ReferenceKvIdeal.nD Cert.ReferenceKvIdeal.τ).loc Cert.ReferenceKvIdeal.main_arg2)) (m ((c.tc : Thread Cert.ReferenceKvIdeal.nD Cert.ReferenceKvIdeal.τ).loc Cert.ReferenceKvIdeal.main_arg3)) (m ((c.tc : Thread Cert.ReferenceKvIdeal.nD Cert.ReferenceKvIdeal.τ).loc Cert.ReferenceKvIdeal.main_arg4))) = (fun _ => 1#1)

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_KernelDxIdeal_finite_down [hPre_finite_down : Cert.Pre_finite_down.Facts] (m : (ℓ : Loc Cert.KernelDxIdeal.nD Cert.KernelDxIdeal.τ Cert.KernelDxIdeal.sig) → Buf (Elt Ideal) ℓ) : Prop :=
  ∀ c : Dev Cert.KernelDxIdeal.nD,
    (Cert.Pre_finite_down.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2))) = (fun _ => 1#1)

def Pre_ReferenceDxIdeal (m : (ℓ : Loc Cert.ReferenceDxIdeal.nD Cert.ReferenceDxIdeal.τ Cert.ReferenceDxIdeal.sig) → Buf (Elt Ideal) ℓ) : Prop :=
  True

def Pre_ReferenceDxIdeal_finite_down [hPre_finite_down : Cert.Pre_finite_down.Facts] (m : (ℓ : Loc Cert.ReferenceDxIdeal.nD Cert.ReferenceDxIdeal.τ Cert.ReferenceDxIdeal.sig) → Buf (Elt Ideal) ℓ) : Prop :=
  ∀ c : Dev Cert.ReferenceDxIdeal.nD,
    (Cert.Pre_finite_down.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2))) = (fun _ => 1#1)

def Pre_KernelGx (m : (ℓ : Loc Cert.KernelGx.nD Cert.KernelGx.τ Cert.KernelGx.sig) → Buf (Elt Bits) ℓ) : Prop :=
  True

def Pre_KernelGxIdeal (m : (ℓ : Loc Cert.KernelGxIdeal.nD Cert.KernelGxIdeal.τ Cert.KernelGxIdeal.sig) → Buf (Elt Ideal) ℓ) : Prop :=
  True

def Pre_ReferenceGxIdeal (m : (ℓ : Loc Cert.ReferenceGxIdeal.nD Cert.ReferenceGxIdeal.τ Cert.ReferenceGxIdeal.sig) → Buf (Elt Ideal) ℓ) : Prop :=
  True

def Pre_KernelGw (m : (ℓ : Loc Cert.KernelGw.nD Cert.KernelGw.τ Cert.KernelGw.sig) → Buf (Elt Bits) ℓ) : Prop :=
  True

def Pre_KernelGwIdeal (m : (ℓ : Loc Cert.KernelGwIdeal.nD Cert.KernelGwIdeal.τ Cert.KernelGwIdeal.sig) → Buf (Elt Ideal) ℓ) : Prop :=
  True

def Pre_ReferenceGwIdeal (m : (ℓ : Loc Cert.ReferenceGwIdeal.nD Cert.ReferenceGwIdeal.τ Cert.ReferenceGwIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelIx (m : (ℓ : Loc Cert.KernelIx.nD Cert.KernelIx.τ Cert.KernelIx.sig) → Buf (Elt Bits) ℓ) : Prop :=
  True

def Pre_KernelIxIdeal (m : (ℓ : Loc Cert.KernelIxIdeal.nD Cert.KernelIxIdeal.τ Cert.KernelIxIdeal.sig) → Buf (Elt Ideal) ℓ) : Prop :=
  True

def Pre_ReferenceIxIdeal (m : (ℓ : Loc Cert.ReferenceIxIdeal.nD Cert.ReferenceIxIdeal.τ Cert.ReferenceIxIdeal.sig) → Buf (Elt Ideal) ℓ) : Prop :=
  True

def Pre_KernelIw (m : (ℓ : Loc Cert.KernelIw.nD Cert.KernelIw.τ Cert.KernelIw.sig) → Buf (Elt Bits) ℓ) : Prop :=
  True

def Pre_KernelIwIdeal (m : (ℓ : Loc Cert.KernelIwIdeal.nD Cert.KernelIwIdeal.τ Cert.KernelIwIdeal.sig) → Buf (Elt Ideal) ℓ) : Prop :=
  True

def Pre_ReferenceIwIdeal (m : (ℓ : Loc Cert.ReferenceIwIdeal.nD Cert.ReferenceIwIdeal.τ Cert.ReferenceIwIdeal.sig) → Buf (Elt Ideal) ℓ) : Prop :=
  True

def Pre_KernelOx (m : (ℓ : Loc Cert.KernelOx.nD Cert.KernelOx.τ Cert.KernelOx.sig) → Buf (Elt Bits) ℓ) : Prop :=
  True

def Pre_KernelOxIdeal (m : (ℓ : Loc Cert.KernelOxIdeal.nD Cert.KernelOxIdeal.τ Cert.KernelOxIdeal.sig) → Buf (Elt Ideal) ℓ) : Prop :=
  True

def Pre_ReferenceOxIdeal (m : (ℓ : Loc Cert.ReferenceOxIdeal.nD Cert.ReferenceOxIdeal.τ Cert.ReferenceOxIdeal.sig) → Buf (Elt Ideal) ℓ) : Prop :=
  True

def Pre_KernelOw (m : (ℓ : Loc Cert.KernelOw.nD Cert.KernelOw.τ Cert.KernelOw.sig) → Buf (Elt Bits) ℓ) : Prop :=
  True

def Pre_KernelOwIdeal (m : (ℓ : Loc Cert.KernelOwIdeal.nD Cert.KernelOwIdeal.τ Cert.KernelOwIdeal.sig) → Buf (Elt Ideal) ℓ) : Prop :=
  True

def Pre_ReferenceOwIdeal (m : (ℓ : Loc Cert.ReferenceOwIdeal.nD Cert.ReferenceOwIdeal.τ Cert.ReferenceOwIdeal.sig) → Buf (Elt Ideal) ℓ) : Prop :=
  True

def Pre_KernelGf (m : (ℓ : Loc Cert.KernelGf.nD Cert.KernelGf.τ Cert.KernelGf.sig) → Buf (Elt Bits) ℓ) : Prop :=
  True

def Pre_KernelGfIdeal (m : (ℓ : Loc Cert.KernelGfIdeal.nD Cert.KernelGfIdeal.τ Cert.KernelGfIdeal.sig) → Buf (Elt Ideal) ℓ) : Prop :=
  True

def Pre_ReferenceGfIdeal (m : (ℓ : Loc Cert.ReferenceGfIdeal.nD Cert.ReferenceGfIdeal.τ Cert.ReferenceGfIdeal.sig) → Buf (Elt Ideal) ℓ) : Prop :=
  True

def Pre_KernelIf (m : (ℓ : Loc Cert.KernelIf.nD Cert.KernelIf.τ Cert.KernelIf.sig) → Buf (Elt Bits) ℓ) : Prop :=
  True

def Pre_KernelIfIdeal (m : (ℓ : Loc Cert.KernelIfIdeal.nD Cert.KernelIfIdeal.τ Cert.KernelIfIdeal.sig) → Buf (Elt Ideal) ℓ) : Prop :=
  True

def Pre_ReferenceIfIdeal (m : (ℓ : Loc Cert.ReferenceIfIdeal.nD Cert.ReferenceIfIdeal.τ Cert.ReferenceIfIdeal.sig) → Buf (Elt Ideal) ℓ) : Prop :=
  True

def Pre_KernelOf (m : (ℓ : Loc Cert.KernelOf.nD Cert.KernelOf.τ Cert.KernelOf.sig) → Buf (Elt Bits) ℓ) : Prop :=
  True

def Pre_KernelOfIdeal (m : (ℓ : Loc Cert.KernelOfIdeal.nD Cert.KernelOfIdeal.τ Cert.KernelOfIdeal.sig) → Buf (Elt Ideal) ℓ) : Prop :=
  True

def Pre_ReferenceOfIdeal (m : (ℓ : Loc Cert.ReferenceOfIdeal.nD Cert.ReferenceOfIdeal.τ Cert.ReferenceOfIdeal.sig) → Buf (Elt Ideal) ℓ) : Prop :=
  True

def Pre_KernelDl (m : (ℓ : Loc Cert.KernelDl.nD Cert.KernelDl.τ Cert.KernelDl.sig) → Buf (Elt Bits) ℓ) : Prop :=
  True

def Pre_KernelDlIdeal (m : (ℓ : Loc Cert.KernelDlIdeal.nD Cert.KernelDlIdeal.τ Cert.KernelDlIdeal.sig) → Buf (Elt Ideal) ℓ) : Prop :=
  True

def Pre_ReferenceDlIdeal (m : (ℓ : Loc Cert.ReferenceDlIdeal.nD Cert.ReferenceDlIdeal.τ Cert.ReferenceDlIdeal.sig) → Buf (Elt Ideal) ℓ) : Prop :=
  True

def Pre_KernelNb (m : (ℓ : Loc Cert.KernelNb.nD Cert.KernelNb.τ Cert.KernelNb.sig) → Buf (Elt Bits) ℓ) : Prop :=
  True

def Pre_KernelNbIdeal (m : (ℓ : Loc Cert.KernelNbIdeal.nD Cert.KernelNbIdeal.τ Cert.KernelNbIdeal.sig) → Buf (Elt Ideal) ℓ) : Prop :=
  True

def Pre_ReferenceNbIdeal (m : (ℓ : Loc Cert.ReferenceNbIdeal.nD Cert.ReferenceNbIdeal.τ Cert.ReferenceNbIdeal.sig) → Buf (Elt Ideal) ℓ) : Prop :=
  True

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2)
      ∧ r.2.mem ((c.tc : Thread Cert.KernelKv.nD Cert.KernelKv.τ).loc Cert.KernelKv.main_arg3) = m ((c.tc : Thread Cert.KernelKv.nD Cert.KernelKv.τ).loc Cert.KernelKv.main_arg3)
      ∧ r.2.mem ((c.tc : Thread Cert.KernelKv.nD Cert.KernelKv.τ).loc Cert.KernelKv.main_arg4) = m ((c.tc : Thread Cert.KernelKv.nD Cert.KernelKv.τ).loc Cert.KernelKv.main_arg4))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
      ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4))
      ∧ r.2.sem = fun _ => 0)

def quiescent_KernelKvIdeal_pre_finite [hKernelKvIdeal : Cert.KernelKvIdeal.Facts] [hPre_finite : Cert.Pre_finite.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal_finite m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
      ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3)
      ∧ r.2.mem ((c.tc : Thread Cert.ReferenceKvIdeal.nD Cert.ReferenceKvIdeal.τ).loc Cert.ReferenceKvIdeal.main_arg4) = m ((c.tc : Thread Cert.ReferenceKvIdeal.nD Cert.ReferenceKvIdeal.τ).loc Cert.ReferenceKvIdeal.main_arg4))
      ∧ r.2.sem = fun _ => 0)

def quiescent_ReferenceKvIdeal_pre_finite [hReferenceKvIdeal : Cert.ReferenceKvIdeal.Facts] [hPre_finite : Cert.Pre_finite.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal_finite m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3)
      ∧ r.2.mem ((c.tc : Thread Cert.ReferenceKvIdeal.nD Cert.ReferenceKvIdeal.τ).loc Cert.ReferenceKvIdeal.main_arg4) = m ((c.tc : Thread Cert.ReferenceKvIdeal.nD Cert.ReferenceKvIdeal.τ).loc Cert.ReferenceKvIdeal.main_arg4))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2))
      ∧ r.2.sem = fun _ => 0)

def quiescent_KernelDxIdeal_pre_finite_down [hKernelDxIdeal : Cert.KernelDxIdeal.Facts] [hPre_finite_down : Cert.Pre_finite_down.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal_finite_down m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2))
      ∧ r.2.sem = fun _ => 0)

def quiescent_ReferenceDxIdeal_pre_finite_down [hReferenceDxIdeal : Cert.ReferenceDxIdeal.Facts] [hPre_finite_down : Cert.Pre_finite_down.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal_finite_down m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2))
      ∧ r.2.sem = fun _ => 0)

def quiescent_KernelGx [hKernelGx : Cert.KernelGx.Facts] : Prop :=
  ∀ (m : (ℓ : Loc Cert.KernelGx.nD Cert.KernelGx.τ Cert.KernelGx.sig) → Buf (Elt Bits) ℓ) (g : Dev Cert.KernelGx.nD → PrngReg), Pre_KernelGx m →
    θ_run (Cert.KernelGx.defs (F := Bits)) (onTc (τ := Cert.KernelGx.τ) (Cert.KernelGx.main (F := Bits))) ⟨m, fun _ => 0, g⟩ (fun r => (∀ c : Dev Cert.KernelGx.nD,
      r.2.mem ((c.tc : Thread Cert.KernelGx.nD Cert.KernelGx.τ).loc Cert.KernelGx.main_arg0) = m ((c.tc : Thread Cert.KernelGx.nD Cert.KernelGx.τ).loc Cert.KernelGx.main_arg0)
      ∧ r.2.mem ((c.tc : Thread Cert.KernelGx.nD Cert.KernelGx.τ).loc Cert.KernelGx.main_arg1) = m ((c.tc : Thread Cert.KernelGx.nD Cert.KernelGx.τ).loc Cert.KernelGx.main_arg1))
      ∧ r.2.sem = fun _ => 0)

def quiescent_KernelGxIdeal [hKernelGxIdeal : Cert.KernelGxIdeal.Facts] : Prop :=
  ∀ (m : (ℓ : Loc Cert.KernelGxIdeal.nD Cert.KernelGxIdeal.τ Cert.KernelGxIdeal.sig) → Buf (Elt Ideal) ℓ) (g : Dev Cert.KernelGxIdeal.nD → PrngReg), Pre_KernelGxIdeal m →
    θ_run (Cert.KernelGxIdeal.defs (F := Ideal)) (onTc (τ := Cert.KernelGxIdeal.τ) (Cert.KernelGxIdeal.main (F := Ideal))) ⟨m, fun _ => 0, g⟩ (fun r => (∀ c : Dev Cert.KernelGxIdeal.nD,
      r.2.mem ((c.tc : Thread Cert.KernelGxIdeal.nD Cert.KernelGxIdeal.τ).loc Cert.KernelGxIdeal.main_arg0) = m ((c.tc : Thread Cert.KernelGxIdeal.nD Cert.KernelGxIdeal.τ).loc Cert.KernelGxIdeal.main_arg0)
      ∧ r.2.mem ((c.tc : Thread Cert.KernelGxIdeal.nD Cert.KernelGxIdeal.τ).loc Cert.KernelGxIdeal.main_arg1) = m ((c.tc : Thread Cert.KernelGxIdeal.nD Cert.KernelGxIdeal.τ).loc Cert.KernelGxIdeal.main_arg1))
      ∧ r.2.sem = fun _ => 0)

def quiescent_ReferenceGxIdeal [hReferenceGxIdeal : Cert.ReferenceGxIdeal.Facts] : Prop :=
  ∀ (m : (ℓ : Loc Cert.ReferenceGxIdeal.nD Cert.ReferenceGxIdeal.τ Cert.ReferenceGxIdeal.sig) → Buf (Elt Ideal) ℓ) (g : Dev Cert.ReferenceGxIdeal.nD → PrngReg), Pre_ReferenceGxIdeal m →
    θ_run (Cert.ReferenceGxIdeal.defs (F := Ideal)) (onTc (τ := Cert.ReferenceGxIdeal.τ) (Cert.ReferenceGxIdeal.main (F := Ideal))) ⟨m, fun _ => 0, g⟩ (fun r => (∀ c : Dev Cert.ReferenceGxIdeal.nD,
      r.2.mem ((c.tc : Thread Cert.ReferenceGxIdeal.nD Cert.ReferenceGxIdeal.τ).loc Cert.ReferenceGxIdeal.main_arg0) = m ((c.tc : Thread Cert.ReferenceGxIdeal.nD Cert.ReferenceGxIdeal.τ).loc Cert.ReferenceGxIdeal.main_arg0)
      ∧ r.2.mem ((c.tc : Thread Cert.ReferenceGxIdeal.nD Cert.ReferenceGxIdeal.τ).loc Cert.ReferenceGxIdeal.main_arg1) = m ((c.tc : Thread Cert.ReferenceGxIdeal.nD Cert.ReferenceGxIdeal.τ).loc Cert.ReferenceGxIdeal.main_arg1))
      ∧ r.2.sem = fun _ => 0)

def quiescent_KernelGw [hKernelGw : Cert.KernelGw.Facts] : Prop :=
  ∀ (m : (ℓ : Loc Cert.KernelGw.nD Cert.KernelGw.τ Cert.KernelGw.sig) → Buf (Elt Bits) ℓ) (g : Dev Cert.KernelGw.nD → PrngReg), Pre_KernelGw m →
    θ_run (Cert.KernelGw.defs (F := Bits)) (onTc (τ := Cert.KernelGw.τ) (Cert.KernelGw.main (F := Bits))) ⟨m, fun _ => 0, g⟩ (fun r => (∀ c : Dev Cert.KernelGw.nD,
      r.2.mem ((c.tc : Thread Cert.KernelGw.nD Cert.KernelGw.τ).loc Cert.KernelGw.main_arg0) = m ((c.tc : Thread Cert.KernelGw.nD Cert.KernelGw.τ).loc Cert.KernelGw.main_arg0)
      ∧ r.2.mem ((c.tc : Thread Cert.KernelGw.nD Cert.KernelGw.τ).loc Cert.KernelGw.main_arg1) = m ((c.tc : Thread Cert.KernelGw.nD Cert.KernelGw.τ).loc Cert.KernelGw.main_arg1))
      ∧ r.2.sem = fun _ => 0)

def quiescent_KernelGwIdeal [hKernelGwIdeal : Cert.KernelGwIdeal.Facts] : Prop :=
  ∀ (m : (ℓ : Loc Cert.KernelGwIdeal.nD Cert.KernelGwIdeal.τ Cert.KernelGwIdeal.sig) → Buf (Elt Ideal) ℓ) (g : Dev Cert.KernelGwIdeal.nD → PrngReg), Pre_KernelGwIdeal m →
    θ_run (Cert.KernelGwIdeal.defs (F := Ideal)) (onTc (τ := Cert.KernelGwIdeal.τ) (Cert.KernelGwIdeal.main (F := Ideal))) ⟨m, fun _ => 0, g⟩ (fun r => (∀ c : Dev Cert.KernelGwIdeal.nD,
      r.2.mem ((c.tc : Thread Cert.KernelGwIdeal.nD Cert.KernelGwIdeal.τ).loc Cert.KernelGwIdeal.main_arg0) = m ((c.tc : Thread Cert.KernelGwIdeal.nD Cert.KernelGwIdeal.τ).loc Cert.KernelGwIdeal.main_arg0)
      ∧ r.2.mem ((c.tc : Thread Cert.KernelGwIdeal.nD Cert.KernelGwIdeal.τ).loc Cert.KernelGwIdeal.main_arg1) = m ((c.tc : Thread Cert.KernelGwIdeal.nD Cert.KernelGwIdeal.τ).loc Cert.KernelGwIdeal.main_arg1))
      ∧ r.2.sem = fun _ => 0)

def quiescent_ReferenceGwIdeal [hReferenceGwIdeal : Cert.ReferenceGwIdeal.Facts] : Prop :=
  ∀ (m : (ℓ : Loc Cert.ReferenceGwIdeal.nD Cert.ReferenceGwIdeal.τ Cert.ReferenceGwIdeal.sig) → Buf (Elt Ideal) ℓ) (g : Dev Cert.ReferenceGwIdeal.nD → PrngReg), Pre_ReferenceGwIdeal m →
    θ_run (Cert.ReferenceGwIdeal.defs (F := Ideal)) (onTc (τ := Cert.ReferenceGwIdeal.τ) (Cert.ReferenceGwIdeal.main (F := Ideal))) ⟨m, fun _ => 0, g⟩ (fun r => (∀ c : Dev Cert.ReferenceGwIdeal.nD,
      r.2.mem ((c.tc : Thread Cert.ReferenceGwIdeal.nD Cert.ReferenceGwIdeal.τ).loc Cert.ReferenceGwIdeal.main_arg0) = m ((c.tc : Thread Cert.ReferenceGwIdeal.nD Cert.ReferenceGwIdeal.τ).loc Cert.ReferenceGwIdeal.main_arg0)
      ∧ r.2.mem ((c.tc : Thread Cert.ReferenceGwIdeal.nD Cert.ReferenceGwIdeal.τ).loc Cert.ReferenceGwIdeal.main_arg1) = m ((c.tc : Thread Cert.ReferenceGwIdeal.nD Cert.ReferenceGwIdeal.τ).loc Cert.ReferenceGwIdeal.main_arg1))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelIx [hKernelIx : Cert.KernelIx.Facts] : Prop :=
  ∀ (m : (ℓ : Loc Cert.KernelIx.nD Cert.KernelIx.τ Cert.KernelIx.sig) → Buf (Elt Bits) ℓ) (g : Dev Cert.KernelIx.nD → PrngReg), Pre_KernelIx m →
    θ_run (Cert.KernelIx.defs (F := Bits)) (onTc (τ := Cert.KernelIx.τ) (Cert.KernelIx.main (F := Bits))) ⟨m, fun _ => 0, g⟩ (fun r => (∀ c : Dev Cert.KernelIx.nD,
      r.2.mem ((c.tc : Thread Cert.KernelIx.nD Cert.KernelIx.τ).loc Cert.KernelIx.main_arg0) = m ((c.tc : Thread Cert.KernelIx.nD Cert.KernelIx.τ).loc Cert.KernelIx.main_arg0)
      ∧ r.2.mem ((c.tc : Thread Cert.KernelIx.nD Cert.KernelIx.τ).loc Cert.KernelIx.main_arg1) = m ((c.tc : Thread Cert.KernelIx.nD Cert.KernelIx.τ).loc Cert.KernelIx.main_arg1)
      ∧ r.2.mem ((c.tc : Thread Cert.KernelIx.nD Cert.KernelIx.τ).loc Cert.KernelIx.main_arg2) = m ((c.tc : Thread Cert.KernelIx.nD Cert.KernelIx.τ).loc Cert.KernelIx.main_arg2))
      ∧ r.2.sem = fun _ => 0)

def quiescent_KernelIxIdeal [hKernelIxIdeal : Cert.KernelIxIdeal.Facts] : Prop :=
  ∀ (m : (ℓ : Loc Cert.KernelIxIdeal.nD Cert.KernelIxIdeal.τ Cert.KernelIxIdeal.sig) → Buf (Elt Ideal) ℓ) (g : Dev Cert.KernelIxIdeal.nD → PrngReg), Pre_KernelIxIdeal m →
    θ_run (Cert.KernelIxIdeal.defs (F := Ideal)) (onTc (τ := Cert.KernelIxIdeal.τ) (Cert.KernelIxIdeal.main (F := Ideal))) ⟨m, fun _ => 0, g⟩ (fun r => (∀ c : Dev Cert.KernelIxIdeal.nD,
      r.2.mem ((c.tc : Thread Cert.KernelIxIdeal.nD Cert.KernelIxIdeal.τ).loc Cert.KernelIxIdeal.main_arg0) = m ((c.tc : Thread Cert.KernelIxIdeal.nD Cert.KernelIxIdeal.τ).loc Cert.KernelIxIdeal.main_arg0)
      ∧ r.2.mem ((c.tc : Thread Cert.KernelIxIdeal.nD Cert.KernelIxIdeal.τ).loc Cert.KernelIxIdeal.main_arg1) = m ((c.tc : Thread Cert.KernelIxIdeal.nD Cert.KernelIxIdeal.τ).loc Cert.KernelIxIdeal.main_arg1)
      ∧ r.2.mem ((c.tc : Thread Cert.KernelIxIdeal.nD Cert.KernelIxIdeal.τ).loc Cert.KernelIxIdeal.main_arg2) = m ((c.tc : Thread Cert.KernelIxIdeal.nD Cert.KernelIxIdeal.τ).loc Cert.KernelIxIdeal.main_arg2))
      ∧ r.2.sem = fun _ => 0)

def quiescent_ReferenceIxIdeal [hReferenceIxIdeal : Cert.ReferenceIxIdeal.Facts] : Prop :=
  ∀ (m : (ℓ : Loc Cert.ReferenceIxIdeal.nD Cert.ReferenceIxIdeal.τ Cert.ReferenceIxIdeal.sig) → Buf (Elt Ideal) ℓ) (g : Dev Cert.ReferenceIxIdeal.nD → PrngReg), Pre_ReferenceIxIdeal m →
    θ_run (Cert.ReferenceIxIdeal.defs (F := Ideal)) (onTc (τ := Cert.ReferenceIxIdeal.τ) (Cert.ReferenceIxIdeal.main (F := Ideal))) ⟨m, fun _ => 0, g⟩ (fun r => (∀ c : Dev Cert.ReferenceIxIdeal.nD,
      r.2.mem ((c.tc : Thread Cert.ReferenceIxIdeal.nD Cert.ReferenceIxIdeal.τ).loc Cert.ReferenceIxIdeal.main_arg0) = m ((c.tc : Thread Cert.ReferenceIxIdeal.nD Cert.ReferenceIxIdeal.τ).loc Cert.ReferenceIxIdeal.main_arg0)
      ∧ r.2.mem ((c.tc : Thread Cert.ReferenceIxIdeal.nD Cert.ReferenceIxIdeal.τ).loc Cert.ReferenceIxIdeal.main_arg1) = m ((c.tc : Thread Cert.ReferenceIxIdeal.nD Cert.ReferenceIxIdeal.τ).loc Cert.ReferenceIxIdeal.main_arg1)
      ∧ r.2.mem ((c.tc : Thread Cert.ReferenceIxIdeal.nD Cert.ReferenceIxIdeal.τ).loc Cert.ReferenceIxIdeal.main_arg2) = m ((c.tc : Thread Cert.ReferenceIxIdeal.nD Cert.ReferenceIxIdeal.τ).loc Cert.ReferenceIxIdeal.main_arg2))
      ∧ r.2.sem = fun _ => 0)

def quiescent_KernelIw [hKernelIw : Cert.KernelIw.Facts] : Prop :=
  ∀ (m : (ℓ : Loc Cert.KernelIw.nD Cert.KernelIw.τ Cert.KernelIw.sig) → Buf (Elt Bits) ℓ) (g : Dev Cert.KernelIw.nD → PrngReg), Pre_KernelIw m →
    θ_run (Cert.KernelIw.defs (F := Bits)) (onTc (τ := Cert.KernelIw.τ) (Cert.KernelIw.main (F := Bits))) ⟨m, fun _ => 0, g⟩ (fun r => (∀ c : Dev Cert.KernelIw.nD,
      r.2.mem ((c.tc : Thread Cert.KernelIw.nD Cert.KernelIw.τ).loc Cert.KernelIw.main_arg0) = m ((c.tc : Thread Cert.KernelIw.nD Cert.KernelIw.τ).loc Cert.KernelIw.main_arg0)
      ∧ r.2.mem ((c.tc : Thread Cert.KernelIw.nD Cert.KernelIw.τ).loc Cert.KernelIw.main_arg1) = m ((c.tc : Thread Cert.KernelIw.nD Cert.KernelIw.τ).loc Cert.KernelIw.main_arg1))
      ∧ r.2.sem = fun _ => 0)

def quiescent_KernelIwIdeal [hKernelIwIdeal : Cert.KernelIwIdeal.Facts] : Prop :=
  ∀ (m : (ℓ : Loc Cert.KernelIwIdeal.nD Cert.KernelIwIdeal.τ Cert.KernelIwIdeal.sig) → Buf (Elt Ideal) ℓ) (g : Dev Cert.KernelIwIdeal.nD → PrngReg), Pre_KernelIwIdeal m →
    θ_run (Cert.KernelIwIdeal.defs (F := Ideal)) (onTc (τ := Cert.KernelIwIdeal.τ) (Cert.KernelIwIdeal.main (F := Ideal))) ⟨m, fun _ => 0, g⟩ (fun r => (∀ c : Dev Cert.KernelIwIdeal.nD,
      r.2.mem ((c.tc : Thread Cert.KernelIwIdeal.nD Cert.KernelIwIdeal.τ).loc Cert.KernelIwIdeal.main_arg0) = m ((c.tc : Thread Cert.KernelIwIdeal.nD Cert.KernelIwIdeal.τ).loc Cert.KernelIwIdeal.main_arg0)
      ∧ r.2.mem ((c.tc : Thread Cert.KernelIwIdeal.nD Cert.KernelIwIdeal.τ).loc Cert.KernelIwIdeal.main_arg1) = m ((c.tc : Thread Cert.KernelIwIdeal.nD Cert.KernelIwIdeal.τ).loc Cert.KernelIwIdeal.main_arg1))
      ∧ r.2.sem = fun _ => 0)

def quiescent_ReferenceIwIdeal [hReferenceIwIdeal : Cert.ReferenceIwIdeal.Facts] : Prop :=
  ∀ (m : (ℓ : Loc Cert.ReferenceIwIdeal.nD Cert.ReferenceIwIdeal.τ Cert.ReferenceIwIdeal.sig) → Buf (Elt Ideal) ℓ) (g : Dev Cert.ReferenceIwIdeal.nD → PrngReg), Pre_ReferenceIwIdeal m →
    θ_run (Cert.ReferenceIwIdeal.defs (F := Ideal)) (onTc (τ := Cert.ReferenceIwIdeal.τ) (Cert.ReferenceIwIdeal.main (F := Ideal))) ⟨m, fun _ => 0, g⟩ (fun r => (∀ c : Dev Cert.ReferenceIwIdeal.nD,
      r.2.mem ((c.tc : Thread Cert.ReferenceIwIdeal.nD Cert.ReferenceIwIdeal.τ).loc Cert.ReferenceIwIdeal.main_arg0) = m ((c.tc : Thread Cert.ReferenceIwIdeal.nD Cert.ReferenceIwIdeal.τ).loc Cert.ReferenceIwIdeal.main_arg0)
      ∧ r.2.mem ((c.tc : Thread Cert.ReferenceIwIdeal.nD Cert.ReferenceIwIdeal.τ).loc Cert.ReferenceIwIdeal.main_arg1) = m ((c.tc : Thread Cert.ReferenceIwIdeal.nD Cert.ReferenceIwIdeal.τ).loc Cert.ReferenceIwIdeal.main_arg1))
      ∧ r.2.sem = fun _ => 0)

def quiescent_KernelOx [hKernelOx : Cert.KernelOx.Facts] : Prop :=
  ∀ (m : (ℓ : Loc Cert.KernelOx.nD Cert.KernelOx.τ Cert.KernelOx.sig) → Buf (Elt Bits) ℓ) (g : Dev Cert.KernelOx.nD → PrngReg), Pre_KernelOx m →
    θ_run (Cert.KernelOx.defs (F := Bits)) (onTc (τ := Cert.KernelOx.τ) (Cert.KernelOx.main (F := Bits))) ⟨m, fun _ => 0, g⟩ (fun r => (∀ c : Dev Cert.KernelOx.nD,
      r.2.mem ((c.tc : Thread Cert.KernelOx.nD Cert.KernelOx.τ).loc Cert.KernelOx.main_arg0) = m ((c.tc : Thread Cert.KernelOx.nD Cert.KernelOx.τ).loc Cert.KernelOx.main_arg0)
      ∧ r.2.mem ((c.tc : Thread Cert.KernelOx.nD Cert.KernelOx.τ).loc Cert.KernelOx.main_arg1) = m ((c.tc : Thread Cert.KernelOx.nD Cert.KernelOx.τ).loc Cert.KernelOx.main_arg1))
      ∧ r.2.sem = fun _ => 0)

def quiescent_KernelOxIdeal [hKernelOxIdeal : Cert.KernelOxIdeal.Facts] : Prop :=
  ∀ (m : (ℓ : Loc Cert.KernelOxIdeal.nD Cert.KernelOxIdeal.τ Cert.KernelOxIdeal.sig) → Buf (Elt Ideal) ℓ) (g : Dev Cert.KernelOxIdeal.nD → PrngReg), Pre_KernelOxIdeal m →
    θ_run (Cert.KernelOxIdeal.defs (F := Ideal)) (onTc (τ := Cert.KernelOxIdeal.τ) (Cert.KernelOxIdeal.main (F := Ideal))) ⟨m, fun _ => 0, g⟩ (fun r => (∀ c : Dev Cert.KernelOxIdeal.nD,
      r.2.mem ((c.tc : Thread Cert.KernelOxIdeal.nD Cert.KernelOxIdeal.τ).loc Cert.KernelOxIdeal.main_arg0) = m ((c.tc : Thread Cert.KernelOxIdeal.nD Cert.KernelOxIdeal.τ).loc Cert.KernelOxIdeal.main_arg0)
      ∧ r.2.mem ((c.tc : Thread Cert.KernelOxIdeal.nD Cert.KernelOxIdeal.τ).loc Cert.KernelOxIdeal.main_arg1) = m ((c.tc : Thread Cert.KernelOxIdeal.nD Cert.KernelOxIdeal.τ).loc Cert.KernelOxIdeal.main_arg1))
      ∧ r.2.sem = fun _ => 0)

def quiescent_ReferenceOxIdeal [hReferenceOxIdeal : Cert.ReferenceOxIdeal.Facts] : Prop :=
  ∀ (m : (ℓ : Loc Cert.ReferenceOxIdeal.nD Cert.ReferenceOxIdeal.τ Cert.ReferenceOxIdeal.sig) → Buf (Elt Ideal) ℓ) (g : Dev Cert.ReferenceOxIdeal.nD → PrngReg), Pre_ReferenceOxIdeal m →
    θ_run (Cert.ReferenceOxIdeal.defs (F := Ideal)) (onTc (τ := Cert.ReferenceOxIdeal.τ) (Cert.ReferenceOxIdeal.main (F := Ideal))) ⟨m, fun _ => 0, g⟩ (fun r => (∀ c : Dev Cert.ReferenceOxIdeal.nD,
      r.2.mem ((c.tc : Thread Cert.ReferenceOxIdeal.nD Cert.ReferenceOxIdeal.τ).loc Cert.ReferenceOxIdeal.main_arg0) = m ((c.tc : Thread Cert.ReferenceOxIdeal.nD Cert.ReferenceOxIdeal.τ).loc Cert.ReferenceOxIdeal.main_arg0)
      ∧ r.2.mem ((c.tc : Thread Cert.ReferenceOxIdeal.nD Cert.ReferenceOxIdeal.τ).loc Cert.ReferenceOxIdeal.main_arg1) = m ((c.tc : Thread Cert.ReferenceOxIdeal.nD Cert.ReferenceOxIdeal.τ).loc Cert.ReferenceOxIdeal.main_arg1))
      ∧ r.2.sem = fun _ => 0)

def quiescent_KernelOw [hKernelOw : Cert.KernelOw.Facts] : Prop :=
  ∀ (m : (ℓ : Loc Cert.KernelOw.nD Cert.KernelOw.τ Cert.KernelOw.sig) → Buf (Elt Bits) ℓ) (g : Dev Cert.KernelOw.nD → PrngReg), Pre_KernelOw m →
    θ_run (Cert.KernelOw.defs (F := Bits)) (onTc (τ := Cert.KernelOw.τ) (Cert.KernelOw.main (F := Bits))) ⟨m, fun _ => 0, g⟩ (fun r => (∀ c : Dev Cert.KernelOw.nD,
      r.2.mem ((c.tc : Thread Cert.KernelOw.nD Cert.KernelOw.τ).loc Cert.KernelOw.main_arg0) = m ((c.tc : Thread Cert.KernelOw.nD Cert.KernelOw.τ).loc Cert.KernelOw.main_arg0)
      ∧ r.2.mem ((c.tc : Thread Cert.KernelOw.nD Cert.KernelOw.τ).loc Cert.KernelOw.main_arg1) = m ((c.tc : Thread Cert.KernelOw.nD Cert.KernelOw.τ).loc Cert.KernelOw.main_arg1))
      ∧ r.2.sem = fun _ => 0)

def quiescent_KernelOwIdeal [hKernelOwIdeal : Cert.KernelOwIdeal.Facts] : Prop :=
  ∀ (m : (ℓ : Loc Cert.KernelOwIdeal.nD Cert.KernelOwIdeal.τ Cert.KernelOwIdeal.sig) → Buf (Elt Ideal) ℓ) (g : Dev Cert.KernelOwIdeal.nD → PrngReg), Pre_KernelOwIdeal m →
    θ_run (Cert.KernelOwIdeal.defs (F := Ideal)) (onTc (τ := Cert.KernelOwIdeal.τ) (Cert.KernelOwIdeal.main (F := Ideal))) ⟨m, fun _ => 0, g⟩ (fun r => (∀ c : Dev Cert.KernelOwIdeal.nD,
      r.2.mem ((c.tc : Thread Cert.KernelOwIdeal.nD Cert.KernelOwIdeal.τ).loc Cert.KernelOwIdeal.main_arg0) = m ((c.tc : Thread Cert.KernelOwIdeal.nD Cert.KernelOwIdeal.τ).loc Cert.KernelOwIdeal.main_arg0)
      ∧ r.2.mem ((c.tc : Thread Cert.KernelOwIdeal.nD Cert.KernelOwIdeal.τ).loc Cert.KernelOwIdeal.main_arg1) = m ((c.tc : Thread Cert.KernelOwIdeal.nD Cert.KernelOwIdeal.τ).loc Cert.KernelOwIdeal.main_arg1))
      ∧ r.2.sem = fun _ => 0)

def quiescent_ReferenceOwIdeal [hReferenceOwIdeal : Cert.ReferenceOwIdeal.Facts] : Prop :=
  ∀ (m : (ℓ : Loc Cert.ReferenceOwIdeal.nD Cert.ReferenceOwIdeal.τ Cert.ReferenceOwIdeal.sig) → Buf (Elt Ideal) ℓ) (g : Dev Cert.ReferenceOwIdeal.nD → PrngReg), Pre_ReferenceOwIdeal m →
    θ_run (Cert.ReferenceOwIdeal.defs (F := Ideal)) (onTc (τ := Cert.ReferenceOwIdeal.τ) (Cert.ReferenceOwIdeal.main (F := Ideal))) ⟨m, fun _ => 0, g⟩ (fun r => (∀ c : Dev Cert.ReferenceOwIdeal.nD,
      r.2.mem ((c.tc : Thread Cert.ReferenceOwIdeal.nD Cert.ReferenceOwIdeal.τ).loc Cert.ReferenceOwIdeal.main_arg0) = m ((c.tc : Thread Cert.ReferenceOwIdeal.nD Cert.ReferenceOwIdeal.τ).loc Cert.ReferenceOwIdeal.main_arg0)
      ∧ r.2.mem ((c.tc : Thread Cert.ReferenceOwIdeal.nD Cert.ReferenceOwIdeal.τ).loc Cert.ReferenceOwIdeal.main_arg1) = m ((c.tc : Thread Cert.ReferenceOwIdeal.nD Cert.ReferenceOwIdeal.τ).loc Cert.ReferenceOwIdeal.main_arg1))
      ∧ r.2.sem = fun _ => 0)

def quiescent_KernelGf [hKernelGf : Cert.KernelGf.Facts] : Prop :=
  ∀ (m : (ℓ : Loc Cert.KernelGf.nD Cert.KernelGf.τ Cert.KernelGf.sig) → Buf (Elt Bits) ℓ) (g : Dev Cert.KernelGf.nD → PrngReg), Pre_KernelGf m →
    θ_run (Cert.KernelGf.defs (F := Bits)) (onTc (τ := Cert.KernelGf.τ) (Cert.KernelGf.main (F := Bits))) ⟨m, fun _ => 0, g⟩ (fun r => (∀ c : Dev Cert.KernelGf.nD,
      r.2.mem ((c.tc : Thread Cert.KernelGf.nD Cert.KernelGf.τ).loc Cert.KernelGf.main_arg0) = m ((c.tc : Thread Cert.KernelGf.nD Cert.KernelGf.τ).loc Cert.KernelGf.main_arg0)
      ∧ r.2.mem ((c.tc : Thread Cert.KernelGf.nD Cert.KernelGf.τ).loc Cert.KernelGf.main_arg1) = m ((c.tc : Thread Cert.KernelGf.nD Cert.KernelGf.τ).loc Cert.KernelGf.main_arg1))
      ∧ r.2.sem = fun _ => 0)

def quiescent_KernelGfIdeal [hKernelGfIdeal : Cert.KernelGfIdeal.Facts] : Prop :=
  ∀ (m : (ℓ : Loc Cert.KernelGfIdeal.nD Cert.KernelGfIdeal.τ Cert.KernelGfIdeal.sig) → Buf (Elt Ideal) ℓ) (g : Dev Cert.KernelGfIdeal.nD → PrngReg), Pre_KernelGfIdeal m →
    θ_run (Cert.KernelGfIdeal.defs (F := Ideal)) (onTc (τ := Cert.KernelGfIdeal.τ) (Cert.KernelGfIdeal.main (F := Ideal))) ⟨m, fun _ => 0, g⟩ (fun r => (∀ c : Dev Cert.KernelGfIdeal.nD,
      r.2.mem ((c.tc : Thread Cert.KernelGfIdeal.nD Cert.KernelGfIdeal.τ).loc Cert.KernelGfIdeal.main_arg0) = m ((c.tc : Thread Cert.KernelGfIdeal.nD Cert.KernelGfIdeal.τ).loc Cert.KernelGfIdeal.main_arg0)
      ∧ r.2.mem ((c.tc : Thread Cert.KernelGfIdeal.nD Cert.KernelGfIdeal.τ).loc Cert.KernelGfIdeal.main_arg1) = m ((c.tc : Thread Cert.KernelGfIdeal.nD Cert.KernelGfIdeal.τ).loc Cert.KernelGfIdeal.main_arg1))
      ∧ r.2.sem = fun _ => 0)

def quiescent_ReferenceGfIdeal [hReferenceGfIdeal : Cert.ReferenceGfIdeal.Facts] : Prop :=
  ∀ (m : (ℓ : Loc Cert.ReferenceGfIdeal.nD Cert.ReferenceGfIdeal.τ Cert.ReferenceGfIdeal.sig) → Buf (Elt Ideal) ℓ) (g : Dev Cert.ReferenceGfIdeal.nD → PrngReg), Pre_ReferenceGfIdeal m →
    θ_run (Cert.ReferenceGfIdeal.defs (F := Ideal)) (onTc (τ := Cert.ReferenceGfIdeal.τ) (Cert.ReferenceGfIdeal.main (F := Ideal))) ⟨m, fun _ => 0, g⟩ (fun r => (∀ c : Dev Cert.ReferenceGfIdeal.nD,
      r.2.mem ((c.tc : Thread Cert.ReferenceGfIdeal.nD Cert.ReferenceGfIdeal.τ).loc Cert.ReferenceGfIdeal.main_arg0) = m ((c.tc : Thread Cert.ReferenceGfIdeal.nD Cert.ReferenceGfIdeal.τ).loc Cert.ReferenceGfIdeal.main_arg0)
      ∧ r.2.mem ((c.tc : Thread Cert.ReferenceGfIdeal.nD Cert.ReferenceGfIdeal.τ).loc Cert.ReferenceGfIdeal.main_arg1) = m ((c.tc : Thread Cert.ReferenceGfIdeal.nD Cert.ReferenceGfIdeal.τ).loc Cert.ReferenceGfIdeal.main_arg1))
      ∧ r.2.sem = fun _ => 0)

def quiescent_KernelIf [hKernelIf : Cert.KernelIf.Facts] : Prop :=
  ∀ (m : (ℓ : Loc Cert.KernelIf.nD Cert.KernelIf.τ Cert.KernelIf.sig) → Buf (Elt Bits) ℓ) (g : Dev Cert.KernelIf.nD → PrngReg), Pre_KernelIf m →
    θ_run (Cert.KernelIf.defs (F := Bits)) (onTc (τ := Cert.KernelIf.τ) (Cert.KernelIf.main (F := Bits))) ⟨m, fun _ => 0, g⟩ (fun r => (∀ c : Dev Cert.KernelIf.nD,
      r.2.mem ((c.tc : Thread Cert.KernelIf.nD Cert.KernelIf.τ).loc Cert.KernelIf.main_arg0) = m ((c.tc : Thread Cert.KernelIf.nD Cert.KernelIf.τ).loc Cert.KernelIf.main_arg0)
      ∧ r.2.mem ((c.tc : Thread Cert.KernelIf.nD Cert.KernelIf.τ).loc Cert.KernelIf.main_arg1) = m ((c.tc : Thread Cert.KernelIf.nD Cert.KernelIf.τ).loc Cert.KernelIf.main_arg1))
      ∧ r.2.sem = fun _ => 0)

def quiescent_KernelIfIdeal [hKernelIfIdeal : Cert.KernelIfIdeal.Facts] : Prop :=
  ∀ (m : (ℓ : Loc Cert.KernelIfIdeal.nD Cert.KernelIfIdeal.τ Cert.KernelIfIdeal.sig) → Buf (Elt Ideal) ℓ) (g : Dev Cert.KernelIfIdeal.nD → PrngReg), Pre_KernelIfIdeal m →
    θ_run (Cert.KernelIfIdeal.defs (F := Ideal)) (onTc (τ := Cert.KernelIfIdeal.τ) (Cert.KernelIfIdeal.main (F := Ideal))) ⟨m, fun _ => 0, g⟩ (fun r => (∀ c : Dev Cert.KernelIfIdeal.nD,
      r.2.mem ((c.tc : Thread Cert.KernelIfIdeal.nD Cert.KernelIfIdeal.τ).loc Cert.KernelIfIdeal.main_arg0) = m ((c.tc : Thread Cert.KernelIfIdeal.nD Cert.KernelIfIdeal.τ).loc Cert.KernelIfIdeal.main_arg0)
      ∧ r.2.mem ((c.tc : Thread Cert.KernelIfIdeal.nD Cert.KernelIfIdeal.τ).loc Cert.KernelIfIdeal.main_arg1) = m ((c.tc : Thread Cert.KernelIfIdeal.nD Cert.KernelIfIdeal.τ).loc Cert.KernelIfIdeal.main_arg1))
      ∧ r.2.sem = fun _ => 0)

def quiescent_ReferenceIfIdeal [hReferenceIfIdeal : Cert.ReferenceIfIdeal.Facts] : Prop :=
  ∀ (m : (ℓ : Loc Cert.ReferenceIfIdeal.nD Cert.ReferenceIfIdeal.τ Cert.ReferenceIfIdeal.sig) → Buf (Elt Ideal) ℓ) (g : Dev Cert.ReferenceIfIdeal.nD → PrngReg), Pre_ReferenceIfIdeal m →
    θ_run (Cert.ReferenceIfIdeal.defs (F := Ideal)) (onTc (τ := Cert.ReferenceIfIdeal.τ) (Cert.ReferenceIfIdeal.main (F := Ideal))) ⟨m, fun _ => 0, g⟩ (fun r => (∀ c : Dev Cert.ReferenceIfIdeal.nD,
      r.2.mem ((c.tc : Thread Cert.ReferenceIfIdeal.nD Cert.ReferenceIfIdeal.τ).loc Cert.ReferenceIfIdeal.main_arg0) = m ((c.tc : Thread Cert.ReferenceIfIdeal.nD Cert.ReferenceIfIdeal.τ).loc Cert.ReferenceIfIdeal.main_arg0)
      ∧ r.2.mem ((c.tc : Thread Cert.ReferenceIfIdeal.nD Cert.ReferenceIfIdeal.τ).loc Cert.ReferenceIfIdeal.main_arg1) = m ((c.tc : Thread Cert.ReferenceIfIdeal.nD Cert.ReferenceIfIdeal.τ).loc Cert.ReferenceIfIdeal.main_arg1))
      ∧ r.2.sem = fun _ => 0)

def quiescent_KernelOf [hKernelOf : Cert.KernelOf.Facts] : Prop :=
  ∀ (m : (ℓ : Loc Cert.KernelOf.nD Cert.KernelOf.τ Cert.KernelOf.sig) → Buf (Elt Bits) ℓ) (g : Dev Cert.KernelOf.nD → PrngReg), Pre_KernelOf m →
    θ_run (Cert.KernelOf.defs (F := Bits)) (onTc (τ := Cert.KernelOf.τ) (Cert.KernelOf.main (F := Bits))) ⟨m, fun _ => 0, g⟩ (fun r => (∀ c : Dev Cert.KernelOf.nD,
      r.2.mem ((c.tc : Thread Cert.KernelOf.nD Cert.KernelOf.τ).loc Cert.KernelOf.main_arg0) = m ((c.tc : Thread Cert.KernelOf.nD Cert.KernelOf.τ).loc Cert.KernelOf.main_arg0)
      ∧ r.2.mem ((c.tc : Thread Cert.KernelOf.nD Cert.KernelOf.τ).loc Cert.KernelOf.main_arg1) = m ((c.tc : Thread Cert.KernelOf.nD Cert.KernelOf.τ).loc Cert.KernelOf.main_arg1)
      ∧ r.2.mem ((c.tc : Thread Cert.KernelOf.nD Cert.KernelOf.τ).loc Cert.KernelOf.main_arg2) = m ((c.tc : Thread Cert.KernelOf.nD Cert.KernelOf.τ).loc Cert.KernelOf.main_arg2))
      ∧ r.2.sem = fun _ => 0)

def quiescent_KernelOfIdeal [hKernelOfIdeal : Cert.KernelOfIdeal.Facts] : Prop :=
  ∀ (m : (ℓ : Loc Cert.KernelOfIdeal.nD Cert.KernelOfIdeal.τ Cert.KernelOfIdeal.sig) → Buf (Elt Ideal) ℓ) (g : Dev Cert.KernelOfIdeal.nD → PrngReg), Pre_KernelOfIdeal m →
    θ_run (Cert.KernelOfIdeal.defs (F := Ideal)) (onTc (τ := Cert.KernelOfIdeal.τ) (Cert.KernelOfIdeal.main (F := Ideal))) ⟨m, fun _ => 0, g⟩ (fun r => (∀ c : Dev Cert.KernelOfIdeal.nD,
      r.2.mem ((c.tc : Thread Cert.KernelOfIdeal.nD Cert.KernelOfIdeal.τ).loc Cert.KernelOfIdeal.main_arg0) = m ((c.tc : Thread Cert.KernelOfIdeal.nD Cert.KernelOfIdeal.τ).loc Cert.KernelOfIdeal.main_arg0)
      ∧ r.2.mem ((c.tc : Thread Cert.KernelOfIdeal.nD Cert.KernelOfIdeal.τ).loc Cert.KernelOfIdeal.main_arg1) = m ((c.tc : Thread Cert.KernelOfIdeal.nD Cert.KernelOfIdeal.τ).loc Cert.KernelOfIdeal.main_arg1)
      ∧ r.2.mem ((c.tc : Thread Cert.KernelOfIdeal.nD Cert.KernelOfIdeal.τ).loc Cert.KernelOfIdeal.main_arg2) = m ((c.tc : Thread Cert.KernelOfIdeal.nD Cert.KernelOfIdeal.τ).loc Cert.KernelOfIdeal.main_arg2))
      ∧ r.2.sem = fun _ => 0)

def quiescent_ReferenceOfIdeal [hReferenceOfIdeal : Cert.ReferenceOfIdeal.Facts] : Prop :=
  ∀ (m : (ℓ : Loc Cert.ReferenceOfIdeal.nD Cert.ReferenceOfIdeal.τ Cert.ReferenceOfIdeal.sig) → Buf (Elt Ideal) ℓ) (g : Dev Cert.ReferenceOfIdeal.nD → PrngReg), Pre_ReferenceOfIdeal m →
    θ_run (Cert.ReferenceOfIdeal.defs (F := Ideal)) (onTc (τ := Cert.ReferenceOfIdeal.τ) (Cert.ReferenceOfIdeal.main (F := Ideal))) ⟨m, fun _ => 0, g⟩ (fun r => (∀ c : Dev Cert.ReferenceOfIdeal.nD,
      r.2.mem ((c.tc : Thread Cert.ReferenceOfIdeal.nD Cert.ReferenceOfIdeal.τ).loc Cert.ReferenceOfIdeal.main_arg0) = m ((c.tc : Thread Cert.ReferenceOfIdeal.nD Cert.ReferenceOfIdeal.τ).loc Cert.ReferenceOfIdeal.main_arg0)
      ∧ r.2.mem ((c.tc : Thread Cert.ReferenceOfIdeal.nD Cert.ReferenceOfIdeal.τ).loc Cert.ReferenceOfIdeal.main_arg1) = m ((c.tc : Thread Cert.ReferenceOfIdeal.nD Cert.ReferenceOfIdeal.τ).loc Cert.ReferenceOfIdeal.main_arg1)
      ∧ r.2.mem ((c.tc : Thread Cert.ReferenceOfIdeal.nD Cert.ReferenceOfIdeal.τ).loc Cert.ReferenceOfIdeal.main_arg2) = m ((c.tc : Thread Cert.ReferenceOfIdeal.nD Cert.ReferenceOfIdeal.τ).loc Cert.ReferenceOfIdeal.main_arg2))
      ∧ r.2.sem = fun _ => 0)

def quiescent_KernelDl [hKernelDl : Cert.KernelDl.Facts] : Prop :=
  ∀ (m : (ℓ : Loc Cert.KernelDl.nD Cert.KernelDl.τ Cert.KernelDl.sig) → Buf (Elt Bits) ℓ) (g : Dev Cert.KernelDl.nD → PrngReg), Pre_KernelDl m →
    θ_run (Cert.KernelDl.defs (F := Bits)) (onTc (τ := Cert.KernelDl.τ) (Cert.KernelDl.main (F := Bits))) ⟨m, fun _ => 0, g⟩ (fun r => (∀ c : Dev Cert.KernelDl.nD,
      r.2.mem ((c.tc : Thread Cert.KernelDl.nD Cert.KernelDl.τ).loc Cert.KernelDl.main_arg0) = m ((c.tc : Thread Cert.KernelDl.nD Cert.KernelDl.τ).loc Cert.KernelDl.main_arg0)
      ∧ r.2.mem ((c.tc : Thread Cert.KernelDl.nD Cert.KernelDl.τ).loc Cert.KernelDl.main_arg1) = m ((c.tc : Thread Cert.KernelDl.nD Cert.KernelDl.τ).loc Cert.KernelDl.main_arg1)
      ∧ r.2.mem ((c.tc : Thread Cert.KernelDl.nD Cert.KernelDl.τ).loc Cert.KernelDl.main_arg2) = m ((c.tc : Thread Cert.KernelDl.nD Cert.KernelDl.τ).loc Cert.KernelDl.main_arg2)
      ∧ r.2.mem ((c.tc : Thread Cert.KernelDl.nD Cert.KernelDl.τ).loc Cert.KernelDl.main_arg3) = m ((c.tc : Thread Cert.KernelDl.nD Cert.KernelDl.τ).loc Cert.KernelDl.main_arg3))
      ∧ r.2.sem = fun _ => 0)

def quiescent_KernelDlIdeal [hKernelDlIdeal : Cert.KernelDlIdeal.Facts] : Prop :=
  ∀ (m : (ℓ : Loc Cert.KernelDlIdeal.nD Cert.KernelDlIdeal.τ Cert.KernelDlIdeal.sig) → Buf (Elt Ideal) ℓ) (g : Dev Cert.KernelDlIdeal.nD → PrngReg), Pre_KernelDlIdeal m →
    θ_run (Cert.KernelDlIdeal.defs (F := Ideal)) (onTc (τ := Cert.KernelDlIdeal.τ) (Cert.KernelDlIdeal.main (F := Ideal))) ⟨m, fun _ => 0, g⟩ (fun r => (∀ c : Dev Cert.KernelDlIdeal.nD,
      r.2.mem ((c.tc : Thread Cert.KernelDlIdeal.nD Cert.KernelDlIdeal.τ).loc Cert.KernelDlIdeal.main_arg0) = m ((c.tc : Thread Cert.KernelDlIdeal.nD Cert.KernelDlIdeal.τ).loc Cert.KernelDlIdeal.main_arg0)
      ∧ r.2.mem ((c.tc : Thread Cert.KernelDlIdeal.nD Cert.KernelDlIdeal.τ).loc Cert.KernelDlIdeal.main_arg1) = m ((c.tc : Thread Cert.KernelDlIdeal.nD Cert.KernelDlIdeal.τ).loc Cert.KernelDlIdeal.main_arg1)
      ∧ r.2.mem ((c.tc : Thread Cert.KernelDlIdeal.nD Cert.KernelDlIdeal.τ).loc Cert.KernelDlIdeal.main_arg2) = m ((c.tc : Thread Cert.KernelDlIdeal.nD Cert.KernelDlIdeal.τ).loc Cert.KernelDlIdeal.main_arg2)
      ∧ r.2.mem ((c.tc : Thread Cert.KernelDlIdeal.nD Cert.KernelDlIdeal.τ).loc Cert.KernelDlIdeal.main_arg3) = m ((c.tc : Thread Cert.KernelDlIdeal.nD Cert.KernelDlIdeal.τ).loc Cert.KernelDlIdeal.main_arg3))
      ∧ r.2.sem = fun _ => 0)

def quiescent_ReferenceDlIdeal [hReferenceDlIdeal : Cert.ReferenceDlIdeal.Facts] : Prop :=
  ∀ (m : (ℓ : Loc Cert.ReferenceDlIdeal.nD Cert.ReferenceDlIdeal.τ Cert.ReferenceDlIdeal.sig) → Buf (Elt Ideal) ℓ) (g : Dev Cert.ReferenceDlIdeal.nD → PrngReg), Pre_ReferenceDlIdeal m →
    θ_run (Cert.ReferenceDlIdeal.defs (F := Ideal)) (onTc (τ := Cert.ReferenceDlIdeal.τ) (Cert.ReferenceDlIdeal.main (F := Ideal))) ⟨m, fun _ => 0, g⟩ (fun r => (∀ c : Dev Cert.ReferenceDlIdeal.nD,
      r.2.mem ((c.tc : Thread Cert.ReferenceDlIdeal.nD Cert.ReferenceDlIdeal.τ).loc Cert.ReferenceDlIdeal.main_arg0) = m ((c.tc : Thread Cert.ReferenceDlIdeal.nD Cert.ReferenceDlIdeal.τ).loc Cert.ReferenceDlIdeal.main_arg0)
      ∧ r.2.mem ((c.tc : Thread Cert.ReferenceDlIdeal.nD Cert.ReferenceDlIdeal.τ).loc Cert.ReferenceDlIdeal.main_arg1) = m ((c.tc : Thread Cert.ReferenceDlIdeal.nD Cert.ReferenceDlIdeal.τ).loc Cert.ReferenceDlIdeal.main_arg1)
      ∧ r.2.mem ((c.tc : Thread Cert.ReferenceDlIdeal.nD Cert.ReferenceDlIdeal.τ).loc Cert.ReferenceDlIdeal.main_arg2) = m ((c.tc : Thread Cert.ReferenceDlIdeal.nD Cert.ReferenceDlIdeal.τ).loc Cert.ReferenceDlIdeal.main_arg2)
      ∧ r.2.mem ((c.tc : Thread Cert.ReferenceDlIdeal.nD Cert.ReferenceDlIdeal.τ).loc Cert.ReferenceDlIdeal.main_arg3) = m ((c.tc : Thread Cert.ReferenceDlIdeal.nD Cert.ReferenceDlIdeal.τ).loc Cert.ReferenceDlIdeal.main_arg3))
      ∧ r.2.sem = fun _ => 0)

def quiescent_KernelNb [hKernelNb : Cert.KernelNb.Facts] : Prop :=
  ∀ (m : (ℓ : Loc Cert.KernelNb.nD Cert.KernelNb.τ Cert.KernelNb.sig) → Buf (Elt Bits) ℓ) (g : Dev Cert.KernelNb.nD → PrngReg), Pre_KernelNb m →
    θ_run (Cert.KernelNb.defs (F := Bits)) (onTc (τ := Cert.KernelNb.τ) (Cert.KernelNb.main (F := Bits))) ⟨m, fun _ => 0, g⟩ (fun r => (∀ c : Dev Cert.KernelNb.nD,
      r.2.mem ((c.tc : Thread Cert.KernelNb.nD Cert.KernelNb.τ).loc Cert.KernelNb.main_arg0) = m ((c.tc : Thread Cert.KernelNb.nD Cert.KernelNb.τ).loc Cert.KernelNb.main_arg0)
      ∧ r.2.mem ((c.tc : Thread Cert.KernelNb.nD Cert.KernelNb.τ).loc Cert.KernelNb.main_arg1) = m ((c.tc : Thread Cert.KernelNb.nD Cert.KernelNb.τ).loc Cert.KernelNb.main_arg1)
      ∧ r.2.mem ((c.tc : Thread Cert.KernelNb.nD Cert.KernelNb.τ).loc Cert.KernelNb.main_arg2) = m ((c.tc : Thread Cert.KernelNb.nD Cert.KernelNb.τ).loc Cert.KernelNb.main_arg2)
      ∧ r.2.mem ((c.tc : Thread Cert.KernelNb.nD Cert.KernelNb.τ).loc Cert.KernelNb.main_arg3) = m ((c.tc : Thread Cert.KernelNb.nD Cert.KernelNb.τ).loc Cert.KernelNb.main_arg3))
      ∧ r.2.sem = fun _ => 0)

def quiescent_KernelNbIdeal [hKernelNbIdeal : Cert.KernelNbIdeal.Facts] : Prop :=
  ∀ (m : (ℓ : Loc Cert.KernelNbIdeal.nD Cert.KernelNbIdeal.τ Cert.KernelNbIdeal.sig) → Buf (Elt Ideal) ℓ) (g : Dev Cert.KernelNbIdeal.nD → PrngReg), Pre_KernelNbIdeal m →
    θ_run (Cert.KernelNbIdeal.defs (F := Ideal)) (onTc (τ := Cert.KernelNbIdeal.τ) (Cert.KernelNbIdeal.main (F := Ideal))) ⟨m, fun _ => 0, g⟩ (fun r => (∀ c : Dev Cert.KernelNbIdeal.nD,
      r.2.mem ((c.tc : Thread Cert.KernelNbIdeal.nD Cert.KernelNbIdeal.τ).loc Cert.KernelNbIdeal.main_arg0) = m ((c.tc : Thread Cert.KernelNbIdeal.nD Cert.KernelNbIdeal.τ).loc Cert.KernelNbIdeal.main_arg0)
      ∧ r.2.mem ((c.tc : Thread Cert.KernelNbIdeal.nD Cert.KernelNbIdeal.τ).loc Cert.KernelNbIdeal.main_arg1) = m ((c.tc : Thread Cert.KernelNbIdeal.nD Cert.KernelNbIdeal.τ).loc Cert.KernelNbIdeal.main_arg1)
      ∧ r.2.mem ((c.tc : Thread Cert.KernelNbIdeal.nD Cert.KernelNbIdeal.τ).loc Cert.KernelNbIdeal.main_arg2) = m ((c.tc : Thread Cert.KernelNbIdeal.nD Cert.KernelNbIdeal.τ).loc Cert.KernelNbIdeal.main_arg2)
      ∧ r.2.mem ((c.tc : Thread Cert.KernelNbIdeal.nD Cert.KernelNbIdeal.τ).loc Cert.KernelNbIdeal.main_arg3) = m ((c.tc : Thread Cert.KernelNbIdeal.nD Cert.KernelNbIdeal.τ).loc Cert.KernelNbIdeal.main_arg3))
      ∧ r.2.sem = fun _ => 0)

def quiescent_ReferenceNbIdeal [hReferenceNbIdeal : Cert.ReferenceNbIdeal.Facts] : Prop :=
  ∀ (m : (ℓ : Loc Cert.ReferenceNbIdeal.nD Cert.ReferenceNbIdeal.τ Cert.ReferenceNbIdeal.sig) → Buf (Elt Ideal) ℓ) (g : Dev Cert.ReferenceNbIdeal.nD → PrngReg), Pre_ReferenceNbIdeal m →
    θ_run (Cert.ReferenceNbIdeal.defs (F := Ideal)) (onTc (τ := Cert.ReferenceNbIdeal.τ) (Cert.ReferenceNbIdeal.main (F := Ideal))) ⟨m, fun _ => 0, g⟩ (fun r => (∀ c : Dev Cert.ReferenceNbIdeal.nD,
      r.2.mem ((c.tc : Thread Cert.ReferenceNbIdeal.nD Cert.ReferenceNbIdeal.τ).loc Cert.ReferenceNbIdeal.main_arg0) = m ((c.tc : Thread Cert.ReferenceNbIdeal.nD Cert.ReferenceNbIdeal.τ).loc Cert.ReferenceNbIdeal.main_arg0)
      ∧ r.2.mem ((c.tc : Thread Cert.ReferenceNbIdeal.nD Cert.ReferenceNbIdeal.τ).loc Cert.ReferenceNbIdeal.main_arg1) = m ((c.tc : Thread Cert.ReferenceNbIdeal.nD Cert.ReferenceNbIdeal.τ).loc Cert.ReferenceNbIdeal.main_arg1)
      ∧ r.2.mem ((c.tc : Thread Cert.ReferenceNbIdeal.nD Cert.ReferenceNbIdeal.τ).loc Cert.ReferenceNbIdeal.main_arg2) = m ((c.tc : Thread Cert.ReferenceNbIdeal.nD Cert.ReferenceNbIdeal.τ).loc Cert.ReferenceNbIdeal.main_arg2)
      ∧ r.2.mem ((c.tc : Thread Cert.ReferenceNbIdeal.nD Cert.ReferenceNbIdeal.τ).loc Cert.ReferenceNbIdeal.main_arg3) = m ((c.tc : Thread Cert.ReferenceNbIdeal.nD Cert.ReferenceNbIdeal.τ).loc Cert.ReferenceNbIdeal.main_arg3))
      ∧ r.2.sem = fun _ => 0)

def preserves_KernelKv_KernelKvIdeal : Prop :=
  True

def algebraic_KernelKvIdeal_ReferenceKvIdeal_pre_finite [hKernelKvIdeal : Cert.KernelKvIdeal.Facts] [hReferenceKvIdeal : Cert.ReferenceKvIdeal.Facts] [hPre_finite : Cert.Pre_finite.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal_finite m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)
      ∧ m' ((c.tc : Thread Cert.ReferenceKvIdeal.nD Cert.ReferenceKvIdeal.τ).loc Cert.ReferenceKvIdeal.main_arg3) = m ((c.tc : Thread Cert.KernelKvIdeal.nD Cert.KernelKvIdeal.τ).loc Cert.KernelKvIdeal.main_arg3)
      ∧ m' ((c.tc : Thread Cert.ReferenceKvIdeal.nD Cert.ReferenceKvIdeal.τ).loc Cert.ReferenceKvIdeal.main_arg4) = m ((c.tc : Thread Cert.KernelKvIdeal.nD Cert.KernelKvIdeal.τ).loc Cert.KernelKvIdeal.main_arg4)) →
    ∃ (v0 : (c : Dev Cert.KernelKvIdeal.nD) → Buf (Elt Ideal) ((c.tc : Thread Cert.KernelKvIdeal.nD Cert.KernelKvIdeal.τ).loc Cert.KernelKvIdeal.main_v85_0)) (v1 : (c : Dev Cert.KernelKvIdeal.nD) → Buf (Elt Ideal) ((c.tc : Thread Cert.KernelKvIdeal.nD Cert.KernelKvIdeal.τ).loc Cert.KernelKvIdeal.main_v85_1)) (v2 : (c : Dev Cert.KernelKvIdeal.nD) → Buf (Elt Ideal) ((c.tc : Thread Cert.KernelKvIdeal.nD Cert.KernelKvIdeal.τ).loc Cert.KernelKvIdeal.main_v85_2)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v85_0) = v0 c
          ∧ r.2.mem ((c.tc : Thread Cert.KernelKvIdeal.nD Cert.KernelKvIdeal.τ).loc Cert.KernelKvIdeal.main_v85_1) = v1 c
          ∧ r.2.mem ((c.tc : Thread Cert.KernelKvIdeal.nD Cert.KernelKvIdeal.τ).loc Cert.KernelKvIdeal.main_v85_2) = v2 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
          ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
          ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v89) = v0 c
          ∧ r.2.mem ((c.tc : Thread Cert.ReferenceKvIdeal.nD Cert.ReferenceKvIdeal.τ).loc Cert.ReferenceKvIdeal.main_v92) = v1 c
          ∧ r.2.mem ((c.tc : Thread Cert.ReferenceKvIdeal.nD Cert.ReferenceKvIdeal.τ).loc Cert.ReferenceKvIdeal.main_v94) = v2 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2)
          ∧ r.2.mem ((c.tc : Thread Cert.ReferenceKvIdeal.nD Cert.ReferenceKvIdeal.τ).loc Cert.ReferenceKvIdeal.main_arg3) = m' ((c.tc : Thread Cert.ReferenceKvIdeal.nD Cert.ReferenceKvIdeal.τ).loc Cert.ReferenceKvIdeal.main_arg3)
          ∧ r.2.mem ((c.tc : Thread Cert.ReferenceKvIdeal.nD Cert.ReferenceKvIdeal.τ).loc Cert.ReferenceKvIdeal.main_arg4) = m' ((c.tc : Thread Cert.ReferenceKvIdeal.nD Cert.ReferenceKvIdeal.τ).loc Cert.ReferenceKvIdeal.main_arg4))

def preserves_KernelDx_KernelDxIdeal : Prop :=
  True

def algebraic_KernelDxIdeal_ReferenceDxIdeal_pre_finite_down [hKernelDxIdeal : Cert.KernelDxIdeal.Facts] [hReferenceDxIdeal : Cert.ReferenceDxIdeal.Facts] [hPre_finite_down : Cert.Pre_finite_down.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal_finite_down m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)) →
    ∃ (v0 : (c : Dev Cert.KernelDxIdeal.nD) → Buf (Elt Ideal) ((c.tc : Thread Cert.KernelDxIdeal.nD Cert.KernelDxIdeal.τ).loc Cert.KernelDxIdeal.main_v6)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v6) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v12) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2))

def preserves_KernelGx_KernelGxIdeal : Prop :=
  True

def algebraic_KernelGxIdeal_ReferenceGxIdeal [hKernelGxIdeal : Cert.KernelGxIdeal.Facts] [hReferenceGxIdeal : Cert.ReferenceGxIdeal.Facts] : Prop :=
  ∀ (m : (ℓ : Loc Cert.KernelGxIdeal.nD Cert.KernelGxIdeal.τ Cert.KernelGxIdeal.sig) → Buf (Elt Ideal) ℓ) (g : Dev Cert.KernelGxIdeal.nD → PrngReg)
    (m' : (ℓ : Loc Cert.ReferenceGxIdeal.nD Cert.ReferenceGxIdeal.τ Cert.ReferenceGxIdeal.sig) → Buf (Elt Ideal) ℓ) (g' : Dev Cert.ReferenceGxIdeal.nD → PrngReg), Pre_KernelGxIdeal m →
    (∀ c : Dev Cert.KernelGxIdeal.nD,
      m' ((c.tc : Thread Cert.ReferenceGxIdeal.nD Cert.ReferenceGxIdeal.τ).loc Cert.ReferenceGxIdeal.main_arg0) = m ((c.tc : Thread Cert.KernelGxIdeal.nD Cert.KernelGxIdeal.τ).loc Cert.KernelGxIdeal.main_arg0)
      ∧ m' ((c.tc : Thread Cert.ReferenceGxIdeal.nD Cert.ReferenceGxIdeal.τ).loc Cert.ReferenceGxIdeal.main_arg1) = m ((c.tc : Thread Cert.KernelGxIdeal.nD Cert.KernelGxIdeal.τ).loc Cert.KernelGxIdeal.main_arg1)) →
    ∃ (v0 : (c : Dev Cert.KernelGxIdeal.nD) → Buf (Elt Ideal) ((c.tc : Thread Cert.KernelGxIdeal.nD Cert.KernelGxIdeal.τ).loc Cert.KernelGxIdeal.main_v6)),
      θ_run (Cert.KernelGxIdeal.defs (F := Ideal)) (onTc (τ := Cert.KernelGxIdeal.τ) (Cert.KernelGxIdeal.main (F := Ideal))) ⟨m, fun _ => 0, g⟩ (fun r => ∀ c : Dev Cert.KernelGxIdeal.nD,
          r.2.mem ((c.tc : Thread Cert.KernelGxIdeal.nD Cert.KernelGxIdeal.τ).loc Cert.KernelGxIdeal.main_v6) = v0 c
          ∧ r.2.mem ((c.tc : Thread Cert.KernelGxIdeal.nD Cert.KernelGxIdeal.τ).loc Cert.KernelGxIdeal.main_arg0) = m ((c.tc : Thread Cert.KernelGxIdeal.nD Cert.KernelGxIdeal.τ).loc Cert.KernelGxIdeal.main_arg0)
          ∧ r.2.mem ((c.tc : Thread Cert.KernelGxIdeal.nD Cert.KernelGxIdeal.τ).loc Cert.KernelGxIdeal.main_arg1) = m ((c.tc : Thread Cert.KernelGxIdeal.nD Cert.KernelGxIdeal.τ).loc Cert.KernelGxIdeal.main_arg1))
      ∧ θ_run (Cert.ReferenceGxIdeal.defs (F := Ideal)) (onTc (τ := Cert.ReferenceGxIdeal.τ) (Cert.ReferenceGxIdeal.main (F := Ideal))) ⟨m', fun _ => 0, g'⟩ (fun r => ∀ c : Dev Cert.ReferenceGxIdeal.nD,
          r.2.mem ((c.tc : Thread Cert.ReferenceGxIdeal.nD Cert.ReferenceGxIdeal.τ).loc Cert.ReferenceGxIdeal.main_v2) = v0 c
          ∧ r.2.mem ((c.tc : Thread Cert.ReferenceGxIdeal.nD Cert.ReferenceGxIdeal.τ).loc Cert.ReferenceGxIdeal.main_arg0) = m' ((c.tc : Thread Cert.ReferenceGxIdeal.nD Cert.ReferenceGxIdeal.τ).loc Cert.ReferenceGxIdeal.main_arg0)
          ∧ r.2.mem ((c.tc : Thread Cert.ReferenceGxIdeal.nD Cert.ReferenceGxIdeal.τ).loc Cert.ReferenceGxIdeal.main_arg1) = m' ((c.tc : Thread Cert.ReferenceGxIdeal.nD Cert.ReferenceGxIdeal.τ).loc Cert.ReferenceGxIdeal.main_arg1))

def preserves_KernelGw_KernelGwIdeal : Prop :=
  True

def algebraic_KernelGwIdeal_ReferenceGwIdeal [hKernelGwIdeal : Cert.KernelGwIdeal.Facts] [hReferenceGwIdeal : Cert.ReferenceGwIdeal.Facts] : Prop :=
  ∀ (m : (ℓ : Loc Cert.KernelGwIdeal.nD Cert.KernelGwIdeal.τ Cert.KernelGwIdeal.sig) → Buf (Elt Ideal) ℓ) (g : Dev Cert.KernelGwIdeal.nD → PrngReg)
    (m' : (ℓ : Loc Cert.ReferenceGwIdeal.nD Cert.ReferenceGwIdeal.τ Cert.ReferenceGwIdeal.sig) → Buf (Elt Ideal) ℓ) (g' : Dev Cert.ReferenceGwIdeal.nD → PrngReg), Pre_KernelGwIdeal m →
    (∀ c : Dev Cert.KernelGwIdeal.nD,
      m' ((c.tc : Thread Cert.ReferenceGwIdeal.nD Cert.ReferenceGwIdeal.τ).loc Cert.ReferenceGwIdeal.main_arg0) = m ((c.tc : Thread Cert.KernelGwIdeal.nD Cert.KernelGwIdeal.τ).loc Cert.KernelGwIdeal.main_arg0)
      ∧ m' ((c.tc : Thread Cert.ReferenceGwIdeal.nD Cert.ReferenceGwIdeal.τ).loc Cert.ReferenceGwIdeal.main_arg1) = m ((c.tc : Thread Cert.KernelGwIdeal.nD Cert.KernelGwIdeal.τ).loc Cert.KernelGwIdeal.main_arg1)) →
    ∃ (v0 : (c : Dev Cert.KernelGwIdeal.nD) → Buf (Elt Ideal) ((c.tc : Thread Cert.KernelGwIdeal.nD Cert.KernelGwIdeal.τ).loc Cert.KernelGwIdeal.main_v4)),
      θ_run (Cert.KernelGwIdeal.defs (F := Ideal)) (onTc (τ := Cert.KernelGwIdeal.τ) (Cert.KernelGwIdeal.main (F := Ideal))) ⟨m, fun _ => 0, g⟩ (fun r => ∀ c : Dev Cert.KernelGwIdeal.nD,
          r.2.mem ((c.tc : Thread Cert.KernelGwIdeal.nD Cert.KernelGwIdeal.τ).loc Cert.KernelGwIdeal.main_v4) = v0 c
          ∧ r.2.mem ((c.tc : Thread Cert.KernelGwIdeal.nD Cert.KernelGwIdeal.τ).loc Cert.KernelGwIdeal.main_arg0) = m ((c.tc : Thread Cert.KernelGwIdeal.nD Cert.KernelGwIdeal.τ).loc Cert.KernelGwIdeal.main_arg0)
          ∧ r.2.mem ((c.tc : Thread Cert.KernelGwIdeal.nD Cert.KernelGwIdeal.τ).loc Cert.KernelGwIdeal.main_arg1) = m ((c.tc : Thread Cert.KernelGwIdeal.nD Cert.KernelGwIdeal.τ).loc Cert.KernelGwIdeal.main_arg1))
      ∧ θ_run (Cert.ReferenceGwIdeal.defs (F := Ideal)) (onTc (τ := Cert.ReferenceGwIdeal.τ) (Cert.ReferenceGwIdeal.main (F := Ideal))) ⟨m', fun _ => 0, g'⟩ (fun r => ∀ c : Dev Cert.ReferenceGwIdeal.nD,
          r.2.mem ((c.tc : Thread Cert.ReferenceGwIdeal.nD Cert.ReferenceGwIdeal.τ).loc Cert.ReferenceGwIdeal.main_v6) = v0 c
          ∧ r.2.mem ((c.tc : Thread Cert.ReferenceGwIdeal.nD Cert.ReferenceGwIdeal.τ).loc Cert.ReferenceGwIdeal.main_arg0) = m' ((c.tc : Thread Cert.ReferenceGwIdeal.nD Cert.ReferenceGwIdeal.τ).loc Cert.ReferenceGwIdeal.main_arg0)
          ∧ r.2.mem ((c.tc : Thread Cert.ReferenceGwIdeal.nD Cert.ReferenceGwIdeal.τ).loc Cert.ReferenceGwIdeal.main_arg1) = m' ((c.tc : Thread Cert.ReferenceGwIdeal.nD Cert.ReferenceGwIdeal.τ).loc Cert.ReferenceGwIdeal.main_arg1))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v2)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v2) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v4) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelIx_KernelIxIdeal : Prop :=
  True

def algebraic_KernelIxIdeal_ReferenceIxIdeal [hKernelIxIdeal : Cert.KernelIxIdeal.Facts] [hReferenceIxIdeal : Cert.ReferenceIxIdeal.Facts] : Prop :=
  ∀ (m : (ℓ : Loc Cert.KernelIxIdeal.nD Cert.KernelIxIdeal.τ Cert.KernelIxIdeal.sig) → Buf (Elt Ideal) ℓ) (g : Dev Cert.KernelIxIdeal.nD → PrngReg)
    (m' : (ℓ : Loc Cert.ReferenceIxIdeal.nD Cert.ReferenceIxIdeal.τ Cert.ReferenceIxIdeal.sig) → Buf (Elt Ideal) ℓ) (g' : Dev Cert.ReferenceIxIdeal.nD → PrngReg), Pre_KernelIxIdeal m →
    (∀ c : Dev Cert.KernelIxIdeal.nD,
      m' ((c.tc : Thread Cert.ReferenceIxIdeal.nD Cert.ReferenceIxIdeal.τ).loc Cert.ReferenceIxIdeal.main_arg0) = m ((c.tc : Thread Cert.KernelIxIdeal.nD Cert.KernelIxIdeal.τ).loc Cert.KernelIxIdeal.main_arg0)
      ∧ m' ((c.tc : Thread Cert.ReferenceIxIdeal.nD Cert.ReferenceIxIdeal.τ).loc Cert.ReferenceIxIdeal.main_arg1) = m ((c.tc : Thread Cert.KernelIxIdeal.nD Cert.KernelIxIdeal.τ).loc Cert.KernelIxIdeal.main_arg1)
      ∧ m' ((c.tc : Thread Cert.ReferenceIxIdeal.nD Cert.ReferenceIxIdeal.τ).loc Cert.ReferenceIxIdeal.main_arg2) = m ((c.tc : Thread Cert.KernelIxIdeal.nD Cert.KernelIxIdeal.τ).loc Cert.KernelIxIdeal.main_arg2)) →
    ∃ (v0 : (c : Dev Cert.KernelIxIdeal.nD) → Buf (Elt Ideal) ((c.tc : Thread Cert.KernelIxIdeal.nD Cert.KernelIxIdeal.τ).loc Cert.KernelIxIdeal.main_v2)),
      θ_run (Cert.KernelIxIdeal.defs (F := Ideal)) (onTc (τ := Cert.KernelIxIdeal.τ) (Cert.KernelIxIdeal.main (F := Ideal))) ⟨m, fun _ => 0, g⟩ (fun r => ∀ c : Dev Cert.KernelIxIdeal.nD,
          r.2.mem ((c.tc : Thread Cert.KernelIxIdeal.nD Cert.KernelIxIdeal.τ).loc Cert.KernelIxIdeal.main_v2) = v0 c
          ∧ r.2.mem ((c.tc : Thread Cert.KernelIxIdeal.nD Cert.KernelIxIdeal.τ).loc Cert.KernelIxIdeal.main_arg0) = m ((c.tc : Thread Cert.KernelIxIdeal.nD Cert.KernelIxIdeal.τ).loc Cert.KernelIxIdeal.main_arg0)
          ∧ r.2.mem ((c.tc : Thread Cert.KernelIxIdeal.nD Cert.KernelIxIdeal.τ).loc Cert.KernelIxIdeal.main_arg1) = m ((c.tc : Thread Cert.KernelIxIdeal.nD Cert.KernelIxIdeal.τ).loc Cert.KernelIxIdeal.main_arg1)
          ∧ r.2.mem ((c.tc : Thread Cert.KernelIxIdeal.nD Cert.KernelIxIdeal.τ).loc Cert.KernelIxIdeal.main_arg2) = m ((c.tc : Thread Cert.KernelIxIdeal.nD Cert.KernelIxIdeal.τ).loc Cert.KernelIxIdeal.main_arg2))
      ∧ θ_run (Cert.ReferenceIxIdeal.defs (F := Ideal)) (onTc (τ := Cert.ReferenceIxIdeal.τ) (Cert.ReferenceIxIdeal.main (F := Ideal))) ⟨m', fun _ => 0, g'⟩ (fun r => ∀ c : Dev Cert.ReferenceIxIdeal.nD,
          r.2.mem ((c.tc : Thread Cert.ReferenceIxIdeal.nD Cert.ReferenceIxIdeal.τ).loc Cert.ReferenceIxIdeal.main_v3) = v0 c
          ∧ r.2.mem ((c.tc : Thread Cert.ReferenceIxIdeal.nD Cert.ReferenceIxIdeal.τ).loc Cert.ReferenceIxIdeal.main_arg0) = m' ((c.tc : Thread Cert.ReferenceIxIdeal.nD Cert.ReferenceIxIdeal.τ).loc Cert.ReferenceIxIdeal.main_arg0)
          ∧ r.2.mem ((c.tc : Thread Cert.ReferenceIxIdeal.nD Cert.ReferenceIxIdeal.τ).loc Cert.ReferenceIxIdeal.main_arg1) = m' ((c.tc : Thread Cert.ReferenceIxIdeal.nD Cert.ReferenceIxIdeal.τ).loc Cert.ReferenceIxIdeal.main_arg1)
          ∧ r.2.mem ((c.tc : Thread Cert.ReferenceIxIdeal.nD Cert.ReferenceIxIdeal.τ).loc Cert.ReferenceIxIdeal.main_arg2) = m' ((c.tc : Thread Cert.ReferenceIxIdeal.nD Cert.ReferenceIxIdeal.τ).loc Cert.ReferenceIxIdeal.main_arg2))

def preserves_KernelIw_KernelIwIdeal : Prop :=
  True

def algebraic_KernelIwIdeal_ReferenceIwIdeal [hKernelIwIdeal : Cert.KernelIwIdeal.Facts] [hReferenceIwIdeal : Cert.ReferenceIwIdeal.Facts] : Prop :=
  ∀ (m : (ℓ : Loc Cert.KernelIwIdeal.nD Cert.KernelIwIdeal.τ Cert.KernelIwIdeal.sig) → Buf (Elt Ideal) ℓ) (g : Dev Cert.KernelIwIdeal.nD → PrngReg)
    (m' : (ℓ : Loc Cert.ReferenceIwIdeal.nD Cert.ReferenceIwIdeal.τ Cert.ReferenceIwIdeal.sig) → Buf (Elt Ideal) ℓ) (g' : Dev Cert.ReferenceIwIdeal.nD → PrngReg), Pre_KernelIwIdeal m →
    (∀ c : Dev Cert.KernelIwIdeal.nD,
      m' ((c.tc : Thread Cert.ReferenceIwIdeal.nD Cert.ReferenceIwIdeal.τ).loc Cert.ReferenceIwIdeal.main_arg0) = m ((c.tc : Thread Cert.KernelIwIdeal.nD Cert.KernelIwIdeal.τ).loc Cert.KernelIwIdeal.main_arg0)
      ∧ m' ((c.tc : Thread Cert.ReferenceIwIdeal.nD Cert.ReferenceIwIdeal.τ).loc Cert.ReferenceIwIdeal.main_arg1) = m ((c.tc : Thread Cert.KernelIwIdeal.nD Cert.KernelIwIdeal.τ).loc Cert.KernelIwIdeal.main_arg1)) →
    ∃ (v0 : (c : Dev Cert.KernelIwIdeal.nD) → Buf (Elt Ideal) ((c.tc : Thread Cert.KernelIwIdeal.nD Cert.KernelIwIdeal.τ).loc Cert.KernelIwIdeal.main_v2)),
      θ_run (Cert.KernelIwIdeal.defs (F := Ideal)) (onTc (τ := Cert.KernelIwIdeal.τ) (Cert.KernelIwIdeal.main (F := Ideal))) ⟨m, fun _ => 0, g⟩ (fun r => ∀ c : Dev Cert.KernelIwIdeal.nD,
          r.2.mem ((c.tc : Thread Cert.KernelIwIdeal.nD Cert.KernelIwIdeal.τ).loc Cert.KernelIwIdeal.main_v2) = v0 c
          ∧ r.2.mem ((c.tc : Thread Cert.KernelIwIdeal.nD Cert.KernelIwIdeal.τ).loc Cert.KernelIwIdeal.main_arg0) = m ((c.tc : Thread Cert.KernelIwIdeal.nD Cert.KernelIwIdeal.τ).loc Cert.KernelIwIdeal.main_arg0)
          ∧ r.2.mem ((c.tc : Thread Cert.KernelIwIdeal.nD Cert.KernelIwIdeal.τ).loc Cert.KernelIwIdeal.main_arg1) = m ((c.tc : Thread Cert.KernelIwIdeal.nD Cert.KernelIwIdeal.τ).loc Cert.KernelIwIdeal.main_arg1))
      ∧ θ_run (Cert.ReferenceIwIdeal.defs (F := Ideal)) (onTc (τ := Cert.ReferenceIwIdeal.τ) (Cert.ReferenceIwIdeal.main (F := Ideal))) ⟨m', fun _ => 0, g'⟩ (fun r => ∀ c : Dev Cert.ReferenceIwIdeal.nD,
          r.2.mem ((c.tc : Thread Cert.ReferenceIwIdeal.nD Cert.ReferenceIwIdeal.τ).loc Cert.ReferenceIwIdeal.main_v4) = v0 c
          ∧ r.2.mem ((c.tc : Thread Cert.ReferenceIwIdeal.nD Cert.ReferenceIwIdeal.τ).loc Cert.ReferenceIwIdeal.main_arg0) = m' ((c.tc : Thread Cert.ReferenceIwIdeal.nD Cert.ReferenceIwIdeal.τ).loc Cert.ReferenceIwIdeal.main_arg0)
          ∧ r.2.mem ((c.tc : Thread Cert.ReferenceIwIdeal.nD Cert.ReferenceIwIdeal.τ).loc Cert.ReferenceIwIdeal.main_arg1) = m' ((c.tc : Thread Cert.ReferenceIwIdeal.nD Cert.ReferenceIwIdeal.τ).loc Cert.ReferenceIwIdeal.main_arg1))

def preserves_KernelOx_KernelOxIdeal : Prop :=
  True

def algebraic_KernelOxIdeal_ReferenceOxIdeal [hKernelOxIdeal : Cert.KernelOxIdeal.Facts] [hReferenceOxIdeal : Cert.ReferenceOxIdeal.Facts] : Prop :=
  ∀ (m : (ℓ : Loc Cert.KernelOxIdeal.nD Cert.KernelOxIdeal.τ Cert.KernelOxIdeal.sig) → Buf (Elt Ideal) ℓ) (g : Dev Cert.KernelOxIdeal.nD → PrngReg)
    (m' : (ℓ : Loc Cert.ReferenceOxIdeal.nD Cert.ReferenceOxIdeal.τ Cert.ReferenceOxIdeal.sig) → Buf (Elt Ideal) ℓ) (g' : Dev Cert.ReferenceOxIdeal.nD → PrngReg), Pre_KernelOxIdeal m →
    (∀ c : Dev Cert.KernelOxIdeal.nD,
      m' ((c.tc : Thread Cert.ReferenceOxIdeal.nD Cert.ReferenceOxIdeal.τ).loc Cert.ReferenceOxIdeal.main_arg0) = m ((c.tc : Thread Cert.KernelOxIdeal.nD Cert.KernelOxIdeal.τ).loc Cert.KernelOxIdeal.main_arg0)
      ∧ m' ((c.tc : Thread Cert.ReferenceOxIdeal.nD Cert.ReferenceOxIdeal.τ).loc Cert.ReferenceOxIdeal.main_arg1) = m ((c.tc : Thread Cert.KernelOxIdeal.nD Cert.KernelOxIdeal.τ).loc Cert.KernelOxIdeal.main_arg1)) →
    ∃ (v0 : (c : Dev Cert.KernelOxIdeal.nD) → Buf (Elt Ideal) ((c.tc : Thread Cert.KernelOxIdeal.nD Cert.KernelOxIdeal.τ).loc Cert.KernelOxIdeal.main_v2)),
      θ_run (Cert.KernelOxIdeal.defs (F := Ideal)) (onTc (τ := Cert.KernelOxIdeal.τ) (Cert.KernelOxIdeal.main (F := Ideal))) ⟨m, fun _ => 0, g⟩ (fun r => ∀ c : Dev Cert.KernelOxIdeal.nD,
          r.2.mem ((c.tc : Thread Cert.KernelOxIdeal.nD Cert.KernelOxIdeal.τ).loc Cert.KernelOxIdeal.main_v2) = v0 c
          ∧ r.2.mem ((c.tc : Thread Cert.KernelOxIdeal.nD Cert.KernelOxIdeal.τ).loc Cert.KernelOxIdeal.main_arg0) = m ((c.tc : Thread Cert.KernelOxIdeal.nD Cert.KernelOxIdeal.τ).loc Cert.KernelOxIdeal.main_arg0)
          ∧ r.2.mem ((c.tc : Thread Cert.KernelOxIdeal.nD Cert.KernelOxIdeal.τ).loc Cert.KernelOxIdeal.main_arg1) = m ((c.tc : Thread Cert.KernelOxIdeal.nD Cert.KernelOxIdeal.τ).loc Cert.KernelOxIdeal.main_arg1))
      ∧ θ_run (Cert.ReferenceOxIdeal.defs (F := Ideal)) (onTc (τ := Cert.ReferenceOxIdeal.τ) (Cert.ReferenceOxIdeal.main (F := Ideal))) ⟨m', fun _ => 0, g'⟩ (fun r => ∀ c : Dev Cert.ReferenceOxIdeal.nD,
          r.2.mem ((c.tc : Thread Cert.ReferenceOxIdeal.nD Cert.ReferenceOxIdeal.τ).loc Cert.ReferenceOxIdeal.main_v2) = v0 c
          ∧ r.2.mem ((c.tc : Thread Cert.ReferenceOxIdeal.nD Cert.ReferenceOxIdeal.τ).loc Cert.ReferenceOxIdeal.main_arg0) = m' ((c.tc : Thread Cert.ReferenceOxIdeal.nD Cert.ReferenceOxIdeal.τ).loc Cert.ReferenceOxIdeal.main_arg0)
          ∧ r.2.mem ((c.tc : Thread Cert.ReferenceOxIdeal.nD Cert.ReferenceOxIdeal.τ).loc Cert.ReferenceOxIdeal.main_arg1) = m' ((c.tc : Thread Cert.ReferenceOxIdeal.nD Cert.ReferenceOxIdeal.τ).loc Cert.ReferenceOxIdeal.main_arg1))

def preserves_KernelOw_KernelOwIdeal : Prop :=
  True

def algebraic_KernelOwIdeal_ReferenceOwIdeal [hKernelOwIdeal : Cert.KernelOwIdeal.Facts] [hReferenceOwIdeal : Cert.ReferenceOwIdeal.Facts] : Prop :=
  ∀ (m : (ℓ : Loc Cert.KernelOwIdeal.nD Cert.KernelOwIdeal.τ Cert.KernelOwIdeal.sig) → Buf (Elt Ideal) ℓ) (g : Dev Cert.KernelOwIdeal.nD → PrngReg)
    (m' : (ℓ : Loc Cert.ReferenceOwIdeal.nD Cert.ReferenceOwIdeal.τ Cert.ReferenceOwIdeal.sig) → Buf (Elt Ideal) ℓ) (g' : Dev Cert.ReferenceOwIdeal.nD → PrngReg), Pre_KernelOwIdeal m →
    (∀ c : Dev Cert.KernelOwIdeal.nD,
      m' ((c.tc : Thread Cert.ReferenceOwIdeal.nD Cert.ReferenceOwIdeal.τ).loc Cert.ReferenceOwIdeal.main_arg0) = m ((c.tc : Thread Cert.KernelOwIdeal.nD Cert.KernelOwIdeal.τ).loc Cert.KernelOwIdeal.main_arg0)
      ∧ m' ((c.tc : Thread Cert.ReferenceOwIdeal.nD Cert.ReferenceOwIdeal.τ).loc Cert.ReferenceOwIdeal.main_arg1) = m ((c.tc : Thread Cert.KernelOwIdeal.nD Cert.KernelOwIdeal.τ).loc Cert.KernelOwIdeal.main_arg1)) →
    ∃ (v0 : (c : Dev Cert.KernelOwIdeal.nD) → Buf (Elt Ideal) ((c.tc : Thread Cert.KernelOwIdeal.nD Cert.KernelOwIdeal.τ).loc Cert.KernelOwIdeal.main_v2)),
      θ_run (Cert.KernelOwIdeal.defs (F := Ideal)) (onTc (τ := Cert.KernelOwIdeal.τ) (Cert.KernelOwIdeal.main (F := Ideal))) ⟨m, fun _ => 0, g⟩ (fun r => ∀ c : Dev Cert.KernelOwIdeal.nD,
          r.2.mem ((c.tc : Thread Cert.KernelOwIdeal.nD Cert.KernelOwIdeal.τ).loc Cert.KernelOwIdeal.main_v2) = v0 c
          ∧ r.2.mem ((c.tc : Thread Cert.KernelOwIdeal.nD Cert.KernelOwIdeal.τ).loc Cert.KernelOwIdeal.main_arg0) = m ((c.tc : Thread Cert.KernelOwIdeal.nD Cert.KernelOwIdeal.τ).loc Cert.KernelOwIdeal.main_arg0)
          ∧ r.2.mem ((c.tc : Thread Cert.KernelOwIdeal.nD Cert.KernelOwIdeal.τ).loc Cert.KernelOwIdeal.main_arg1) = m ((c.tc : Thread Cert.KernelOwIdeal.nD Cert.KernelOwIdeal.τ).loc Cert.KernelOwIdeal.main_arg1))
      ∧ θ_run (Cert.ReferenceOwIdeal.defs (F := Ideal)) (onTc (τ := Cert.ReferenceOwIdeal.τ) (Cert.ReferenceOwIdeal.main (F := Ideal))) ⟨m', fun _ => 0, g'⟩ (fun r => ∀ c : Dev Cert.ReferenceOwIdeal.nD,
          r.2.mem ((c.tc : Thread Cert.ReferenceOwIdeal.nD Cert.ReferenceOwIdeal.τ).loc Cert.ReferenceOwIdeal.main_v4) = v0 c
          ∧ r.2.mem ((c.tc : Thread Cert.ReferenceOwIdeal.nD Cert.ReferenceOwIdeal.τ).loc Cert.ReferenceOwIdeal.main_arg0) = m' ((c.tc : Thread Cert.ReferenceOwIdeal.nD Cert.ReferenceOwIdeal.τ).loc Cert.ReferenceOwIdeal.main_arg0)
          ∧ r.2.mem ((c.tc : Thread Cert.ReferenceOwIdeal.nD Cert.ReferenceOwIdeal.τ).loc Cert.ReferenceOwIdeal.main_arg1) = m' ((c.tc : Thread Cert.ReferenceOwIdeal.nD Cert.ReferenceOwIdeal.τ).loc Cert.ReferenceOwIdeal.main_arg1))

def preserves_KernelGf_KernelGfIdeal : Prop :=
  True

def algebraic_KernelGfIdeal_ReferenceGfIdeal [hKernelGfIdeal : Cert.KernelGfIdeal.Facts] [hReferenceGfIdeal : Cert.ReferenceGfIdeal.Facts] : Prop :=
  ∀ (m : (ℓ : Loc Cert.KernelGfIdeal.nD Cert.KernelGfIdeal.τ Cert.KernelGfIdeal.sig) → Buf (Elt Ideal) ℓ) (g : Dev Cert.KernelGfIdeal.nD → PrngReg)
    (m' : (ℓ : Loc Cert.ReferenceGfIdeal.nD Cert.ReferenceGfIdeal.τ Cert.ReferenceGfIdeal.sig) → Buf (Elt Ideal) ℓ) (g' : Dev Cert.ReferenceGfIdeal.nD → PrngReg), Pre_KernelGfIdeal m →
    (∀ c : Dev Cert.KernelGfIdeal.nD,
      m' ((c.tc : Thread Cert.ReferenceGfIdeal.nD Cert.ReferenceGfIdeal.τ).loc Cert.ReferenceGfIdeal.main_arg0) = m ((c.tc : Thread Cert.KernelGfIdeal.nD Cert.KernelGfIdeal.τ).loc Cert.KernelGfIdeal.main_arg0)
      ∧ m' ((c.tc : Thread Cert.ReferenceGfIdeal.nD Cert.ReferenceGfIdeal.τ).loc Cert.ReferenceGfIdeal.main_arg1) = m ((c.tc : Thread Cert.KernelGfIdeal.nD Cert.KernelGfIdeal.τ).loc Cert.KernelGfIdeal.main_arg1)) →
    ∃ (v0 : (c : Dev Cert.KernelGfIdeal.nD) → Buf (Elt Ideal) ((c.tc : Thread Cert.KernelGfIdeal.nD Cert.KernelGfIdeal.τ).loc Cert.KernelGfIdeal.main_v4_0)) (v1 : (c : Dev Cert.KernelGfIdeal.nD) → Buf (Elt Ideal) ((c.tc : Thread Cert.KernelGfIdeal.nD Cert.KernelGfIdeal.τ).loc Cert.KernelGfIdeal.main_v4_1)),
      θ_run (Cert.KernelGfIdeal.defs (F := Ideal)) (onTc (τ := Cert.KernelGfIdeal.τ) (Cert.KernelGfIdeal.main (F := Ideal))) ⟨m, fun _ => 0, g⟩ (fun r => ∀ c : Dev Cert.KernelGfIdeal.nD,
          r.2.mem ((c.tc : Thread Cert.KernelGfIdeal.nD Cert.KernelGfIdeal.τ).loc Cert.KernelGfIdeal.main_v4_0) = v0 c
          ∧ r.2.mem ((c.tc : Thread Cert.KernelGfIdeal.nD Cert.KernelGfIdeal.τ).loc Cert.KernelGfIdeal.main_v4_1) = v1 c
          ∧ r.2.mem ((c.tc : Thread Cert.KernelGfIdeal.nD Cert.KernelGfIdeal.τ).loc Cert.KernelGfIdeal.main_arg0) = m ((c.tc : Thread Cert.KernelGfIdeal.nD Cert.KernelGfIdeal.τ).loc Cert.KernelGfIdeal.main_arg0)
          ∧ r.2.mem ((c.tc : Thread Cert.KernelGfIdeal.nD Cert.KernelGfIdeal.τ).loc Cert.KernelGfIdeal.main_arg1) = m ((c.tc : Thread Cert.KernelGfIdeal.nD Cert.KernelGfIdeal.τ).loc Cert.KernelGfIdeal.main_arg1))
      ∧ θ_run (Cert.ReferenceGfIdeal.defs (F := Ideal)) (onTc (τ := Cert.ReferenceGfIdeal.τ) (Cert.ReferenceGfIdeal.main (F := Ideal))) ⟨m', fun _ => 0, g'⟩ (fun r => ∀ c : Dev Cert.ReferenceGfIdeal.nD,
          r.2.mem ((c.tc : Thread Cert.ReferenceGfIdeal.nD Cert.ReferenceGfIdeal.τ).loc Cert.ReferenceGfIdeal.main_v3) = v0 c
          ∧ r.2.mem ((c.tc : Thread Cert.ReferenceGfIdeal.nD Cert.ReferenceGfIdeal.τ).loc Cert.ReferenceGfIdeal.main_v8) = v1 c
          ∧ r.2.mem ((c.tc : Thread Cert.ReferenceGfIdeal.nD Cert.ReferenceGfIdeal.τ).loc Cert.ReferenceGfIdeal.main_arg0) = m' ((c.tc : Thread Cert.ReferenceGfIdeal.nD Cert.ReferenceGfIdeal.τ).loc Cert.ReferenceGfIdeal.main_arg0)
          ∧ r.2.mem ((c.tc : Thread Cert.ReferenceGfIdeal.nD Cert.ReferenceGfIdeal.τ).loc Cert.ReferenceGfIdeal.main_arg1) = m' ((c.tc : Thread Cert.ReferenceGfIdeal.nD Cert.ReferenceGfIdeal.τ).loc Cert.ReferenceGfIdeal.main_arg1))

def preserves_KernelIf_KernelIfIdeal : Prop :=
  True

def algebraic_KernelIfIdeal_ReferenceIfIdeal [hKernelIfIdeal : Cert.KernelIfIdeal.Facts] [hReferenceIfIdeal : Cert.ReferenceIfIdeal.Facts] : Prop :=
  ∀ (m : (ℓ : Loc Cert.KernelIfIdeal.nD Cert.KernelIfIdeal.τ Cert.KernelIfIdeal.sig) → Buf (Elt Ideal) ℓ) (g : Dev Cert.KernelIfIdeal.nD → PrngReg)
    (m' : (ℓ : Loc Cert.ReferenceIfIdeal.nD Cert.ReferenceIfIdeal.τ Cert.ReferenceIfIdeal.sig) → Buf (Elt Ideal) ℓ) (g' : Dev Cert.ReferenceIfIdeal.nD → PrngReg), Pre_KernelIfIdeal m →
    (∀ c : Dev Cert.KernelIfIdeal.nD,
      m' ((c.tc : Thread Cert.ReferenceIfIdeal.nD Cert.ReferenceIfIdeal.τ).loc Cert.ReferenceIfIdeal.main_arg0) = m ((c.tc : Thread Cert.KernelIfIdeal.nD Cert.KernelIfIdeal.τ).loc Cert.KernelIfIdeal.main_arg0)
      ∧ m' ((c.tc : Thread Cert.ReferenceIfIdeal.nD Cert.ReferenceIfIdeal.τ).loc Cert.ReferenceIfIdeal.main_arg1) = m ((c.tc : Thread Cert.KernelIfIdeal.nD Cert.KernelIfIdeal.τ).loc Cert.KernelIfIdeal.main_arg1)) →
    ∃ (v0 : (c : Dev Cert.KernelIfIdeal.nD) → Buf (Elt Ideal) ((c.tc : Thread Cert.KernelIfIdeal.nD Cert.KernelIfIdeal.τ).loc Cert.KernelIfIdeal.main_v2)),
      θ_run (Cert.KernelIfIdeal.defs (F := Ideal)) (onTc (τ := Cert.KernelIfIdeal.τ) (Cert.KernelIfIdeal.main (F := Ideal))) ⟨m, fun _ => 0, g⟩ (fun r => ∀ c : Dev Cert.KernelIfIdeal.nD,
          r.2.mem ((c.tc : Thread Cert.KernelIfIdeal.nD Cert.KernelIfIdeal.τ).loc Cert.KernelIfIdeal.main_v2) = v0 c
          ∧ r.2.mem ((c.tc : Thread Cert.KernelIfIdeal.nD Cert.KernelIfIdeal.τ).loc Cert.KernelIfIdeal.main_arg0) = m ((c.tc : Thread Cert.KernelIfIdeal.nD Cert.KernelIfIdeal.τ).loc Cert.KernelIfIdeal.main_arg0)
          ∧ r.2.mem ((c.tc : Thread Cert.KernelIfIdeal.nD Cert.KernelIfIdeal.τ).loc Cert.KernelIfIdeal.main_arg1) = m ((c.tc : Thread Cert.KernelIfIdeal.nD Cert.KernelIfIdeal.τ).loc Cert.KernelIfIdeal.main_arg1))
      ∧ θ_run (Cert.ReferenceIfIdeal.defs (F := Ideal)) (onTc (τ := Cert.ReferenceIfIdeal.τ) (Cert.ReferenceIfIdeal.main (F := Ideal))) ⟨m', fun _ => 0, g'⟩ (fun r => ∀ c : Dev Cert.ReferenceIfIdeal.nD,
          r.2.mem ((c.tc : Thread Cert.ReferenceIfIdeal.nD Cert.ReferenceIfIdeal.τ).loc Cert.ReferenceIfIdeal.main_v0) = v0 c
          ∧ r.2.mem ((c.tc : Thread Cert.ReferenceIfIdeal.nD Cert.ReferenceIfIdeal.τ).loc Cert.ReferenceIfIdeal.main_arg0) = m' ((c.tc : Thread Cert.ReferenceIfIdeal.nD Cert.ReferenceIfIdeal.τ).loc Cert.ReferenceIfIdeal.main_arg0)
          ∧ r.2.mem ((c.tc : Thread Cert.ReferenceIfIdeal.nD Cert.ReferenceIfIdeal.τ).loc Cert.ReferenceIfIdeal.main_arg1) = m' ((c.tc : Thread Cert.ReferenceIfIdeal.nD Cert.ReferenceIfIdeal.τ).loc Cert.ReferenceIfIdeal.main_arg1))

def preserves_KernelOf_KernelOfIdeal : Prop :=
  True

def algebraic_KernelOfIdeal_ReferenceOfIdeal [hKernelOfIdeal : Cert.KernelOfIdeal.Facts] [hReferenceOfIdeal : Cert.ReferenceOfIdeal.Facts] : Prop :=
  ∀ (m : (ℓ : Loc Cert.KernelOfIdeal.nD Cert.KernelOfIdeal.τ Cert.KernelOfIdeal.sig) → Buf (Elt Ideal) ℓ) (g : Dev Cert.KernelOfIdeal.nD → PrngReg)
    (m' : (ℓ : Loc Cert.ReferenceOfIdeal.nD Cert.ReferenceOfIdeal.τ Cert.ReferenceOfIdeal.sig) → Buf (Elt Ideal) ℓ) (g' : Dev Cert.ReferenceOfIdeal.nD → PrngReg), Pre_KernelOfIdeal m →
    (∀ c : Dev Cert.KernelOfIdeal.nD,
      m' ((c.tc : Thread Cert.ReferenceOfIdeal.nD Cert.ReferenceOfIdeal.τ).loc Cert.ReferenceOfIdeal.main_arg0) = m ((c.tc : Thread Cert.KernelOfIdeal.nD Cert.KernelOfIdeal.τ).loc Cert.KernelOfIdeal.main_arg0)
      ∧ m' ((c.tc : Thread Cert.ReferenceOfIdeal.nD Cert.ReferenceOfIdeal.τ).loc Cert.ReferenceOfIdeal.main_arg1) = m ((c.tc : Thread Cert.KernelOfIdeal.nD Cert.KernelOfIdeal.τ).loc Cert.KernelOfIdeal.main_arg1)
      ∧ m' ((c.tc : Thread Cert.ReferenceOfIdeal.nD Cert.ReferenceOfIdeal.τ).loc Cert.ReferenceOfIdeal.main_arg2) = m ((c.tc : Thread Cert.KernelOfIdeal.nD Cert.KernelOfIdeal.τ).loc Cert.KernelOfIdeal.main_arg2)) →
    ∃ (v0 : (c : Dev Cert.KernelOfIdeal.nD) → Buf (Elt Ideal) ((c.tc : Thread Cert.KernelOfIdeal.nD Cert.KernelOfIdeal.τ).loc Cert.KernelOfIdeal.main_v2)),
      θ_run (Cert.KernelOfIdeal.defs (F := Ideal)) (onTc (τ := Cert.KernelOfIdeal.τ) (Cert.KernelOfIdeal.main (F := Ideal))) ⟨m, fun _ => 0, g⟩ (fun r => ∀ c : Dev Cert.KernelOfIdeal.nD,
          r.2.mem ((c.tc : Thread Cert.KernelOfIdeal.nD Cert.KernelOfIdeal.τ).loc Cert.KernelOfIdeal.main_v2) = v0 c
          ∧ r.2.mem ((c.tc : Thread Cert.KernelOfIdeal.nD Cert.KernelOfIdeal.τ).loc Cert.KernelOfIdeal.main_arg0) = m ((c.tc : Thread Cert.KernelOfIdeal.nD Cert.KernelOfIdeal.τ).loc Cert.KernelOfIdeal.main_arg0)
          ∧ r.2.mem ((c.tc : Thread Cert.KernelOfIdeal.nD Cert.KernelOfIdeal.τ).loc Cert.KernelOfIdeal.main_arg1) = m ((c.tc : Thread Cert.KernelOfIdeal.nD Cert.KernelOfIdeal.τ).loc Cert.KernelOfIdeal.main_arg1)
          ∧ r.2.mem ((c.tc : Thread Cert.KernelOfIdeal.nD Cert.KernelOfIdeal.τ).loc Cert.KernelOfIdeal.main_arg2) = m ((c.tc : Thread Cert.KernelOfIdeal.nD Cert.KernelOfIdeal.τ).loc Cert.KernelOfIdeal.main_arg2))
      ∧ θ_run (Cert.ReferenceOfIdeal.defs (F := Ideal)) (onTc (τ := Cert.ReferenceOfIdeal.τ) (Cert.ReferenceOfIdeal.main (F := Ideal))) ⟨m', fun _ => 0, g'⟩ (fun r => ∀ c : Dev Cert.ReferenceOfIdeal.nD,
          r.2.mem ((c.tc : Thread Cert.ReferenceOfIdeal.nD Cert.ReferenceOfIdeal.τ).loc Cert.ReferenceOfIdeal.main_v1) = v0 c
          ∧ r.2.mem ((c.tc : Thread Cert.ReferenceOfIdeal.nD Cert.ReferenceOfIdeal.τ).loc Cert.ReferenceOfIdeal.main_arg0) = m' ((c.tc : Thread Cert.ReferenceOfIdeal.nD Cert.ReferenceOfIdeal.τ).loc Cert.ReferenceOfIdeal.main_arg0)
          ∧ r.2.mem ((c.tc : Thread Cert.ReferenceOfIdeal.nD Cert.ReferenceOfIdeal.τ).loc Cert.ReferenceOfIdeal.main_arg1) = m' ((c.tc : Thread Cert.ReferenceOfIdeal.nD Cert.ReferenceOfIdeal.τ).loc Cert.ReferenceOfIdeal.main_arg1)
          ∧ r.2.mem ((c.tc : Thread Cert.ReferenceOfIdeal.nD Cert.ReferenceOfIdeal.τ).loc Cert.ReferenceOfIdeal.main_arg2) = m' ((c.tc : Thread Cert.ReferenceOfIdeal.nD Cert.ReferenceOfIdeal.τ).loc Cert.ReferenceOfIdeal.main_arg2))

def preserves_KernelDl_KernelDlIdeal : Prop :=
  True

def algebraic_KernelDlIdeal_ReferenceDlIdeal [hKernelDlIdeal : Cert.KernelDlIdeal.Facts] [hReferenceDlIdeal : Cert.ReferenceDlIdeal.Facts] : Prop :=
  ∀ (m : (ℓ : Loc Cert.KernelDlIdeal.nD Cert.KernelDlIdeal.τ Cert.KernelDlIdeal.sig) → Buf (Elt Ideal) ℓ) (g : Dev Cert.KernelDlIdeal.nD → PrngReg)
    (m' : (ℓ : Loc Cert.ReferenceDlIdeal.nD Cert.ReferenceDlIdeal.τ Cert.ReferenceDlIdeal.sig) → Buf (Elt Ideal) ℓ) (g' : Dev Cert.ReferenceDlIdeal.nD → PrngReg), Pre_KernelDlIdeal m →
    (∀ c : Dev Cert.KernelDlIdeal.nD,
      m' ((c.tc : Thread Cert.ReferenceDlIdeal.nD Cert.ReferenceDlIdeal.τ).loc Cert.ReferenceDlIdeal.main_arg0) = m ((c.tc : Thread Cert.KernelDlIdeal.nD Cert.KernelDlIdeal.τ).loc Cert.KernelDlIdeal.main_arg0)
      ∧ m' ((c.tc : Thread Cert.ReferenceDlIdeal.nD Cert.ReferenceDlIdeal.τ).loc Cert.ReferenceDlIdeal.main_arg1) = m ((c.tc : Thread Cert.KernelDlIdeal.nD Cert.KernelDlIdeal.τ).loc Cert.KernelDlIdeal.main_arg1)
      ∧ m' ((c.tc : Thread Cert.ReferenceDlIdeal.nD Cert.ReferenceDlIdeal.τ).loc Cert.ReferenceDlIdeal.main_arg2) = m ((c.tc : Thread Cert.KernelDlIdeal.nD Cert.KernelDlIdeal.τ).loc Cert.KernelDlIdeal.main_arg2)
      ∧ m' ((c.tc : Thread Cert.ReferenceDlIdeal.nD Cert.ReferenceDlIdeal.τ).loc Cert.ReferenceDlIdeal.main_arg3) = m ((c.tc : Thread Cert.KernelDlIdeal.nD Cert.KernelDlIdeal.τ).loc Cert.KernelDlIdeal.main_arg3)) →
    ∃ (v0 : (c : Dev Cert.KernelDlIdeal.nD) → Buf (Elt Ideal) ((c.tc : Thread Cert.KernelDlIdeal.nD Cert.KernelDlIdeal.τ).loc Cert.KernelDlIdeal.main_v2_0)) (v1 : (c : Dev Cert.KernelDlIdeal.nD) → Buf (Elt Ideal) ((c.tc : Thread Cert.KernelDlIdeal.nD Cert.KernelDlIdeal.τ).loc Cert.KernelDlIdeal.main_v2_1)) (v2 : (c : Dev Cert.KernelDlIdeal.nD) → Buf (Elt Ideal) ((c.tc : Thread Cert.KernelDlIdeal.nD Cert.KernelDlIdeal.τ).loc Cert.KernelDlIdeal.main_v2_2)),
      θ_run (Cert.KernelDlIdeal.defs (F := Ideal)) (onTc (τ := Cert.KernelDlIdeal.τ) (Cert.KernelDlIdeal.main (F := Ideal))) ⟨m, fun _ => 0, g⟩ (fun r => ∀ c : Dev Cert.KernelDlIdeal.nD,
          r.2.mem ((c.tc : Thread Cert.KernelDlIdeal.nD Cert.KernelDlIdeal.τ).loc Cert.KernelDlIdeal.main_v2_0) = v0 c
          ∧ r.2.mem ((c.tc : Thread Cert.KernelDlIdeal.nD Cert.KernelDlIdeal.τ).loc Cert.KernelDlIdeal.main_v2_1) = v1 c
          ∧ r.2.mem ((c.tc : Thread Cert.KernelDlIdeal.nD Cert.KernelDlIdeal.τ).loc Cert.KernelDlIdeal.main_v2_2) = v2 c
          ∧ r.2.mem ((c.tc : Thread Cert.KernelDlIdeal.nD Cert.KernelDlIdeal.τ).loc Cert.KernelDlIdeal.main_arg0) = m ((c.tc : Thread Cert.KernelDlIdeal.nD Cert.KernelDlIdeal.τ).loc Cert.KernelDlIdeal.main_arg0)
          ∧ r.2.mem ((c.tc : Thread Cert.KernelDlIdeal.nD Cert.KernelDlIdeal.τ).loc Cert.KernelDlIdeal.main_arg1) = m ((c.tc : Thread Cert.KernelDlIdeal.nD Cert.KernelDlIdeal.τ).loc Cert.KernelDlIdeal.main_arg1)
          ∧ r.2.mem ((c.tc : Thread Cert.KernelDlIdeal.nD Cert.KernelDlIdeal.τ).loc Cert.KernelDlIdeal.main_arg2) = m ((c.tc : Thread Cert.KernelDlIdeal.nD Cert.KernelDlIdeal.τ).loc Cert.KernelDlIdeal.main_arg2)
          ∧ r.2.mem ((c.tc : Thread Cert.KernelDlIdeal.nD Cert.KernelDlIdeal.τ).loc Cert.KernelDlIdeal.main_arg3) = m ((c.tc : Thread Cert.KernelDlIdeal.nD Cert.KernelDlIdeal.τ).loc Cert.KernelDlIdeal.main_arg3))
      ∧ θ_run (Cert.ReferenceDlIdeal.defs (F := Ideal)) (onTc (τ := Cert.ReferenceDlIdeal.τ) (Cert.ReferenceDlIdeal.main (F := Ideal))) ⟨m', fun _ => 0, g'⟩ (fun r => ∀ c : Dev Cert.ReferenceDlIdeal.nD,
          r.2.mem ((c.tc : Thread Cert.ReferenceDlIdeal.nD Cert.ReferenceDlIdeal.τ).loc Cert.ReferenceDlIdeal.main_v16) = v0 c
          ∧ r.2.mem ((c.tc : Thread Cert.ReferenceDlIdeal.nD Cert.ReferenceDlIdeal.τ).loc Cert.ReferenceDlIdeal.main_v17) = v1 c
          ∧ r.2.mem ((c.tc : Thread Cert.ReferenceDlIdeal.nD Cert.ReferenceDlIdeal.τ).loc Cert.ReferenceDlIdeal.main_v18) = v2 c
          ∧ r.2.mem ((c.tc : Thread Cert.ReferenceDlIdeal.nD Cert.ReferenceDlIdeal.τ).loc Cert.ReferenceDlIdeal.main_arg0) = m' ((c.tc : Thread Cert.ReferenceDlIdeal.nD Cert.ReferenceDlIdeal.τ).loc Cert.ReferenceDlIdeal.main_arg0)
          ∧ r.2.mem ((c.tc : Thread Cert.ReferenceDlIdeal.nD Cert.ReferenceDlIdeal.τ).loc Cert.ReferenceDlIdeal.main_arg1) = m' ((c.tc : Thread Cert.ReferenceDlIdeal.nD Cert.ReferenceDlIdeal.τ).loc Cert.ReferenceDlIdeal.main_arg1)
          ∧ r.2.mem ((c.tc : Thread Cert.ReferenceDlIdeal.nD Cert.ReferenceDlIdeal.τ).loc Cert.ReferenceDlIdeal.main_arg2) = m' ((c.tc : Thread Cert.ReferenceDlIdeal.nD Cert.ReferenceDlIdeal.τ).loc Cert.ReferenceDlIdeal.main_arg2)
          ∧ r.2.mem ((c.tc : Thread Cert.ReferenceDlIdeal.nD Cert.ReferenceDlIdeal.τ).loc Cert.ReferenceDlIdeal.main_arg3) = m' ((c.tc : Thread Cert.ReferenceDlIdeal.nD Cert.ReferenceDlIdeal.τ).loc Cert.ReferenceDlIdeal.main_arg3))

def preserves_KernelNb_KernelNbIdeal : Prop :=
  True

def algebraic_KernelNbIdeal_ReferenceNbIdeal [hKernelNbIdeal : Cert.KernelNbIdeal.Facts] [hReferenceNbIdeal : Cert.ReferenceNbIdeal.Facts] : Prop :=
  ∀ (m : (ℓ : Loc Cert.KernelNbIdeal.nD Cert.KernelNbIdeal.τ Cert.KernelNbIdeal.sig) → Buf (Elt Ideal) ℓ) (g : Dev Cert.KernelNbIdeal.nD → PrngReg)
    (m' : (ℓ : Loc Cert.ReferenceNbIdeal.nD Cert.ReferenceNbIdeal.τ Cert.ReferenceNbIdeal.sig) → Buf (Elt Ideal) ℓ) (g' : Dev Cert.ReferenceNbIdeal.nD → PrngReg), Pre_KernelNbIdeal m →
    (∀ c : Dev Cert.KernelNbIdeal.nD,
      m' ((c.tc : Thread Cert.ReferenceNbIdeal.nD Cert.ReferenceNbIdeal.τ).loc Cert.ReferenceNbIdeal.main_arg0) = m ((c.tc : Thread Cert.KernelNbIdeal.nD Cert.KernelNbIdeal.τ).loc Cert.KernelNbIdeal.main_arg0)
      ∧ m' ((c.tc : Thread Cert.ReferenceNbIdeal.nD Cert.ReferenceNbIdeal.τ).loc Cert.ReferenceNbIdeal.main_arg1) = m ((c.tc : Thread Cert.KernelNbIdeal.nD Cert.KernelNbIdeal.τ).loc Cert.KernelNbIdeal.main_arg1)
      ∧ m' ((c.tc : Thread Cert.ReferenceNbIdeal.nD Cert.ReferenceNbIdeal.τ).loc Cert.ReferenceNbIdeal.main_arg2) = m ((c.tc : Thread Cert.KernelNbIdeal.nD Cert.KernelNbIdeal.τ).loc Cert.KernelNbIdeal.main_arg2)
      ∧ m' ((c.tc : Thread Cert.ReferenceNbIdeal.nD Cert.ReferenceNbIdeal.τ).loc Cert.ReferenceNbIdeal.main_arg3) = m ((c.tc : Thread Cert.KernelNbIdeal.nD Cert.KernelNbIdeal.τ).loc Cert.KernelNbIdeal.main_arg3)) →
    ∃ (v0 : (c : Dev Cert.KernelNbIdeal.nD) → Buf (Elt Ideal) ((c.tc : Thread Cert.KernelNbIdeal.nD Cert.KernelNbIdeal.τ).loc Cert.KernelNbIdeal.main_v1_0)) (v1 : (c : Dev Cert.KernelNbIdeal.nD) → Buf (Elt Ideal) ((c.tc : Thread Cert.KernelNbIdeal.nD Cert.KernelNbIdeal.τ).loc Cert.KernelNbIdeal.main_v1_1)) (v2 : (c : Dev Cert.KernelNbIdeal.nD) → Buf (Elt Ideal) ((c.tc : Thread Cert.KernelNbIdeal.nD Cert.KernelNbIdeal.τ).loc Cert.KernelNbIdeal.main_v1_2)),
      θ_run (Cert.KernelNbIdeal.defs (F := Ideal)) (onTc (τ := Cert.KernelNbIdeal.τ) (Cert.KernelNbIdeal.main (F := Ideal))) ⟨m, fun _ => 0, g⟩ (fun r => ∀ c : Dev Cert.KernelNbIdeal.nD,
          r.2.mem ((c.tc : Thread Cert.KernelNbIdeal.nD Cert.KernelNbIdeal.τ).loc Cert.KernelNbIdeal.main_v1_0) = v0 c
          ∧ r.2.mem ((c.tc : Thread Cert.KernelNbIdeal.nD Cert.KernelNbIdeal.τ).loc Cert.KernelNbIdeal.main_v1_1) = v1 c
          ∧ r.2.mem ((c.tc : Thread Cert.KernelNbIdeal.nD Cert.KernelNbIdeal.τ).loc Cert.KernelNbIdeal.main_v1_2) = v2 c
          ∧ r.2.mem ((c.tc : Thread Cert.KernelNbIdeal.nD Cert.KernelNbIdeal.τ).loc Cert.KernelNbIdeal.main_arg0) = m ((c.tc : Thread Cert.KernelNbIdeal.nD Cert.KernelNbIdeal.τ).loc Cert.KernelNbIdeal.main_arg0)
          ∧ r.2.mem ((c.tc : Thread Cert.KernelNbIdeal.nD Cert.KernelNbIdeal.τ).loc Cert.KernelNbIdeal.main_arg1) = m ((c.tc : Thread Cert.KernelNbIdeal.nD Cert.KernelNbIdeal.τ).loc Cert.KernelNbIdeal.main_arg1)
          ∧ r.2.mem ((c.tc : Thread Cert.KernelNbIdeal.nD Cert.KernelNbIdeal.τ).loc Cert.KernelNbIdeal.main_arg2) = m ((c.tc : Thread Cert.KernelNbIdeal.nD Cert.KernelNbIdeal.τ).loc Cert.KernelNbIdeal.main_arg2)
          ∧ r.2.mem ((c.tc : Thread Cert.KernelNbIdeal.nD Cert.KernelNbIdeal.τ).loc Cert.KernelNbIdeal.main_arg3) = m ((c.tc : Thread Cert.KernelNbIdeal.nD Cert.KernelNbIdeal.τ).loc Cert.KernelNbIdeal.main_arg3))
      ∧ θ_run (Cert.ReferenceNbIdeal.defs (F := Ideal)) (onTc (τ := Cert.ReferenceNbIdeal.τ) (Cert.ReferenceNbIdeal.main (F := Ideal))) ⟨m', fun _ => 0, g'⟩ (fun r => ∀ c : Dev Cert.ReferenceNbIdeal.nD,
          r.2.mem ((c.tc : Thread Cert.ReferenceNbIdeal.nD Cert.ReferenceNbIdeal.τ).loc Cert.ReferenceNbIdeal.main_v36) = v0 c
          ∧ r.2.mem ((c.tc : Thread Cert.ReferenceNbIdeal.nD Cert.ReferenceNbIdeal.τ).loc Cert.ReferenceNbIdeal.main_v38) = v1 c
          ∧ r.2.mem ((c.tc : Thread Cert.ReferenceNbIdeal.nD Cert.ReferenceNbIdeal.τ).loc Cert.ReferenceNbIdeal.main_v39) = v2 c
          ∧ r.2.mem ((c.tc : Thread Cert.ReferenceNbIdeal.nD Cert.ReferenceNbIdeal.τ).loc Cert.ReferenceNbIdeal.main_arg0) = m' ((c.tc : Thread Cert.ReferenceNbIdeal.nD Cert.ReferenceNbIdeal.τ).loc Cert.ReferenceNbIdeal.main_arg0)
          ∧ r.2.mem ((c.tc : Thread Cert.ReferenceNbIdeal.nD Cert.ReferenceNbIdeal.τ).loc Cert.ReferenceNbIdeal.main_arg1) = m' ((c.tc : Thread Cert.ReferenceNbIdeal.nD Cert.ReferenceNbIdeal.τ).loc Cert.ReferenceNbIdeal.main_arg1)
          ∧ r.2.mem ((c.tc : Thread Cert.ReferenceNbIdeal.nD Cert.ReferenceNbIdeal.τ).loc Cert.ReferenceNbIdeal.main_arg2) = m' ((c.tc : Thread Cert.ReferenceNbIdeal.nD Cert.ReferenceNbIdeal.τ).loc Cert.ReferenceNbIdeal.main_arg2)
          ∧ r.2.mem ((c.tc : Thread Cert.ReferenceNbIdeal.nD Cert.ReferenceNbIdeal.τ).loc Cert.ReferenceNbIdeal.main_arg3) = m' ((c.tc : Thread Cert.ReferenceNbIdeal.nD Cert.ReferenceNbIdeal.τ).loc Cert.ReferenceNbIdeal.main_arg3))

def Claim : Prop :=
  ∃ (hKernelKv : Cert.KernelKv.Facts) (hKernelKvIdeal : Cert.KernelKvIdeal.Facts) (hReferenceKvIdeal : Cert.ReferenceKvIdeal.Facts) (hKernelDx : Cert.KernelDx.Facts) (hKernelDxIdeal : Cert.KernelDxIdeal.Facts) (hReferenceDxIdeal : Cert.ReferenceDxIdeal.Facts) (hKernelGx : Cert.KernelGx.Facts) (hKernelGxIdeal : Cert.KernelGxIdeal.Facts) (hReferenceGxIdeal : Cert.ReferenceGxIdeal.Facts) (hKernelGw : Cert.KernelGw.Facts) (hKernelGwIdeal : Cert.KernelGwIdeal.Facts) (hReferenceGwIdeal : Cert.ReferenceGwIdeal.Facts) (hKernelDw : Cert.KernelDw.Facts) (hKernelDwIdeal : Cert.KernelDwIdeal.Facts) (hReferenceDwIdeal : Cert.ReferenceDwIdeal.Facts) (hKernelIx : Cert.KernelIx.Facts) (hKernelIxIdeal : Cert.KernelIxIdeal.Facts) (hReferenceIxIdeal : Cert.ReferenceIxIdeal.Facts) (hKernelIw : Cert.KernelIw.Facts) (hKernelIwIdeal : Cert.KernelIwIdeal.Facts) (hReferenceIwIdeal : Cert.ReferenceIwIdeal.Facts) (hKernelOx : Cert.KernelOx.Facts) (hKernelOxIdeal : Cert.KernelOxIdeal.Facts) (hReferenceOxIdeal : Cert.ReferenceOxIdeal.Facts) (hKernelOw : Cert.KernelOw.Facts) (hKernelOwIdeal : Cert.KernelOwIdeal.Facts) (hReferenceOwIdeal : Cert.ReferenceOwIdeal.Facts) (hKernelGf : Cert.KernelGf.Facts) (hKernelGfIdeal : Cert.KernelGfIdeal.Facts) (hReferenceGfIdeal : Cert.ReferenceGfIdeal.Facts) (hKernelIf : Cert.KernelIf.Facts) (hKernelIfIdeal : Cert.KernelIfIdeal.Facts) (hReferenceIfIdeal : Cert.ReferenceIfIdeal.Facts) (hKernelOf : Cert.KernelOf.Facts) (hKernelOfIdeal : Cert.KernelOfIdeal.Facts) (hReferenceOfIdeal : Cert.ReferenceOfIdeal.Facts) (hKernelDl : Cert.KernelDl.Facts) (hKernelDlIdeal : Cert.KernelDlIdeal.Facts) (hReferenceDlIdeal : Cert.ReferenceDlIdeal.Facts) (hKernelNb : Cert.KernelNb.Facts) (hKernelNbIdeal : Cert.KernelNbIdeal.Facts) (hReferenceNbIdeal : Cert.ReferenceNbIdeal.Facts) (hPre_finite : Cert.Pre_finite.Facts) (hPre_finite_down : Cert.Pre_finite_down.Facts),
    quiescent_KernelKv (hKernelKv := hKernelKv)
    ∧ quiescent_KernelKvIdeal (hKernelKvIdeal := hKernelKvIdeal)
    ∧ quiescent_KernelKvIdeal_pre_finite (hKernelKvIdeal := hKernelKvIdeal) (hPre_finite := hPre_finite)
    ∧ quiescent_ReferenceKvIdeal (hReferenceKvIdeal := hReferenceKvIdeal)
    ∧ quiescent_ReferenceKvIdeal_pre_finite (hReferenceKvIdeal := hReferenceKvIdeal) (hPre_finite := hPre_finite)
    ∧ quiescent_KernelDx (hKernelDx := hKernelDx)
    ∧ quiescent_KernelDxIdeal (hKernelDxIdeal := hKernelDxIdeal)
    ∧ quiescent_KernelDxIdeal_pre_finite_down (hKernelDxIdeal := hKernelDxIdeal) (hPre_finite_down := hPre_finite_down)
    ∧ quiescent_ReferenceDxIdeal (hReferenceDxIdeal := hReferenceDxIdeal)
    ∧ quiescent_ReferenceDxIdeal_pre_finite_down (hReferenceDxIdeal := hReferenceDxIdeal) (hPre_finite_down := hPre_finite_down)
    ∧ quiescent_KernelGx (hKernelGx := hKernelGx)
    ∧ quiescent_KernelGxIdeal (hKernelGxIdeal := hKernelGxIdeal)
    ∧ quiescent_ReferenceGxIdeal (hReferenceGxIdeal := hReferenceGxIdeal)
    ∧ quiescent_KernelGw (hKernelGw := hKernelGw)
    ∧ quiescent_KernelGwIdeal (hKernelGwIdeal := hKernelGwIdeal)
    ∧ quiescent_ReferenceGwIdeal (hReferenceGwIdeal := hReferenceGwIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelIx (hKernelIx := hKernelIx)
    ∧ quiescent_KernelIxIdeal (hKernelIxIdeal := hKernelIxIdeal)
    ∧ quiescent_ReferenceIxIdeal (hReferenceIxIdeal := hReferenceIxIdeal)
    ∧ quiescent_KernelIw (hKernelIw := hKernelIw)
    ∧ quiescent_KernelIwIdeal (hKernelIwIdeal := hKernelIwIdeal)
    ∧ quiescent_ReferenceIwIdeal (hReferenceIwIdeal := hReferenceIwIdeal)
    ∧ quiescent_KernelOx (hKernelOx := hKernelOx)
    ∧ quiescent_KernelOxIdeal (hKernelOxIdeal := hKernelOxIdeal)
    ∧ quiescent_ReferenceOxIdeal (hReferenceOxIdeal := hReferenceOxIdeal)
    ∧ quiescent_KernelOw (hKernelOw := hKernelOw)
    ∧ quiescent_KernelOwIdeal (hKernelOwIdeal := hKernelOwIdeal)
    ∧ quiescent_ReferenceOwIdeal (hReferenceOwIdeal := hReferenceOwIdeal)
    ∧ quiescent_KernelGf (hKernelGf := hKernelGf)
    ∧ quiescent_KernelGfIdeal (hKernelGfIdeal := hKernelGfIdeal)
    ∧ quiescent_ReferenceGfIdeal (hReferenceGfIdeal := hReferenceGfIdeal)
    ∧ quiescent_KernelIf (hKernelIf := hKernelIf)
    ∧ quiescent_KernelIfIdeal (hKernelIfIdeal := hKernelIfIdeal)
    ∧ quiescent_ReferenceIfIdeal (hReferenceIfIdeal := hReferenceIfIdeal)
    ∧ quiescent_KernelOf (hKernelOf := hKernelOf)
    ∧ quiescent_KernelOfIdeal (hKernelOfIdeal := hKernelOfIdeal)
    ∧ quiescent_ReferenceOfIdeal (hReferenceOfIdeal := hReferenceOfIdeal)
    ∧ quiescent_KernelDl (hKernelDl := hKernelDl)
    ∧ quiescent_KernelDlIdeal (hKernelDlIdeal := hKernelDlIdeal)
    ∧ quiescent_ReferenceDlIdeal (hReferenceDlIdeal := hReferenceDlIdeal)
    ∧ quiescent_KernelNb (hKernelNb := hKernelNb)
    ∧ quiescent_KernelNbIdeal (hKernelNbIdeal := hKernelNbIdeal)
    ∧ quiescent_ReferenceNbIdeal (hReferenceNbIdeal := hReferenceNbIdeal)
    ∧ preserves_KernelKv_KernelKvIdeal
    ∧ algebraic_KernelKvIdeal_ReferenceKvIdeal_pre_finite (hKernelKvIdeal := hKernelKvIdeal) (hReferenceKvIdeal := hReferenceKvIdeal) (hPre_finite := hPre_finite)
    ∧ preserves_KernelDx_KernelDxIdeal
    ∧ algebraic_KernelDxIdeal_ReferenceDxIdeal_pre_finite_down (hKernelDxIdeal := hKernelDxIdeal) (hReferenceDxIdeal := hReferenceDxIdeal) (hPre_finite_down := hPre_finite_down)
    ∧ preserves_KernelGx_KernelGxIdeal
    ∧ algebraic_KernelGxIdeal_ReferenceGxIdeal (hKernelGxIdeal := hKernelGxIdeal) (hReferenceGxIdeal := hReferenceGxIdeal)
    ∧ preserves_KernelGw_KernelGwIdeal
    ∧ algebraic_KernelGwIdeal_ReferenceGwIdeal (hKernelGwIdeal := hKernelGwIdeal) (hReferenceGwIdeal := hReferenceGwIdeal)
    ∧ preserves_KernelDw_KernelDwIdeal
    ∧ algebraic_KernelDwIdeal_ReferenceDwIdeal (hKernelDwIdeal := hKernelDwIdeal) (hReferenceDwIdeal := hReferenceDwIdeal)
    ∧ preserves_KernelIx_KernelIxIdeal
    ∧ algebraic_KernelIxIdeal_ReferenceIxIdeal (hKernelIxIdeal := hKernelIxIdeal) (hReferenceIxIdeal := hReferenceIxIdeal)
    ∧ preserves_KernelIw_KernelIwIdeal
    ∧ algebraic_KernelIwIdeal_ReferenceIwIdeal (hKernelIwIdeal := hKernelIwIdeal) (hReferenceIwIdeal := hReferenceIwIdeal)
    ∧ preserves_KernelOx_KernelOxIdeal
    ∧ algebraic_KernelOxIdeal_ReferenceOxIdeal (hKernelOxIdeal := hKernelOxIdeal) (hReferenceOxIdeal := hReferenceOxIdeal)
    ∧ preserves_KernelOw_KernelOwIdeal
    ∧ algebraic_KernelOwIdeal_ReferenceOwIdeal (hKernelOwIdeal := hKernelOwIdeal) (hReferenceOwIdeal := hReferenceOwIdeal)
    ∧ preserves_KernelGf_KernelGfIdeal
    ∧ algebraic_KernelGfIdeal_ReferenceGfIdeal (hKernelGfIdeal := hKernelGfIdeal) (hReferenceGfIdeal := hReferenceGfIdeal)
    ∧ preserves_KernelIf_KernelIfIdeal
    ∧ algebraic_KernelIfIdeal_ReferenceIfIdeal (hKernelIfIdeal := hKernelIfIdeal) (hReferenceIfIdeal := hReferenceIfIdeal)
    ∧ preserves_KernelOf_KernelOfIdeal
    ∧ algebraic_KernelOfIdeal_ReferenceOfIdeal (hKernelOfIdeal := hKernelOfIdeal) (hReferenceOfIdeal := hReferenceOfIdeal)
    ∧ preserves_KernelDl_KernelDlIdeal
    ∧ algebraic_KernelDlIdeal_ReferenceDlIdeal (hKernelDlIdeal := hKernelDlIdeal) (hReferenceDlIdeal := hReferenceDlIdeal)
    ∧ preserves_KernelNb_KernelNbIdeal
    ∧ algebraic_KernelNbIdeal_ReferenceNbIdeal (hKernelNbIdeal := hKernelNbIdeal) (hReferenceNbIdeal := hReferenceNbIdeal)
-- ==== Pre_finite.lean ====
abbrev S2048x1024 : Shape := ⟨2, ![2048, 1024]⟩
abbrev S2048x8 : Shape := ⟨2, ![2048, 8]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_

variable [Facts]

def fn_part1 {F : FTy → Type} [FloatOps F] (main_arg4 : FVec F S2048x1024 .f32) (main_v13 : IVec S_ 1) (main_v16 : IVec S2048x8 1) : IVec S_ 1 :=
  let main_c_5 : IVec S_ 1 := constantI S_ 1 1#1
  let main_v17 : IVec S_ 1 := (fun x v => Host.reduce IntOp.andi x v reducesTo_S2048x8_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S2048x1024 .f32) (main_arg2 : FVec F S2048x1024 .f32) (main_arg3 : FVec F S2048x8 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x8 .f32 := Host.absf main_arg3
  let main_cst_4 : FVec F S_ .f32 := constant S_ .f32 0x7F800000#32
  let main_v15 : FVec F S2048x8 .f32 := broadcastInDim S2048x8 ![] bcast_S_S2048x8 main_cst_4
  let main_v16 : IVec S2048x8 1 := cmpf .olt main_v14 main_v15
  fn_part1 (F := F) main_arg4 main_v13 main_v16
-- ==== Pre_finite_down.lean ====
abbrev S2048x11264 : Shape := ⟨2, ![2048, 11264]⟩
abbrev S5632x2048 : Shape := ⟨2, ![5632, 2048]⟩
abbrev S2048x2048 : Shape := ⟨2, ![2048, 2048]⟩
abbrev S2048x5632 : Shape := ⟨2, ![2048, 5632]⟩
abbrev S_ : Shape := ⟨0, ![]⟩

class Facts : Prop where
  slices_S2048x11264_S2048x5632_0_5632 : S2048x11264.Slices ![0, 5632] S2048x5632
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x11264 .f32) (main_arg1 : FVec F S5632x2048 .f32) (main_arg2 : FVec F S2048x2048 .f32) : IVec S_ 1 :=
  let main_v0 : FVec F S2048x5632 .f32 := (extractStridedSlice S2048x5632 ![0, 5632] · slices_S2048x11264_S2048x5632_0_5632) main_arg0
  let main_v1 : FVec F S2048x5632 .f32 := Host.absf main_v0
  let main_cst : FVec F S_ .f32 := constant S_ .f32 0x7F800000#32
  let main_v2 : FVec F S2048x5632 .f32 := broadcastInDim S2048x5632 ![] bcast_S_S2048x5632 main_cst
  let main_v3 : IVec S2048x5632 1 := cmpf .olt main_v1 main_v2
  let main_c : IVec S_ 1 := constantI S_ 1 1#1
  let main_v4 : IVec S_ 1 := (fun x v => Host.reduce IntOp.andi x v reducesTo_S2048x5632_S_d0_1 h_S_) main_v3 main_c
  let main_v5 : FVec F S5632x2048 .f32 := Host.absf main_arg1
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_c_1 : IVec S_ 1 := constantI S_ 1 1#1
  let main_v8 : IVec S_ 1 := (fun x v => Host.reduce IntOp.andi x v reducesTo_S5632x2048_S_d0_1 h_S_) main_v7 main_c_1
  let main_v9 : IVec S_ 1 := andi main_v4 main_v8
  let main_v10 : FVec F S2048x2048 .f32 := Host.absf main_arg2
  let main_cst_2 : FVec F S_ .f32 := constant S_ .f32 0x7F800000#32
  let main_v11 : FVec F S2048x2048 .f32 := broadcastInDim S2048x2048 ![] bcast_S_S2048x2048 main_cst_2
  let main_v12 : IVec S2048x2048 1 := cmpf .olt main_v10 main_v11
  let main_c_3 : IVec S_ 1 := constantI S_ 1 1#1
  let main_v13 : IVec S_ 1 := (fun x v => Host.reduce IntOp.andi x v reducesTo_S2048x2048_S_d0_1 h_S_) main_v12 main_c_3
  let main_v14 : IVec S_ 1 := andi main_v9 main_v13
  main_v14
-- ==== KernelKv.lean ====
abbrev S2048x1024 : Shape := ⟨2, ![2048, 1024]⟩
abbrev S2048x8 : Shape := ⟨2, ![2048, 8]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x128 : Shape := ⟨2, ![2048, 128]⟩
abbrev S512x1024 : Shape := ⟨2, ![512, 1024]⟩
abbrev S512x128 : Shape := ⟨2, ![512, 128]⟩
abbrev S8x512 : Shape := ⟨2, ![8, 512]⟩
abbrev S8x512x128 : Shape := ⟨3, ![8, 512, 128]⟩
abbrev S8x1x512 : Shape := ⟨3, ![8, 1, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1x512x128 : Shape := ⟨3, ![1, 512, 128]⟩
abbrev S1x1x512 : Shape := ⟨3, ![1, 1, 512]⟩

abbrev nBuf : Space → Nat
  | .hbm => 111
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8, .f32⟩
  | .hbm, ⟨4, _⟩ => ⟨S2048x1024, .f32⟩
  | .hbm, ⟨5, _⟩ => ⟨S2048x8x128, .f32⟩
  | .hbm, ⟨6, _⟩ => ⟨S8x2048x128, .f32⟩
  | .hbm, ⟨7, _⟩ => ⟨S2048x8x128, .f32⟩
  | .hbm, ⟨8, _⟩ => ⟨S8x2048x128, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S8x2048x2048, .i1⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x1, .f32⟩
  | .hbm, ⟨42, _⟩ => ⟨S8x2048x1, .f32⟩
  | .hbm, ⟨43, _⟩ => ⟨S2048x8x128, .f32⟩
  | .hbm, ⟨44, _⟩ => ⟨S8x2048x128, .f32⟩
  | .hbm, ⟨45, _⟩ => ⟨S2048x8x128, .f32⟩
  | .hbm, ⟨46, _⟩ => ⟨S8x2048x128, .f32⟩
  | .hbm, ⟨47, _⟩ => ⟨S2048x8x128, .f32⟩
  | .hbm, ⟨48, _⟩ => ⟨S8x2048x128, .f32⟩
  | .hbm, ⟨49, _⟩ => ⟨S8x2048x2048, .f32⟩
  | .hbm, ⟨50, _⟩ => ⟨S_, .f32⟩
  | .hbm, ⟨51, _⟩ => ⟨S8x2048x2048, .f32⟩
  | .hbm, ⟨52, _⟩ => ⟨S8x2048x2048, .f32⟩
  | .hbm, ⟨53, _⟩ => ⟨S8x2048, .f32⟩
  | .hbm, ⟨54, _⟩ => ⟨S8x2048x1, .f32⟩
  | .hbm, ⟨55, _⟩ => ⟨S8x2048x2048, .f32⟩
  | .hbm, ⟨56, _⟩ => ⟨S8x2048x2048, .f32⟩
  | .hbm, ⟨57, _⟩ => ⟨S8x1x2048, .f32⟩
  | .hbm, ⟨58, _⟩ => ⟨S8x2048x2048, .f32⟩
  | .hbm, ⟨59, _⟩ => ⟨S8x2048x2048, .f32⟩
  | .hbm, ⟨60, _⟩ => ⟨S2048, .i32⟩
  | .hbm, ⟨61, _⟩ => ⟨S1x2048, .i32⟩
  | .hbm, ⟨62, _⟩ => ⟨S2048, .i32⟩
  | .hbm, ⟨63, _⟩ => ⟨S2048x1, .i32⟩
  | .hbm, ⟨64, _⟩ => ⟨S2048x2048, .i32⟩
  | .hbm, ⟨65, _⟩ => ⟨S2048x2048, .i32⟩
  | .hbm, ⟨66, _⟩ => ⟨S2048x2048, .i1⟩
  | .hbm, ⟨67, _⟩ => ⟨S_, .f32⟩
  | .hbm, ⟨68, _⟩ => ⟨S_, .f32⟩
  | .hbm, ⟨69, _⟩ => ⟨S8x2048x2048, .i1⟩
  | .hbm, ⟨70, _⟩ => ⟨S8x2048x2048, .f32⟩
  | .hbm, ⟨71, _⟩ => ⟨S8x2048x2048, .f32⟩
  | .hbm, ⟨72, _⟩ => ⟨S_, .f32⟩
  | .hbm, ⟨73, _⟩ => ⟨S8x2048, .f32⟩
  | .hbm, ⟨74, _⟩ => ⟨S_, .f32⟩
  | .hbm, ⟨75, _⟩ => ⟨S8x2048, .f32⟩
  | .hbm, ⟨76, _⟩ => ⟨S8x2048, .f32⟩
  | .hbm, ⟨77, _⟩ => ⟨S8x2048x1, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S_, .f32⟩
  | .hbm, ⟨82, _⟩ => ⟨S8x2048, .f32⟩
  | .hbm, ⟨83, _⟩ => ⟨S8x2048x1, .f32⟩
  | .hbm, ⟨84, _⟩ => ⟨S8x2048x2048, .f32⟩
  | .hbm, ⟨85, _⟩ => ⟨S8x2048x2048, .f32⟩
  | .hbm, ⟨86, _⟩ => ⟨S2048x8x128, .f32⟩
  | .hbm, ⟨87, _⟩ => ⟨S8x2048x128, .f32⟩
  | .hbm, ⟨88, _⟩ => ⟨S8x2048x128, .f32⟩
  | .hbm, ⟨89, _⟩ => ⟨S2048x8x128, .f32⟩
  | .hbm, ⟨90, _⟩ => ⟨S2048x1024, .f32⟩
  | .hbm, ⟨91, _⟩ => ⟨S2048x8x128, .f32⟩
  | .hbm, ⟨92, _⟩ => ⟨S8x2048x128, .f32⟩
  | .hbm, ⟨93, _⟩ => ⟨S8x2048x128, .f32⟩
  | .hbm, ⟨94, _⟩ => ⟨S_, .f32⟩
  | .hbm, ⟨95, _⟩ => ⟨S8x2048, .f32⟩
  | .hbm, ⟨96, _⟩ => ⟨S8x2048x1, .f32⟩
  | .hbm, ⟨97, _⟩ => ⟨S8x2048x128, .f32⟩
  | .hbm, ⟨98, _⟩ => ⟨S8x2048x128, .f32⟩
  | .hbm, ⟨99, _⟩ => ⟨S_, .i32⟩
  | .hbm, ⟨100, _⟩ => ⟨S_, .f32⟩
  | .hbm, ⟨101, _⟩ => ⟨S2048x128, .f32⟩
  | .hbm, ⟨102, _⟩ => ⟨S2048x8, .f32⟩
  | .hbm, ⟨103, _⟩ => ⟨S8x2048, .f32⟩
  | .hbm, ⟨104, _⟩ => ⟨S2048x1024, .bf16⟩
  | .hbm, ⟨105, _⟩ => ⟨S2048x1024, .bf16⟩
  | .hbm, ⟨106, _⟩ => ⟨S2048x1024, .bf16⟩
  | .hbm, ⟨107, _⟩ => ⟨S2048x1024, .bf16⟩
  | .hbm, ⟨108, _⟩ => ⟨S2048x1024, .f32⟩
  | .hbm, ⟨109, _⟩ => ⟨S2048x1024, .bf16⟩
  | .hbm, ⟨110, _⟩ => ⟨S8x1x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .f32⟩
  | .local _ .vmem, ⟨9, _⟩ => ⟨S512x128, .f32⟩
  | .local _ .vmem, ⟨10, _⟩ => ⟨S8x512, .f32⟩
  | .local _ .vmem, ⟨11, _⟩ => ⟨S8x512, .f32⟩
  | .local _ .vmem, ⟨12, _⟩ => ⟨S8x512x128, .f32⟩
  | .local _ .vmem, ⟨13, _⟩ => ⟨S8x512x128, .f32⟩
  | .local _ .vmem, ⟨14, _⟩ => ⟨S8x512x128, .f32⟩
  | .local _ .vmem, ⟨15, _⟩ => ⟨S8x512x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S8x1x512, .f32⟩
  | .local _ .vmem, ⟨21, _⟩ => ⟨S8x1x512, .f32⟩
  | .local _ .vmem, ⟨22, _⟩ => ⟨S8x512x128, .f32⟩
  | .local _ .vmem, ⟨23, _⟩ => ⟨S8x512x128, .f32⟩
  | .local _ .vmem, ⟨24, _⟩ => ⟨S8x1x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v54 : Ref sig .tc := ⟨.hbm, 71, rfl⟩
abbrev main_cst_5 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_8 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c : Ref sig .tc := ⟨.hbm, 99, rfl⟩
abbrev main_call2_v0 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85_0 : Ref sig .tc := ⟨.hbm, 108, rfl⟩
abbrev main_v85_1 : Ref sig .tc := ⟨.hbm, 109, rfl⟩
abbrev main_v85_2 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![1, 4, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S8x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S8x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceKvIdeal.lean ====
abbrev S2048x1024 : Shape := ⟨2, ![2048, 1024]⟩
abbrev S2048x8 : Shape := ⟨2, ![2048, 8]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩

abbrev nBuf : Space → Nat
  | .hbm => 126
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x8, .f32⟩
  | .hbm, ⟨4, _⟩ => ⟨S2048x1024, .f32⟩
  | .hbm, ⟨5, _⟩ => ⟨S2048x8x128, .f32⟩
  | .hbm, ⟨6, _⟩ => ⟨S8x2048x128, .f32⟩
  | .hbm, ⟨7, _⟩ => ⟨S2048x8x128, .f32⟩
  | .hbm, ⟨8, _⟩ => ⟨S8x2048x128, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S8x2048x2048, .i1⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .i1⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S_, .f32⟩
  | .hbm, ⟨46, _⟩ => ⟨S8x2048, .f32⟩
  | .hbm, ⟨47, _⟩ => ⟨S8x2048, .i1⟩
  | .hbm, ⟨48, _⟩ => ⟨S_, .f32⟩
  | .hbm, ⟨49, _⟩ => ⟨S8x2048, .f32⟩
  | .hbm, ⟨50, _⟩ => ⟨S8x2048, .i1⟩
  | .hbm, ⟨51, _⟩ => ⟨S_, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S_, .f32⟩
  | .hbm, ⟨56, _⟩ => ⟨S8x2048, .f32⟩
  | .hbm, ⟨57, _⟩ => ⟨S8x2048, .f32⟩
  | .hbm, ⟨58, _⟩ => ⟨S8x2048, .f32⟩
  | .hbm, ⟨59, _⟩ => ⟨S8x2048x1, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S8x2048x2048, .f32⟩
  | .hbm, ⟨67, _⟩ => ⟨S8x2048x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S2048x8x128, .f32⟩
  | .hbm, ⟨73, _⟩ => ⟨S8x2048x128, .f32⟩
  | .hbm, ⟨74, _⟩ => ⟨S8x2048x128, .f32⟩
  | .hbm, ⟨75, _⟩ => ⟨S2048x8x128, .f32⟩
  | .hbm, ⟨76, _⟩ => ⟨S2048x1024, .f32⟩
  | .hbm, ⟨77, _⟩ => ⟨S2048x8x128, .f32⟩
  | .hbm, ⟨78, _⟩ => ⟨S8x2048x128, .f32⟩
  | .hbm, ⟨79, _⟩ => ⟨S8x128x2048, .f32⟩
  | .hbm, ⟨80, _⟩ => ⟨S8x2048x128, .f32⟩
  | .hbm, ⟨81, _⟩ => ⟨S8x2048x2048, .f32⟩
  | .hbm, ⟨82, _⟩ => ⟨S2048x8x128, .f32⟩
  | .hbm, ⟨83, _⟩ => ⟨S2048x1024, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S_, .f32⟩
  | .hbm, ⟨88, _⟩ => ⟨S8x2048, .f32⟩
  | .hbm, ⟨89, _⟩ => ⟨S8x2048x1, .f32⟩
  | .hbm, ⟨90, _⟩ => ⟨S8x2048x1, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048, .f32⟩
  | .hbm, ⟨95, _⟩ => ⟨S8x2048x2048, .f32⟩
  | .hbm, ⟨96, _⟩ => ⟨S8x2048x2048, .f32⟩
  | .hbm, ⟨97, _⟩ => ⟨S8x2048x2048, .f32⟩
  | .hbm, ⟨98, _⟩ => ⟨S_, .f32⟩
  | .hbm, ⟨99, _⟩ => ⟨S8x2048x2048, .f32⟩
  | .hbm, ⟨100, _⟩ => ⟨S8x2048x2048, .f32⟩
  | .hbm, ⟨101, _⟩ => ⟨S8x2048x2048, .f32⟩
  | .hbm, ⟨102, _⟩ => ⟨S_, .f32⟩
  | .hbm, ⟨103, _⟩ => ⟨S8x2048, .f32⟩
  | .hbm, ⟨104, _⟩ => ⟨S8x1x2048, .f32⟩
  | .hbm, ⟨105, _⟩ => ⟨S_, .f32⟩
  | .hbm, ⟨106, _⟩ => ⟨S8x2048, .f32⟩
  | .hbm, ⟨107, _⟩ => ⟨S_, .f32⟩
  | .hbm, ⟨108, _⟩ => ⟨S8x2048, .f32⟩
  | .hbm, ⟨109, _⟩ => ⟨S8x2048x1, .f32⟩
  | .hbm, ⟨110, _⟩ => ⟨S_, .f32⟩
  | .hbm, ⟨111, _⟩ => ⟨S8x2048, .f32⟩
  | .hbm, ⟨112, _⟩ => ⟨S8x2048, .f32⟩
  | .hbm, ⟨113, _⟩ => ⟨S2048x8, .f32⟩
  | .hbm, ⟨114, _⟩ => ⟨S_, .f32⟩
  | .hbm, ⟨115, _⟩ => ⟨S8x2048x2048, .f32⟩
  | .hbm, ⟨116, _⟩ => ⟨S8x2048x2048, .f32⟩
  | .hbm, ⟨117, _⟩ => ⟨S8x2048x128, .f32⟩
  | .hbm, ⟨118, _⟩ => ⟨S8x2048x128, .f32⟩
  | .hbm, ⟨119, _⟩ => ⟨S2048x8x128, .f32⟩
  | .hbm, ⟨120, _⟩ => ⟨S2048x1024, .f32⟩
  | .hbm, ⟨121, _⟩ => ⟨S2048x8x128, .f32⟩
  | .hbm, ⟨122, _⟩ => ⟨S2048x1024, .f32⟩
  | .hbm, ⟨123, _⟩ => ⟨S2048x1024, .bf16⟩
  | .hbm, ⟨124, _⟩ => ⟨S8x2048, .f32⟩
  | .hbm, ⟨125, _⟩ => ⟨S8x1x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== KernelDx.lean ====
abbrev S2048x11264 : Shape := ⟨2, ![2048, 11264]⟩
abbrev S5632x2048 : Shape := ⟨2, ![5632, 2048]⟩
abbrev S2048x2048 : Shape := ⟨2, ![2048, 2048]⟩
abbrev S2048x2x5632 : Shape := ⟨3, ![2048, 2, 5632]⟩
abbrev S2x2048x5632 : Shape := ⟨3, ![2, 2048, 5632]⟩
abbrev S_ : Shape := ⟨0, ![]⟩
abbrev S1x1 : Shape := ⟨2, ![1, 1]⟩
abbrev S1024x2048 : Shape := ⟨2, ![1024, 2048]⟩
abbrev S512x2048 : Shape := ⟨2, ![512, 2048]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 11
  | .vmem => 8
  | .smem => 0
  | _ => 0

abbrev bufTy : (tb : Table) → Fin (tcTables nBuf tb) → BufTy
  | .hbm, ⟨0, _⟩ => ⟨S2048x11264, .f32⟩
  | .hbm, ⟨1, _⟩ => ⟨S5632x2048, .f32⟩
  | .hbm, ⟨2, _⟩ => ⟨S2048x2048, .f32⟩
  | .hbm, ⟨3, _⟩ => ⟨S2048x2048, .bf16⟩
  | .hbm, ⟨4, _⟩ => ⟨S5632x2048, .bf16⟩
  | .hbm, ⟨5, _⟩ => ⟨S2048x2x5632, .f32⟩
  | .hbm, ⟨6, _⟩ => ⟨S2x2048x5632, .f32⟩
  | .hbm, ⟨7, _⟩ => ⟨S2x2048x5632, .bf16⟩
  | .hbm, ⟨8, _⟩ => ⟨S_, .f32⟩
  | .hbm, ⟨9, _⟩ => ⟨S1x1, .f32⟩
  | .hbm, ⟨10, _⟩ => ⟨S2x2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDxIdeal.lean ====
abbrev S2048x11264 : Shape := ⟨2, ![2048, 11264]⟩
abbrev S5632x2048 : Shape := ⟨2, ![5632, 2048]⟩
abbrev S2048x2048 : Shape := ⟨2, ![2048, 2048]⟩
abbrev S2048x5632 : Shape := ⟨2, ![2048, 5632]⟩
abbrev S_ : Shape := ⟨0, ![]⟩
abbrev S2048x2x5632 : Shape := ⟨3, ![2048, 2, 5632]⟩
abbrev S2x2048x5632 : Shape := ⟨3, ![2, 2048, 5632]⟩

abbrev nBuf : Space → Nat
  | .hbm => 31
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S5632x2048, .f32⟩
  | .hbm, ⟨2, _⟩ => ⟨S2048x2048, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x2048, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x11264, .f32⟩
  | .hbm, ⟨28, _⟩ => ⟨S2048x2x5632, .f32⟩
  | .hbm, ⟨29, _⟩ => ⟨S2x2048x5632, .f32⟩
  | .hbm, ⟨30, _⟩ => ⟨S2x2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== KernelGx.lean ====
abbrev S2048x11264 : Shape := ⟨2, ![2048, 11264]⟩
abbrev S2048x2x5632 : Shape := ⟨3, ![2048, 2, 5632]⟩
abbrev S2x2048x5632 : Shape := ⟨3, ![2, 2048, 5632]⟩
abbrev S2048x4x2816 : Shape := ⟨3, ![2048, 4, 2816]⟩
abbrev S4x2048x2816 : Shape := ⟨3, ![4, 2048, 2816]⟩
abbrev S2048x2048 : Shape := ⟨2, ![2048, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 9
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S2048x2x5632, .f32⟩
  | .hbm, ⟨3, _⟩ => ⟨S2x2048x5632, .f32⟩
  | .hbm, ⟨4, _⟩ => ⟨S2x2048x5632, .bf16⟩
  | .hbm, ⟨5, _⟩ => ⟨S2048x4x2816, .f32⟩
  | .hbm, ⟨6, _⟩ => ⟨S4x2048x2816, .f32⟩
  | .hbm, ⟨7, _⟩ => ⟨S4x2048x2816, .bf16⟩
  | .hbm, ⟨8, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGxIdeal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelGw.lean ====
abbrev S2048x2048 : Shape := ⟨2, ![2048, 2048]⟩
abbrev S2048x11264 : Shape := ⟨2, ![2048, 11264]⟩
abbrev S2048x2x5632 : Shape := ⟨3, ![2048, 2, 5632]⟩
abbrev S2x2048x5632 : Shape := ⟨3, ![2, 2048, 5632]⟩
abbrev S4x2048x2816 : Shape := ⟨3, ![4, 2048, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x2x5632, .f32⟩
  | .hbm, ⟨4, _⟩ => ⟨S2x2048x5632, .f32⟩
  | .hbm, ⟨5, _⟩ => ⟨S2x2048x5632, .bf16⟩
  | .hbm, ⟨6, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGwIdeal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S_, .f32⟩
  | .hbm, ⟨3, _⟩ => ⟨S2048x11264, .f32⟩
  | .hbm, ⟨4, _⟩ => ⟨S2048x11264, .f32⟩
  | .hbm, ⟨5, _⟩ => ⟨S11264x2048, .f32⟩
  | .hbm, ⟨6, _⟩ => ⟨S2048x11264, .f32⟩
  | .hbm, ⟨7, _⟩ => ⟨S2048x4x2816, .f32⟩
  | .hbm, ⟨8, _⟩ => ⟨S4x2048x2816, .f32⟩
  | .hbm, ⟨9, _⟩ => ⟨S4x2048x2816, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDw.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelIx.lean ====
abbrev S2048x5120 : Shape := ⟨2, ![2048, 5120]⟩
abbrev S2048x2048 : Shape := ⟨2, ![2048, 2048]⟩
abbrev S1024x2560 : Shape := ⟨2, ![1024, 2560]⟩
abbrev S512x2560 : Shape := ⟨2, ![512, 2560]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x5120, .f32⟩
  | .hbm, ⟨1, _⟩ => ⟨S2048x5120, .f32⟩
  | .hbm, ⟨2, _⟩ => ⟨S2048x2048, .f32⟩
  | .hbm, ⟨3, _⟩ => ⟨S2048x5120, .bf16⟩
  | .hbm, ⟨4, _⟩ => ⟨S2048x5120, .bf16⟩
  | .hbm, ⟨5, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S512x2560, .bf16⟩
  | .local _ .vmem, ⟨3, _⟩ => ⟨S512x2560, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIxIdeal.lean ====
abbrev S2048x5120 : Shape := ⟨2, ![2048, 5120]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S2048x5120, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x5120, .f32⟩
  | .hbm, ⟨6, _⟩ => ⟨S2048x2048, .f32⟩
  | .hbm, ⟨7, _⟩ => ⟨S2048x2048, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelIw.lean ====
abbrev S2048x2048 : Shape := ⟨2, ![2048, 2048]⟩
abbrev S2048x5120 : Shape := ⟨2, ![2048, 5120]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x2048, .bf16⟩
  | .hbm, ⟨3, _⟩ => ⟨S2048x5120, .bf16⟩
  | .hbm, ⟨4, _⟩ => ⟨S2048x5120, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIwIdeal.lean ====
abbrev S2048x2048 : Shape := ⟨2, ![2048, 2048]⟩
abbrev S2048x5120 : Shape := ⟨2, ![2048, 5120]⟩
abbrev S_ : Shape := ⟨0, ![]⟩
abbrev S5120x2048 : Shape := ⟨2, ![5120, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S_, .f32⟩
  | .hbm, ⟨3, _⟩ => ⟨S2048x5120, .f32⟩
  | .hbm, ⟨4, _⟩ => ⟨S2048x5120, .f32⟩
  | .hbm, ⟨5, _⟩ => ⟨S5120x2048, .f32⟩
  | .hbm, ⟨6, _⟩ => ⟨S2048x5120, .f32⟩
  | .hbm, ⟨7, _⟩ => ⟨S2048x5120, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOx.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOxIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOw.lean ====
abbrev S2048x2048 : Shape := ⟨2, ![2048, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOwIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGf.lean ====
abbrev S2048x2048 : Shape := ⟨2, ![2048, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S2x2048x5632 : Shape := ⟨3, ![2, 2048, 5632]⟩
abbrev S2048x5632 : Shape := ⟨2, ![2048, 5632]⟩
abbrev S1024x2048 : Shape := ⟨2, ![1024, 2048]⟩
abbrev S1x2048x256 : Shape := ⟨3, ![1, 2048, 256]⟩
abbrev S2x1024x256 : Shape := ⟨3, ![2, 1024, 256]⟩
abbrev S1024x256 : Shape := ⟨2, ![1024, 256]⟩
abbrev S2048x256 : Shape := ⟨2, ![2048, 256]⟩
abbrev S1x1024x256 : Shape := ⟨3, ![1, 1024, 256]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x4x2816, .f32⟩
  | .hbm, ⟨4, _⟩ => ⟨S4x2048x2816, .f32⟩
  | .hbm, ⟨5, _⟩ => ⟨S4x2048x2816, .bf16⟩
  | .hbm, ⟨6, _⟩ => ⟨S2x2048x5632, .bf16⟩
  | .hbm, ⟨7, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S2x1024x256, .bf16⟩
  | .local _ .vmem, ⟨7, _⟩ => ⟨S2x1024x256, .bf16⟩
  | .local _ .vmem, ⟨8, _⟩ => ⟨S1024x256, .bf16⟩
  | .local _ .vmem, ⟨9, _⟩ => ⟨S1024x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c11_i32_4 : BitVec 32 := 11#32
  let c0_i32_5 : BitVec 32 := 0#32
  let v18 : BitVec 1 := Scalar.cmpi .eq c11_i32_4 c0_i32_5
  let c1_i32_6 : BitVec 32 := 1#32
  let v19 : BitVec 32 := Scalar.select v18 c1_i32_6 c11_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceGfIdeal.lean ====
abbrev S2048x2048 : Shape := ⟨2, ![2048, 2048]⟩
abbrev S2048x11264 : Shape := ⟨2, ![2048, 11264]⟩
abbrev S2048x2x5632 : Shape := ⟨3, ![2048, 2, 5632]⟩
abbrev S2x2048x5632 : Shape := ⟨3, ![2, 2048, 5632]⟩
abbrev S2048x5632 : Shape := ⟨2, ![2048, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x2x5632, .f32⟩
  | .hbm, ⟨4, _⟩ => ⟨S2x2048x5632, .f32⟩
  | .hbm, ⟨5, _⟩ => ⟨S2x2048x5632, .bf16⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== KernelIf.lean ====
abbrev S2048x2048 : Shape := ⟨2, ![2048, 2048]⟩
abbrev S2048x5120 : Shape := ⟨2, ![2048, 5120]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x2048, .bf16⟩
  | .hbm, ⟨3, _⟩ => ⟨S2048x5120, .bf16⟩
  | .hbm, ⟨4, _⟩ => ⟨S2048x5120, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIfIdeal.lean ====
abbrev S2048x2048 : Shape := ⟨2, ![2048, 2048]⟩
abbrev S2048x5120 : Shape := ⟨2, ![2048, 5120]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x5120, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelOf.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOfIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelDl.lean ====
abbrev S2048x5632 : Shape := ⟨2, ![2048, 5632]⟩
abbrev S5632x2048 : Shape := ⟨2, ![5632, 2048]⟩
abbrev S2048x2048 : Shape := ⟨2, ![2048, 2048]⟩
abbrev S1x128 : Shape := ⟨2, ![1, 128]⟩
abbrev S1024x2816 : Shape := ⟨2, ![1024, 2816]⟩
abbrev S2816x512 : Shape := ⟨2, ![2816, 512]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x5632, .bf16⟩
  | .hbm, ⟨5, _⟩ => ⟨S5632x2048, .bf16⟩
  | .hbm, ⟨6, _⟩ => ⟨S2048x2048, .f32⟩
  | .hbm, ⟨7, _⟩ => ⟨S2048x2048, .bf16⟩
  | .hbm, ⟨8, _⟩ => ⟨S1x128, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1x128, .f32⟩
  | .local _ .vmem, ⟨13, _⟩ => ⟨S1024x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_21 : BitVec 32 := 0#32
  let v31 : BitVec 1 := Scalar.cmpi .eq arg0 c0_i32_21
  let arg1 : BitVec 32 := BitVec.ofNat 32 (i 1).val
  let c0_i32_22 : BitVec 32 := 0#32
  let v32 : BitVec 1 := Scalar.cmpi .eq arg1 c0_i32_22
  let v33 : BitVec 1 := Scalar.andi v31 v32
  let v36 : BitVec 32 := Scalar.extui v33
  let c0_i32_23 : BitVec 32 := 0#32
  let v37 : BitVec 1 := Scalar.cmpi .ne v36 c0_i32_23
  v37

def k0_cond5 (i : grid0.Coords) : BitVec 1 :=
  let arg0 : BitVec 32 := BitVec.ofNat 32 (i 0).val
  let c0_i32_21 : BitVec 32 := 0#32
  let v31 : BitVec 1 := Scalar.cmpi .eq arg0 c0_i32_21
  let arg1 : BitVec 32 := BitVec.ofNat 32 (i 1).val
  let c0_i32_22 : BitVec 32 := 0#32
  let v32 : BitVec 1 := Scalar.cmpi .eq arg1 c0_i32_22
  let v33 : BitVec 1 := Scalar.andi v31 v32
  let v_true : BitVec 1 := 1#1
  let v38 : BitVec 1 := Scalar.xori v33 v_true
  let v39 : BitVec 32 := Scalar.extui v38
  let c0_i32_24 : BitVec 32 := 0#32
  let v40 : BitVec 1 := Scalar.cmpi .ne v39 c0_i32_24
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceDlIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S2048 : Shape := ⟨1, ![2048]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048x2048, .f32⟩
  | .hbm, ⟨28, _⟩ => ⟨S2048x2048, .f32⟩
  | .hbm, ⟨29, _⟩ => ⟨S2048x2048, .bf16⟩
  | .hbm, ⟨30, _⟩ => ⟨S1x128, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== KernelNb.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32 : BitVec 32 := 0#32
  let v34 : BitVec 1 := Scalar.cmpi .eq arg0 c0_i32
  let v_true : BitVec 1 := 1#1
  let v37 : BitVec 1 := Scalar.xori v34 v_true
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNbIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.KvParts.lean ====
module

public import proofs.«01_k».proof.Proof.Gen.KernelKvIdeal.Frame
public import proofs.«01_k».proof.Proof.Gen.KernelKvIdeal.Skeleton
public import Idealize.ShloMosaic.Lib.WordCmp

/-! The gradient kernel of k, v and the gate sums, cut at its four conditions: the start of a column's sweep, the step on a block below
    the diagonal, the step on a diagonal block, and the end of the sweep. -/

@[expose] public section

set_option maxRecDepth 16384

noncomputable section

namespace Cert.KernelKvIdeal.Kv

open Idealize.ShloMosaic Idealize.ShloMosaic.TcCoe Idealize.SL Idealize.SL.Sem Cert.KernelKvIdeal.Gen

variable {F : FTy → Type} [FloatOps F]

/-- What the first step of a sweep does: the three accumulators are set to zero. -/
def reset (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S8x1x512 .f32) (harg13 : arg13.IsWhole) (arg14 : Memref sig .tc .vmem S8x512x128 .f32) (harg14 : arg14.IsWhole) (arg15 : Memref sig .tc .vmem S8x512x128 .f32) (harg15 : arg15.IsWhole) (arg16 : Memref sig .tc .vmem S8x1x512 .f32) (harg16 : arg16.IsWhole) :
    Prog (TpuEff nD τ sig (Elt F) Λ₀ .tc) PUnit := do
  let v13 : Vec F S8x512x128 .f32 ← Prog.lift (.load arg14 (Rect.unit (s := S8x512x128) ![0, 0, 0] S8x512x128.size inb_S8x512x128_S8x512x128_0_0_0).toLoadRect (View.loadsAt_vmem h_S8x512x128))
  Prog.lift (.store arg14 (Rect.unit (s := S8x512x128) ![0, 0, 0] S8x512x128.size inb_S8x512x128_S8x512x128_0_0_0) (k0_pay1 (F := F)) Finset.univ (View.stores_vmem_bits_univ h_S8x512x128 rfl) (.inl rfl))
  let v17 : Vec F S8x512x128 .f32 ← Prog.lift (.load arg15 (Rect.unit (s := S8x512x128) ![0, 0, 0] S8x512x128.size inb_S8x512x128_S8x512x128_0_0_0).toLoadRect (View.loadsAt_vmem h_S8x512x128))
  Prog.lift (.store arg15 (Rect.unit (s := S8x512x128) ![0, 0, 0] S8x512x128.size inb_S8x512x128_S8x512x128_0_0_0) (k0_pay2 (F := F)) Finset.univ (View.stores_vmem_bits_univ h_S8x512x128 rfl) (.inl rfl))
  let v21 : Vec F S8x1x512 .f32 ← Prog.lift (.load arg16 (Rect.unit (s := S8x1x512) ![0, 0, 0] S8x1x512.size inb_S8x1x512_S8x1x512_0_0_0).toLoadRect (View.loadsAt_vmem h_S8x1x512))
  Prog.lift (.store arg16 (Rect.unit (s := S8x1x512) ![0, 0, 0] S8x1x512.size inb_S8x1x512_S8x1x512_0_0_0) (k0_pay3 (F := F)) Finset.univ (View.stores_vmem_bits_univ h_S8x1x512 rfl) (.inl rfl))
  pure ⟨⟩

/-- The step on a block of queries below the diagonal, head by head. -/
def below (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S8x1x512 .f32) (harg13 : arg13.IsWhole) (arg14 : Memref sig .tc .vmem S8x512x128 .f32) (harg14 : arg14.IsWhole) (arg15 : Memref sig .tc .vmem S8x512x128 .f32) (harg15 : arg15.IsWhole) (arg16 : Memref sig .tc .vmem S8x1x512 .f32) (harg16 : arg16.IsWhole) :
    Prog (TpuEff nD τ sig (Elt F) Λ₀ .tc) PUnit := do
  let arg0 : BitVec 32 := BitVec.ofNat 32 (i 0).val
  let ⟨v47, v49⟩ : Σ' (v47 : FVec F S512x512 .f32), FVec F S512x128 .bf16 ← k0_part1 i arg3 harg3 arg4 harg4 arg5 harg5 arg6 harg6 arg7 harg7 arg8 harg8 arg9 harg9 arg10 harg10 arg11 harg11 arg12 harg12 arg13 harg13 arg14 harg14 arg15 harg15 arg16 harg16 arg0
  let ⟨v79, v80⟩ : Σ' (v79 : FVec F S1x512 .f32), FVec F S512 .f32 ← k0_part2 i arg3 harg3 arg4 harg4 arg5 harg5 arg6 harg6 arg7 harg7 arg8 harg8 arg9 harg9 arg10 harg10 arg11 harg11 arg12 harg12 arg13 harg13 arg14 harg14 arg15 harg15 arg16 harg16 v47 v49
  let ⟨v116, v117⟩ : Σ' (v116 : FVec F S512x512 .f32), Vec F S1x512x128 .f32 ← k0_part3 i arg3 harg3 arg4 harg4 arg5 harg5 arg6 harg6 arg7 harg7 arg8 harg8 arg9 harg9 arg10 harg10 arg11 harg11 arg12 harg12 arg13 harg13 arg14 harg14 arg15 harg15 arg16 harg16 arg0 v79 v80
  let ⟨v131, v148⟩ : Σ' (v131 : FVec F S512x512 .f32), FVec F S512x128 .f32 ← k0_part4 i arg3 harg3 arg4 harg4 arg5 harg5 arg6 harg6 arg7 harg7 arg8 harg8 arg9 harg9 arg10 harg10 arg11 harg11 arg12 harg12 arg13 harg13 arg14 harg14 arg15 harg15 arg16 harg16 v116 v117
  let ⟨v172, v179, v185⟩ : Σ' (v172 : FVec F S512x512 .f32) (v179 : FVec F S512x1 .f32), FVec F S512 .f32 ← k0_part5 i arg3 harg3 arg4 harg4 arg5 harg5 arg6 harg6 arg7 harg7 arg8 harg8 arg9 harg9 arg10 harg10 arg11 harg11 arg12 harg12 arg13 harg13 arg14 harg14 arg15 harg15 arg16 harg16 arg0 v131 v148
  let ⟨v205, v217, v218, v219⟩ : Σ' (v205 : FVec F S512x512 .f32) (v217 : FVec F S512x128 .f32) (v218 : FVec F S512x512 .bf16), Vec F S512x128 .bf16 ← k0_part6 i arg3 harg3 arg4 harg4 arg5 harg5 arg6 harg6 arg7 harg7 arg8 harg8 arg9 harg9 arg10 harg10 arg11 harg11 arg12 harg12 arg13 harg13 arg14 harg14 arg15 harg15 arg16 harg16 v172 v179 v185
  let ⟨v235, v243, v246, v252⟩ : Σ' (v235 : BitVec 32) (v243 : FVec F S8x512 .f32) (v246 : FVec F S512x512 .f32), FVec F S512 .f32 ← k0_part7 i arg3 harg3 arg4 harg4 arg5 harg5 arg6 harg6 arg7 harg7 arg8 harg8 arg9 harg9 arg10 harg10 arg11 harg11 arg12 harg12 arg13 harg13 arg14 harg14 arg15 harg15 arg16 harg16 arg0 v205 v217 v218 v219
  let v279 : FVec F S512x512 .f32 ← k0_part8 i arg3 harg3 arg4 harg4 arg5 harg5 arg6 harg6 arg7 harg7 arg8 harg8 arg9 harg9 arg10 harg10 arg11 harg11 arg12 harg12 arg13 harg13 arg14 harg14 arg15 harg15 arg16 harg16 v235 v243 v246 v252
  let ⟨v309, v315, v317, v318, v319⟩ : Σ' (v309 : BitVec 32) (v315 : FVec F S512x128 .f32) (v317 : FVec F S8x512 .f32) (v318 : FVec F S512x512 .f32), FVec F S512x512 .f32 ← k0_part9 i arg3 harg3 arg4 harg4 arg5 harg5 arg6 harg6 arg7 harg7 arg8 harg8 arg9 harg9 arg10 harg10 arg11 harg11 arg12 harg12 arg13 harg13 arg14 harg14 arg15 harg15 arg16 harg16 arg0 v279
  let ⟨v353, v355, v356, v358, cst_230⟩ : Σ' (v353 : FVec F S512x512 .f32) (v355 : FVec F S512x128 .f32) (v356 : FVec F S512x512 .bf16) (v358 : FVec F S512x128 .bf16), FVec F S512x128 .f32 ← k0_part10 i arg3 harg3 arg4 harg4 arg5 harg5 arg6 harg6 arg7 harg7 arg8 harg8 arg9 harg9 arg10 harg10 arg11 harg11 arg12 harg12 arg13 harg13 arg14 harg14 arg15 harg15 arg16 harg16 v309 v315 v317 v318 v319
  let ⟨v383, v385, v387, v388⟩ : Σ' (v383 : BitVec 32) (v385 : FVec F S512x128 .bf16) (v387 : FVec F S512x128 .bf16), Vec F S512x128 .f32 ← k0_part11 i arg3 harg3 arg4 harg4 arg5 harg5 arg6 harg6 arg7 harg7 arg8 harg8 arg9 harg9 arg10 harg10 arg11 harg11 arg12 harg12 arg13 harg13 arg14 harg14 arg15 harg15 arg16 harg16 arg0 v353 v355 v356 v358 cst_230
  let ⟨v417, v427⟩ : Σ' (v417 : FVec F S512x512 .f32), FVec F S512x512 .f32 ← k0_part12 i arg3 harg3 arg4 harg4 arg5 harg5 arg6 harg6 arg7 harg7 arg8 harg8 arg9 harg9 arg10 harg10 arg11 harg11 arg12 harg12 arg13 harg13 arg14 harg14 arg15 harg15 arg16 harg16 v383 v385 v387 v388
  let v457 : BitVec 32 ← k0_part13 i arg3 harg3 arg4 harg4 arg5 harg5 arg6 harg6 arg7 harg7 arg8 harg8 arg9 harg9 arg10 harg10 arg11 harg11 arg12 harg12 arg13 harg13 arg14 harg14 arg15 harg15 arg16 harg16 arg0 v417 v427
  let ⟨v491, v496⟩ : Σ' (v491 : FVec F S512x512 .f32), FVec F S512x512 .f32 ← k0_part14 i arg3 harg3 arg4 harg4 arg5 harg5 arg6 harg6 arg7 harg7 arg8 harg8 arg9 harg9 arg10 harg10 arg11 harg11 arg12 harg12 arg13 harg13 arg14 harg14 arg15 harg15 arg16 harg16 v457
  let ⟨v526, v527⟩ : Σ' (v526 : FVec F S1x512 .f32), Vec F S1x1x512 .f32 ← k0_part15 i arg3 harg3 arg4 harg4 arg5 harg5 arg6 harg6 arg7 harg7 arg8 harg8 arg9 harg9 arg10 harg10 arg11 harg11 arg12 harg12 arg13 harg13 arg14 harg14 arg15 harg15 arg16 harg16 v491 v496
  let v565 : FVec F S512x512 .f32 ← k0_part16 i arg3 harg3 arg4 harg4 arg5 harg5 arg6 harg6 arg7 harg7 arg8 harg8 arg9 harg9 arg10 harg10 arg11 harg11 arg12 harg12 arg13 harg13 arg14 harg14 arg15 harg15 arg16 harg16 arg0 v526 v527
  let ⟨v575, v596⟩ : Σ' (v575 : FVec F S512x512 .f32), Vec F S1x1x512 .f32 ← k0_part17 i arg3 harg3 arg4 harg4 arg5 harg5 arg6 harg6 arg7 harg7 arg8 harg8 arg9 harg9 arg10 harg10 arg11 harg11 arg12 harg12 arg13 harg13 arg14 harg14 arg15 harg15 arg16 harg16 v565
  let v601 : Vec F S1x1x512 .f32 ← Prog.lift (.load arg16 (Rect.unit (s := S8x1x512) ![7, 0, 0] S1x1x512.size inb_S8x1x512_S1x1x512_7_0_0).toLoadRect (View.loadsAt_vmem h_S1x1x512))
  Prog.lift (.store arg16 (Rect.unit (s := S8x1x512) ![7, 0, 0] S1x1x512.size inb_S8x1x512_S1x1x512_7_0_0) (k0_pay4 v575 v596) Finset.univ (View.stores_vmem_bits_univ h_S1x1x512 rfl) (.inl rfl))
  pure ⟨⟩

/-- The step on a diagonal block, head by head. -/
def diag (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S8x1x512 .f32) (harg13 : arg13.IsWhole) (arg14 : Memref sig .tc .vmem S8x512x128 .f32) (harg14 : arg14.IsWhole) (arg15 : Memref sig .tc .vmem S8x512x128 .f32) (harg15 : arg15.IsWhole) (arg16 : Memref sig .tc .vmem S8x1x512 .f32) (harg16 : arg16.IsWhole) :
    Prog (TpuEff nD τ sig (Elt F) Λ₀ .tc) PUnit := do
  let arg0 : BitVec 32 := BitVec.ofNat 32 (i 0).val
  let v51 : FVec F S512x512 .f32 ← k0_part18 i arg3 harg3 arg4 harg4 arg5 harg5 arg6 harg6 arg7 harg7 arg8 harg8 arg9 harg9 arg10 harg10 arg11 harg11 arg12 harg12 arg13 harg13 arg14 harg14 arg15 harg15 arg16 harg16 arg0
  let v62 : FVec F S512x512 .f32 ← k0_part19 i arg3 harg3 arg4 harg4 arg5 harg5 arg6 harg6 arg7 harg7 arg8 harg8 arg9 harg9 arg10 harg10 arg11 harg11 arg12 harg12 arg13 harg13 arg14 harg14 arg15 harg15 arg16 harg16 v51
  let ⟨v117, v119⟩ : Σ' (v117 : FVec F S1x512 .f32), FVec F S512x512 .f32 ← k0_part20 i arg3 harg3 arg4 harg4 arg5 harg5 arg6 harg6 arg7 harg7 arg8 harg8 arg9 harg9 arg10 harg10 arg11 harg11 arg12 harg12 arg13 harg13 arg14 harg14 arg15 harg15 arg16 harg16 arg0 v62
  let ⟨v141, v153, v154⟩ : Σ' (v141 : FVec F S512x512 .f32) (v153 : FVec F S512x128 .f32), FVec F S512x512 .bf16 ← k0_part21 i arg3 harg3 arg4 harg4 arg5 harg5 arg6 harg6 arg7 harg7 arg8 harg8 arg9 harg9 arg10 harg10 arg11 harg11 arg12 harg12 arg13 harg13 arg14 harg14 arg15 harg15 arg16 harg16 v117 v119
  let ⟨v171, v177, v179, v182, v185, v186⟩ : Σ' (v171 : BitVec 32) (v177 : FVec F S512x128 .f32) (v179 : FVec F S8x512 .f32) (v182 : FVec F S512x512 .f32) (v185 : IVec S512x128 1), FVec F S512x128 .f32 ← k0_part22 i arg3 harg3 arg4 harg4 arg5 harg5 arg6 harg6 arg7 harg7 arg8 harg8 arg9 harg9 arg10 harg10 arg11 harg11 arg12 harg12 arg13 harg13 arg14 harg14 arg15 harg15 arg16 harg16 arg0 v141 v153 v154
  let ⟨v220, v222, v223, v225, cst_134⟩ : Σ' (v220 : FVec F S512x512 .f32) (v222 : FVec F S512x128 .f32) (v223 : FVec F S512x512 .bf16) (v225 : FVec F S512x128 .bf16), FVec F S512x128 .f32 ← k0_part23 i arg3 harg3 arg4 harg4 arg5 harg5 arg6 harg6 arg7 harg7 arg8 harg8 arg9 harg9 arg10 harg10 arg11 harg11 arg12 harg12 arg13 harg13 arg14 harg14 arg15 harg15 arg16 harg16 v171 v177 v179 v182 v185 v186
  let ⟨v250, v252, v254, v255⟩ : Σ' (v250 : BitVec 32) (v252 : FVec F S512x128 .bf16) (v254 : FVec F S512x128 .bf16), Vec F S512x128 .f32 ← k0_part24 i arg3 harg3 arg4 harg4 arg5 harg5 arg6 harg6 arg7 harg7 arg8 harg8 arg9 harg9 arg10 harg10 arg11 harg11 arg12 harg12 arg13 harg13 arg14 harg14 arg15 harg15 arg16 harg16 arg0 v220 v222 v223 v225 cst_134
  let ⟨v289, v294, v295⟩ : Σ' (v289 : FVec F S512x512 .f32) (v294 : FVec F S512x512 .f32), Vec F S1x512x128 .f32 ← k0_part25 i arg3 harg3 arg4 harg4 arg5 harg5 arg6 harg6 arg7 harg7 arg8 harg8 arg9 harg9 arg10 harg10 arg11 harg11 arg12 harg12 arg13 harg13 arg14 harg14 arg15 harg15 arg16 harg16 v250 v252 v254 v255
  k0_part26 i arg3 harg3 arg4 harg4 arg5 harg5 arg6 harg6 arg7 harg7 arg8 harg8 arg9 harg9 arg10 harg10 arg11 harg11 arg12 harg12 arg13 harg13 arg14 harg14 arg15 harg15 arg16 harg16 v289 v294 v295
  let v367 : FVec F S512x512 .f32 ← k0_part27 i arg3 harg3 arg4 harg4 arg5 harg5 arg6 harg6 arg7 harg7 arg8 harg8 arg9 harg9 arg10 harg10 arg11 harg11 arg12 harg12 arg13 harg13 arg14 harg14 arg15 harg15 arg16 harg16 arg0
  let v378 : FVec F S512x512 .f32 ← k0_part28 i arg3 harg3 arg4 harg4 arg5 harg5 arg6 harg6 arg7 harg7 arg8 harg8 arg9 harg9 arg10 harg10 arg11 harg11 arg12 harg12 arg13 harg13 arg14 harg14 arg15 harg15 arg16 harg16 v367
  let ⟨v433, v435⟩ : Σ' (v433 : FVec F S1x512 .f32), FVec F S512x512 .f32 ← k0_part29 i arg3 harg3 arg4 harg4 arg5 harg5 arg6 harg6 arg7 harg7 arg8 harg8 arg9 harg9 arg10 harg10 arg11 harg11 arg12 harg12 arg13 harg13 arg14 harg14 arg15 harg15 arg16 harg16 arg0 v378
  let ⟨v457, v469, v470⟩ : Σ' (v457 : FVec F S512x512 .f32) (v469 : FVec F S512x128 .f32), FVec F S512x512 .bf16 ← k0_part30 i arg3 harg3 arg4 harg4 arg5 harg5 arg6 harg6 arg7 harg7 arg8 harg8 arg9 harg9 arg10 harg10 arg11 harg11 arg12 harg12 arg13 harg13 arg14 harg14 arg15 harg15 arg16 harg16 v433 v435
  let ⟨v487, v493, v495, v498, v501, v502⟩ : Σ' (v487 : BitVec 32) (v493 : FVec F S512x128 .f32) (v495 : FVec F S8x512 .f32) (v498 : FVec F S512x512 .f32) (v501 : IVec S512x128 1), FVec F S512x128 .f32 ← k0_part31 i arg3 harg3 arg4 harg4 arg5 harg5 arg6 harg6 arg7 harg7 arg8 harg8 arg9 harg9 arg10 harg10 arg11 harg11 arg12 harg12 arg13 harg13 arg14 harg14 arg15 harg15 arg16 harg16 arg0 v457 v469 v470
  let ⟨v536, v538, v539, v541, cst_335⟩ : Σ' (v536 : FVec F S512x512 .f32) (v538 : FVec F S512x128 .f32) (v539 : FVec F S512x512 .bf16) (v541 : FVec F S512x128 .bf16), FVec F S512x128 .f32 ← k0_part32 i arg3 harg3 arg4 harg4 arg5 harg5 arg6 harg6 arg7 harg7 arg8 harg8 arg9 harg9 arg10 harg10 arg11 harg11 arg12 harg12 arg13 harg13 arg14 harg14 arg15 harg15 arg16 harg16 v487 v493 v495 v498 v501 v502
  let ⟨v566, v568, v570, v571⟩ : Σ' (v566 : BitVec 32) (v568 : FVec F S512x128 .bf16) (v570 : FVec F S512x128 .bf16), Vec F S512x128 .f32 ← k0_part33 i arg3 harg3 arg4 harg4 arg5 harg5 arg6 harg6 arg7 harg7 arg8 harg8 arg9 harg9 arg10 harg10 arg11 harg11 arg12 harg12 arg13 harg13 arg14 harg14 arg15 harg15 arg16 harg16 arg0 v536 v538 v539 v541 cst_335
  let ⟨v605, v610, v611⟩ : Σ' (v605 : FVec F S512x512 .f32) (v610 : FVec F S512x512 .f32), Vec F S1x512x128 .f32 ← k0_part34 i arg3 harg3 arg4 harg4 arg5 harg5 arg6 harg6 arg7 harg7 arg8 harg8 arg9 harg9 arg10 harg10 arg11 harg11 arg12 harg12 arg13 harg13 arg14 harg14 arg15 harg15 arg16 harg16 v566 v568 v570 v571
  k0_part35 i arg3 harg3 arg4 harg4 arg5 harg5 arg6 harg6 arg7 harg7 arg8 harg8 arg9 harg9 arg10 harg10 arg11 harg11 arg12 harg12 arg13 harg13 arg14 harg14 arg15 harg15 arg16 harg16 v605 v610 v611
  pure ⟨⟩

/-- What the last step of a sweep does: the accumulators go out, head by head. -/
def last (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S8x1x512 .f32) (harg13 : arg13.IsWhole) (arg14 : Memref sig .tc .vmem S8x512x128 .f32) (harg14 : arg14.IsWhole) (arg15 : Memref sig .tc .vmem S8x512x128 .f32) (harg15 : arg15.IsWhole) (arg16 : Memref sig .tc .vmem S8x1x512 .f32) (harg16 : arg16.IsWhole) :
    Prog (TpuEff nD τ sig (Elt F) Λ₀ .tc) PUnit := do
  k0_part40 i arg3 harg3 arg4 harg4 arg5 harg5 arg6 harg6 arg7 harg7 arg8 harg8 arg9 harg9 arg10 harg10 arg11 harg11 arg12 harg12 arg13 harg13 arg14 harg14 arg15 harg15 arg16 harg16
  pure ⟨⟩

/-- The point starts a sweep. -/
abbrev isFirst (i : grid0.Coords) : Prop := Scalar.cmpi .ne (Scalar.extui (Scalar.cmpi .eq (BitVec.ofNat 32 (i 2).val) 0#32)) 0#32 = 1#1
/-- The point's queries lie below its keys' block. -/
abbrev isBelow (i : grid0.Coords) : Prop := Scalar.cmpi .ne (Scalar.extui (Scalar.cmpi .slt (BitVec.ofNat 32 (i 1).val) (BitVec.ofNat 32 (i 2).val))) 0#32 = 1#1
/-- The point is on the diagonal. -/
abbrev isDiag (i : grid0.Coords) : Prop := Scalar.cmpi .ne (Scalar.extui (Scalar.cmpi .eq (BitVec.ofNat 32 (i 1).val) (BitVec.ofNat 32 (i 2).val))) 0#32 = 1#1
/-- The point ends a sweep. -/
abbrev isLast (i : grid0.Coords) : Prop := k0_cond4 i = 1#1

/-- The kernel's body is the four sections in order, each under its condition. -/
theorem body_eq (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S8x1x512 .f32) (harg13 : arg13.IsWhole) (arg14 : Memref sig .tc .vmem S8x512x128 .f32) (harg14 : arg14.IsWhole) (arg15 : Memref sig .tc .vmem S8x512x128 .f32) (harg15 : arg15.IsWhole) (arg16 : Memref sig .tc .vmem S8x1x512 .f32) (harg16 : arg16.IsWhole) :
    cc0_fox_bwd_kv (F := F) i arg3 harg3 arg4 harg4 arg5 harg5 arg6 harg6 arg7 harg7 arg8 harg8 arg9 harg9 arg10 harg10 arg11 harg11 arg12 harg12 arg13 harg13 arg14 harg14 arg15 harg15 arg16 harg16 = (do
      if isFirst i then reset i arg3 harg3 arg4 harg4 arg5 harg5 arg6 harg6 arg7 harg7 arg8 harg8 arg9 harg9 arg10 harg10 arg11 harg11 arg12 harg12 arg13 harg13 arg14 harg14 arg15 harg15 arg16 harg16 else pure ⟨⟩
      if isBelow i then below i arg3 harg3 arg4 harg4 arg5 harg5 arg6 harg6 arg7 harg7 arg8 harg8 arg9 harg9 arg10 harg10 arg11 harg11 arg12 harg12 arg13 harg13 arg14 harg14 arg15 harg15 arg16 harg16 else pure ⟨⟩
      if isDiag i then diag i arg3 harg3 arg4 harg4 arg5 harg5 arg6 harg6 arg7 harg7 arg8 harg8 arg9 harg9 arg10 harg10 arg11 harg11 arg12 harg12 arg13 harg13 arg14 harg14 arg15 harg15 arg16 harg16 else pure ⟨⟩
      if isLast i then last i arg3 harg3 arg4 harg4 arg5 harg5 arg6 harg6 arg7 harg7 arg8 harg8 arg9 harg9 arg10 harg10 arg11 harg11 arg12 harg12 arg13 harg13 arg14 harg14 arg15 harg15 arg16 harg16 else pure ⟨⟩) := by
  rw [cc0_fox_bwd_kv_eq_skeleton]
  rfl

end Cert.KernelKvIdeal.Kv
-- ==== Proof.KvReset.lean ====
module

public import proofs.«01_k».proof.Proof.KvParts

/-! The start of a sweep: the accumulators at zero. -/

@[expose] public section

set_option maxRecDepth 16384

noncomputable section

namespace Cert.KernelKvIdeal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelKvIdeal.Gen

variable {F : FTy → Type} [FloatOps F]
variable (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S8x1x512 .f32) (harg13 : arg13.IsWhole) (arg14 : Memref sig .tc .vmem S8x512x128 .f32) (harg14 : arg14.IsWhole) (arg15 : Memref sig .tc .vmem S8x512x128 .f32) (harg15 : arg15.IsWhole) (arg16 : Memref sig .tc .vmem S8x1x512 .f32) (harg16 : arg16.IsWhole)

/-- The start of a sweep, over the three accumulators: what it stores in each. -/
noncomputable def runReset (y14 : Vec F S8x512x128 .f32) (y15 : Vec F S8x512x128 .f32) (y16 : Vec F S8x1x512 .f32) :
    Σ' (L14 : List (View.Piece (Elt F) S8x512x128 .f32)), Σ' (L15 : List (View.Piece (Elt F) S8x512x128 .f32)), { L16 : List (View.Piece (Elt F) S8x1x512 .f32) // ∀ (E : Set ℕ) (K : PUnit → sProp (MT nD τ sig Unit (Elt F) ℕ (UR sig nD τ) ℕ)),
      iprop(owns (c : Thread nD τ) arg14 fullShare y14 ∗ owns (c : Thread nD τ) arg15 fullShare y15 ∗ owns (c : Thread nD τ) arg16 fullShare y16 ∗ (iprop((∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
        ⊢ wp frame (wpE (defs₀ (F := F)) Variants.none c none) E (reset (F := F) i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    unfold reset
    unfold owns
    iintro ⟨⟨%f14, %hf14, H14⟩, ⟨%f15, %hf15, H15⟩, ⟨%f16, %hf16, H16⟩, Hk⟩
    obtain rfl := harg14.eq_unread hf14; obtain rfl := harg15.eq_unread hf15; obtain rfl := harg16.eq_unread hf16
    sl_exec
    sl_step
    iapply Hk
    isplitl [H14]; · iexists _; iexact H14
    isplitl [H15]; · iexists _; iexact H15
    iexists _; iexact H16

end Cert.KernelKvIdeal.Kv
-- ==== Proof.Slab.lean ====
module
public import Idealize.ShloMosaic.Lib.Pipeline.FrameBody
public import Idealize.ShloMosaic.Lib.Pointwise

/-! Buffers written slab by slab: what a list of stores of disjoint rectangles leaves at each rectangle, where each
    store may depend on what the stores before it left under its own rectangle. -/

@[expose] public section
noncomputable section
namespace Cert.Fox
open Idealize.ShloMosaic

variable {sig : RefSig} {κ : Kind} {sp : Space} {S : Shape} {e : EltTy} {Val : EltTy → Type} [∀ e, Nonempty (Val e)]
variable {ι : Type}

/-- The stores of the rectangles `r h`, the head of `l` last, over the stores `base`: the one at `h` stores `w h` of the list before it. -/
def stack (r : ι → Rect S) (base : List (View.Piece Val S e)) (w : (h : ι) → List (View.Piece Val S e) → ((r h).shape.Idx → Val e)) :
    List ι → List (View.Piece Val S e)
  | [] => base
  | h :: t => ⟨r h, w h (stack r base w t)⟩ :: stack r base w t

variable {r : ι → Rect S} {base : List (View.Piece Val S e)} {w : (h : ι) → List (View.Piece Val S e) → ((r h).shape.Idx → Val e)}

theorem stack_other (hr : ∀ a b x, a ≠ b → (r a).emb x ∉ (r b).set) {l : List ι} {h : ι} (hl : h ∉ l) (x : (r h).shape.Idx) :
    View.canon (stack r base w l) ((r h).emb x) = View.canon base ((r h).emb x) := by
  induction l with
  | nil => rfl
  | cons a t ih =>
    have h1 : h ≠ a := fun e => hl (e ▸ List.mem_cons_self)
    rw [stack, View.canon_cons_of_not_mem _ _ (hr h a x h1)]
    exact ih fun e => hl (List.mem_cons_of_mem _ e)

theorem stack_own (hr : ∀ a b x, a ≠ b → (r a).emb x ∉ (r b).set) {l : List ι} (hn : l.Nodup) {h : ι} (hl : h ∈ l) :
    ∃ t : List ι, h ∉ t ∧ ∀ x, View.canon (stack r base w l) ((r h).emb x) = w h (stack r base w t) x := by
  induction l with
  | nil => exact absurd hl List.not_mem_nil
  | cons a t ih =>
    obtain ⟨ha, ht⟩ := List.nodup_cons.mp hn
    by_cases h1 : h = a
    · subst h1
      exact ⟨t, ha, fun x => by rw [stack, View.canon_cons_emb]⟩
    · obtain ⟨t', h2, h3⟩ := ih ht ((List.mem_cons.mp hl).resolve_left h1)
      exact ⟨t', h2, fun x => by rw [stack, View.canon_cons_of_not_mem _ _ (hr h a x h1), h3]⟩

theorem stack_cover {l : List ι} {h : ι} (hl : h ∈ l) (x : (r h).shape.Idx) : ∃ p ∈ stack r base w l, (r h).emb x ∈ p.1.set := by
  induction l with
  | nil => exact absurd hl List.not_mem_nil
  | cons a t ih =>
    by_cases h1 : h = a
    · subst h1
      exact ⟨_, List.mem_cons_self, by
        rw [← Rect.map_emb_univ]; exact Finset.mem_map_of_mem _ (Finset.mem_univ x)⟩
    · obtain ⟨p, h2, h3⟩ := ih ((List.mem_cons.mp hl).resolve_left h1)
      exact ⟨p, List.mem_cons_of_mem _ h2, h3⟩

/-- Slabs stored each from values of its own. -/
theorem stack_const (hr : ∀ a b x, a ≠ b → (r a).emb x ∉ (r b).set) (g : (h : ι) → ((r h).shape.Idx → Val e)) {l : List ι} (hn : l.Nodup)
    {h : ι} (hl : h ∈ l) (v : View sig κ sp S e) (f : v.ty.Contents Val) (x : (r h).shape.Idx) :
    v.read Val (v.writes Val f (stack r base (fun h _ => g h) l)) ((r h).emb x) = g h x := by
  rw [View.read_writes_apply_eq_canon v f _ _ (stack_cover hl x)]
  obtain ⟨t, _, h2⟩ := stack_own (base := base) (w := fun h _ => g h) hr hn hl
  exact h2 x

/-- Slabs each stored from what a covered load of it read before. -/
theorem stack_read (hr : ∀ a b x, a ≠ b → (r a).emb x ∉ (r b).set) (v' : View sig κ sp S e) (hb : ∀ y, ∃ p ∈ base, y ∈ p.1.set)
    (g : (h : ι) → ((r h).shape.Idx → Val e) → ((r h).shape.Idx → Val e)) {l : List ι} (hn : l.Nodup)
    {h : ι} (hl : h ∈ l) (v : View sig κ sp S e) (f : v.ty.Contents Val) (x : (r h).shape.Idx) :
    v.read Val (v.writes Val f (stack r base (fun h L => g h (v'.readCov L (r h).toLoadRect)) l)) ((r h).emb x)
      = g h (fun y => View.canon base ((r h).emb y)) x := by
  rw [View.read_writes_apply_eq_canon v f _ _ (stack_cover hl x)]
  obtain ⟨t, h1, h2⟩ := stack_own (base := base) (w := fun h L => g h (v'.readCov L (r h).toLoadRect)) hr hn hl
  rw [h2 x]
  congr 2
  have hc : ∀ (l : List ι) y, ∃ p ∈ stack r base (fun h L => g h (v'.readCov L (r h).toLoadRect)) l, y ∈ p.1.set := by
    intro l y
    induction l with
    | nil => exact hb y
    | cons a t ih => obtain ⟨p, h3, h4⟩ := ih; exact ⟨p, List.mem_cons_of_mem _ h3, h4⟩
  rw [View.readCov_eq_canon_ld v' _ _ (hc t)]
  funext y
  exact stack_other hr h1 y

/-- The eight heads, the last stored first. -/
abbrev order : List (Fin 8) := [7, 6, 5, 4, 3, 2, 1, 0]

theorem order_nodup : order.Nodup := by decide
theorem mem_order (h : Fin 8) : h ∈ order := by revert h; decide

end Cert.Fox
-- ==== Proof.Head.lean ====
module
public import proofs.«01_k».proof.Proof.Gen.KernelKvIdeal.Skeleton
public import proofs.«01_k».proof.Proof.Slab
public import Idealize.ShloMosaic.Lib.Pipeline.ValueKit.Geometry

/-! One head of one tile: the tile's probabilities, the logits' gradient and the three products they enter, each over
    the head's slices of the blocks. -/

@[expose] public section
noncomputable section
namespace Cert.Fox
open Idealize.ShloMosaic Idealize.ShloMosaic.TcCoe Cert.KernelKvIdeal Cert.KernelKvIdeal.Gen

variable {F : FTy → Type} [FloatOps F]

/-- A column of row values, the same in 128 lanes, widened to the tile. -/
def lanes (v : Vec F S1x512x128 .f32) : FVec F S512x512 .f32 :=
  concatenate S512x512 1 [⟨S512x128, shapeCast S512x128 v shapeCasts_S1x512x128_S512x128⟩, ⟨S512x128, shapeCast S512x128 v shapeCasts_S1x512x128_S512x128⟩,
    ⟨S512x128, shapeCast S512x128 v shapeCasts_S1x512x128_S512x128⟩, ⟨S512x128, shapeCast S512x128 v shapeCasts_S1x512x128_S512x128⟩]
    concatenates_S512x128_S512x128_S512x128_S512x128_S512x512_d1

/-- The tile's logits of the head whose number is the word `w`, before the mask. -/
def tileLogits (w : BitVec 32) (q k : Vec F S512x128 .bf16) (cb : Vec F S512x128 .f32) (ct : Vec F S8x512 .f32) : FVec F S512x512 .f32 :=
  subf (addf (mulf (matmul dot_S512x128_S512x128_S512x512_1_1_0_0_n_n none (shapeCast S512x128 q shapeCasts_S512x128_S512x128)
        (shapeCast S512x128 k shapeCasts_S512x128_S512x128) (constant S512x512 .f32 0x00000000#32))
      (broadcast S512x512 (Scalar.ofBits .f32 0x3DB504F3#32)))
    (broadcastTo S512x512 (shapeCast S512x1 (multiReduction .add [1] S512
      (select (cmpi .eq (iota .tc S512x128 32 [1] iota_S512x128_d1_w32) (broadcast S512x128 w))
        (shapeCast S512x128 cb shapeCasts_S512x128_S512x128) (broadcast S512x128 (Scalar.ofBits .f32 0x00000000#32)))
      0x00000000#32 reduces_S512x128_S512 (.inl rfl) rfl) shapeCasts_S512_S512x1) broadcasts_S512x1_S512x512))
    (broadcastTo S512x512 (shapeCast S1x512 (multiReduction .add [0] S512
      (select (cmpi .eq (iota .tc S8x512 32 [0] iota_S8x512_d0_w32) (broadcast S8x512 w))
        (shapeCast S8x512 ct shapeCasts_S8x512_S8x512) (broadcast S8x512 (Scalar.ofBits .f32 0x00000000#32)))
      0x00000000#32 reduces_S8x512_S512 (.inl rfl) rfl) shapeCasts_S512_S1x512) broadcasts_S1x512_S512x512)

/-- The causal mask of a tile on the diagonal. -/
def tileMask (s : FVec F S512x512 .f32) : FVec F S512x512 .f32 :=
  select (cmpi .sle (iota .tc S512x512 32 [1] iota_S512x512_d1_w32) (iota .tc S512x512 32 [0] iota_S512x512_d0_w32)) s
    (broadcast S512x512 (Scalar.ofBits .f32 0xFF800000#32))

/-- The tile's probabilities from its (masked) logits. -/
def tileP (s : FVec F S512x512 .f32) (ls : Vec F S1x512x128 .f32) : FVec F S512x512 .f32 := exp (subf s (lanes ls))

/-- The logits' gradient on the tile. -/
def tileDs (p : FVec F S512x512 .f32) (g v : Vec F S512x128 .bf16) (dl : Vec F S1x512x128 .f32) : FVec F S512x512 .f32 :=
  mulf p (subf (matmul dot_S512x128_S512x128_S512x512_1_1_0_0_n_n none (shapeCast S512x128 g shapeCasts_S512x128_S512x128)
    (shapeCast S512x128 v shapeCasts_S512x128_S512x128) (constant S512x512 .f32 0x00000000#32)) (lanes dl))

/-- A slab plus the product of the tile's transpose with a block. -/
def addTn (a : FVec F S512x512 .f32) (old : Vec F S1x512x128 .f32) (b : Vec F S512x128 .bf16) : FVec F S1x512x128 .f32 :=
  shapeCast S1x512x128 (addf (shapeCast S512x128 old shapeCasts_S1x512x128_S512x128)
    (matmul dot_S512x512_S512x128_S512x128_0_0_1_1_n_n none (truncf .bf16 a bitsLt_bf16_f32)
      (shapeCast S512x128 b shapeCasts_S512x128_S512x128) (constant S512x128 .f32 0x00000000#32))) shapeCasts_S512x128_S1x512x128

/-- A row plus the tile's column sums. -/
def addCol (a : FVec F S512x512 .f32) (old : Vec F S1x1x512 .f32) : FVec F S1x1x512 .f32 :=
  shapeCast S1x1x512 (addf (shapeCast S1x512 old shapeCasts_S1x1x512_S1x512)
    (shapeCast S1x512 (multiReduction .add [0] S512 a 0x00000000#32 reduces_S512x512_S512 (.inl rfl) rfl) shapeCasts_S512_S1x512)) shapeCasts_S1x512_S1x1x512

/-- Head `h`'s columns of a block of rows; its slab of a stacked block; its row of a stacked row block. -/
abbrev colR (h : Fin 8) : Rect S512x1024 := Rect.unit (s := S512x1024) ![0, 128 * h.val] S512x128.size (by
  intro a; have := h.isLt; fin_cases a <;> simp <;> omega)
abbrev slabR (h : Fin 8) : Rect S8x512x128 := Rect.unit (s := S8x512x128) ![h.val, 0, 0] S1x512x128.size (by
  intro a; have := h.isLt; fin_cases a <;> simp <;> omega)
abbrev rowR (h : Fin 8) : Rect S8x1x512 := Rect.unit (s := S8x1x512) ![h.val, 0, 0] S1x1x512.size (by
  intro a; have := h.isLt; fin_cases a <;> simp <;> omega)

/-- The word of head `h` as the kernel computes it. -/
abbrev headW (i : grid0.Coords) (h : Fin 8) : BitVec 32 := Scalar.addi (Scalar.muli (BitVec.ofNat 32 (i 0).val) 8#32) (BitVec.ofNat 32 h.val)

/-- The tile's logits of head `h` off and on the diagonal. -/
def dgLogits (dg : Bool) (s : FVec F S512x512 .f32) : FVec F S512x512 .f32 := match dg with | true => tileMask s | false => s

/-- The tile's probabilities of head `h`, from the blocks of q, k, the gate sums and the rows' normalisers. -/
def prob (dg : Bool) (i : grid0.Coords) (x0 x1 : Vec F S512x1024 .bf16) (x4 : Vec F S512x128 .f32) (x5 : Vec F S8x512 .f32)
    (x6 : Vec F S8x512x128 .f32) (h : Fin 8) : FVec F S512x512 .f32 :=
  tileP (dgLogits dg (tileLogits (headW i h) (View.ld x0 (colR h)) (View.ld x1 (colR h))
      (View.ld x4 (Rect.unit (s := S512x128) ![0, 0] S512x128.size inb_S512x128_S512x128_0_0))
      (View.ld x5 (Rect.unit (s := S8x512) ![0, 0] S8x512.size inb_S8x512_S8x512_0_0)))) (View.ld x6 (slabR h))

/-- The logits' gradient of head `h`, from its probabilities and the blocks of v, the output's gradient and the rows' sums. -/
def grad (p : FVec F S512x512 .f32) (x2 x3 : Vec F S512x1024 .bf16) (x7 : Vec F S8x512x128 .f32) (h : Fin 8) : FVec F S512x512 .f32 :=
  tileDs p (View.ld x3 (colR h)) (View.ld x2 (colR h)) (View.ld x7 (slabR h))

/-- A stacked block from its slabs, a stacked row block from its rows, a block of rows from its heads' columns. -/
def slabs {e : EltTy} (g : Fin 8 → Vec F S1x512x128 e) : Vec F S8x512x128 e := fun y => g (y 0) (ix3 0 (y 1) (y 2))
def rows {e : EltTy} (g : Fin 8 → Vec F S1x1x512 e) : Vec F S8x1x512 e := fun y => g (y 0) (ix3 0 (y 1) (y 2))
def cols {e : EltTy} (g : Fin 8 → Vec F S512x128 e) : Vec F S512x1024 e := fun y =>
  g ⟨(y 1).val / 128, by have h : (y 1).val < 1024 := (y 1).isLt; omega⟩ (ix2 (y 0) ⟨(y 1).val % 128, Nat.mod_lt _ (by norm_num)⟩)

theorem slabR_disj : ∀ a b x, a ≠ b → (slabR a).emb x ∉ (slabR b).set := by
  intro a b x hab hm
  have h := Rect.mem_set_unit.mp hm 0
  rw [ValueKit.rect_emb_unit_val] at h
  have h1 : (x 0).val < 1 := (x 0).isLt
  have h2 : b.val ≤ a.val + (x 0).val ∧ a.val + (x 0).val < b.val + 1 := h
  exact hab (Fin.ext (by omega))
theorem rowR_disj : ∀ a b x, a ≠ b → (rowR a).emb x ∉ (rowR b).set := by
  intro a b x hab hm
  have h := Rect.mem_set_unit.mp hm 0
  rw [ValueKit.rect_emb_unit_val] at h
  have h1 : (x 0).val < 1 := (x 0).isLt
  have h2 : b.val ≤ a.val + (x 0).val ∧ a.val + (x 0).val < b.val + 1 := h
  exact hab (Fin.ext (by omega))
theorem colR_disj : ∀ a b x, a ≠ b → (colR a).emb x ∉ (colR b).set := by
  intro a b x hab hm
  have h := Rect.mem_set_unit.mp hm 1
  rw [ValueKit.rect_emb_unit_val] at h
  have h1 : (x 1).val < 128 := (x 1).isLt
  have h2 : 128 * b.val ≤ 128 * a.val + (x 1).val ∧ 128 * a.val + (x 1).val < 128 * b.val + 128 := h
  exact hab (Fin.ext (by omega))

theorem slabR_ix (y : S8x512x128.Idx) : y = (slabR (y 0)).emb (ix3 0 (y 1) (y 2)) := by
  funext a
  apply Fin.ext
  rw [ValueKit.rect_emb_unit_val]
  fin_cases a
  · exact (Nat.add_zero _).symm
  · exact (Nat.zero_add _).symm
  · exact (Nat.zero_add _).symm
theorem rowR_ix (y : S8x1x512.Idx) : y = (rowR (y 0)).emb (ix3 0 (y 1) (y 2)) := by
  funext a
  apply Fin.ext
  rw [ValueKit.rect_emb_unit_val]
  fin_cases a
  · exact (Nat.add_zero _).symm
  · exact (Nat.zero_add _).symm
  · exact (Nat.zero_add _).symm
theorem colR_ix (y : S512x1024.Idx) (h : Fin 8) (e : Fin 128) (hy : (y 1).val = 128 * h.val + e.val) : y = (colR h).emb (ix2 (y 0) e) := by
  funext a
  apply Fin.ext
  rw [ValueKit.rect_emb_unit_val]
  fin_cases a
  · exact (Nat.zero_add _).symm
  · exact hy

variable {sp : Space} {e : EltTy}

/-- Eight slabs stored one by one are the stacked block of them; rows and heads' columns the same. -/
theorem slabs_stack (v : View sig .tc sp S8x512x128 e) (f : v.ty.Contents (Elt F)) (g : Fin 8 → Vec F S1x512x128 e) :
    v.read (Elt F) (v.writes (Elt F) f (stack slabR [] (fun h _ => g h) order)) = slabs g := by
  funext y
  conv_lhs => rw [slabR_ix y]
  exact stack_const slabR_disj g order_nodup (mem_order _) v f _
theorem rows_stack (v : View sig .tc sp S8x1x512 e) (f : v.ty.Contents (Elt F)) (g : Fin 8 → Vec F S1x1x512 e) :
    v.read (Elt F) (v.writes (Elt F) f (stack rowR [] (fun h _ => g h) order)) = rows g := by
  funext y
  conv_lhs => rw [rowR_ix y]
  exact stack_const rowR_disj g order_nodup (mem_order _) v f _
theorem cols_stack (v : View sig .tc sp S512x1024 e) (f : v.ty.Contents (Elt F)) (g : Fin 8 → Vec F S512x128 e) :
    v.read (Elt F) (v.writes (Elt F) f (stack colR [] (fun h _ => g h) order)) = cols g := by
  funext y
  have h1 : (y 1).val < 1024 := (y 1).isLt
  conv_lhs => rw [colR_ix y ⟨(y 1).val / 128, by omega⟩ ⟨(y 1).val % 128, Nat.mod_lt _ (by norm_num)⟩ (Nat.div_add_mod _ _).symm]
  exact stack_const colR_disj g order_nodup (mem_order _) v f _

end Cert.Fox
-- ==== Proof.KvBelow.lean ====
module

public import proofs.«01_k».proof.Proof.KvParts
public import proofs.«01_k».proof.Proof.Head

/-! The step of a sweep below the diagonal. -/

@[expose] public section

set_option maxRecDepth 16384

noncomputable section

namespace Cert.KernelKvIdeal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelKvIdeal.Gen

variable {F : FTy → Type} [FloatOps F]
variable (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S8x1x512 .f32) (harg13 : arg13.IsWhole) (arg14 : Memref sig .tc .vmem S8x512x128 .f32) (harg14 : arg14.IsWhole) (arg15 : Memref sig .tc .vmem S8x512x128 .f32) (harg15 : arg15.IsWhole) (arg16 : Memref sig .tc .vmem S8x1x512 .f32) (harg16 : arg16.IsWhole)

-- the run is eight heads of three products each: its proof term is large
set_option maxHeartbeats 1600000 in
/-- The step over the eight inputs and the three accumulators: what it stores in each accumulator. -/
noncomputable def runBelow (x3 : Vec F S512x1024 .bf16) (x4 : Vec F S512x1024 .bf16) (x5 : Vec F S512x1024 .bf16) (x6 : Vec F S512x1024 .bf16) (x7 : Vec F S512x128 .f32) (x8 : Vec F S8x512 .f32) (x9 : Vec F S8x512x128 .f32) (x10 : Vec F S8x512x128 .f32) (y14 : Vec F S8x512x128 .f32) (y15 : Vec F S8x512x128 .f32) (y16 : Vec F S8x1x512 .f32) :
    Σ' (L14 : List (View.Piece (Elt F) S8x512x128 .f32)), Σ' (L15 : List (View.Piece (Elt F) S8x512x128 .f32)), { L16 : List (View.Piece (Elt F) S8x1x512 .f32) // ∀ (E : Set ℕ) (K : PUnit → sProp (MT nD τ sig Unit (Elt F) ℕ (UR sig nD τ) ℕ)),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg14 fullShare y14 ∗ owns (c : Thread nD τ) arg15 fullShare y15 ∗ owns (c : Thread nD τ) arg16 fullShare y16 ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
        ⊢ wp frame (wpE (defs₀ (F := F)) Variants.none c none) E (below (F := F) i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    unfold below
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f14, %hf14, H14⟩, ⟨%f15, %hf15, H15⟩, ⟨%f16, %hf16, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H14]; · iexists _; iexact H14
    isplitl [H15]; · iexists _; iexact H15
    iexists _; iexact H16

end Cert.KernelKvIdeal.Kv
-- ==== Proof.KvDiag.lean ====
module

public import proofs.«01_k».proof.Proof.KvParts
public import proofs.«01_k».proof.Proof.Head

/-! The step of a sweep on the diagonal. -/

@[expose] public section

set_option maxRecDepth 16384

noncomputable section

namespace Cert.KernelKvIdeal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelKvIdeal.Gen

variable {F : FTy → Type} [FloatOps F]
variable (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S8x1x512 .f32) (harg13 : arg13.IsWhole) (arg14 : Memref sig .tc .vmem S8x512x128 .f32) (harg14 : arg14.IsWhole) (arg15 : Memref sig .tc .vmem S8x512x128 .f32) (harg15 : arg15.IsWhole) (arg16 : Memref sig .tc .vmem S8x1x512 .f32) (harg16 : arg16.IsWhole)

-- the run is eight heads of three products each: its proof term is large
set_option maxHeartbeats 1600000 in
/-- The step over the eight inputs and the three accumulators: what it stores in each accumulator. -/
noncomputable def runDiag (x3 : Vec F S512x1024 .bf16) (x4 : Vec F S512x1024 .bf16) (x5 : Vec F S512x1024 .bf16) (x6 : Vec F S512x1024 .bf16) (x7 : Vec F S512x128 .f32) (x8 : Vec F S8x512 .f32) (x9 : Vec F S8x512x128 .f32) (x10 : Vec F S8x512x128 .f32) (y14 : Vec F S8x512x128 .f32) (y15 : Vec F S8x512x128 .f32) (y16 : Vec F S8x1x512 .f32) :
    Σ' (L14 : List (View.Piece (Elt F) S8x512x128 .f32)), Σ' (L15 : List (View.Piece (Elt F) S8x512x128 .f32)), { L16 : List (View.Piece (Elt F) S8x1x512 .f32) // ∀ (E : Set ℕ) (K : PUnit → sProp (MT nD τ sig Unit (Elt F) ℕ (UR sig nD τ) ℕ)),
      iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg14 fullShare y14 ∗ owns (c : Thread nD τ) arg15 fullShare y15 ∗ owns (c : Thread nD τ) arg16 fullShare y16 ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
        ⊢ wp frame (wpE (defs₀ (F := F)) Variants.none c none) E (diag (F := F) i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    unfold diag
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f14, %hf14, H14⟩, ⟨%f15, %hf15, H15⟩, ⟨%f16, %hf16, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H14]; · iexists _; iexact H14
    isplitl [H15]; · iexists _; iexact H15
    iexists _; iexact H16

end Cert.KernelKvIdeal.Kv
-- ==== Proof.KvLast.lean ====
module

public import proofs.«01_k».proof.Proof.KvParts
public import proofs.«01_k».proof.Proof.Head

/-! The end of a sweep. -/

@[expose] public section

set_option maxRecDepth 16384

noncomputable section

namespace Cert.KernelKvIdeal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelKvIdeal.Gen

variable {F : FTy → Type} [FloatOps F]
variable (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x128 .f32) (harg7 : arg7.IsWhole) (arg8 : Memref sig .tc .vmem S8x512 .f32) (harg8 : arg8.IsWhole) (arg9 : Memref sig .tc .vmem S8x512x128 .f32) (harg9 : arg9.IsWhole) (arg10 : Memref sig .tc .vmem S8x512x128 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S8x1x512 .f32) (harg13 : arg13.IsWhole) (arg14 : Memref sig .tc .vmem S8x512x128 .f32) (harg14 : arg14.IsWhole) (arg15 : Memref sig .tc .vmem S8x512x128 .f32) (harg15 : arg15.IsWhole) (arg16 : Memref sig .tc .vmem S8x1x512 .f32) (harg16 : arg16.IsWhole)

/-- The end of a sweep, over the accumulators and the outputs: what it stores in each output. -/
noncomputable def runLast (y11 : Vec F S512x1024 .f32) (y12 : Vec F S512x1024 .bf16) (y13 : Vec F S8x1x512 .f32) (x14 : Vec F S8x512x128 .f32) (x15 : Vec F S8x512x128 .f32) (x16 : Vec F S8x1x512 .f32) :
    Σ' (L11 : List (View.Piece (Elt F) S512x1024 .f32)), Σ' (L12 : List (View.Piece (Elt F) S512x1024 .bf16)), { L13 : List (View.Piece (Elt F) S8x1x512 .f32) // ∀ (E : Set ℕ) (K : PUnit → sProp (MT nD τ sig Unit (Elt F) ℕ (UR sig nD τ) ℕ)),
      iprop(owns (c : Thread nD τ) arg14 fullShare x14 ∗ owns (c : Thread nD τ) arg15 fullShare x15 ∗ owns (c : Thread nD τ) arg16 fullShare x16 ∗ owns (c : Thread nD τ) arg11 fullShare y11 ∗ owns (c : Thread nD τ) arg12 fullShare y12 ∗ owns (c : Thread nD τ) arg13 fullShare y13 ∗ (iprop(owns (c : Thread nD τ) arg14 fullShare x14 ∗ owns (c : Thread nD τ) arg15 fullShare x15 ∗ owns (c : Thread nD τ) arg16 fullShare x16 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
        ⊢ wp frame (wpE (defs₀ (F := F)) Variants.none c none) E (last (F := F) i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    unfold last
    simp only [k0_part40_eq_skeleton]
    unfold owns
    iintro ⟨⟨%f14, %hf14, H14⟩, ⟨%f15, %hf15, H15⟩, ⟨%f16, %hf16, H16⟩, ⟨%f11, %hf11, H11⟩, ⟨%f12, %hf12, H12⟩, ⟨%f13, %hf13, H13⟩, Hk⟩
    obtain rfl := harg14.eq_unread hf14; obtain rfl := harg15.eq_unread hf15; obtain rfl := harg16.eq_unread hf16; obtain rfl := harg11.eq_unread hf11; obtain rfl := harg12.eq_unread hf12; obtain rfl := harg13.eq_unread hf13
    sl_exec
    sl_step
    iapply Hk
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H11]; · iexists _; iexact H11
    isplitl [H12]; · iexists _; iexact H12
    iexists _; iexact H13

end Cert.KernelKvIdeal.Kv
-- ==== Proof.KvStep.lean ====
module

public import proofs.«01_k».proof.Proof.KvReset
public import proofs.«01_k».proof.Proof.KvBelow
public import proofs.«01_k».proof.Proof.KvDiag
public import proofs.«01_k».proof.Proof.KvLast
public import proofs.«01_k».proof.Proof.Head

/-! The three accumulators as values: what each section of the body makes of them. -/

@[expose] public section

set_option maxRecDepth 16384

noncomputable section

namespace Cert.KernelKvIdeal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelKvIdeal.Gen Cert.Fox

variable {F : FTy → Type} [FloatOps F]

/-- The accumulators of dk, dv and the gate sums. -/
abbrev Acc (F : FTy → Type) := Vec F S8x512x128 .f32 × Vec F S8x512x128 .f32 × Vec F S8x1x512 .f32

/-- The eight input blocks of a point. -/
structure Blocks (F : FTy → Type) where
  q : Vec F S512x1024 .bf16
  k : Vec F S512x1024 .bf16
  v : Vec F S512x1024 .bf16
  g : Vec F S512x1024 .bf16
  c : Vec F S512x128 .f32
  ct : Vec F S8x512 .f32
  ls : Vec F S8x512x128 .f32
  dl : Vec F S8x512x128 .f32

/-- The memrefs the body is called with: the inputs', the outputs' and the accumulators'. -/
structure Args where
  arg3 : Memref sig .tc .vmem S512x1024 .bf16
  harg3 : arg3.IsWhole
  arg4 : Memref sig .tc .vmem S512x1024 .bf16
  harg4 : arg4.IsWhole
  arg5 : Memref sig .tc .vmem S512x1024 .bf16
  harg5 : arg5.IsWhole
  arg6 : Memref sig .tc .vmem S512x1024 .bf16
  harg6 : arg6.IsWhole
  arg7 : Memref sig .tc .vmem S512x128 .f32
  harg7 : arg7.IsWhole
  arg8 : Memref sig .tc .vmem S8x512 .f32
  harg8 : arg8.IsWhole
  arg9 : Memref sig .tc .vmem S8x512x128 .f32
  harg9 : arg9.IsWhole
  arg10 : Memref sig .tc .vmem S8x512x128 .f32
  harg10 : arg10.IsWhole
  arg11 : Memref sig .tc .vmem S512x1024 .f32
  harg11 : arg11.IsWhole
  arg12 : Memref sig .tc .vmem S512x1024 .bf16
  harg12 : arg12.IsWhole
  arg13 : Memref sig .tc .vmem S8x1x512 .f32
  harg13 : arg13.IsWhole
  arg14 : Memref sig .tc .vmem S8x512x128 .f32
  harg14 : arg14.IsWhole
  arg15 : Memref sig .tc .vmem S8x512x128 .f32
  harg15 : arg15.IsWhole
  arg16 : Memref sig .tc .vmem S8x1x512 .f32
  harg16 : arg16.IsWhole

variable (A : Args) (c : Dev nD) (i : grid0.Coords) (x : Blocks F) (s : Acc F)

/-- The body on such memrefs. -/
abbrev Args.run : Prog (TpuEff nD τ sig (Elt F) Λ₀ .tc) PUnit :=
  cc0_fox_bwd_kv (F := F) i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16

/-- The inputs' memrefs hold the blocks. -/
def Args.ins : sProp (MT nD τ sig Unit (Elt F) ℕ (UR sig nD τ) ℕ) :=
  iprop(owns (c : Thread nD τ) A.arg3 fullShare x.q ∗ owns (c : Thread nD τ) A.arg4 fullShare x.k ∗ owns (c : Thread nD τ) A.arg5 fullShare x.v ∗ owns (c : Thread nD τ) A.arg6 fullShare x.g ∗ owns (c : Thread nD τ) A.arg7 fullShare x.c ∗ owns (c : Thread nD τ) A.arg8 fullShare x.ct ∗ owns (c : Thread nD τ) A.arg9 fullShare x.ls ∗ owns (c : Thread nD τ) A.arg10 fullShare x.dl)

/-- The accumulators' memrefs hold values. -/
def Args.acc : sProp (MT nD τ sig Unit (Elt F) ℕ (UR sig nD τ) ℕ) :=
  iprop(owns (c : Thread nD τ) A.arg14 fullShare s.1 ∗ owns (c : Thread nD τ) A.arg15 fullShare s.2.1 ∗ owns (c : Thread nD τ) A.arg16 fullShare s.2.2)

/-- A tile's probabilities and its gradient of the logits, head by head, from the loaded blocks. -/
def tileProbs (dg : Bool) (lq lk : Fin 8 → Vec F S512x128 .bf16) (lc : Vec F S512x128 .f32) (lct : Vec F S8x512 .f32)
    (ll : Fin 8 → Vec F S1x512x128 .f32) (h : Fin 8) : FVec F S512x512 .f32 :=
  tileP (dgLogits dg (tileLogits (headW i h) (lq h) (lk h) lc lct)) (ll h)

abbrev wholeC : Rect S512x128 := Rect.unit (s := S512x128) ![0, 0] S512x128.size inb_S512x128_S512x128_0_0
abbrev wholeCt : Rect S8x512 := Rect.unit (s := S8x512) ![0, 0] S8x512.size inb_S8x512_S8x512_0_0

def tP (dg : Bool) : Fin 8 → FVec F S512x512 .f32 :=
  tileProbs i dg (fun h => View.ld x.q (colR h)) (fun h => View.ld x.k (colR h)) (View.ld x.c wholeC) (View.ld x.ct wholeCt) (fun h => View.ld x.ls (slabR h))
def tDs (dg : Bool) (h : Fin 8) : FVec F S512x512 .f32 :=
  tileDs (tP i x dg h) (View.ld x.g (colR h)) (View.ld x.v (colR h)) (View.ld x.dl (slabR h))

/-- One step of a sweep: dk, dv and the gate sums each take the tile's share. -/
def step (dg : Bool) : Acc F :=
  (slabs fun h => addTn (tDs i x dg h) (View.ld s.1 (slabR h)) (View.ld x.q (colR h)),
   slabs fun h => addTn (tP i x dg h) (View.ld s.2.1 (slabR h)) (View.ld x.g (colR h)),
   rows fun h => addCol (tDs i x dg h) (View.ld s.2.2 (rowR h)))

/-- The accumulators at zero. -/
def zero : Acc F := (k0_pay1, k0_pay2, k0_pay3)

/-- What goes out at the end of a sweep: dk scaled, dv rounded, the gate sums negated. -/
def outK : Vec F S512x1024 .f32 := cols fun h => k0_pay162 (View.ld s.1 (slabR h))
def outV : Vec F S512x1024 .bf16 := cols fun h => k0_pay163 (View.ld s.2.1 (slabR h))
def outC : Vec F S8x1x512 .f32 := rows fun h => k0_pay164 (View.ld s.2.2 (rowR h))

/-- A load of a memref that holds a value reads the value's rectangle. -/
theorem load_unread {sp : Space} {S : Shape} {e : EltTy} {a : Memref sig .tc sp S e} (h : a.IsWhole) (r : Rect S) (v : S.Idx → Elt F e) :
    View.readAt (Elt F) a.view r.toLoadRect (h.unread v) = View.ld v r := by
  rw [View.readAt_eq_ld, h.read_unread]

theorem below_read14 (f : A.arg14.view.ty.Contents (Elt F)) :
    A.arg14.view.read (Elt F) (A.arg14.view.writes (Elt F) f (runBelow c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).1) = (step i x s false).1 := by
  have h : (runBelow c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).1 = stack slabR [] (fun h _ => addTn (tileDs (tileProbs i false (fun h => View.readAt (Elt F) A.arg3.view (colR h).toLoadRect (A.harg3.unread x.q)) (fun h => View.readAt (Elt F) A.arg4.view (colR h).toLoadRect (A.harg4.unread x.k)) (View.readAt (Elt F) A.arg7.view (wholeC).toLoadRect (A.harg7.unread x.c)) (View.readAt (Elt F) A.arg8.view (wholeCt).toLoadRect (A.harg8.unread x.ct)) (fun h => View.readAt (Elt F) A.arg9.view (slabR h).toLoadRect (A.harg9.unread x.ls)) h) (View.readAt (Elt F) A.arg6.view (colR h).toLoadRect (A.harg6.unread x.g)) (View.readAt (Elt F) A.arg5.view (colR h).toLoadRect (A.harg5.unread x.v)) (View.readAt (Elt F) A.arg10.view (slabR h).toLoadRect (A.harg10.unread x.dl))) (View.readAt (Elt F) A.arg14.view (slabR h).toLoadRect (A.harg14.unread s.1)) (View.readAt (Elt F) A.arg3.view (colR h).toLoadRect (A.harg3.unread x.q))) order := rfl
  rw [h]
  simp only [load_unread]
  exact slabs_stack _ _ _

theorem below_read15 (f : A.arg15.view.ty.Contents (Elt F)) :
    A.arg15.view.read (Elt F) (A.arg15.view.writes (Elt F) f (runBelow c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).2.1) = (step i x s false).2.1 := by
  have h : (runBelow c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).2.1 = stack slabR [] (fun h _ => addTn (tileProbs i false (fun h => View.readAt (Elt F) A.arg3.view (colR h).toLoadRect (A.harg3.unread x.q)) (fun h => View.readAt (Elt F) A.arg4.view (colR h).toLoadRect (A.harg4.unread x.k)) (View.readAt (Elt F) A.arg7.view (wholeC).toLoadRect (A.harg7.unread x.c)) (View.readAt (Elt F) A.arg8.view (wholeCt).toLoadRect (A.harg8.unread x.ct)) (fun h => View.readAt (Elt F) A.arg9.view (slabR h).toLoadRect (A.harg9.unread x.ls)) h) (View.readAt (Elt F) A.arg15.view (slabR h).toLoadRect (A.harg15.unread s.2.1)) (View.readAt (Elt F) A.arg6.view (colR h).toLoadRect (A.harg6.unread x.g))) order := rfl
  rw [h]
  simp only [load_unread]
  exact slabs_stack _ _ _

theorem below_read16 (f : A.arg16.view.ty.Contents (Elt F)) :
    A.arg16.view.read (Elt F) (A.arg16.view.writes (Elt F) f (runBelow c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).2.2.val) = (step i x s false).2.2 := by
  have h : (runBelow c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).2.2.val = stack rowR [] (fun h _ => addCol (tileDs (tileProbs i false (fun h => View.readAt (Elt F) A.arg3.view (colR h).toLoadRect (A.harg3.unread x.q)) (fun h => View.readAt (Elt F) A.arg4.view (colR h).toLoadRect (A.harg4.unread x.k)) (View.readAt (Elt F) A.arg7.view (wholeC).toLoadRect (A.harg7.unread x.c)) (View.readAt (Elt F) A.arg8.view (wholeCt).toLoadRect (A.harg8.unread x.ct)) (fun h => View.readAt (Elt F) A.arg9.view (slabR h).toLoadRect (A.harg9.unread x.ls)) h) (View.readAt (Elt F) A.arg6.view (colR h).toLoadRect (A.harg6.unread x.g)) (View.readAt (Elt F) A.arg5.view (colR h).toLoadRect (A.harg5.unread x.v)) (View.readAt (Elt F) A.arg10.view (slabR h).toLoadRect (A.harg10.unread x.dl))) (View.readAt (Elt F) A.arg16.view (rowR h).toLoadRect (A.harg16.unread s.2.2))) order := rfl
  rw [h]
  simp only [load_unread]
  exact rows_stack _ _ _

theorem diag_read14 (f : A.arg14.view.ty.Contents (Elt F)) :
    A.arg14.view.read (Elt F) (A.arg14.view.writes (Elt F) f (runDiag c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).1) = (step i x s true).1 := by
  have h : (runDiag c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).1 = stack slabR [] (fun h _ => addTn (tileDs (tileProbs i true (fun h => View.readAt (Elt F) A.arg3.view (colR h).toLoadRect (A.harg3.unread x.q)) (fun h => View.readAt (Elt F) A.arg4.view (colR h).toLoadRect (A.harg4.unread x.k)) (View.readAt (Elt F) A.arg7.view (wholeC).toLoadRect (A.harg7.unread x.c)) (View.readAt (Elt F) A.arg8.view (wholeCt).toLoadRect (A.harg8.unread x.ct)) (fun h => View.readAt (Elt F) A.arg9.view (slabR h).toLoadRect (A.harg9.unread x.ls)) h) (View.readAt (Elt F) A.arg6.view (colR h).toLoadRect (A.harg6.unread x.g)) (View.readAt (Elt F) A.arg5.view (colR h).toLoadRect (A.harg5.unread x.v)) (View.readAt (Elt F) A.arg10.view (slabR h).toLoadRect (A.harg10.unread x.dl))) (View.readAt (Elt F) A.arg14.view (slabR h).toLoadRect (A.harg14.unread s.1)) (View.readAt (Elt F) A.arg3.view (colR h).toLoadRect (A.harg3.unread x.q))) order := rfl
  rw [h]
  simp only [load_unread]
  exact slabs_stack _ _ _

theorem diag_read15 (f : A.arg15.view.ty.Contents (Elt F)) :
    A.arg15.view.read (Elt F) (A.arg15.view.writes (Elt F) f (runDiag c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).2.1) = (step i x s true).2.1 := by
  have h : (runDiag c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).2.1 = stack slabR [] (fun h _ => addTn (tileProbs i true (fun h => View.readAt (Elt F) A.arg3.view (colR h).toLoadRect (A.harg3.unread x.q)) (fun h => View.readAt (Elt F) A.arg4.view (colR h).toLoadRect (A.harg4.unread x.k)) (View.readAt (Elt F) A.arg7.view (wholeC).toLoadRect (A.harg7.unread x.c)) (View.readAt (Elt F) A.arg8.view (wholeCt).toLoadRect (A.harg8.unread x.ct)) (fun h => View.readAt (Elt F) A.arg9.view (slabR h).toLoadRect (A.harg9.unread x.ls)) h) (View.readAt (Elt F) A.arg15.view (slabR h).toLoadRect (A.harg15.unread s.2.1)) (View.readAt (Elt F) A.arg6.view (colR h).toLoadRect (A.harg6.unread x.g))) order := rfl
  rw [h]
  simp only [load_unread]
  exact slabs_stack _ _ _

theorem diag_read16 (f : A.arg16.view.ty.Contents (Elt F)) :
    A.arg16.view.read (Elt F) (A.arg16.view.writes (Elt F) f (runDiag c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).2.2.val) = (step i x s true).2.2 := by
  have h : (runDiag c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).2.2.val = stack rowR [] (fun h _ => addCol (tileDs (tileProbs i true (fun h => View.readAt (Elt F) A.arg3.view (colR h).toLoadRect (A.harg3.unread x.q)) (fun h => View.readAt (Elt F) A.arg4.view (colR h).toLoadRect (A.harg4.unread x.k)) (View.readAt (Elt F) A.arg7.view (wholeC).toLoadRect (A.harg7.unread x.c)) (View.readAt (Elt F) A.arg8.view (wholeCt).toLoadRect (A.harg8.unread x.ct)) (fun h => View.readAt (Elt F) A.arg9.view (slabR h).toLoadRect (A.harg9.unread x.ls)) h) (View.readAt (Elt F) A.arg6.view (colR h).toLoadRect (A.harg6.unread x.g)) (View.readAt (Elt F) A.arg5.view (colR h).toLoadRect (A.harg5.unread x.v)) (View.readAt (Elt F) A.arg10.view (slabR h).toLoadRect (A.harg10.unread x.dl))) (View.readAt (Elt F) A.arg16.view (rowR h).toLoadRect (A.harg16.unread s.2.2))) order := rfl
  rw [h]
  simp only [load_unread]
  exact rows_stack _ _ _

theorem last_read11 (y11 : Vec F S512x1024 .f32) (y12 : Vec F S512x1024 .bf16) (y13 : Vec F S8x1x512 .f32) (f : A.arg11.view.ty.Contents (Elt F)) :
    A.arg11.view.read (Elt F) (A.arg11.view.writes (Elt F) f (runLast c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 y11 y12 y13 s.1 s.2.1 s.2.2).1) = outK s := by
  have h : (runLast c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 y11 y12 y13 s.1 s.2.1 s.2.2).1 = stack colR [] (fun h _ => k0_pay162 (View.readAt (Elt F) A.arg14.view (slabR h).toLoadRect (A.harg14.unread s.1))) order := rfl
  rw [h]
  simp only [load_unread]
  exact cols_stack _ _ _

theorem last_read12 (y11 : Vec F S512x1024 .f32) (y12 : Vec F S512x1024 .bf16) (y13 : Vec F S8x1x512 .f32) (f : A.arg12.view.ty.Contents (Elt F)) :
    A.arg12.view.read (Elt F) (A.arg12.view.writes (Elt F) f (runLast c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 y11 y12 y13 s.1 s.2.1 s.2.2).2.1) = outV s := by
  have h : (runLast c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 y11 y12 y13 s.1 s.2.1 s.2.2).2.1 = stack colR [] (fun h _ => k0_pay163 (View.readAt (Elt F) A.arg15.view (slabR h).toLoadRect (A.harg15.unread s.2.1))) order := rfl
  rw [h]
  simp only [load_unread]
  exact cols_stack _ _ _

theorem last_read13 (y11 : Vec F S512x1024 .f32) (y12 : Vec F S512x1024 .bf16) (y13 : Vec F S8x1x512 .f32) (f : A.arg13.view.ty.Contents (Elt F)) :
    A.arg13.view.read (Elt F) (A.arg13.view.writes (Elt F) f (runLast c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 y11 y12 y13 s.1 s.2.1 s.2.2).2.2.val) = outC s := by
  have h : (runLast c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 y11 y12 y13 s.1 s.2.1 s.2.2).2.2.val = stack rowR [] (fun h _ => k0_pay164 (View.readAt (Elt F) A.arg16.view (rowR h).toLoadRect (A.harg16.unread s.2.2))) order := rfl
  rw [h]
  simp only [load_unread]
  exact rows_stack _ _ _

theorem zero_off : (![0, 0, 0] : Fin 3 → ℕ) = fun _ => 0 := funext fun a => by fin_cases a <;> rfl

theorem reset_read14 (f : A.arg14.view.ty.Contents (Elt F)) :
    A.arg14.view.read (Elt F) (A.arg14.view.writes (Elt F) f (runReset c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 s.1 s.2.1 s.2.2).1) = (zero (F := F)).1 := by
  rw [View.read_writes_eq_canon _ _ _ (View.cover_of_wholeMem (runReset c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 s.1 s.2.1 s.2.2).1 (by sl_whole_mem))]
  exact View.canon_unit_zero (Val := Elt F) (e := .f32) (S := S8x512x128) zero_off inb_S8x512x128_S8x512x128_0_0_0 (k0_pay1 (F := F))

theorem reset_read15 (f : A.arg15.view.ty.Contents (Elt F)) :
    A.arg15.view.read (Elt F) (A.arg15.view.writes (Elt F) f (runReset c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 s.1 s.2.1 s.2.2).2.1) = (zero (F := F)).2.1 := by
  rw [View.read_writes_eq_canon _ _ _ (View.cover_of_wholeMem (runReset c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 s.1 s.2.1 s.2.2).2.1 (by sl_whole_mem))]
  exact View.canon_unit_zero (Val := Elt F) (e := .f32) (S := S8x512x128) zero_off inb_S8x512x128_S8x512x128_0_0_0 (k0_pay2 (F := F))

theorem reset_read16 (f : A.arg16.view.ty.Contents (Elt F)) :
    A.arg16.view.read (Elt F) (A.arg16.view.writes (Elt F) f (runReset c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 s.1 s.2.1 s.2.2).2.2.val) = (zero (F := F)).2.2 := by
  rw [View.read_writes_eq_canon _ _ _ (View.cover_of_wholeMem (runReset c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 s.1 s.2.1 s.2.2).2.2.val (by sl_whole_mem))]
  exact View.canon_unit_zero (Val := Elt F) (e := .f32) (S := S8x1x512) zero_off inb_S8x1x512_S8x1x512_0_0_0 (k0_pay3 (F := F))

end Cert.KernelKvIdeal.Kv
-- ==== Proof.KvBody.lean ====
module

public import proofs.«01_k».proof.Proof.KvStep

/-! The body of the kernel from its sections: at any point, on any memrefs. -/

@[expose] public section

set_option maxRecDepth 16384

noncomputable section

namespace Cert.KernelKvIdeal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelKvIdeal.Gen Cert.Fox

variable {F : FTy → Type} [FloatOps F]

abbrev Pr (F : FTy → Type) [FloatOps F] := sProp (MT nD τ sig Unit (Elt F) ℕ (UR sig nD τ) ℕ)
abbrev Code (F : FTy → Type) [FloatOps F] := Prog (TpuEff nD τ sig (Elt F) Λ₀ .tc) PUnit

/-- A section under its condition. -/
def sec (p : Prop) [Decidable p] (x : Code F) : Code F := if p then x else pure ⟨⟩

/-- From `P` the code ends with `Q`. -/
def Trip (c : Dev nD) (x : Code F) (P Q : Pr F) : Prop := ∀ K : PUnit → Pr F,
  iprop(P ∗ (Q -∗ K ⟨⟩)) ⊢ wp frame (wpE (defs₀ (F := F)) Variants.none c none) Set.univ x K

variable {c : Dev nD}

theorem Trip.sec {p : Prop} [Decidable p] {x : Code F} {P Q : Pr F} (h : p → Trip c x P Q) (h' : ¬p → P ⊢ Q) : Trip c (sec p x) P Q := by
  intro K
  unfold Kv.sec
  split
  · next hp => exact h hp K
  · next hp =>
    rw [wp_pure]
    refine .trans ?_ (fupd_intro)
    iintro ⟨H, Hk⟩
    iapply Hk
    iapply (h' hp)
    iexact H

theorem Trip.seq {x y : Code F} {P Q R : Pr F} (h : Trip c x P Q) (h' : Trip c y Q R) : Trip c (x >>= fun _ => y) P R := by
  intro K
  rw [wp_bind]
  refine .trans ?_ (h _)
  iintro ⟨HP, Hk⟩
  isplitl [HP]
  · iexact HP
  iintro HQ
  iapply (h' K)
  isplitl [HQ]
  · iexact HQ
  iexact Hk

variable (A : Args) (i : grid0.Coords) (x : Blocks F) (s : Acc F)

theorem run_eq : A.run (F := F) i = (sec (isFirst i) (reset i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16) >>= fun _ => sec (isBelow i) (below i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16) >>= fun _ =>
    sec (isDiag i) (diag i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16) >>= fun _ => sec (isLast i) (last i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16)) := by
  unfold Args.run
  rw [body_eq]
  unfold sec
  split_ifs <;> rfl

/-- The outputs' blocks. -/
abbrev Outs (F : FTy → Type) := Vec F S512x1024 .f32 × Vec F S512x1024 .bf16 × Vec F S8x1x512 .f32

/-- The outputs' memrefs hold values. -/
def Args.outs (c : Dev nD) (o : Outs F) : Pr F :=
  iprop(owns (c : Thread nD τ) A.arg11 fullShare o.1 ∗ owns (c : Thread nD τ) A.arg12 fullShare o.2.1 ∗ owns (c : Thread nD τ) A.arg13 fullShare o.2.2)

/-- The accumulators after a point's body; the outputs after it. -/
def next : Acc F :=
  let s1 := if isFirst i then zero else s
  let s2 := if isBelow i then step i x s1 false else s1
  if isDiag i then step i x s2 true else s2
def fin (o : Outs F) : Outs F := if isLast i then (outK s, outV s, outC s) else o

theorem trip_reset (o : Outs F) : Trip c (reset (F := F) i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16) iprop(A.ins c x ∗ A.outs c o ∗ A.acc c s)
    iprop(A.ins c x ∗ A.outs c o ∗ A.acc c zero) := by
  intro K
  unfold Args.ins Args.outs Args.acc
  iintro ⟨⟨⟨H3, H4, H5, H6, H7, H8, H9, H10⟩, ⟨H11, H12, H13⟩, ⟨H14, H15, H16⟩⟩, Hk⟩
  iapply ((runReset c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 s.1 s.2.1 s.2.2).2.2.property Set.univ K)
  isplitl [H14]; · iexact H14
  isplitl [H15]; · iexact H15
  isplitl [H16]; · iexact H16
  iintro ⟨⟨%f14, H14⟩, ⟨%f15, H15⟩, ⟨%f16, H16⟩⟩
  iapply Hk
  isplitl [H3 H4 H5 H6 H7 H8 H9 H10]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13]
  · isplitl [H11]; · iexact H11
    isplitl [H12]; · iexact H12
    iexact H13
  · isplitl [H14]
    · unfold owns; iexists _; isplitr
      swap; · iexact H14
      ipureintro; exact reset_read14 A c i s f14
    isplitl [H15]
    · unfold owns; iexists _; isplitr
      swap; · iexact H15
      ipureintro; exact reset_read15 A c i s f15
    unfold owns; iexists _; isplitr
    swap; · iexact H16
    ipureintro; exact reset_read16 A c i s f16

theorem trip_below (o : Outs F) : Trip c (below (F := F) i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16) iprop(A.ins c x ∗ A.outs c o ∗ A.acc c s)
    iprop(A.ins c x ∗ A.outs c o ∗ A.acc c (step i x s false)) := by
  intro K
  unfold Args.ins Args.outs Args.acc
  iintro ⟨⟨⟨H3, H4, H5, H6, H7, H8, H9, H10⟩, ⟨H11, H12, H13⟩, ⟨H14, H15, H16⟩⟩, Hk⟩
  iapply ((runBelow c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).2.2.property Set.univ K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  iintro ⟨H3, H4, H5, H6, H7, H8, H9, H10, ⟨%f14, H14⟩, ⟨%f15, H15⟩, ⟨%f16, H16⟩⟩
  iapply Hk
  isplitl [H3 H4 H5 H6 H7 H8 H9 H10]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13]
  · isplitl [H11]; · iexact H11
    isplitl [H12]; · iexact H12
    iexact H13
  · isplitl [H14]
    · unfold owns; iexists _; isplitr
      swap; · iexact H14
      ipureintro; exact below_read14 A c i x s f14
    isplitl [H15]
    · unfold owns; iexists _; isplitr
      swap; · iexact H15
      ipureintro; exact below_read15 A c i x s f15
    unfold owns; iexists _; isplitr
    swap; · iexact H16
    ipureintro; exact below_read16 A c i x s f16

theorem trip_diag (o : Outs F) : Trip c (diag (F := F) i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16) iprop(A.ins c x ∗ A.outs c o ∗ A.acc c s)
    iprop(A.ins c x ∗ A.outs c o ∗ A.acc c (step i x s true)) := by
  intro K
  unfold Args.ins Args.outs Args.acc
  iintro ⟨⟨⟨H3, H4, H5, H6, H7, H8, H9, H10⟩, ⟨H11, H12, H13⟩, ⟨H14, H15, H16⟩⟩, Hk⟩
  iapply ((runDiag c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 x.q x.k x.v x.g x.c x.ct x.ls x.dl s.1 s.2.1 s.2.2).2.2.property Set.univ K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H15]; · iexact H15
  isplitl [H16]; · iexact H16
  iintro ⟨H3, H4, H5, H6, H7, H8, H9, H10, ⟨%f14, H14⟩, ⟨%f15, H15⟩, ⟨%f16, H16⟩⟩
  iapply Hk
  isplitl [H3 H4 H5 H6 H7 H8 H9 H10]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13]
  · isplitl [H11]; · iexact H11
    isplitl [H12]; · iexact H12
    iexact H13
  · isplitl [H14]
    · unfold owns; iexists _; isplitr
      swap; · iexact H14
      ipureintro; exact diag_read14 A c i x s f14
    isplitl [H15]
    · unfold owns; iexists _; isplitr
      swap; · iexact H15
      ipureintro; exact diag_read15 A c i x s f15
    unfold owns; iexists _; isplitr
    swap; · iexact H16
    ipureintro; exact diag_read16 A c i x s f16

theorem trip_last (o : Outs F) : Trip c (last (F := F) i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16) iprop(A.ins c x ∗ A.outs c o ∗ A.acc c s)
    iprop(A.ins c x ∗ A.outs c (outK s, outV s, outC s) ∗ A.acc c s) := by
  intro K
  unfold Args.ins Args.outs Args.acc
  iintro ⟨⟨⟨H3, H4, H5, H6, H7, H8, H9, H10⟩, ⟨H11, H12, H13⟩, ⟨H14, H15, H16⟩⟩, Hk⟩
  iapply ((runLast c i A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 o.1 o.2.1 o.2.2 s.1 s.2.1 s.2.2).2.2.property Set.univ K)
  isplitl [H14]; · iexact H14
  isplitl [H15]; · iexact H15
  isplitl [H16]; · iexact H16
  isplitl [H11]; · iexact H11
  isplitl [H12]; · iexact H12
  isplitl [H13]; · iexact H13
  iintro ⟨H14, H15, H16, ⟨%f11, H11⟩, ⟨%f12, H12⟩, ⟨%f13, H13⟩⟩
  iapply Hk
  isplitl [H3 H4 H5 H6 H7 H8 H9 H10]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13]
  · isplitl [H11]
    · unfold owns; iexists _; isplitr
      swap; · iexact H11
      ipureintro; exact last_read11 A c i s o.1 o.2.1 o.2.2 f11
    isplitl [H12]
    · unfold owns; iexists _; isplitr
      swap; · iexact H12
      ipureintro; exact last_read12 A c i s o.1 o.2.1 o.2.2 f12
    unfold owns; iexists _; isplitr
    swap; · iexact H13
    ipureintro; exact last_read13 A c i s o.1 o.2.1 o.2.2 f13
  · isplitl [H14]; · iexact H14
    isplitl [H15]; · iexact H15
    iexact H16

/-- THE BODY: from the blocks, any outputs and any accumulators, the accumulators are the next ones and the outputs, at the end of a
    sweep, what goes out of them. -/
theorem trip_body (o : Outs F) : Trip c (A.run (F := F) i) iprop(A.ins c x ∗ A.outs c o ∗ A.acc c s)
    iprop(A.ins c x ∗ A.outs c (fin i (next i x s) o) ∗ A.acc c (next i x s)) := by
  rw [run_eq]
  refine Trip.seq (Q := iprop(A.ins c x ∗ A.outs c o ∗ A.acc c (if isFirst i then zero else s))) (Trip.sec (fun h => ?_) (fun h => ?_)) ?_
  · rw [if_pos h]; exact trip_reset A i x s o
  · rw [if_neg h]
  refine Trip.seq (Q := iprop(A.ins c x ∗ A.outs c o ∗ A.acc c (if isBelow i then step i x (if isFirst i then zero else s) false else (if isFirst i then zero else s)))) (Trip.sec (fun h => ?_) (fun h => ?_)) ?_
  · rw [if_pos h]; exact trip_below A i x _ o
  · rw [if_neg h]
  refine Trip.seq (Q := iprop(A.ins c x ∗ A.outs c o ∗ A.acc c (next i x s))) (Trip.sec (fun h => ?_) (fun h => ?_)) ?_
  · unfold next; dsimp only; rw [if_pos h]; exact trip_diag A i x _ o
  · unfold next; dsimp only; rw [if_neg h]
  refine Trip.sec (fun h => ?_) (fun h => ?_)
  · unfold fin; rw [if_pos h]; exact trip_last A i x _ o
  · unfold fin; rw [if_neg h]

end Cert.KernelKvIdeal.Kv
-- ==== Proof.KvFrame.lean ====
module

public import proofs.«01_k».proof.Proof.KvBody
public import Idealize.ShloMosaic.Lib.Claim
public import proofs.«01_k».proof.Proof.Gen.KernelKvIdeal.Frame
public import proofs.«01_k».proof.Proof.Gen.KernelKvIdeal.Points
public import proofs.«01_k».proof.Proof.Gen.KernelKvIdeal.Launch

/-! The pipeline's run: the accumulators carried from point to point, the outputs written at the end of each sweep. -/

@[expose] public section

set_option maxRecDepth 16384

noncomputable section

namespace Cert.KernelKvIdeal.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelKvIdeal.Gen Cert.Fox

variable {F : FTy → Type} [FloatOps F]
variable (m : (ℓ : Loc nD τ sig) → Buf (Elt F) ℓ) (ρ : Dev nD → PrngReg)

/-- The memrefs the pipeline calls the body with at point `t`. -/
def argsAt (t : Fin cfg0.N) : Args where
  arg3 := win0_0.stage (cfg0.slots t 0)
  harg3 := hstage0_0 ((cfg0.slots t 0).cast nbuf0_0)
  arg4 := win0_1.stage (cfg0.slots t 1)
  harg4 := hstage0_1 ((cfg0.slots t 1).cast nbuf0_1)
  arg5 := win0_2.stage (cfg0.slots t 2)
  harg5 := hstage0_2 ((cfg0.slots t 2).cast nbuf0_2)
  arg6 := win0_3.stage (cfg0.slots t 3)
  harg6 := hstage0_3 ((cfg0.slots t 3).cast nbuf0_3)
  arg7 := win0_4.stage (cfg0.slots t 4)
  harg7 := hstage0_4 ((cfg0.slots t 4).cast nbuf0_4)
  arg8 := win0_5.stage (cfg0.slots t 5)
  harg8 := hstage0_5 ((cfg0.slots t 5).cast nbuf0_5)
  arg9 := win0_6.stage (cfg0.slots t 6)
  harg9 := hstage0_6 ((cfg0.slots t 6).cast nbuf0_6)
  arg10 := win0_7.stage (cfg0.slots t 7)
  harg10 := hstage0_7 ((cfg0.slots t 7).cast nbuf0_7)
  arg11 := win0_8.stage (cfg0.slots t 8)
  harg11 := hstage0_8 ((cfg0.slots t 8).cast nbuf0_8)
  arg12 := win0_9.stage (cfg0.slots t 9)
  harg12 := hstage0_9 ((cfg0.slots t 9).cast nbuf0_9)
  arg13 := win0_10.stage (cfg0.slots t 10)
  harg13 := hstage0_10 ((cfg0.slots t 10).cast nbuf0_10)
  arg14 := Memref.whole cc0_scratch0
  harg14 := Memref.isWhole_whole _
  arg15 := Memref.whole cc0_scratch1
  harg15 := Memref.isWhole_whole _
  arg16 := Memref.whole cc0_scratch2
  harg16 := Memref.isWhole_whole _

/-- The blocks the inputs' memrefs hold at point `t`. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t⟩

/-- The accumulators before point `n`. -/
def accAt (c : Dev nD) : ℕ → Acc F
  | 0 => zero
  | n + 1 => if h : n < cfg0.N then next (grid0.coords ⟨n, h⟩) (blocksAt m c ⟨n, h⟩) (accAt c n) else accAt c n

theorem accAt_succ (c : Dev nD) (t : Fin cfg0.N) : accAt m c (t.val + 1) = next (grid0.coords t) (blocksAt m c t) (accAt m c t.val) :=
  dif_pos t.isLt

/-- The first point. -/
theorem N_pos : 0 < cfg0.N := by show 0 < grid0.N; rw [N_0]; norm_num
def pt0 : Fin cfg0.N := ⟨0, N_pos⟩

/-- A sweep starts at the first point; a point ends a sweep when it is the last of its column. -/
theorem first_zero : isFirst (grid0.coords pt0) := by decide +kernel
theorem idle8 : ∀ t : Fin cfg0.N, cfg0.idle 8 (grid0.coords t) = !decide (isLast (grid0.coords t)) := by decide +kernel
theorem idle9 : ∀ t : Fin cfg0.N, cfg0.idle 9 (grid0.coords t) = !decide (isLast (grid0.coords t)) := by decide +kernel
theorem idle10 : ∀ t : Fin cfg0.N, cfg0.idle 10 (grid0.coords t) = !decide (isLast (grid0.coords t)) := by decide +kernel
theorem last_iff : ∀ t : Fin cfg0.N, isLast (grid0.coords t) ↔ t.val % 4 = 3 := by decide +kernel

/-- At the start of a sweep the accumulators' old values do not matter. -/
theorem next_first (i) (x : Blocks F) (s s' : Acc F) (h : isFirst i) : next i x s = next i x s' := by
  simp only [next, if_pos h]

/-- The invariant before point `n`: at first the accumulators at anything, then at the values carried. -/
def PhiS (c : Dev nD) : ℕ → Pr F
  | 0 => Pipeline.ΦA spec0 c
  | n + 1 => iprop((argsAt pt0).acc c (accAt m c (n + 1)) ∗ (∃ r, prngReg c r))

/-- The pipeline's proof data: inputs at their blocks, outputs at what goes out of the accumulators. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outK (accAt m c (t.val + 1))
    | ⟨9, _⟩ => outV (accAt m c (t.val + 1))
    | ⟨10, _⟩ => outC (accAt m c (t.val + 1))
  Φ t := PhiS m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m _ (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := before0_1_of m _ (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := before0_2_of m _ (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := before0_3_of m _ (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t := before0_4_of m _ (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t := before0_5_of m _ (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t := before0_6_of m _ (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t := before0_7_of m _ (A_eq m c 7) (after_7 m c) t d
theorem after_8 (c : Dev nD) (t : Fin cfg0.N) : (dats m 0 c).after 8 t = outK (accAt m c (t.val + 1)) := by dsimp only [dats]
theorem after_9 (c : Dev nD) (t : Fin cfg0.N) : (dats m 0 c).after 9 t = outV (accAt m c (t.val + 1)) := by dsimp only [dats]
theorem after_10 (c : Dev nD) (t : Fin cfg0.N) : (dats m 0 c).after 10 t = outC (accAt m c (t.val + 1)) := by dsimp only [dats]

/-- What the launch hands over is the accumulators at anything. -/
theorem PhiA_eq (c : Dev nD) :
    (Pipeline.ΦA spec0 c : Pr F)
      = iprop(iprop((∃ d, owns (c : Thread nD τ) (Memref.whole cc0_scratch0 : Memref sig .tc .vmem S8x512x128 .f32) fullShare d) ∗ (∃ d, owns (c : Thread nD τ) (Memref.whole cc0_scratch1 : Memref sig .tc .vmem S8x512x128 .f32) fullShare d) ∗ (∃ d, owns (c : Thread nD τ) (Memref.whole cc0_scratch2 : Memref sig .tc .vmem S8x1x512 .f32) fullShare d)) ∗ (∃ r, prngReg c r)) := by
  unfold Pipeline.ΦA; rw [scopedRest0_eq]; simp only [owns_whole]; try rfl

/-- Before a point the accumulators hold values from which the point makes the next ones. -/
theorem Phi_in (c : Dev nD) (t : Fin cfg0.N) :
    PhiS m c t.val ⊢ iprop(∃ s, ⌜next (grid0.coords t) (blocksAt m c t) s = accAt m c (t.val + 1)⌝ ∗ (argsAt t).acc c s ∗ (∃ r, prngReg c r)) := by
  obtain ⟨n, hn⟩ := t
  cases n with
  | zero =>
    show (Pipeline.ΦA spec0 c : Pr F) ⊢ _
    rw [PhiA_eq]
    iintro ⟨⟨⟨%d0, H0⟩, ⟨%d1, H1⟩, ⟨%d2, H2⟩⟩, Hg⟩
    iexists ((d0, d1, d2) : Acc F)
    isplitr
    · ipureintro
      rw [accAt_succ]
      exact next_first _ _ _ _ first_zero
    isplitl [H0 H1 H2]
    · unfold Args.acc
      isplitl [H0]; · iexact H0
      isplitl [H1]; · iexact H1
      iexact H2
    iexact Hg
  | succ n =>
    show iprop((argsAt pt0).acc c (accAt m c (n + 1)) ∗ (∃ r, prngReg c r)) ⊢ _
    iintro ⟨H, Hg⟩
    iexists (accAt m c (n + 1))
    isplitr
    · ipureintro
      exact (accAt_succ m c ⟨n + 1, hn⟩).symm
    isplitl [H]
    · iexact H
    iexact Hg

/-- What the body is called with at point `t` (Lib/Pipeline.lean `BodyObligation`'s precondition, the windows one by one), -/
def bodyPre (c : Dev nD) (t : Fin cfg0.N) : Pr F :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- and what it returns. -/
def bodyPost (c : Dev nD) (t : Fin cfg0.N) : Pr F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (cfg0.grid.coords t) = false from rfl, after_6]
theorem leaves_7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (cfg0.grid.coords t) = false from rfl, after_7]
theorem leaves_8 (c : Dev nD) (t : Fin cfg0.N) (s : Acc F) (hs : s = accAt m c (t.val + 1)) (o : Outs F) (d) (ho : o.1 = (dats m 0 c).before 8 t d) :
    owns (c : Thread nD τ) (win0_8.stage (cfg0.slots t 8)) fullShare (fin (grid0.coords t) s o).1 ⊢ (dats m 0 c).leavesExact 8 t := by
  subst hs
  by_cases h : isLast (grid0.coords t)
  · have h1 : cfg0.idle 8 (cfg0.grid.coords t) = false := by rw [idle8 t]; simpa using h
    unfold fin; rw [if_pos h]
    unfold Dat.leavesExact; rw [h1, after_8]
  · have h1 : cfg0.idle 8 (cfg0.grid.coords t) = true := by rw [idle8 t]; simpa using h
    have h2 : (cfg0.win 8).flush t = false := by
      rw [Bool.eq_false_iff]; intro hf; exact h ((last_iff t).mpr ((flush0_8 t).mp hf))
    rw [Dat.leavesExact_idle _ _ _ h1 h2]
    unfold fin; rw [if_neg h, ho]
    iintro H
    iexists d
    iexact H
theorem leaves_9 (c : Dev nD) (t : Fin cfg0.N) (s : Acc F) (hs : s = accAt m c (t.val + 1)) (o : Outs F) (d) (ho : o.2.1 = (dats m 0 c).before 9 t d) :
    owns (c : Thread nD τ) (win0_9.stage (cfg0.slots t 9)) fullShare (fin (grid0.coords t) s o).2.1 ⊢ (dats m 0 c).leavesExact 9 t := by
  subst hs
  by_cases h : isLast (grid0.coords t)
  · have h1 : cfg0.idle 9 (cfg0.grid.coords t) = false := by rw [idle9 t]; simpa using h
    unfold fin; rw [if_pos h]
    unfold Dat.leavesExact; rw [h1, after_9]
  · have h1 : cfg0.idle 9 (cfg0.grid.coords t) = true := by rw [idle9 t]; simpa using h
    have h2 : (cfg0.win 9).flush t = false := by
      rw [Bool.eq_false_iff]; intro hf; exact h ((last_iff t).mpr ((flush0_9 t).mp hf))
    rw [Dat.leavesExact_idle _ _ _ h1 h2]
    unfold fin; rw [if_neg h, ho]
    iintro H
    iexists d
    iexact H
theorem leaves_10 (c : Dev nD) (t : Fin cfg0.N) (s : Acc F) (hs : s = accAt m c (t.val + 1)) (o : Outs F) (d) (ho : o.2.2 = (dats m 0 c).before 10 t d) :
    owns (c : Thread nD τ) (win0_10.stage (cfg0.slots t 10)) fullShare (fin (grid0.coords t) s o).2.2 ⊢ (dats m 0 c).leavesExact 10 t := by
  subst hs
  by_cases h : isLast (grid0.coords t)
  · have h1 : cfg0.idle 10 (cfg0.grid.coords t) = false := by rw [idle10 t]; simpa using h
    unfold fin; rw [if_pos h]
    unfold Dat.leavesExact; rw [h1, after_10]
  · have h1 : cfg0.idle 10 (cfg0.grid.coords t) = true := by rw [idle10 t]; simpa using h
    have h2 : (cfg0.win 10).flush t = false := by
      rw [Bool.eq_false_iff]; intro hf; exact h ((last_iff t).mpr ((flush0_10 t).mp hf))
    rw [Dat.leavesExact_idle _ _ _ h1 h2]
    unfold fin; rw [if_neg h, ho]
    iintro H
    iexists d
    iexact H

set_option maxHeartbeats 1600000 in -- fourteen memrefs' assertions move through the body's triple in one context
/-- The body at any point: the inputs' memrefs hold their blocks, the accumulators what was carried (`Phi_in`); `trip_body` runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, leaves_0, leaves_1, leaves_2, leaves_3, leaves_4, leaves_5, leaves_6, leaves_7]
  rw [show (dats m 0 c).owesAt () t.succ = (dats m 0 c).owesAt () t.castSucc from rfl]
  rw [show (dats m 0 c).Φ t.succ = iprop((argsAt pt0).acc c (accAt m c (t.val + 1)) ∗ (∃ r, prngReg c r)) from rfl]
  rw [show (dats m 0 c).Φ t.castSucc = PhiS m c t.val from rfl]
  rw [show bodyAt0 (F := F) t = (argsAt t).run (grid0.coords t) from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HP := (Phi_in m c t) $$ HP
  icases HP with ⟨%s, %hs, HA, Hg⟩
  iapply (trip_body (argsAt t) (grid0.coords t) (blocksAt m c t) s ((dats m 0 c).before 8 t d8, (dats m 0 c).before 9 t d9, (dats m 0 c).before 10 t d10) _)
  unfold Args.ins Args.outs
  isplitl [H0 H1 H2 H3 H4 H5 H6 H7 H8 H9 H10 HA]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10]
    · isplitl [H8]; · iexact H8
      isplitl [H9]; · iexact H9
      iexact H10
    iexact HA
  iintro ⟨⟨H0, H1, H2, H3, H4, H5, H6, H7⟩, ⟨H8, H9, H10⟩, HA⟩
  isplitl [HA Hg]
  · rw [← hs]; isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves_8 m c t _ hs ((dats m 0 c).before 8 t d8, (dats m 0 c).before 9 t d9, (dats m 0 c).before 10 t d10) d8 rfl)
    iexact H8
  isplitl [H9]
  · iapply (leaves_9 m c t _ hs ((dats m 0 c).before 8 t d8, (dats m 0 c).before 9 t d9, (dats m 0 c).before 10 t d10) d9 rfl)
    iexact H9
  iapply (leaves_10 m c t _ hs ((dats m 0 c).before 8 t d8, (dats m 0 c).before 9 t d9, (dats m 0 c).before 10 t d10) d10 rfl)
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point; after the last the accumulators' values are forgotten. -/
theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  have h16 : cfg0.N = 15 + 1 := N_0
  rw [show (dats m 0 c).Φ (Fin.last cfg0.N) = PhiS m c cfg0.N from rfl, h16, PhiA_eq]
  show iprop((argsAt pt0).acc c (accAt m c (15 + 1)) ∗ (∃ r, prngReg c r)) ⊢ _
  unfold Args.acc
  iintro ⟨⟨H0, H1, H2⟩, Hg⟩
  isplitl [H0 H1 H2]
  · isplitl [H0]
    · iexists _; iexact H0
    isplitl [H1]
    · iexists _; iexact H1
    iexists _; iexact H2
  iexact Hg

-- the theorem's implicit arguments are found by unifying its conclusion with this one, which unfolds plain definitions in a type
set_option backward.isDefEq.respectTransparency.types false in
/-- THE RUN: every execution of @main terminates with the pipeline's arrays at what the proof data says, every other buffer as the
    region found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelKvIdeal.Kv
-- ==== Proof.KvSame.lean ====
module

public import proofs.«01_k».proof.Defs
public import proofs.«01_k».proof.Proof.KvFrame
public import proofs.«01_k».proof.Proof.Gen.KernelKv

/-! The kernel as printed and its idealized program have the same text, so one run serves both. -/

@[expose] public section

set_option maxRecDepth 16384
set_option maxHeartbeats 4000000 -- the body's forty parts and @main's ninety-eight operations are compared one by one

noncomputable section

namespace Cert.KernelKvIdeal.Kv

open Idealize.ShloMosaic Idealize.SL.Sem

variable {F : FTy → Type} [FloatOps F]

/-- The two body tables are the same. -/
theorem same_defs₀ : Cert.KernelKv.defs₀ (F := F) = Cert.KernelKvIdeal.defs₀ (F := F) := by
  unfold Cert.KernelKv.defs₀ Cert.KernelKvIdeal.defs₀
  refine congrArg _ (funext fun l => funext fun x => ?_)
  match l, x with
  | 0, (t, s) => rfl

/-- The two programs' definitions are the same, -/
theorem same_defs : Cert.KernelKv.defs (F := F) = Cert.KernelKvIdeal.defs (F := F) :=
  congrArg (Pipeline.defs Cert.KernelKv.pcfgs) same_defs₀

/-- and so are the two @main. -/
theorem same_main : Cert.KernelKv.main (F := F) = Cert.KernelKvIdeal.main (F := F) := by rfl

/-- The kernel's frame at the ideal instance is the run of `frame`. -/
theorem frame_ideal : Cert.quiescent_KernelKvIdeal := fun m ρ _ => frame (F := Ideal) m ρ

/-- The printed kernel's frame is the same run at the bit-exact instance. -/
theorem frame_bits : Cert.quiescent_KernelKv := fun m ρ _ => by
  have h := frame (F := Bits) m ρ
  rw [← same_main, ← same_defs] at h
  exact h

end Cert.KernelKvIdeal.Kv
-- ==== Proof.Real.lean ====
module
public import Idealize.ShloMosaic.PureOps.Ideal.Laws
public import Mathlib.Analysis.SpecialFunctions.Log.Basic

/-! Forgetting attention over the reals, and the float operations at real values. -/

@[expose] public section
noncomputable section
namespace Cert.Fox
open Idealize.ShloMosaic

/-- The logits' scale, the number its literal denotes. -/
def scale : ℝ := (Ideal.ofBits .f32 0x3DB504F3#32).toReal

theorem ofBits_scale : Ideal.ofBits .f32 0x3DB504F3#32 = (scale : EReal) := by
  have : ∃ r : ℝ, Ideal.ofBits .f32 0x3DB504F3#32 = (r : EReal) := by
    simp [Ideal.ofBits, Ideal.ieee, -EReal.coe_mul]
  obtain ⟨r, h⟩ := this
  rw [scale, h, EReal.toReal_coe]

theorem ofBits_bot : Ideal.ofBits .f32 0xFF800000#32 = ⊥ := by simp [Ideal.ofBits, Ideal.ieee]
theorem ofBits_one : Ideal.ofBits .f32 0x3F800000#32 = ((1 : ℝ) : EReal) := by
  simp [Ideal.ofBits, Ideal.ieee, -EReal.coe_mul]; norm_num

theorem coe_sum {ι : Type*} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

theorem log_real (x : ℝ) (h : 0 < x) : Ideal.log (x : EReal) = ((Real.log x : ℝ) : EReal) := by
  rw [Ideal.log_coe, if_neg (not_le.mpr h)]

/-- The exponential of a real less a real, masked to nothing where `p` fails. -/
theorem exp_masked (p : Prop) [Decidable p] (x y : ℝ) :
    Ideal.exp ((if p then (x : EReal) else ⊥) - (y : EReal)) = ((if p then Real.exp (x - y) else 0 : ℝ) : EReal) := by
  split_ifs
  · rw [← EReal.coe_sub, Ideal.exp_coe]
  · rw [EReal.bot_sub, Ideal.exp_bot, EReal.coe_zero]

/-- A sum in which only one summand is selected. -/
theorem sum_pick {n : ℕ} (h : Fin n) (hn : n ≤ 2 ^ 32) (w : BitVec 32) (hw : w = BitVec.ofNat 32 h.val) (v : Fin n → EReal) :
    ∑ x : Fin n, Scalar.select (IntOp.cmpi CmpIPredicate.eq (BitVec.ofNat 32 x.val) w) (v x) 0 = v h := by
  subst hw
  rw [Finset.sum_eq_single h]
  · simp [IntOp.cmpi, Scalar.select]
  · intro b _ hb
    have hne : ¬ (b.val : ℕ) % 2 ^ 32 = h.val % 2 ^ 32 := by
      rw [Nat.mod_eq_of_lt (by omega), Nat.mod_eq_of_lt (by omega)]
      exact fun e => hb (Fin.ext e)
    have : ¬ BitVec.ofNat 32 b.val = BitVec.ofNat 32 h.val := by
      intro e; apply hne; have := congrArg BitVec.toNat e; simpa using this
    have hb2 : (BitVec.ofNat 32 b.val == BitVec.ofNat 32 h.val) = false := beq_false_of_ne this
    simp [IntOp.cmpi, Scalar.select, hb2]
  · simp

/-- The causal comparison of two counters. -/
theorem select_le {α : Type} (a b : ℕ) (ha : a < 2 ^ 31) (hb : b < 2 ^ 31) (x y : α) :
    Scalar.select (IntOp.cmpi CmpIPredicate.sle (BitVec.ofNat 32 a) (BitVec.ofNat 32 b)) x y = if a ≤ b then x else y := by
  have h : (BitVec.ofNat 32 a).sle (BitVec.ofNat 32 b) = decide (a ≤ b) := by
    have ht : ∀ n : ℕ, n < 2 ^ 31 → (BitVec.ofNat 32 n).toInt = n := fun n hn => by
      have h1 : (BitVec.ofNat 32 n).toNat = n := by rw [BitVec.toNat_ofNat, Nat.mod_eq_of_lt (by omega)]
      rw [BitVec.toInt_eq_toNat_of_lt (by omega), h1]
    rw [BitVec.sle_eq_decide, ht a ha, ht b hb]
    simp
  by_cases hab : a ≤ b <;> simp [IntOp.cmpi, Scalar.select, h, hab]

variable (Q K V G : Fin 2048 → Fin 1024 → ℝ) (C : Fin 2048 → Fin 8 → ℝ)

/-- Head `h`'s column `d`. -/
def col (h : Fin 8) (d : Fin 128) : Fin 1024 := ⟨128 * h.val + d.val, by omega⟩

/-- The logits before the mask. -/
def score (h : Fin 8) (t u : Fin 2048) : ℝ := (∑ d, Q t (col h d) * K u (col h d)) * scale + C t h - C u h

/-- A row's exponentials below a number `M`: any real does. -/
def expo (M : Fin 8 → Fin 2048 → ℝ) (h : Fin 8) (t u : Fin 2048) : ℝ := if u ≤ t then Real.exp (score Q K C h t u - M h t) else 0

def total (M : Fin 8 → Fin 2048 → ℝ) (h : Fin 8) (t : Fin 2048) : ℝ := ∑ u, expo Q K C M h t u

theorem expo_nonneg (M) (h : Fin 8) (t u : Fin 2048) : 0 ≤ expo Q K C M h t u := by
  unfold expo; split_ifs <;> positivity

theorem total_pos (M) (h : Fin 8) (t : Fin 2048) : 0 < total Q K C M h t :=
  Finset.sum_pos' (fun u _ => expo_nonneg Q K C M h t u) ⟨t, Finset.mem_univ t, by simp [expo, Real.exp_pos]⟩

/-- The row's log-sum. -/
def lse (M : Fin 8 → Fin 2048 → ℝ) (h : Fin 8) (t : Fin 2048) : ℝ := M h t + Real.log (total Q K C M h t)

/-- The probabilities, as the kernel takes them: from the log-sum. -/
def pr (M : Fin 8 → Fin 2048 → ℝ) (h : Fin 8) (t u : Fin 2048) : ℝ :=
  if u ≤ t then Real.exp (score Q K C h t u - lse Q K C M h t) else 0

theorem pr_eq (M) (h : Fin 8) (t u : Fin 2048) : pr Q K C M h t u = expo Q K C M h t u / total Q K C M h t := by
  have hL := total_pos Q K C M h t
  unfold pr expo
  split_ifs
  · rw [lse, ← sub_sub, Real.exp_sub, Real.exp_log hL]
  · simp

theorem pr_sum (M) (h : Fin 8) (t : Fin 2048) : ∑ u, pr Q K C M h t u = 1 := by
  simp only [pr_eq]
  rw [← Finset.sum_div]
  exact div_self (total_pos Q K C M h t).ne'

/-- The probabilities' gradient. -/
def dpr (h : Fin 8) (t u : Fin 2048) : ℝ := ∑ d, G t (col h d) * V u (col h d)

/-- The output, and its product with its gradient summed over the head's columns. -/
def outp (M : Fin 8 → Fin 2048 → ℝ) (h : Fin 8) (t : Fin 2048) (d : Fin 128) : ℝ := ∑ u, pr Q K C M h t u * V u (col h d)
def delta (M : Fin 8 → Fin 2048 → ℝ) (h : Fin 8) (t : Fin 2048) : ℝ := ∑ d, G t (col h d) * outp Q K V C M h t d

theorem delta_eq (M) (h : Fin 8) (t : Fin 2048) : delta Q K V G C M h t = ∑ u, dpr V G h t u * pr Q K C M h t u := by
  simp only [delta, outp, dpr, Finset.mul_sum, Finset.sum_mul]
  rw [Finset.sum_comm]
  exact Finset.sum_congr rfl fun u _ => Finset.sum_congr rfl fun d _ => by ring

/-- The logits' gradient. -/
def ds (M : Fin 8 → Fin 2048 → ℝ) (h : Fin 8) (t u : Fin 2048) : ℝ :=
  pr Q K C M h t u * (dpr V G h t u - delta Q K V G C M h t)

theorem ds_row (M) (h : Fin 8) (t : Fin 2048) : ∑ u, ds Q K V G C M h t u = 0 := by
  simp only [ds, mul_sub, Finset.sum_sub_distrib, ← Finset.sum_mul, pr_sum, delta_eq, one_mul]
  rw [sub_eq_zero]
  exact Finset.sum_congr rfl fun u _ => mul_comm _ _

theorem pr_above (M) (h : Fin 8) {t u : Fin 2048} (ht : t < u) : pr Q K C M h t u = 0 := by
  rw [pr, if_neg (not_le.mpr ht)]

theorem ds_above (M) (h : Fin 8) {t u : Fin 2048} (ht : t < u) : ds Q K V G C M h t u = 0 := by
  rw [ds, pr_above _ _ _ _ _ ht, zero_mul]

end Cert.Fox
-- ==== Proof.KvFinite.lean ====
module

public import proofs.«01_k».proof.Pre_finite
public import proofs.«01_k».proof.Proof.Real
public import Idealize.ShloMosaic.Lib.ReduceAll
public import Idealize.ShloMosaic.Lib.Pointwise

/-! The precondition: finite arguments hold reals. -/

@[expose] public section
set_option maxRecDepth 16384
noncomputable section
namespace Cert.Pre_finite
open Idealize.ShloMosaic

/-- The predicate's shape relations. -/
instance facts : Facts where
  bcast_S_S2048x1024 := by decide
  reducesTo_S2048x1024_S_d0_1 := by decide
  h_S_ := by decide
  bcast_S_S2048x8 := by decide
  reducesTo_S2048x8_S_d0_1 := by decide
open Facts

theorem both {a b : BitVec 1} (h : IntOp.andi a b = 1#1) : a = 1#1 ∧ b = 1#1 := by revert a b; decide

theorem ofBits_top : Ideal.ofBits .f32 0x7F800000#32 = ⊤ := by simp [Ideal.ofBits, Ideal.ieee]

/-- An extended real whose absolute value is below infinity is a real. -/
theorem real_of_abs {x : EReal} (h : max x (-x) < ⊤) : ∃ r : ℝ, x = (r : EReal) := by
  induction x with
  | bot => simp at h
  | top => simp at h
  | coe r => exact ⟨r, rfl⟩

/-- An array whose every absolute value is below infinity holds reals. -/
theorem real_of_all {s : Shape} {axes} (x : FVec Ideal s .f32) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) :
    ∃ r : ℝ, x i = (r : EReal) := by
  have h1 := Host.reduce_andi_all _ _ _ _ j h i
  have h2 : BitVec.ofBool (decide (max (x i) (-(x i)) < Ideal.ofBits .f32 0x7F800000#32)) = 1#1 := h1
  rw [ofBits_top] at h2
  refine real_of_abs ?_
  by_contra hn
  rw [decide_eq_false hn] at h2
  exact absurd h2 (by decide)

/-- So do the five arguments. -/
theorem real_of_fn {q k v g : FVec Ideal S2048x1024 .f32} {c : FVec Ideal S2048x8 .f32} (h : fn (F := Ideal) q k v c g = fun _ => 1#1) :
    (∀ i, ∃ r : ℝ, q i = (r : EReal)) ∧ (∀ i, ∃ r : ℝ, k i = (r : EReal)) ∧ (∀ i, ∃ r : ℝ, v i = (r : EReal)) ∧ (∀ i, ∃ r : ℝ, c i = (r : EReal)) ∧ (∀ i, ∃ r : ℝ, g i = (r : EReal)) := by
  have h0 := congrFun h (Shape.Idx.first h_S_)
  obtain ⟨h1, hg⟩ := both h0
  obtain ⟨h2, hc⟩ := both h1
  obtain ⟨h3, hv⟩ := both h2
  obtain ⟨hq, hk⟩ := both h3
  exact ⟨real_of_all q _ _ _ _ hq, real_of_all k _ _ _ _ hk, real_of_all v _ _ _ _ hv, real_of_all c _ _ _ _ hc, real_of_all g _ _ _ _ hg⟩

end Cert.Pre_finite
-- ==== Proof.Softmax.lean ====
module
public import proofs.«01_k».proof.Proof.Gen.KernelKvIdeal
public import proofs.«01_k».proof.Proof.Real
public import Idealize.ShloMosaic.Lib.Pointwise

/-! The host's lines of the attention's softmax, read at an index where the arguments are reals. -/

@[expose] public section
noncomputable section
namespace Cert.Fox
open Idealize.ShloMosaic Idealize.ShloMosaic.TcCoe Cert.KernelKvIdeal Cert.KernelKvIdeal.Gen

variable {F : FTy → Type} [FloatOps F]

/-- The heads of a matrix. -/
def hd (a : FVec F S2048x1024 .f32) : FVec F S8x2048x128 .f32 :=
  transpose S8x2048x128 [1, 0, 2] (shapeCast S2048x8x128 a shapeCasts_S2048x1024_S2048x8x128) transposes_S2048x8x128_S8x2048x128_1_0_2

/-- Row values as a column. -/
def colV (a : FVec F S8x2048 .f32) : FVec F S8x2048x1 .f32 := broadcastInDim S8x2048x1 ![0, 1] bcast_S8x2048_S8x2048x1_0_1 a

/-- A column over the row. -/
def wide (a : FVec F S8x2048x1 .f32) : FVec F S8x2048x2048 .f32 := broadcastInDim S8x2048x2048 ![0, 1, 2] bcast_S8x2048x1_S8x2048x2048_0_1_2 a

/-- The causal mask over the heads. -/
def maskV : IVec S8x2048x2048 1 :=
  broadcastInDim S8x2048x2048 ![1, 2] bcast_S2048x2048_S8x2048x2048_1_2 (cmpi .sle
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))

/-- The masked logits. -/
def logitsV (q k : FVec F S2048x1024 .f32) (c : FVec F S2048x8 .f32) : FVec F S8x2048x2048 .f32 :=
  select maskV
    (subf (addf (mulf (Host.dotGeneral dot_S8x2048x128_S8x2048x128_S8x2048x2048_2_2_1_1_0_0 none (hd q) (hd k))
        (broadcastInDim S8x2048x2048 ![] bcast_S_S8x2048x2048 (constant S_ .f32 0x3DB504F3#32)))
      (wide (colV (transpose S8x2048 [1, 0] c transposes_S2048x8_S8x2048_1_0))))
      (broadcastInDim S8x2048x2048 ![0, 1, 2] bcast_S8x1x2048_S8x2048x2048_0_1_2 (broadcastInDim S8x1x2048 ![0, 2] bcast_S8x2048_S8x1x2048_0_2
        (transpose S8x2048 [1, 0] c transposes_S2048x8_S8x2048_1_0))))
    (broadcastInDim S8x2048x2048 ![] bcast_S_S8x2048x2048 (id (constant S_ .f32 0xFF800000#32)))

/-- A row's greatest logit, and that with the least number. -/
def rowMax (s : FVec F S8x2048x2048 .f32) : FVec F S8x2048 .f32 :=
  Host.reduce FloatOps.maximumf s (constant S_ .f32 0xFF800000#32) reducesTo_S8x2048x2048_S8x2048_d2 h_S_
def rowMax' (s : FVec F S8x2048x2048 .f32) : FVec F S8x2048 .f32 :=
  maximumf (broadcastInDim S8x2048 ![] bcast_S_S8x2048 (constant S_ .f32 0xFF800000#32)) (rowMax s)

/-- A row's exponentials below `m`, their sum, the row divided by it. -/
def expV (s : FVec F S8x2048x2048 .f32) (m : FVec F S8x2048 .f32) : FVec F S8x2048x2048 .f32 := Host.exp (subf s (wide (colV m)))
def sumV (e : FVec F S8x2048x2048 .f32) : FVec F S8x2048 .f32 :=
  Host.reduceAdd e (constant S_ .f32 0x00000000#32) reducesTo_S8x2048x2048_S8x2048_d2 h_S_
def probV (e : FVec F S8x2048x2048 .f32) : FVec F S8x2048x2048 .f32 := Host.divf e (wide (colV (sumV e)))

/-- The rows' log-sums in 128 lanes. -/
def lseV (s : FVec F S8x2048x2048 .f32) : FVec F S8x2048x128 .f32 :=
  broadcastInDim S8x2048x128 ![0, 1, 2] bcast_S8x2048x1_S8x2048x128_0_1_2 (addf (colV (rowMax s)) (Host.log (colV (sumV (expV s (rowMax s))))))

/-- The attention's output. -/
def outV (p : FVec F S8x2048x2048 .f32) (v : FVec F S2048x1024 .f32) : FVec F S2048x1024 .f32 :=
  shapeCast S2048x1024 (transpose S2048x8x128 [1, 0, 2] (Host.dotGeneral dot_S8x2048x2048_S8x2048x128_S8x2048x128_2_1_1_2_0_0 none p (hd v))
    transposes_S8x2048x128_S2048x8x128_1_0_2) shapeCasts_S2048x8x128_S2048x1024

/-- The rows' sums of the output times its gradient, in 128 lanes. -/
def deltaV (g o : FVec F S2048x1024 .f32) : FVec F S8x2048x128 .f32 :=
  broadcastInDim S8x2048x128 ![0, 1, 2] bcast_S8x2048x1_S8x2048x128_0_1_2 (colV
    (Host.reduceAdd (mulf (hd g) (hd o)) (constant S_ .f32 0x00000000#32) reducesTo_S8x2048x128_S8x2048_d2 h_S_))

theorem hd_apply (a : FVec Ideal S2048x1024 .f32) (h : Fin 8) (t : Fin 2048) (d : Fin 128) : hd a (ix3 h t d) = a (ix2 t (col h d)) := by
  pointwise [hd]
  congr 2
  apply Fin.ext
  show h.val * 128 + d.val = 128 * h.val + d.val
  omega

theorem mask_apply {α : Type} (h : Fin 8) (t u : Fin 2048) (x y : α) : Scalar.select (maskV (ix3 h t u)) x y = if u ≤ t then x else y := by
  pointwise [maskV]
  exact select_le _ _ (by omega) (by omega) x y

variable {q k v g : FVec Ideal S2048x1024 .f32} {c : FVec Ideal S2048x8 .f32}
variable {Q K V G : Fin 2048 → Fin 1024 → ℝ} {C : Fin 2048 → Fin 8 → ℝ}

theorem logits_apply (hq : ∀ t e, q (ix2 t e) = (Q t e : EReal)) (hk : ∀ t e, k (ix2 t e) = (K t e : EReal)) (hc : ∀ t h, c (ix2 t h) = (C t h : EReal))
    (h : Fin 8) (t u : Fin 2048) : logitsV q k c (ix3 h t u) = if u ≤ t then ((score Q K C h t u : ℝ) : EReal) else ⊥ := by
  pointwise [logitsV, dot_S8x2048x128_S8x2048x128_S8x2048x2048_2_2_1_1_0_0, wide, colV]
  rw [mask_apply]
  refine congrArg₂ (fun x y : EReal => if u ≤ t then x else y) ?_ ofBits_bot
  simp only [hd_apply, hq, hk, hc, ofBits_scale, ← EReal.coe_mul, coe_sum, ← EReal.coe_add, ← EReal.coe_sub]
  rfl

theorem fold_real {n : ℕ} (f : Fin n → EReal) (hf : ∀ i, f i ≠ ⊤) (i : Fin n) (hi : f i ≠ ⊥) :
    ∃ r : ℝ, (Finset.univ : Finset (Fin n)).fold max ⊥ f = (r : EReal) := by
  have h1 : (Finset.univ : Finset (Fin n)).fold max ⊥ f < ⊤ :=
    (Finset.fold_max_lt _).mpr ⟨bot_lt_top, fun x _ => lt_top_iff_ne_top.mpr (hf x)⟩
  have h2 : f i ≤ (Finset.univ : Finset (Fin n)).fold max ⊥ f := (Finset.le_fold_max _).mpr (.inr ⟨i, Finset.mem_univ i, le_rfl⟩)
  exact ⟨_, (EReal.coe_toReal h1.ne (fun e => hi (le_bot_iff.mp (e ▸ h2)))).symm⟩

theorem reduceMax_apply {n0 n1 n2 : ℕ} {u : Shape} (x : FVec Ideal ⟨3, ![n0, n1, n2]⟩ .f32) (init : u.Idx → Ideal .f32)
    (hr : (⟨3, ![n0, n1, n2]⟩ : Shape).ReducesTo [2] ⟨2, ![n0, n1]⟩) (hu : 0 < u.numel) (a : Fin n0) (b : Fin n1) :
    Host.reduce FloatOps.maximumf x init hr hu (ix2 a b)
      = (Finset.univ : Finset (Fin n2)).fold max (init (Shape.Idx.first hu)) (fun k => x (ix3 a b k)) := by
  rw [Host.reduce_eq_fold (FloatOps.maximumf (F := Ideal) (φ := .f32)) x init hr hu, Shape.ReducesTo.fold_fiber_r3_a2]
  rfl

theorem rowMax_fold (s : FVec Ideal S8x2048x2048 .f32) (h : Fin 8) (t : Fin 2048) :
    rowMax s (ix2 h t) = (Finset.univ : Finset (Fin 2048)).fold max (Ideal.ofBits .f32 0xFF800000#32) (fun u => s (ix3 h t u)) :=
  reduceMax_apply s (constant S_ .f32 0xFF800000#32) reducesTo_S8x2048x2048_S8x2048_d2 h_S_ h t

theorem logits_ne_top (hq : ∀ t e, q (ix2 t e) = (Q t e : EReal)) (hk : ∀ t e, k (ix2 t e) = (K t e : EReal)) (hc : ∀ t h, c (ix2 t h) = (C t h : EReal))
    (h : Fin 8) (t u : Fin 2048) : logitsV q k c (ix3 h t u) ≠ ⊤ := by
  rw [logits_apply hq hk hc]
  split_ifs
  · exact EReal.coe_ne_top _
  · exact bot_ne_top

theorem logits_ne_bot (hq : ∀ t e, q (ix2 t e) = (Q t e : EReal)) (hk : ∀ t e, k (ix2 t e) = (K t e : EReal)) (hc : ∀ t h, c (ix2 t h) = (C t h : EReal))
    (h : Fin 8) (t : Fin 2048) : logitsV q k c (ix3 h t t) ≠ ⊥ := by
  rw [logits_apply hq hk hc, if_pos le_rfl]
  exact EReal.coe_ne_bot _

theorem rowMax_real (hq : ∀ t e, q (ix2 t e) = (Q t e : EReal)) (hk : ∀ t e, k (ix2 t e) = (K t e : EReal)) (hc : ∀ t h, c (ix2 t h) = (C t h : EReal))
    (h : Fin 8) (t : Fin 2048) : ∃ r : ℝ, rowMax (logitsV q k c) (ix2 h t) = (r : EReal) := by
  obtain ⟨r, hr⟩ := fold_real (fun u => logitsV q k c (ix3 h t u)) (logits_ne_top hq hk hc h t) t (logits_ne_bot hq hk hc h t)
  exact ⟨r, (rowMax_fold (logitsV q k c) h t).trans ((congrArg (fun b => (Finset.univ : Finset (Fin 2048)).fold max b (fun u => logitsV q k c (ix3 h t u))) ofBits_bot).trans hr)⟩

theorem max_bot_apply (r : FVec Ideal S8x2048 .f32) (h : Fin 8) (t : Fin 2048) :
    maximumf (broadcastInDim S8x2048 ![] bcast_S_S8x2048 (constant S_ .f32 0xFF800000#32)) r (ix2 h t) = r (ix2 h t) := by
  pointwise
  rw [ofBits_bot]
  exact max_eq_right bot_le

theorem rowMax'_apply (s : FVec Ideal S8x2048x2048 .f32) (h : Fin 8) (t : Fin 2048) : rowMax' s (ix2 h t) = rowMax s (ix2 h t) :=
  max_bot_apply (rowMax s) h t

theorem rowMax_apply (hq : ∀ t e, q (ix2 t e) = (Q t e : EReal)) (hk : ∀ t e, k (ix2 t e) = (K t e : EReal)) (hc : ∀ t h, c (ix2 t h) = (C t h : EReal)) :
    ∃ M : Fin 8 → Fin 2048 → ℝ, (∀ h t, rowMax (logitsV q k c) (ix2 h t) = (M h t : EReal)) ∧ ∀ h t, rowMax' (logitsV q k c) (ix2 h t) = (M h t : EReal) :=
  ⟨fun h t => (rowMax_real hq hk hc h t).choose, fun h t => (rowMax_real hq hk hc h t).choose_spec,
    fun h t => (rowMax'_apply _ h t).trans (rowMax_real hq hk hc h t).choose_spec⟩

section
variable {s : FVec Ideal S8x2048x2048 .f32} {m : FVec Ideal S8x2048 .f32} {M : Fin 8 → Fin 2048 → ℝ}

theorem exp_apply (hs : ∀ h t u, s (ix3 h t u) = if u ≤ t then ((score Q K C h t u : ℝ) : EReal) else ⊥) (hm : ∀ h t, m (ix2 h t) = (M h t : EReal))
    (h : Fin 8) (t u : Fin 2048) : expV s m (ix3 h t u) = ((expo Q K C M h t u : ℝ) : EReal) := by
  pointwise [expV, wide, colV]
  rw [hs, hm, exp_masked]
  rfl

theorem sum_apply {e : FVec Ideal S8x2048x2048 .f32} {E : Fin 8 → Fin 2048 → Fin 2048 → ℝ} (he : ∀ h t u, e (ix3 h t u) = (E h t u : EReal))
    (h : Fin 8) (t : Fin 2048) : sumV e (ix2 h t) = ((∑ u, E h t u : ℝ) : EReal) := by
  pointwise [sumV]
  simp only [he, coe_sum]

theorem prob_apply {e : FVec Ideal S8x2048x2048 .f32} (he : ∀ h t u, e (ix3 h t u) = ((expo Q K C M h t u : ℝ) : EReal))
    (h : Fin 8) (t u : Fin 2048) : probV e (ix3 h t u) = ((pr Q K C M h t u : ℝ) : EReal) := by
  have h1 : sumV e (ix2 h t) = ((total Q K C M h t : ℝ) : EReal) := sum_apply he h t
  pointwise [probV, wide, colV]
  rw [he, h1, div_real _ _ (total_pos Q K C M h t).ne', pr_eq]

theorem lane_log_apply (r l : FVec Ideal S8x2048 .f32) (h : Fin 8) (t : Fin 2048) (d : Fin 128) :
    broadcastInDim S8x2048x128 ![0, 1, 2] bcast_S8x2048x1_S8x2048x128_0_1_2 (addf (colV r) (Host.log (colV l))) (ix3 h t d)
      = r (ix2 h t) + Ideal.log (l (ix2 h t)) := by
  pointwise [colV]

theorem lse_apply (hs : ∀ h t u, s (ix3 h t u) = if u ≤ t then ((score Q K C h t u : ℝ) : EReal) else ⊥) (hm : ∀ h t, rowMax s (ix2 h t) = (M h t : EReal))
    (h : Fin 8) (t : Fin 2048) (d : Fin 128) : lseV s (ix3 h t d) = ((lse Q K C M h t : ℝ) : EReal) := by
  have h1 : sumV (expV s (rowMax s)) (ix2 h t) = ((total Q K C M h t : ℝ) : EReal) := sum_apply (exp_apply hs hm) h t
  refine (lane_log_apply (rowMax s) (sumV (expV s (rowMax s))) h t d).trans ?_
  rw [h1, hm, log_real _ (total_pos Q K C M h t), ← EReal.coe_add, lse]
end

theorem out_apply {p : FVec Ideal S8x2048x2048 .f32} {M : Fin 8 → Fin 2048 → ℝ} (hp : ∀ h t u, p (ix3 h t u) = ((pr Q K C M h t u : ℝ) : EReal))
    (hv : ∀ t e, v (ix2 t e) = (V t e : EReal)) (h : Fin 8) (t : Fin 2048) (d : Fin 128) :
    hd (outV p v) (ix3 h t d) = ((outp Q K V C M h t d : ℝ) : EReal) := by
  pointwise [outV, hd, dot_S8x2048x2048_S8x2048x128_S8x2048x128_2_1_1_2_0_0]
  simp only [hp, hv, ← EReal.coe_mul, coe_sum, outp]
  refine congrArg (fun r : ℝ => (r : EReal)) (Finset.sum_congr rfl fun u _ => congrArg (fun e => _ * V u e) (Fin.ext ?_))
  show h.val * 128 + d.val = 128 * h.val + d.val
  omega

theorem delta_apply {o : FVec Ideal S2048x1024 .f32} {M : Fin 8 → Fin 2048 → ℝ} (ho : ∀ h t d, hd o (ix3 h t d) = ((outp Q K V C M h t d : ℝ) : EReal))
    (hg : ∀ t e, g (ix2 t e) = (G t e : EReal)) (h : Fin 8) (t : Fin 2048) (d : Fin 128) :
    deltaV g o (ix3 h t d) = ((delta Q K V G C M h t : ℝ) : EReal) := by
  pointwise [deltaV, colV]
  simp only [ho, hd_apply, hg, ← EReal.coe_mul, coe_sum]
  rfl

end Cert.Fox
-- ==== Proof.KvRef.lean ====
module

public import proofs.«01_k».proof.Proof.Softmax
public import proofs.«01_k».proof.Proof.Gen.ReferenceKvIdeal.Run

/-! The reference's three results: named line by line, and read at an index where the arguments are reals. -/

@[expose] public section
set_option maxRecDepth 16384
noncomputable section
namespace Cert.ReferenceKvIdeal.Kv
open Idealize.ShloMosaic Idealize.ShloMosaic.TcCoe Cert.ReferenceKvIdeal Cert.ReferenceKvIdeal.Gen Cert.Fox

section
variable {F : FTy → Type} [FloatOps F]

/-- The probabilities' gradient. -/
def dprV (g v : FVec F S2048x1024 .f32) : FVec F S8x2048x2048 .f32 :=
  Host.dotGeneral dot_S8x2048x128_S8x2048x128_S8x2048x2048_2_2_1_1_0_0 none (hd g) (hd v)

/-- The square of the rows' sums, inverted. -/
def invSq (l : FVec F S8x2048 .f32) : FVec F S8x2048x1 .f32 :=
  Host.divf (broadcastInDim S8x2048x1 ![] bcast_S_S8x2048x1 (constant S_ .f32 0x3F800000#32)) (mulf (colV l) (colV l))

/-- What the quotient's denominator passes back to a row: minus the row's sum of `p · e` over the squared sum. -/
def rowV (p e : FVec F S8x2048x2048 .f32) : FVec F S8x2048 .f32 :=
  Host.reduceAdd (Host.negf (shapeCast S8x2048x1 (Host.reduceAdd (mulf (mulf p (wide (invSq (sumV e)))) e) (constant S_ .f32 0x00000000#32) reducesTo_S8x2048x2048_S8x2048_d2 h_S_)
    shapeCasts_S8x2048_S8x2048x1)) (constant S_ .f32 0x00000000#32) reducesTo_S8x2048x1_S8x2048_d2 h_S_

/-- The logits' gradient. -/
def dsV (p e : FVec F S8x2048x2048 .f32) : FVec F S8x2048x2048 .f32 :=
  select maskV (mulf (addf (Host.divf p (wide (colV (sumV e)))) (broadcastInDim S8x2048x2048 ![0, 1] bcast_S8x2048_S8x2048x2048_0_1 (rowV p e))) e)
    (broadcastInDim S8x2048x2048 ![] bcast_S_S8x2048x2048 (constant S_ .f32 0x00000000#32))

/-- The gradients of the keys, the values and the gates. -/
def dkV (s : FVec F S8x2048x2048 .f32) (q : FVec F S2048x1024 .f32) : FVec F S2048x1024 .f32 :=
  shapeCast S2048x1024 (transpose S2048x8x128 [1, 0, 2] (Host.dotGeneral dot_S8x2048x2048_S8x2048x128_S8x2048x128_1_1_2_2_0_0 none
    (mulf s (broadcastInDim S8x2048x2048 ![] bcast_S_S8x2048x2048 (constant S_ .f32 0x3DB504F3#32))) (hd q)) transposes_S8x2048x128_S2048x8x128_1_0_2) shapeCasts_S2048x8x128_S2048x1024
def dvV (g : FVec F S2048x1024 .f32) (p : FVec F S8x2048x2048 .f32) : FVec F S2048x1024 .bf16 :=
  truncf .bf16 (shapeCast S2048x1024 (transpose S2048x8x128 [1, 0, 2] (transpose S8x2048x128 [0, 2, 1]
    (Host.dotGeneral dot_S8x2048x128_S8x2048x2048_S8x128x2048_1_1_2_2_0_0 none (hd g) p) transposes_S8x128x2048_S8x2048x128_0_2_1) transposes_S8x2048x128_S2048x8x128_1_0_2)
    shapeCasts_S2048x8x128_S2048x1024) bitsLt_bf16_f32
def dcV (s : FVec F S8x2048x2048 .f32) : FVec F S8x1x2048 .f32 :=
  shapeCast S8x1x2048 (transpose S8x2048 [1, 0] (transpose S2048x8 [1, 0] (addf
    (Host.reduceAdd (shapeCast S8x1x2048 (Host.reduceAdd (Host.negf s) (constant S_ .f32 0x00000000#32) reducesTo_S8x2048x2048_S8x2048_d1 h_S_) shapeCasts_S8x2048_S8x1x2048)
      (constant S_ .f32 0x00000000#32) reducesTo_S8x1x2048_S8x2048_d1 h_S_)
    (Host.reduceAdd (shapeCast S8x2048x1 (Host.reduceAdd s (constant S_ .f32 0x00000000#32) reducesTo_S8x2048x2048_S8x2048_d2 h_S_) shapeCasts_S8x2048_S8x2048x1)
      (constant S_ .f32 0x00000000#32) reducesTo_S8x2048x1_S8x2048_d2 h_S_)) transposes_S8x2048_S2048x8_1_0) transposes_S2048x8_S8x2048_1_0) shapeCasts_S8x2048_S8x1x2048
end

variable {q k v g : FVec Ideal S2048x1024 .f32} {c : FVec Ideal S2048x8 .f32} {e p s : FVec Ideal S8x2048x2048 .f32}
variable {Q K V G : Fin 2048 → Fin 1024 → ℝ} {C : Fin 2048 → Fin 8 → ℝ} {M : Fin 8 → Fin 2048 → ℝ}

theorem head_of (h : Fin 8) (d : Fin 128) : (⟨(col h d).val / 128, by omega⟩ : Fin 8) = h := Fin.ext (by show (128 * h.val + d.val) / 128 = h.val; omega)
theorem lane_of (h : Fin 8) (d : Fin 128) : (⟨(col h d).val % 128, Nat.mod_lt _ (by norm_num)⟩ : Fin 128) = d := Fin.ext (by show (128 * h.val + d.val) % 128 = d.val; omega)

theorem dpr_apply (hg : ∀ t e, g (ix2 t e) = (G t e : EReal)) (hv : ∀ t e, v (ix2 t e) = (V t e : EReal)) (h : Fin 8) (t u : Fin 2048) :
    dprV g v (ix3 h t u) = ((dpr V G h t u : ℝ) : EReal) := by
  pointwise [dprV, dot_S8x2048x128_S8x2048x128_S8x2048x2048_2_2_1_1_0_0]
  simp only [hd_apply, hg, hv, ← EReal.coe_mul, coe_sum]
  rfl

theorem invSq_apply {l : FVec Ideal S8x2048 .f32} {x : ℝ} (h : Fin 8) (t : Fin 2048) (hl : l (ix2 h t) = (x : EReal)) (hx : x ≠ 0) :
    invSq l (ix3 h t 0) = ((1 / (x * x) : ℝ) : EReal) := by
  pointwise [invSq, colV]
  rw [hl, show (1 : EReal) = ((1 : ℝ) : EReal) from rfl, ← EReal.coe_mul, div_real _ _ (mul_ne_zero hx hx)]

variable (he : ∀ h t u, e (ix3 h t u) = ((expo Q K C M h t u : ℝ) : EReal)) (hp : ∀ h t u, p (ix3 h t u) = ((dpr V G h t u : ℝ) : EReal))
include he hp

theorem row_apply (h : Fin 8) (t : Fin 2048) : rowV p e (ix2 h t) = ((-(delta Q K V G C M h t / total Q K C M h t) : ℝ) : EReal) := by
  have h1 : sumV e (ix2 h t) = ((total Q K C M h t : ℝ) : EReal) := sum_apply he h t
  have h2 := invSq_apply h t h1 (total_pos Q K C M h t).ne'
  pointwise [rowV, wide]
  simp only [h2, hp, he, ← EReal.coe_mul, coe_sum, ← EReal.coe_neg]
  refine congrArg (fun r : ℝ => (r : EReal)) ?_
  have h3 := (total_pos Q K C M h t).ne'
  rw [Fin.sum_univ_one, delta_eq, Finset.sum_div]
  refine congrArg Neg.neg (Finset.sum_congr rfl fun u _ => ?_)
  rw [pr_eq]
  field_simp

theorem ds_apply (h : Fin 8) (t u : Fin 2048) : dsV p e (ix3 h t u) = ((ds Q K V G C M h t u : ℝ) : EReal) := by
  have h1 : sumV e (ix2 h t) = ((total Q K C M h t : ℝ) : EReal) := sum_apply he h t
  have h2 := row_apply he hp h t
  have h3 := total_pos Q K C M h t
  pointwise [dsV, wide, colV]
  rw [mask_apply, h1, h2, hp, he, div_real _ _ h3.ne', ← EReal.coe_add, ← EReal.coe_mul]
  unfold ds
  rw [pr_eq]
  unfold expo
  split_ifs
  · refine congrArg (fun r : ℝ => (r : EReal)) ?_
    field_simp
    rw [sub_eq_add_neg]
  · rw [zero_div, zero_mul, EReal.coe_zero]

omit he hp
variable (hs : ∀ h t u, s (ix3 h t u) = ((ds Q K V G C M h t u : ℝ) : EReal))
include hs

/-- The gradients of keys, values and gates, entry by entry. -/
theorem dk_apply (hq : ∀ t e, q (ix2 t e) = (Q t e : EReal)) (h : Fin 8) (u : Fin 2048) (d : Fin 128) :
    dkV s q (ix2 u (col h d)) = (((∑ t, ds Q K V G C M h t u * Q t (col h d)) * scale : ℝ) : EReal) := by
  pointwise [dkV, dot_S8x2048x2048_S8x2048x128_S8x2048x128_1_1_2_2_0_0]
  simp only [hd_apply, hs, hq, ofBits_scale, ← EReal.coe_mul, coe_sum]
  refine congrArg (fun r : ℝ => (r : EReal)) ?_
  rw [Finset.sum_mul]
  refine Finset.sum_congr rfl fun t _ => ?_
  rw [head_of h d, lane_of h d, mul_right_comm]

theorem dc_apply (h : Fin 8) (u : Fin 2048) : dcV s (ix3 h 0 u) = ((-∑ t, ds Q K V G C M h t u : ℝ) : EReal) := by
  pointwise [dcV]
  simp only [hs, ← EReal.coe_neg, coe_sum, ← EReal.coe_add]
  refine congrArg (fun r : ℝ => (r : EReal)) ?_
  rw [Fin.sum_univ_one, Fin.sum_univ_one, ds_row, add_zero, Finset.sum_neg_distrib]

omit hs
theorem dv_apply (hg : ∀ t e, g (ix2 t e) = (G t e : EReal)) (hp : ∀ h t u, p (ix3 h t u) = ((pr Q K C M h t u : ℝ) : EReal)) (h : Fin 8) (u : Fin 2048) (d : Fin 128) :
    dvV g p (ix2 u (col h d)) = ((∑ t, pr Q K C M h t u * G t (col h d) : ℝ) : EReal) := by
  pointwise [dvV, dot_S8x2048x128_S8x2048x2048_S8x128x2048_1_1_2_2_0_0]
  simp only [hd_apply, hp, hg, ← EReal.coe_mul, coe_sum]
  refine congrArg (fun r : ℝ => (r : EReal)) (Finset.sum_congr rfl fun t _ => ?_)
  rw [head_of h d, lane_of h d, mul_comm]

variable (m : (ℓ : Loc nD τ sig) → Buf (Elt Ideal) ℓ) (c : Dev nD)
def argQ : FVec Ideal S2048x1024 .f32 := m ((c.tc : Thread nD τ).loc main_arg0)
def argK : FVec Ideal S2048x1024 .f32 := m ((c.tc : Thread nD τ).loc main_arg1)
def argV : FVec Ideal S2048x1024 .f32 := m ((c.tc : Thread nD τ).loc main_arg2)
def argC : FVec Ideal S2048x8 .f32 := m ((c.tc : Thread nD τ).loc main_arg3)
def argG : FVec Ideal S2048x1024 .f32 := m ((c.tc : Thread nD τ).loc main_arg4)
def expR (q k : FVec Ideal S2048x1024 .f32) (c : FVec Ideal S2048x8 .f32) : FVec Ideal S8x2048x2048 .f32 := expV (logitsV q k c) (rowMax' (logitsV q k c))

/-- The reference's results are those. -/
theorem res_k : Value.res_main_v89 m c = dkV (dsV (dprV (argG m c) (argV m c)) (expR (argQ m c) (argK m c) (argC m c))) (argQ m c) := rfl
theorem res_v : Value.res_main_v92 m c = dvV (argG m c) (probV (expR (argQ m c) (argK m c) (argC m c))) := rfl
theorem res_c : Value.res_main_v94 m c = dcV (dsV (dprV (argG m c) (argV m c)) (expR (argQ m c) (argK m c) (argC m c))) := rfl

end Cert.ReferenceKvIdeal.Kv
-- ==== Proof.Tile.lean ====
module
public import proofs.«01_k».proof.Proof.Head
public import proofs.«01_k».proof.Proof.Real
public import Idealize.ShloMosaic.Lib.Pointwise

/-! A tile's operations read at an index, the loaded values being reals. -/

@[expose] public section
noncomputable section
namespace Cert.Fox
open Idealize.ShloMosaic Idealize.ShloMosaic.TcCoe Cert.KernelKvIdeal Cert.KernelKvIdeal.Gen

theorem lanes_apply (v : Vec Ideal S1x512x128 .f32) (x : EReal) (a b : Fin 512) (hv : ∀ d, v (ix3 0 a d) = x) : lanes v (ix2 a b) = x := by
  pointwise [lanes]
  split_ifs <;> exact hv _

theorem tileLogits_apply (h : Fin 8) (w : BitVec 32) (hw : w = BitVec.ofNat 32 h.val) (q k : Vec Ideal S512x128 .bf16)
    (cb : Vec Ideal S512x128 .f32) (ct : Vec Ideal S8x512 .f32) (a b : Fin 512) (qr kr : Fin 128 → ℝ) (cr ck : ℝ)
    (hq : ∀ d, q (ix2 a d) = (qr d : EReal)) (hk : ∀ d, k (ix2 b d) = (kr d : EReal))
    (hc : cb (ix2 a ⟨h.val, by omega⟩) = (cr : EReal)) (hct : ct (ix2 h b) = (ck : EReal)) :
    tileLogits w q k cb ct (ix2 a b) = (((∑ d, qr d * kr d) * scale + cr - ck : ℝ) : EReal) := by
  pointwise [tileLogits, dot_S512x128_S512x128_S512x512_1_1_0_0_n_n]
  rw [sum_pick (⟨h.val, by omega⟩ : Fin 128) (by norm_num) w hw (fun x => cb (ix2 a x)),
    sum_pick h (by norm_num) w hw (fun x => ct (ix2 x b)), hc, hct, ofBits_scale]
  simp only [hq, hk, ← EReal.coe_mul, coe_sum, ← EReal.coe_add, ← EReal.coe_sub]

theorem dgLogits_apply (dg : Bool) (s : FVec Ideal S512x512 .f32) (a b : Fin 512) :
    dgLogits dg s (ix2 a b) = if dg = true → b ≤ a then s (ix2 a b) else ⊥ := by
  cases dg with
  | false => simp [dgLogits]
  | true =>
    show tileMask s (ix2 a b) = _
    pointwise [tileMask]
    rw [select_le _ _ (by omega) (by omega), ofBits_bot]
    simp

theorem tileP_apply (s : FVec Ideal S512x512 .f32) (ls : Vec Ideal S1x512x128 .f32) (a b : Fin 512) (p : Prop) [Decidable p] (x y : ℝ)
    (hs : s (ix2 a b) = if p then (x : EReal) else ⊥) (hl : ∀ d, ls (ix3 0 a d) = (y : EReal)) :
    tileP s ls (ix2 a b) = ((if p then Real.exp (x - y) else 0 : ℝ) : EReal) := by
  have h1 := lanes_apply ls _ a b hl
  pointwise [tileP]
  rw [hs, h1, exp_masked]

theorem tileDs_apply (p : FVec Ideal S512x512 .f32) (g v : Vec Ideal S512x128 .bf16) (dl : Vec Ideal S1x512x128 .f32) (a b : Fin 512)
    (pr : ℝ) (gr vr : Fin 128 → ℝ) (d : ℝ) (hp : p (ix2 a b) = (pr : EReal)) (hg : ∀ d, g (ix2 a d) = (gr d : EReal))
    (hv : ∀ d, v (ix2 b d) = (vr d : EReal)) (hd : ∀ e, dl (ix3 0 a e) = (d : EReal)) :
    tileDs p g v dl (ix2 a b) = ((pr * (∑ e, gr e * vr e - d) : ℝ) : EReal) := by
  have h1 := lanes_apply dl _ a b hd
  pointwise [tileDs, dot_S512x128_S512x128_S512x512_1_1_0_0_n_n]
  rw [hp, h1]
  simp only [hg, hv, ← EReal.coe_mul, coe_sum, ← EReal.coe_sub]

theorem addTn_apply (s : FVec Ideal S512x512 .f32) (old : Vec Ideal S1x512x128 .f32) (x : Vec Ideal S512x128 .bf16) (b : Fin 512) (e : Fin 128)
    (o : ℝ) (sr xr : Fin 512 → ℝ) (ho : old (ix3 0 b e) = (o : EReal)) (hs : ∀ a, s (ix2 a b) = (sr a : EReal)) (hx : ∀ a, x (ix2 a e) = (xr a : EReal)) :
    addTn s old x (ix3 0 b e) = ((o + ∑ a, sr a * xr a : ℝ) : EReal) := by
  pointwise [addTn, dot_S512x512_S512x128_S512x128_0_0_1_1_n_n]
  rw [ho]
  simp only [hs, hx, ← EReal.coe_mul, coe_sum, ← EReal.coe_add]

theorem addCol_apply (s : FVec Ideal S512x512 .f32) (old : Vec Ideal S1x1x512 .f32) (b : Fin 512)
    (o : ℝ) (sr : Fin 512 → ℝ) (ho : old (ix3 0 0 b) = (o : EReal)) (hs : ∀ a, s (ix2 a b) = (sr a : EReal)) :
    addCol s old (ix3 0 0 b) = ((o + ∑ a, sr a : ℝ) : EReal) := by
  pointwise [addCol]
  rw [ho]
  simp only [hs, coe_sum, ← EReal.coe_add]

end Cert.Fox
-- ==== Proof.KvSweep.lean ====
module

public import proofs.«01_k».proof.Proof.KvFrame
public import proofs.«01_k».proof.Proof.Tile
public import Idealize.ShloMosaic.Lib.Pipeline.ValueKit.Tiles

/-! A sweep over the row blocks at real values: the accumulators hold the sums over the rows passed. -/

@[expose] public section
set_option maxRecDepth 16384
noncomputable section
namespace Cert.KernelKvIdeal.Kv
open Idealize.ShloMosaic Idealize.ShloMosaic.TcCoe Cert.KernelKvIdeal.Gen Cert.Fox

/-- Row `a` of row block `b`. -/
abbrev row (b : Fin 4) (a : Fin 512) : Fin 2048 := ⟨512 * b.val + a.val, by omega⟩

/-- The sum over the first `n` row blocks. -/
def psum (f : Fin 2048 → ℝ) : ℕ → ℝ
  | 0 => 0
  | n + 1 => psum f n + if h : n < 4 then ∑ a, f (row ⟨n, h⟩ a) else 0

theorem psum_succ (f : Fin 2048 → ℝ) (i : Fin 4) : psum f (i.val + 1) = psum f i.val + ∑ a, f (row i a) := by
  rw [psum, dif_pos i.isLt]

theorem psum_all (f : Fin 2048 → ℝ) : psum f 4 = ∑ t, f t := by
  rw [← Fin.sum_mul_add_fin 4 512 f, Fin.sum_univ_four]
  have e : ∀ (n : ℕ) (h : n < 4), (∑ a, f (row ⟨n, h⟩ a)) = ∑ k : Fin 512, f ⟨n * 512 + k.val, by omega⟩ := fun n h =>
    Finset.sum_congr rfl fun a _ => congrArg f (Fin.ext (by show 512 * n + a.val = n * 512 + a.val; omega))
  simp only [psum, dif_pos (show 0 < 4 by norm_num), dif_pos (show 1 < 4 by norm_num), dif_pos (show 2 < 4 by norm_num),
    dif_pos (show 3 < 4 by norm_num), e]
  rw [zero_add]
  rfl

variable (Q K V G : Fin 2048 → Fin 1024 → ℝ) (C : Fin 2048 → Fin 8 → ℝ) (M : Fin 8 → Fin 2048 → ℝ)

/-- A point's blocks are those of row block `r` and column block `j`. -/
structure Reads (x : Blocks Ideal) (r j : Fin 4) : Prop where
  q : ∀ a e, x.q (ix2 a e) = ((Q (row r a) e : ℝ) : EReal)
  k : ∀ b e, x.k (ix2 b e) = ((K (row j b) e : ℝ) : EReal)
  v : ∀ b e, x.v (ix2 b e) = ((V (row j b) e : ℝ) : EReal)
  g : ∀ a e, x.g (ix2 a e) = ((G (row r a) e : ℝ) : EReal)
  c : ∀ a (h : Fin 8), x.c (ix2 a ⟨h.val, by omega⟩) = ((C (row r a) h : ℝ) : EReal)
  ct : ∀ h b, x.ct (ix2 h b) = ((C (row j b) h : ℝ) : EReal)
  ls : ∀ h a d, x.ls (ix3 h a d) = ((lse Q K C M h (row r a) : ℝ) : EReal)
  dl : ∀ h a d, x.dl (ix3 h a d) = ((delta Q K V G C M h (row r a) : ℝ) : EReal)

section
variable {F : FTy → Type} [FloatOps F]
theorem ld_col {e : EltTy} (X : Vec F S512x1024 e) (h : Fin 8) (a : Fin 512) (d : Fin 128) : View.ld X (colR h) (ix2 a d) = X (ix2 a (col h d)) :=
  View.ld_unit_apply_of X _ _ _ _ _ fun ax => by fin_cases ax <;> simp [col]
theorem ld_slab {e : EltTy} (X : Vec F S8x512x128 e) (h : Fin 8) (a : Fin 512) (d : Fin 128) : View.ld X (slabR h) (ix3 0 a d) = X (ix3 h a d) :=
  View.ld_unit_apply_of X _ _ _ _ _ fun ax => by fin_cases ax <;> simp
theorem ld_row {e : EltTy} (X : Vec F S8x1x512 e) (h : Fin 8) (b : Fin 512) : View.ld X (rowR h) (ix3 0 0 b) = X (ix3 h 0 b) :=
  View.ld_unit_apply_of X _ _ _ _ _ fun ax => by fin_cases ax <;> simp
theorem ld_wholeC (X : Vec F S512x128 .f32) (y) : View.ld X wholeC y = X y :=
  View.ld_unit_apply_of X _ _ _ _ _ fun ax => by fin_cases ax <;> simp
theorem ld_wholeCt (X : Vec F S8x512 .f32) (y) : View.ld X wholeCt y = X y :=
  View.ld_unit_apply_of X _ _ _ _ _ fun ax => by fin_cases ax <;> simp
end

/-- The word of head `h` is its number. -/
theorem headW_eq (i : grid0.Coords) (h : Fin 8) : headW i h = BitVec.ofNat 32 h.val := by
  have h0 : (i 0).val = 0 := by have : (i 0).val < 1 := (i 0).isLt; omega
  unfold headW
  rw [h0]
  revert h; decide

variable {Q K V G C M}
variable {x : Blocks Ideal} {r j : Fin 4} (i : grid0.Coords) (hx : Reads Q K V G C M x r j)
include hx

/-- The tile's probabilities are those of its rows and columns. -/
theorem tP_apply (dg : Bool) (hd : if dg then r = j else j < r) (h : Fin 8) (a b : Fin 512) :
    tP i x dg h (ix2 a b) = ((pr Q K C M h (row r a) (row j b) : ℝ) : EReal) := by
  have h1 := tileLogits_apply h (headW i h) (headW_eq i h) (View.ld x.q (colR h)) (View.ld x.k (colR h)) (View.ld x.c wholeC) (View.ld x.ct wholeCt) a b
    (fun d => Q (row r a) (col h d)) (fun d => K (row j b) (col h d)) (C (row r a) h) (C (row j b) h)
    (fun d => (ld_col _ _ _ _).trans (hx.q a _)) (fun d => (ld_col _ _ _ _).trans (hx.k b _)) ((ld_wholeC _ _).trans (hx.c a h)) ((ld_wholeCt _ _).trans (hx.ct h b))
  have h2 := (dgLogits_apply dg (tileLogits (headW i h) (View.ld x.q (colR h)) (View.ld x.k (colR h)) (View.ld x.c wholeC) (View.ld x.ct wholeCt)) a b).trans
    (congrArg (fun z : EReal => if dg = true → b ≤ a then z else ⊥) h1)
  have h3 := tileP_apply _ (View.ld x.ls (slabR h)) a b (dg = true → b ≤ a) _ (lse Q K C M h (row r a)) h2 (fun d => (ld_slab _ _ _ _).trans (hx.ls h a d))
  refine h3.trans (congrArg (fun z : ℝ => (z : EReal)) ?_)
  have h4 : (dg = true → b ≤ a) ↔ row j b ≤ row r a := by
    rw [Fin.le_def, Fin.le_def]
    cases dg with
    | true =>
      have e : r = j := hd
      subst e
      simp
    | false =>
      have e : j < r := hd
      have e' : j.val < r.val := e
      simp only [Bool.false_eq_true, false_imp_iff, true_iff]
      omega
  unfold pr score
  simp only [h4]

/-- So is its gradient of the logits. -/
theorem tDs_apply (dg : Bool) (hd : if dg then r = j else j < r) (h : Fin 8) (a b : Fin 512) :
    tDs i x dg h (ix2 a b) = ((ds Q K V G C M h (row r a) (row j b) : ℝ) : EReal) :=
  tileDs_apply _ (View.ld x.g (colR h)) (View.ld x.v (colR h)) (View.ld x.dl (slabR h)) a b _ (fun d => G (row r a) (col h d)) (fun d => V (row j b) (col h d))
    (delta Q K V G C M h (row r a)) (tP_apply i hx dg hd h a b) (fun d => (ld_col _ _ _ _).trans (hx.g a _)) (fun d => (ld_col _ _ _ _).trans (hx.v b _))
    (fun d => (ld_slab _ _ _ _).trans (hx.dl h a d))

omit hx
variable (Q K V G C M)
/-- The accumulators hold the sums over the first `n` row blocks, for column block `j`. -/
structure Holds (s : Acc Ideal) (j : Fin 4) (n : ℕ) : Prop where
  k : ∀ h b d, s.1 (ix3 h b d) = ((psum (fun t => ds Q K V G C M h t (row j b) * Q t (col h d)) n : ℝ) : EReal)
  v : ∀ h b d, s.2.1 (ix3 h b d) = ((psum (fun t => pr Q K C M h t (row j b) * G t (col h d)) n : ℝ) : EReal)
  c : ∀ h b, s.2.2 (ix3 h 0 b) = ((psum (fun t => ds Q K V G C M h t (row j b)) n : ℝ) : EReal)

theorem holds_zero (j : Fin 4) : Holds Q K V G C M zero j 0 where
  k h b d := by
    show k0_pay1 (F := Ideal) (ix3 h b d) = ((0 : ℝ) : EReal)
    pointwise [k0_pay1]
    exact EReal.coe_zero.symm
  v h b d := by
    show k0_pay2 (F := Ideal) (ix3 h b d) = ((0 : ℝ) : EReal)
    pointwise [k0_pay2]
    exact EReal.coe_zero.symm
  c h b := by
    show k0_pay3 (F := Ideal) (ix3 h 0 b) = ((0 : ℝ) : EReal)
    pointwise [k0_pay3]
    exact EReal.coe_zero.symm

variable {Q K V G C M}
/-- A tile adds its row block's share. -/
theorem step_holds {s : Acc Ideal} (dg : Bool) (hd : if dg then r = j else j < r) (hx : Reads Q K V G C M x r j) (hs : Holds Q K V G C M s j r.val) :
    Holds Q K V G C M (step i x s dg) j (r.val + 1) where
  k h b d := by
    rw [psum_succ]
    exact addTn_apply _ (View.ld s.1 (slabR h)) (View.ld x.q (colR h)) b d _ _ _ ((ld_slab _ _ _ _).trans (hs.k h b d)) (fun a => tDs_apply i hx dg hd h a b)
      (fun a => (ld_col _ _ _ _).trans (hx.q a _))
  v h b d := by
    rw [psum_succ]
    exact addTn_apply _ (View.ld s.2.1 (slabR h)) (View.ld x.g (colR h)) b d _ _ _ ((ld_slab _ _ _ _).trans (hs.v h b d)) (fun a => tP_apply i hx dg hd h a b)
      (fun a => (ld_col _ _ _ _).trans (hx.g a _))
  c h b := by
    rw [psum_succ]
    exact addCol_apply _ (View.ld s.2.2 (rowR h)) b _ _ ((ld_row _ _ _).trans (hs.c h b)) (fun a => tDs_apply i hx dg hd h a b)

/-- A row block above the column block adds nothing. -/
theorem skip_holds {s : Acc Ideal} {r j : Fin 4} (hd : r < j) (hs : Holds Q K V G C M s j r.val) : Holds Q K V G C M s j (r.val + 1) := by
  have lt : ∀ a b, row r a < row j b := fun a b => by
    have e : r.val < j.val := hd
    rw [Fin.lt_def]
    show 512 * r.val + a.val < 512 * j.val + b.val
    omega
  refine ⟨fun h b d => (hs.k h b d).trans ?_, fun h b d => (hs.v h b d).trans ?_, fun h b => (hs.c h b).trans ?_⟩ <;> rw [psum_succ, Finset.sum_eq_zero, add_zero] <;>
    intro a _
  · rw [ds_above _ _ _ _ _ _ _ (lt a b), zero_mul]
  · rw [pr_above _ _ _ _ _ (lt a b), zero_mul]
  · rw [ds_above _ _ _ _ _ _ _ (lt a b)]

/-- One point of the sweep. -/
theorem next_holds {s : Acc Ideal} {ii : Fin 4} (hF : isFirst i ↔ ii.val = 0) (hB : isBelow i ↔ j < ii) (hD : isDiag i ↔ ii = j)
    (hx : Reads Q K V G C M x (max ii j) j) (hs : ii.val = 0 ∨ Holds Q K V G C M s j ii.val) : Holds Q K V G C M (next i x s) j (ii.val + 1) := by
  have h1 : Holds Q K V G C M (if isFirst i then zero else s) j ii.val := by
    split_ifs with h
    · rw [hF.mp h]; exact holds_zero Q K V G C M j
    · exact hs.resolve_left fun e => h (hF.mpr e)
  unfold next
  rcases lt_trichotomy j ii with h | h | h
  · rw [max_eq_left h.le] at hx
    simp only [if_pos (hB.mpr h), if_neg (fun e => h.ne' (hD.mp e))]
    exact step_holds i false h hx h1
  · subst h
    rw [max_self] at hx
    simp only [if_neg (fun e => lt_irrefl _ (hB.mp e)), if_pos (hD.mpr rfl)]
    exact step_holds i true rfl hx h1
  · simp only [if_neg (fun e => absurd (hB.mp e) h.not_gt), if_neg (fun e => h.ne (hD.mp e))]
    exact skip_holds h h1

end Cert.KernelKvIdeal.Kv
-- ==== Proof.KvHost.lean ====
module

public import proofs.«01_k».proof.Proof.KvSweep
public import proofs.«01_k».proof.Proof.Softmax

/-! What the arrays hold when the sweep begins: the host's lines on the arguments. -/

@[expose] public section
set_option maxRecDepth 16384
noncomputable section
namespace Cert.KernelKvIdeal.Kv
open Idealize.ShloMosaic Idealize.ShloMosaic.TcCoe Idealize.ShloMosaic.StableHlo Cert.KernelKvIdeal.Gen Cert.Fox

variable {F : FTy → Type} [FloatOps F]
variable (m : (ℓ : Loc nD τ sig) → Buf (Elt F) ℓ) (c : Dev nD)

abbrev argQ : FVec F S2048x1024 .f32 := m ((c.tc : Thread nD τ).loc main_arg0)
abbrev argK : FVec F S2048x1024 .f32 := m ((c.tc : Thread nD τ).loc main_arg1)
abbrev argV : FVec F S2048x1024 .f32 := m ((c.tc : Thread nD τ).loc main_arg2)
abbrev argC : FVec F S2048x8 .f32 := m ((c.tc : Thread nD τ).loc main_arg3)
abbrev argG : FVec F S2048x1024 .f32 := m ((c.tc : Thread nD τ).loc main_arg4)

/-- The gate sums padded to 128 columns. -/
def padC (x : FVec F S2048x8 .f32) : FVec F S2048x128 .f32 :=
  pad S2048x128 ![0, 0] ![0, 120] ![0, 0] x (sitofp .f32 (constantI S_ 32 0#32)) pads_S2048x8_S2048x128_000_01200 h_S_

/-- The arrays the pipeline reads, as functions of the arguments. -/
theorem V_q : V m c main_v81 = truncf .bf16 (argQ m c) bitsLt_bf16_f32 := by
  simp only [V, hostOps0, hostOps0_1, hostOps0_2, hostOps0_3, hostOps0_4, hostOps0_5, hostOps0_6, List.flatten_cons, List.flatten_nil, List.append_nil, List.cons_append, List.nil_append,
    TRef.nullary, TRef.ternary, TRef.unary, TRef.toBuf, TRef.ofBuf, cast_eq]
  after_results_simp
theorem V_k : V m c main_v82 = truncf .bf16 (argK m c) bitsLt_bf16_f32 := by
  simp only [V, hostOps0, hostOps0_1, hostOps0_2, hostOps0_3, hostOps0_4, hostOps0_5, hostOps0_6, List.flatten_cons, List.flatten_nil, List.append_nil, List.cons_append, List.nil_append,
    TRef.nullary, TRef.ternary, TRef.unary, TRef.toBuf, TRef.ofBuf, cast_eq]
  after_results_simp
theorem V_v : V m c main_v83 = truncf .bf16 (argV m c) bitsLt_bf16_f32 := by
  simp only [V, hostOps0, hostOps0_1, hostOps0_2, hostOps0_3, hostOps0_4, hostOps0_5, hostOps0_6, List.flatten_cons, List.flatten_nil, List.append_nil, List.cons_append, List.nil_append,
    TRef.nullary, TRef.ternary, TRef.unary, TRef.toBuf, TRef.ofBuf, cast_eq]
  after_results_simp
theorem V_g : V m c main_v84 = truncf .bf16 (argG m c) bitsLt_bf16_f32 := by
  simp only [V, hostOps0, hostOps0_1, hostOps0_2, hostOps0_3, hostOps0_4, hostOps0_5, hostOps0_6, List.flatten_cons, List.flatten_nil, List.append_nil, List.cons_append, List.nil_append,
    TRef.nullary, TRef.ternary, TRef.unary, TRef.toBuf, TRef.ofBuf, cast_eq]
  after_results_simp
theorem V_c : V m c main_v78 = padC (argC m c) := by
  simp only [V, hostOps0, hostOps0_1, hostOps0_2, hostOps0_3, hostOps0_4, hostOps0_5, hostOps0_6, List.flatten_cons, List.flatten_nil, List.append_nil, List.cons_append, List.nil_append,
    TRef.nullary, TRef.ternary, TRef.unary, TRef.toBuf, TRef.ofBuf, cast_eq]
  after_results_simp
  rfl
theorem V_ct : V m c main_v80 = transpose S8x2048 [1, 0] (extractStridedSlice S2048x8 ![0, 0] (padC (argC m c)) slices_S2048x128_S2048x8_0_0) transposes_S2048x8_S8x2048_1_0 := by
  simp only [V, hostOps0, hostOps0_1, hostOps0_2, hostOps0_3, hostOps0_4, hostOps0_5, hostOps0_6, List.flatten_cons, List.flatten_nil, List.append_nil, List.cons_append, List.nil_append,
    TRef.nullary, TRef.ternary, TRef.unary, TRef.toBuf, TRef.ofBuf, cast_eq]
  after_results_simp
  rfl
theorem V_ls : V m c main_v76 = lseV (logitsV (argQ m c) (argK m c) (argC m c)) := by
  simp only [V, hostOps0, hostOps0_1, hostOps0_2, hostOps0_3, hostOps0_4, hostOps0_5, hostOps0_6, List.flatten_cons, List.flatten_nil, List.append_nil, List.cons_append, List.nil_append,
    TRef.nullary, TRef.ternary, TRef.unary, TRef.toBuf, TRef.ofBuf, cast_eq]
  after_results_simp
  rfl
theorem V_dl : V m c main_v77 = deltaV (argG m c) (Fox.outV (probV (expV (logitsV (argQ m c) (argK m c) (argC m c)) (rowMax' (logitsV (argQ m c) (argK m c) (argC m c))))) (argV m c)) := by
  simp only [V, hostOps0, hostOps0_1, hostOps0_2, hostOps0_3, hostOps0_4, hostOps0_5, hostOps0_6, List.flatten_cons, List.flatten_nil, List.append_nil, List.cons_append, List.nil_append,
    TRef.nullary, TRef.ternary, TRef.unary, TRef.toBuf, TRef.ofBuf, cast_eq]
  after_results_simp
  rfl

theorem padC_apply (x : FVec Ideal S2048x8 .f32) (t : Fin 2048) (h : Fin 8) : padC x (ix2 t ⟨h.val, by omega⟩) = x (ix2 t h) := by
  pointwise [padC]

theorem ct_apply (x : FVec Ideal S2048x8 .f32) (t : Fin 2048) (h : Fin 8) :
    transpose S8x2048 [1, 0] (extractStridedSlice S2048x8 ![0, 0] (padC x) slices_S2048x128_S2048x8_0_0) transposes_S2048x8_S8x2048_1_0 (ix2 h t) = x (ix2 t h) := by
  refine Eq.trans ?_ (padC_apply x t h)
  pointwise

/-! The windows' blocks at coordinates. -/
theorem ix_0 : ∀ t : Fin cfg0.N, win0_0.index t = ![max (t.val % 4) (t.val / 4), 0] := (by decide +kernel : ∀ t : Fin grid0.N, _)
theorem ix_1 : ∀ t : Fin cfg0.N, win0_1.index t = ![t.val / 4, 0] := (by decide +kernel : ∀ t : Fin grid0.N, _)
theorem ix_2 : ∀ t : Fin cfg0.N, win0_2.index t = ![t.val / 4, 0] := (by decide +kernel : ∀ t : Fin grid0.N, _)
theorem ix_3 : ∀ t : Fin cfg0.N, win0_3.index t = ![max (t.val % 4) (t.val / 4), 0] := (by decide +kernel : ∀ t : Fin grid0.N, _)
theorem ix_4 : ∀ t : Fin cfg0.N, win0_4.index t = ![max (t.val % 4) (t.val / 4), 0] := (by decide +kernel : ∀ t : Fin grid0.N, _)
theorem ix_5 : ∀ t : Fin cfg0.N, win0_5.index t = ![0, t.val / 4] := (by decide +kernel : ∀ t : Fin grid0.N, _)
theorem ix_6 : ∀ t : Fin cfg0.N, win0_6.index t = ![0, max (t.val % 4) (t.val / 4), 0] := (by decide +kernel : ∀ t : Fin grid0.N, _)
theorem ix_7 : ∀ t : Fin cfg0.N, win0_7.index t = ![0, max (t.val % 4) (t.val / 4), 0] := (by decide +kernel : ∀ t : Fin grid0.N, _)

/-- A point's row block and column block. -/
abbrev iOf (t : Fin cfg0.N) : Fin 4 := ⟨t.val % 4, Nat.mod_lt _ (by norm_num)⟩
abbrev jOf (t : Fin cfg0.N) : Fin 4 := ⟨t.val / 4, by have h : t.val < 16 := t.isLt; omega⟩

theorem max_val (a b : Fin 4) : (max a b).val = max a.val b.val := by
  rcases le_total a b with h | h
  · rw [max_eq_right h, max_eq_right (Fin.le_def.mp h)]
  · rw [max_eq_left h, max_eq_left (Fin.le_def.mp h)]

theorem iblk_0 (t : Fin cfg0.N) (a : Fin 512) (e : Fin 1024) : iblk m c 0 t (ix2 a e) = V m c main_v81 (ix2 (row (max (iOf t) (jOf t)) a) e) := by
  blk_simp [iblk]
  congr 1
  blk_ext [ix_0]
  rw [max_val]
  exact congrArg (· + a.val) (Nat.mul_comm _ _)
theorem iblk_1 (t : Fin cfg0.N) (a : Fin 512) (e : Fin 1024) : iblk m c 1 t (ix2 a e) = V m c main_v82 (ix2 (row (jOf t) a) e) := by
  blk_simp [iblk]
  congr 1
  blk_ext [ix_1]
theorem iblk_2 (t : Fin cfg0.N) (a : Fin 512) (e : Fin 1024) : iblk m c 2 t (ix2 a e) = V m c main_v83 (ix2 (row (jOf t) a) e) := by
  blk_simp [iblk]
  congr 1
  blk_ext [ix_2]
theorem iblk_3 (t : Fin cfg0.N) (a : Fin 512) (e : Fin 1024) : iblk m c 3 t (ix2 a e) = V m c main_v84 (ix2 (row (max (iOf t) (jOf t)) a) e) := by
  blk_simp [iblk]
  congr 1
  blk_ext [ix_3]
  rw [max_val]
  exact congrArg (· + a.val) (Nat.mul_comm _ _)
theorem iblk_4 (t : Fin cfg0.N) (a : Fin 512) (e : Fin 128) : iblk m c 4 t (ix2 a e) = V m c main_v78 (ix2 (row (max (iOf t) (jOf t)) a) e) := by
  blk_simp [iblk]
  congr 1
  blk_ext [ix_4]
  rw [max_val]
  exact congrArg (· + a.val) (Nat.mul_comm _ _)
theorem iblk_5 (t : Fin cfg0.N) (h : Fin 8) (a : Fin 512) : iblk m c 5 t (ix2 h a) = V m c main_v80 (ix2 h (row (jOf t) a)) := by
  blk_simp [iblk]
  congr 1
  blk_ext [ix_5]
theorem iblk_6 (t : Fin cfg0.N) (h : Fin 8) (a : Fin 512) (d : Fin 128) : iblk m c 6 t (ix3 h a d) = V m c main_v76 (ix3 h (row (max (iOf t) (jOf t)) a) d) := by
  blk_simp [iblk]
  congr 1
  blk_ext [ix_6]
  rw [max_val]
  exact congrArg (· + a.val) (Nat.mul_comm _ _)
theorem iblk_7 (t : Fin cfg0.N) (h : Fin 8) (a : Fin 512) (d : Fin 128) : iblk m c 7 t (ix3 h a d) = V m c main_v77 (ix3 h (row (max (iOf t) (jOf t)) a) d) := by
  blk_simp [iblk]
  congr 1
  blk_ext [ix_7]
  rw [max_val]
  exact congrArg (· + a.val) (Nat.mul_comm _ _)

/-- The blocks' entries as entries of the arguments and of the rows' statistics. -/
theorem blk_q (t : Fin cfg0.N) (a : Fin 512) (e : Fin 1024) : iblk m c 0 t (ix2 a e) = truncf .bf16 (argQ m c) bitsLt_bf16_f32 (ix2 (row (max (iOf t) (jOf t)) a) e) :=
  (iblk_0 m c t a e).trans (congrFun (V_q m c) _)
theorem blk_k (t : Fin cfg0.N) (a : Fin 512) (e : Fin 1024) : iblk m c 1 t (ix2 a e) = truncf .bf16 (argK m c) bitsLt_bf16_f32 (ix2 (row (jOf t) a) e) :=
  (iblk_1 m c t a e).trans (congrFun (V_k m c) _)
theorem blk_v (t : Fin cfg0.N) (a : Fin 512) (e : Fin 1024) : iblk m c 2 t (ix2 a e) = truncf .bf16 (argV m c) bitsLt_bf16_f32 (ix2 (row (jOf t) a) e) :=
  (iblk_2 m c t a e).trans (congrFun (V_v m c) _)
theorem blk_g (t : Fin cfg0.N) (a : Fin 512) (e : Fin 1024) : iblk m c 3 t (ix2 a e) = truncf .bf16 (argG m c) bitsLt_bf16_f32 (ix2 (row (max (iOf t) (jOf t)) a) e) :=
  (iblk_3 m c t a e).trans (congrFun (V_g m c) _)
theorem blk_c (t : Fin cfg0.N) (a : Fin 512) (e : Fin 128) : iblk m c 4 t (ix2 a e) = padC (argC m c) (ix2 (row (max (iOf t) (jOf t)) a) e) :=
  (iblk_4 m c t a e).trans (congrFun (V_c m c) _)
theorem blk_ct (t : Fin cfg0.N) (h : Fin 8) (a : Fin 512) : iblk m c 5 t (ix2 h a) = transpose S8x2048 [1, 0] (extractStridedSlice S2048x8 ![0, 0] (padC (argC m c)) slices_S2048x128_S2048x8_0_0) transposes_S2048x8_S8x2048_1_0 (ix2 h (row (jOf t) a)) :=
  (iblk_5 m c t h a).trans (congrFun (V_ct m c) _)
theorem blk_ls (t : Fin cfg0.N) (h : Fin 8) (a : Fin 512) (d : Fin 128) : iblk m c 6 t (ix3 h a d) = lseV (logitsV (argQ m c) (argK m c) (argC m c)) (ix3 h (row (max (iOf t) (jOf t)) a) d) :=
  (iblk_6 m c t h a d).trans (congrFun (V_ls m c) _)
theorem blk_dl (t : Fin cfg0.N) (h : Fin 8) (a : Fin 512) (d : Fin 128) : iblk m c 7 t (ix3 h a d) = deltaV (argG m c) (Fox.outV (probV (expV (logitsV (argQ m c) (argK m c) (argC m c)) (rowMax' (logitsV (argQ m c) (argK m c) (argC m c))))) (argV m c)) (ix3 h (row (max (iOf t) (jOf t)) a) d) :=
  (iblk_7 m c t h a d).trans (congrFun (V_dl m c) _)

end Cert.KernelKvIdeal.Kv
-- ==== Proof.KvReads.lean ====
module

public import proofs.«01_k».proof.Proof.KvHost

/-! Where the arguments are real, every point reads its row block and its column block of them. -/

@[expose] public section
set_option maxRecDepth 16384
noncomputable section
namespace Cert.KernelKvIdeal.Kv
open Idealize.ShloMosaic Idealize.ShloMosaic.TcCoe Idealize.ShloMosaic.StableHlo Cert.KernelKvIdeal.Gen Cert.Fox

variable (m : (ℓ : Loc nD τ sig) → Buf (Elt Ideal) ℓ) (c : Dev nD)
variable {Q K V G : Fin 2048 → Fin 1024 → ℝ} {C : Fin 2048 → Fin 8 → ℝ} {M : Fin 8 → Fin 2048 → ℝ}

theorem rounded (x : FVec Ideal S2048x1024 .f32) (y) : truncf .bf16 x bitsLt_bf16_f32 y = x y := rfl

theorem max_of (s : FVec Ideal S8x2048x2048 .f32) (hs : ∀ h t, rowMax s (ix2 h t) = (M h t : EReal)) (h : Fin 8) (t : Fin 2048) : rowMax' s (ix2 h t) = (M h t : EReal) :=
  (rowMax'_apply s h t).trans (hs h t)

/-- The arguments hold these reals, and the logits' rows have these maxima. -/
structure Given (q k v g : FVec Ideal S2048x1024 .f32) (cc : FVec Ideal S2048x8 .f32) : Prop where
  at_q : ∀ t e, q (ix2 t e) = (Q t e : EReal)
  at_k : ∀ t e, k (ix2 t e) = (K t e : EReal)
  at_v : ∀ t e, v (ix2 t e) = (V t e : EReal)
  at_g : ∀ t e, g (ix2 t e) = (G t e : EReal)
  at_c : ∀ t h, cc (ix2 t h) = (C t h : EReal)
  at_m : ∀ h t, rowMax (logitsV q k cc) (ix2 h t) = (M h t : EReal)

section
variable {q k v g : FVec Ideal S2048x1024 .f32} {cc : FVec Ideal S2048x8 .f32}
variable (hm : Given (Q := Q) (K := K) (V := V) (G := G) (C := C) (M := M) q k v g cc) (h : Fin 8) (r : Fin 2048) (d : Fin 128)
include hm

theorem given_max (h : Fin 8) (t : Fin 2048) : rowMax' (logitsV q k cc) (ix2 h t) = (M h t : EReal) :=
  max_of (logitsV q k cc) hm.at_m h t

/-- The logarithm of a row's sum, and a row's sum of output times cotangent. -/
theorem given_lse : lseV (logitsV q k cc) (ix3 h r d) = ((lse Q K C M h r : ℝ) : EReal) :=
  lse_apply (logits_apply hm.at_q hm.at_k hm.at_c) hm.at_m h r d
theorem given_exp (t u : Fin 2048) : expV (logitsV q k cc) (rowMax' (logitsV q k cc)) (ix3 h t u) = ((expo Q K C M h t u : ℝ) : EReal) :=
  exp_apply (logits_apply hm.at_q hm.at_k hm.at_c) (given_max hm) h t u
theorem given_delta : deltaV g (Fox.outV (probV (expV (logitsV q k cc) (rowMax' (logitsV q k cc)))) v) (ix3 h r d) = ((delta Q K V G C M h r : ℝ) : EReal) :=
  delta_apply (out_apply (prob_apply (given_exp hm)) hm.at_v) hm.at_g h r d
end

/-- Eight blocks with the right entries are what a point reads. -/
theorem reads_mk {q k v g : Vec Ideal S512x1024 .bf16} {cc : Vec Ideal S512x128 .f32} {ct : Vec Ideal S8x512 .f32} {ls dl : Vec Ideal S8x512x128 .f32} {r j : Fin 4}
    (hq : ∀ a e, q (ix2 a e) = ((Q (row r a) e : ℝ) : EReal)) (hk : ∀ a e, k (ix2 a e) = ((K (row j a) e : ℝ) : EReal))
    (hv : ∀ a e, v (ix2 a e) = ((V (row j a) e : ℝ) : EReal)) (hg : ∀ a e, g (ix2 a e) = ((G (row r a) e : ℝ) : EReal))
    (hc : ∀ a (h : Fin 8), cc (ix2 a ⟨h.val, by omega⟩) = ((C (row r a) h : ℝ) : EReal)) (ht : ∀ h a, ct (ix2 h a) = ((C (row j a) h : ℝ) : EReal))
    (hl : ∀ h a d, ls (ix3 h a d) = ((lse Q K C M h (row r a) : ℝ) : EReal)) (hd : ∀ h a d, dl (ix3 h a d) = ((delta Q K V G C M h (row r a) : ℝ) : EReal)) :
    Reads Q K V G C M ⟨q, k, v, g, cc, ct, ls, dl⟩ r j := ⟨hq, hk, hv, hg, hc, ht, hl, hd⟩

variable {m c}
variable (hm : Given (Q := Q) (K := K) (V := V) (G := G) (C := C) (M := M) (argQ m c) (argK m c) (argV m c) (argG m c) (argC m c)) (t : Fin cfg0.N)
include hm

theorem reads_q (a : Fin 512) (e : Fin 1024) : iblk m c 0 t (ix2 a e) = ((Q (row (max (iOf t) (jOf t)) a) e : ℝ) : EReal) := (blk_q m c t a e).trans ((rounded _ _).trans (hm.at_q _ _))
theorem reads_k (a : Fin 512) (e : Fin 1024) : iblk m c 1 t (ix2 a e) = ((K (row (jOf t) a) e : ℝ) : EReal) := (blk_k m c t a e).trans ((rounded _ _).trans (hm.at_k _ _))
theorem reads_v (a : Fin 512) (e : Fin 1024) : iblk m c 2 t (ix2 a e) = ((V (row (jOf t) a) e : ℝ) : EReal) := (blk_v m c t a e).trans ((rounded _ _).trans (hm.at_v _ _))
theorem reads_g (a : Fin 512) (e : Fin 1024) : iblk m c 3 t (ix2 a e) = ((G (row (max (iOf t) (jOf t)) a) e : ℝ) : EReal) := (blk_g m c t a e).trans ((rounded _ _).trans (hm.at_g _ _))
theorem reads_c (a : Fin 512) (h : Fin 8) : iblk m c 4 t (ix2 a (⟨h.val, by omega⟩ : Fin 128)) = ((C (row (max (iOf t) (jOf t)) a) h : ℝ) : EReal) := (blk_c m c t a _).trans ((padC_apply _ _ h).trans (hm.at_c _ _))
theorem reads_ct (h : Fin 8) (a : Fin 512) : iblk m c 5 t (ix2 h a) = ((C (row (jOf t) a) h : ℝ) : EReal) := (blk_ct m c t h a).trans ((ct_apply _ _ h).trans (hm.at_c _ _))
theorem reads_ls (h : Fin 8) (a : Fin 512) (d : Fin 128) : iblk m c 6 t (ix3 h a d) = ((lse Q K C M h (row (max (iOf t) (jOf t)) a) : ℝ) : EReal) :=
  (blk_ls m c t h a d).trans (given_lse hm h _ d)
theorem reads_dl (h : Fin 8) (a : Fin 512) (d : Fin 128) : iblk m c 7 t (ix3 h a d) = ((delta Q K V G C M h (row (max (iOf t) (jOf t)) a) : ℝ) : EReal) :=
  (blk_dl m c t h a d).trans (given_delta hm h _ d)

theorem reads : Reads Q K V G C M (blocksAt m c t) (max (iOf t) (jOf t)) (jOf t) :=
  reads_mk (reads_q hm t) (reads_k hm t) (reads_v hm t) (reads_g hm t) (reads_c hm t) (reads_ct hm t) (reads_ls hm t) (reads_dl hm t)

end Cert.KernelKvIdeal.Kv
-- ==== Proof.KvValue.lean ====
module

public import proofs.«01_k».proof.Proof.KvReads

/-! The kernel's three results: at real arguments, the arrays after the run hold the sums over all rows. -/

@[expose] public section
set_option maxRecDepth 16384
noncomputable section
namespace Cert.KernelKvIdeal.Kv
open Idealize.ShloMosaic Idealize.ShloMosaic.TcCoe Cert.KernelKvIdeal.Gen Cert.Fox

theorem first_iff : ∀ t : Fin cfg0.N, isFirst (grid0.coords t) ↔ (iOf t).val = 0 := (by decide +kernel : ∀ t : Fin grid0.N, isFirst (grid0.coords t) ↔ t.val % 4 = 0)
theorem below_iff : ∀ t : Fin cfg0.N, isBelow (grid0.coords t) ↔ t.val / 4 < t.val % 4 := (by decide +kernel : ∀ t : Fin grid0.N, isBelow (grid0.coords t) ↔ t.val / 4 < t.val % 4)
theorem diag_iff : ∀ t : Fin cfg0.N, isDiag (grid0.coords t) ↔ t.val % 4 = t.val / 4 := (by decide +kernel : ∀ t : Fin grid0.N, isDiag (grid0.coords t) ↔ t.val % 4 = t.val / 4)

variable {Q K V G : Fin 2048 → Fin 1024 → ℝ} {C : Fin 2048 → Fin 8 → ℝ} {M : Fin 8 → Fin 2048 → ℝ}

theorem col_div (e : Fin 1024) : col ⟨e.val / 128, by omega⟩ ⟨e.val % 128, Nat.mod_lt _ (by norm_num)⟩ = e := Fin.ext (by show 128 * (e.val / 128) + e.val % 128 = e.val; omega)

/-- What goes out of full accumulators. -/
theorem cols_apply {e : EltTy} (f : Fin 8 → Vec Ideal S512x128 e) (b : Fin 512) (h : Fin 8) (d : Fin 128) : cols f (ix2 b (col h d)) = f h (ix2 b d) := by
  show f ⟨(128 * h.val + d.val) / 128, _⟩ (ix2 b ⟨(128 * h.val + d.val) % 128, _⟩) = _
  exact congrArg₂ (fun x y => f x (ix2 b y)) (Fin.ext (by show (128 * h.val + d.val) / 128 = h.val; omega)) (Fin.ext (by show (128 * h.val + d.val) % 128 = d.val; omega))

variable {s : Acc Ideal} {j : Fin 4} (hs : Holds Q K V G C M s j 4)
include hs

theorem outK_apply (b : Fin 512) (h : Fin 8) (d : Fin 128) :
    outK s (ix2 b (col h d)) = (((∑ t, ds Q K V G C M h t (row j b) * Q t (col h d)) * scale : ℝ) : EReal) := by
  have h1 := hs.k h b d
  refine (cols_apply _ b h d).trans ?_
  pointwise [k0_pay162]
  rw [h1, psum_all, ofBits_scale, ← EReal.coe_mul]

theorem outV_apply (b : Fin 512) (h : Fin 8) (d : Fin 128) :
    outV s (ix2 b (col h d)) = ((∑ t, pr Q K C M h t (row j b) * G t (col h d) : ℝ) : EReal) := by
  have h1 := hs.v h b d
  refine (cols_apply _ b h d).trans ?_
  pointwise [k0_pay163]
  rw [h1, psum_all]

theorem outC_apply (b : Fin 512) (h : Fin 8) : outC s (ix3 h 0 b) = ((-∑ t, ds Q K V G C M h t (row j b) : ℝ) : EReal) := by
  have h1 := hs.c h b
  show k0_pay164 (View.ld s.2.2 (rowR h)) (ix3 0 0 b) = _
  pointwise [k0_pay164]
  rw [h1, psum_all, zero_sub, ← EReal.coe_neg]

omit hs
theorem ix_8 : ∀ t : Fin cfg0.N, win0_8.index t = ![t.val / 4, 0] := (by decide +kernel : ∀ t : Fin grid0.N, _)
theorem ix_9 : ∀ t : Fin cfg0.N, win0_9.index t = ![t.val / 4, 0] := (by decide +kernel : ∀ t : Fin grid0.N, _)
theorem ix_10 : ∀ t : Fin cfg0.N, win0_10.index t = ![0, 0, t.val / 4] := (by decide +kernel : ∀ t : Fin grid0.N, _)

variable {m : (ℓ : Loc nD τ sig) → Buf (Elt Ideal) ℓ} {c : Dev nD}
variable (hm : Given (Q := Q) (K := K) (V := V) (G := G) (C := C) (M := M) (argQ m c) (argK m c) (argV m c) (argG m c) (argC m c))
include hm

/-- After a point the accumulators hold the sums over the row blocks passed in its sweep. -/
theorem acc_holds : ∀ (n : ℕ) (hn : n < cfg0.N), Holds Q K V G C M (accAt m c (n + 1)) (jOf ⟨n, hn⟩) ((iOf ⟨n, hn⟩).val + 1)
  | n, hn => by
    rw [accAt_succ m c ⟨n, hn⟩]
    refine next_holds (grid0.coords ⟨n, hn⟩) (first_iff _) ((below_iff _).trans (Fin.lt_def (a := jOf ⟨n, hn⟩) (b := iOf ⟨n, hn⟩)).symm) ((diag_iff _).trans (Fin.ext_iff (a := iOf ⟨n, hn⟩) (b := jOf ⟨n, hn⟩)).symm) (reads hm ⟨n, hn⟩) ?_
    by_cases h0 : n % 4 = 0
    · exact Or.inl h0
    · obtain ⟨k, rfl⟩ : ∃ k, n = k + 1 := ⟨n - 1, by omega⟩
      have h := acc_holds k (by omega)
      have e1 : jOf ⟨k, by omega⟩ = jOf ⟨k + 1, hn⟩ := Fin.ext (by show k / 4 = (k + 1) / 4; omega)
      have e2 : (iOf ⟨k, by omega⟩).val + 1 = (iOf ⟨k + 1, hn⟩).val := by show k % 4 + 1 = (k + 1) % 4; omega
      rw [e1, e2] at h
      exact Or.inr h

/-- At a sweep's last point the accumulators are full. -/
theorem full (t : Fin cfg0.N) (h : t.val % 4 = 3) : Holds Q K V G C M (accAt m c (t.val + 1)) (jOf t) 4 := by
  have h1 := acc_holds hm t.val t.isLt
  have h2 : (iOf ⟨t.val, t.isLt⟩).val + 1 = 4 := by show t.val % 4 + 1 = 4; omega
  rw [h2] at h1
  exact h1

/-- The result arrays are any that have these entries. -/
theorem final_k (W : FVec Ideal S2048x1024 .f32)
    (hW : ∀ h u d, W (ix2 u (col h d)) = (((∑ t, ds Q K V G C M h t u * Q t (col h d)) * scale : ℝ) : EReal)) : (dats m 0 c).arrAt 8 cfg0.N = W := by
  refine (dats m 0 c).arrAt_eq_of_covers 8 _ (by decide +kernel) fun t hf y => ?_
  blk_simp
  rw [after_8]
  have hF := full hm t ((flush0_8 t).mp hf)
  obtain ⟨b, e, rfl⟩ : ∃ (b : Fin 512) (e : Fin 1024), y = ix2 b e := ⟨y 0, y 1, by funext a; fin_cases a <;> rfl⟩
  have h1 := outK_apply hF b ⟨e.val / 128, by omega⟩ ⟨e.val % 128, Nat.mod_lt _ (by norm_num)⟩
  have h2 := hW ⟨e.val / 128, by omega⟩ (row (jOf t) b) ⟨e.val % 128, Nat.mod_lt _ (by norm_num)⟩
  rw [col_div] at h1 h2
  refine h1.trans (h2.symm.trans (congrArg W ?_))
  blk_ext [ix_8]

theorem final_v (W : FVec Ideal S2048x1024 .bf16)
    (hW : ∀ h u d, W (ix2 u (col h d)) = ((∑ t, pr Q K C M h t u * G t (col h d) : ℝ) : EReal)) : (dats m 0 c).arrAt 9 cfg0.N = W := by
  refine (dats m 0 c).arrAt_eq_of_covers 9 _ (by decide +kernel) fun t hf y => ?_
  blk_simp
  rw [after_9]
  have hF := full hm t ((flush0_9 t).mp hf)
  obtain ⟨b, e, rfl⟩ : ∃ (b : Fin 512) (e : Fin 1024), y = ix2 b e := ⟨y 0, y 1, by funext a; fin_cases a <;> rfl⟩
  have h1 := outV_apply hF b ⟨e.val / 128, by omega⟩ ⟨e.val % 128, Nat.mod_lt _ (by norm_num)⟩
  have h2 := hW ⟨e.val / 128, by omega⟩ (row (jOf t) b) ⟨e.val % 128, Nat.mod_lt _ (by norm_num)⟩
  rw [col_div] at h1 h2
  refine h1.trans (h2.symm.trans (congrArg W ?_))
  blk_ext [ix_9]

theorem final_c (W : FVec Ideal S8x1x2048 .f32) (hW : ∀ h u, W (ix3 h 0 u) = ((-∑ t, ds Q K V G C M h t u : ℝ) : EReal)) : (dats m 0 c).arrAt 10 cfg0.N = W := by
  refine (dats m 0 c).arrAt_eq_of_covers 10 _ (by decide +kernel) fun t hf y => ?_
  blk_simp
  rw [after_10]
  have hF := full hm t ((flush0_10 t).mp hf)
  obtain ⟨h, b, rfl⟩ : ∃ (h : Fin 8) (b : Fin 512), y = ix3 h 0 b := ⟨y 0, y 2, by
    funext a
    fin_cases a
    · rfl
    · exact Subsingleton.elim (α := Fin 1) _ _
    · rfl⟩
  refine (outC_apply hF b h).trans ((hW h (row (jOf t) b)).symm.trans (congrArg W ?_))
  blk_ext [ix_10]

end Cert.KernelKvIdeal.Kv
-- ==== Proof.KvClaim.lean ====
module

public import proofs.«01_k».proof.Defs
public import proofs.«01_k».proof.Proof.KvFinite
public import proofs.«01_k».proof.Proof.KvRef
public import proofs.«01_k».proof.Proof.KvValue

/-! The value claim: on finite arguments the kernel's three results are the reference's. -/

@[expose] public section
set_option maxRecDepth 16384
noncomputable section
namespace Cert.Kv
open Idealize.ShloMosaic Idealize.ShloMosaic.TcCoe Cert.Fox Idealize.SL.Sem
open Cert.KernelKvIdeal.Kv (Given dats)

variable {Q K V G : Fin 2048 → Fin 1024 → ℝ} {C : Fin 2048 → Fin 8 → ℝ} {M : Fin 8 → Fin 2048 → ℝ}

/-- Arrays of reals are given. -/
theorem given_of {q k v g : FVec Ideal Cert.KernelKvIdeal.S2048x1024 .f32} {c : FVec Ideal Cert.KernelKvIdeal.S2048x8 .f32}
    (hq : ∀ i, ∃ r : ℝ, q i = (r : EReal)) (hk : ∀ i, ∃ r : ℝ, k i = (r : EReal)) (hv : ∀ i, ∃ r : ℝ, v i = (r : EReal))
    (hc : ∀ i, ∃ r : ℝ, c i = (r : EReal)) (hg : ∀ i, ∃ r : ℝ, g i = (r : EReal)) : ∃ Q K V G C M, Given (Q := Q) (K := K) (V := V) (G := G) (C := C) (M := M) q k v g c := by
  choose Q hQ using fun t e => hq (ix2 t e)
  choose K hK using fun t e => hk (ix2 t e)
  choose V hV using fun t e => hv (ix2 t e)
  choose C hC using fun t e => hc (ix2 t e)
  choose G hG using fun t e => hg (ix2 t e)
  obtain ⟨M, hM, _⟩ := rowMax_apply hQ hK hC
  exact ⟨Q, K, V, G, C, M, hQ, hK, hV, hG, hC, hM⟩

section
variable {q k v g : FVec Ideal Cert.KernelKvIdeal.S2048x1024 .f32} {cc : FVec Ideal Cert.KernelKvIdeal.S2048x8 .f32}
variable (hm : Given (Q := Q) (K := K) (V := V) (G := G) (C := C) (M := M) q k v g cc)
include hm

/-- The reference's gradient of the logits at these arguments. -/
theorem given_ds (h : Fin 8) (t u : Fin 2048) : Cert.ReferenceKvIdeal.Kv.dsV (Cert.ReferenceKvIdeal.Kv.dprV g v) (Cert.ReferenceKvIdeal.Kv.expR q k cc) (ix3 h t u) = ((ds Q K V G C M h t u : ℝ) : EReal) :=
  Cert.ReferenceKvIdeal.Kv.ds_apply (Cert.KernelKvIdeal.Kv.given_exp hm) (Cert.ReferenceKvIdeal.Kv.dpr_apply hm.at_g hm.at_v) h t u
end

section
variable (m : (ℓ : Loc Cert.KernelKvIdeal.nD Cert.KernelKvIdeal.τ Cert.KernelKvIdeal.sig) → Buf (Elt Ideal) ℓ)
variable (m' : (ℓ : Loc Cert.ReferenceKvIdeal.nD Cert.ReferenceKvIdeal.τ Cert.ReferenceKvIdeal.sig) → Buf (Elt Ideal) ℓ) (c : Dev Cert.KernelKvIdeal.nD)
variable (hm : Given (Q := Q) (K := K) (V := V) (G := G) (C := C) (M := M) (Cert.ReferenceKvIdeal.Kv.argQ m' c) (Cert.ReferenceKvIdeal.Kv.argK m' c) (Cert.ReferenceKvIdeal.Kv.argV m' c) (Cert.ReferenceKvIdeal.Kv.argG m' c) (Cert.ReferenceKvIdeal.Kv.argC m' c))
variable (hq : Cert.ReferenceKvIdeal.Kv.argQ m' c = Cert.KernelKvIdeal.Kv.argQ m c) (hk : Cert.ReferenceKvIdeal.Kv.argK m' c = Cert.KernelKvIdeal.Kv.argK m c)
  (hv : Cert.ReferenceKvIdeal.Kv.argV m' c = Cert.KernelKvIdeal.Kv.argV m c) (hc : Cert.ReferenceKvIdeal.Kv.argC m' c = Cert.KernelKvIdeal.Kv.argC m c)
  (hg : Cert.ReferenceKvIdeal.Kv.argG m' c = Cert.KernelKvIdeal.Kv.argG m c)
include hm hq hk hv hc hg

/-- The kernel's result arrays are the reference's results. -/
theorem same_k : (dats m 0 c).arrAt 8 Cert.KernelKvIdeal.cfg0.N = Cert.ReferenceKvIdeal.Value.res_main_v89 m' c := by
  have h1 := hm
  rw [hq, hk, hv, hc, hg] at h1
  exact (Cert.KernelKvIdeal.Kv.final_k h1 _ fun h u d => Cert.ReferenceKvIdeal.Kv.dk_apply (given_ds hm) hm.at_q h u d).trans (Cert.ReferenceKvIdeal.Kv.res_k m' c).symm
theorem same_v : (dats m 0 c).arrAt 9 Cert.KernelKvIdeal.cfg0.N = Cert.ReferenceKvIdeal.Value.res_main_v92 m' c := by
  have h1 := hm
  rw [hq, hk, hv, hc, hg] at h1
  exact (Cert.KernelKvIdeal.Kv.final_v h1 _ fun h u d => Cert.ReferenceKvIdeal.Kv.dv_apply hm.at_g (prob_apply (Cert.KernelKvIdeal.Kv.given_exp hm)) h u d).trans (Cert.ReferenceKvIdeal.Kv.res_v m' c).symm
theorem same_c : (dats m 0 c).arrAt 10 Cert.KernelKvIdeal.cfg0.N = Cert.ReferenceKvIdeal.Value.res_main_v94 m' c := by
  have h1 := hm
  rw [hq, hk, hv, hc, hg] at h1
  exact (Cert.KernelKvIdeal.Kv.final_c h1 _ fun h u => Cert.ReferenceKvIdeal.Kv.dc_apply (given_ds hm) h u).trans (Cert.ReferenceKvIdeal.Kv.res_c m' c).symm
end

/-- So they are from memories that agree on finite arguments. -/
theorem values (m : (ℓ : Loc Cert.KernelKvIdeal.nD Cert.KernelKvIdeal.τ Cert.KernelKvIdeal.sig) → Buf (Elt Ideal) ℓ)
    (m' : (ℓ : Loc Cert.ReferenceKvIdeal.nD Cert.ReferenceKvIdeal.τ Cert.ReferenceKvIdeal.sig) → Buf (Elt Ideal) ℓ) (hpre : Cert.Pre_KernelKvIdeal_finite m)
    (harg : ∀ c : Dev Cert.KernelKvIdeal.nD, Cert.ReferenceKvIdeal.Kv.argQ m' c = Cert.KernelKvIdeal.Kv.argQ m c ∧ Cert.ReferenceKvIdeal.Kv.argK m' c = Cert.KernelKvIdeal.Kv.argK m c
      ∧ Cert.ReferenceKvIdeal.Kv.argV m' c = Cert.KernelKvIdeal.Kv.argV m c ∧ Cert.ReferenceKvIdeal.Kv.argC m' c = Cert.KernelKvIdeal.Kv.argC m c
      ∧ Cert.ReferenceKvIdeal.Kv.argG m' c = Cert.KernelKvIdeal.Kv.argG m c) (c : Dev Cert.KernelKvIdeal.nD) :
    (dats m 0 c).arrAt 8 Cert.KernelKvIdeal.cfg0.N = Cert.ReferenceKvIdeal.Value.res_main_v89 m' c
      ∧ (dats m 0 c).arrAt 9 Cert.KernelKvIdeal.cfg0.N = Cert.ReferenceKvIdeal.Value.res_main_v92 m' c
      ∧ (dats m 0 c).arrAt 10 Cert.KernelKvIdeal.cfg0.N = Cert.ReferenceKvIdeal.Value.res_main_v94 m' c := by
  obtain ⟨h0, h1, h2, h3, h4⟩ := harg c
  have h : Cert.Pre_finite.fn (F := Ideal) (Cert.KernelKvIdeal.Kv.argQ m c) (Cert.KernelKvIdeal.Kv.argK m c) (Cert.KernelKvIdeal.Kv.argV m c) (Cert.KernelKvIdeal.Kv.argC m c) (Cert.KernelKvIdeal.Kv.argG m c) = fun _ => 1#1 := hpre c
  rw [← h0, ← h1, ← h2, ← h3, ← h4] at h
  obtain ⟨rq, rk, rv, rc, rg⟩ := Cert.Pre_finite.real_of_fn h
  obtain ⟨Q, K, V, G, C, M, hm⟩ := given_of rq rk rv rc rg
  exact ⟨same_k m m' c hm h0 h1 h2 h3 h4, same_v m m' c hm h0 h1 h2 h3 h4, same_c m m' c hm h0 h1 h2 h3 h4⟩

/-- The kernel's run, its results named. -/
theorem kernel_run (m : (ℓ : Loc Cert.KernelKvIdeal.nD Cert.KernelKvIdeal.τ Cert.KernelKvIdeal.sig) → Buf (Elt Ideal) ℓ) (g : Dev Cert.KernelKvIdeal.nD → PrngReg) :
    θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v85_0) = (dats m 0 c).arrAt 8 Cert.KernelKvIdeal.cfg0.N
          ∧ r.2.mem ((c.tc : Thread Cert.KernelKvIdeal.nD Cert.KernelKvIdeal.τ).loc Cert.KernelKvIdeal.main_v85_1) = (dats m 0 c).arrAt 9 Cert.KernelKvIdeal.cfg0.N
          ∧ r.2.mem ((c.tc : Thread Cert.KernelKvIdeal.nD Cert.KernelKvIdeal.τ).loc Cert.KernelKvIdeal.main_v85_2) = (dats m 0 c).arrAt 10 Cert.KernelKvIdeal.cfg0.N
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
          ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
          ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4)) :=
  (θ_run Cert.KernelKvIdeal.defs _ _).mono (fun _ h c => ⟨h.1.1.out_eq c 8, h.1.1.out_eq c 9, h.1.1.out_eq c 10, h.2.1 c⟩)
    (θ_run_and (Cert.KernelKvIdeal.Kv.run_main m g) (Cert.KernelKvIdeal.Kv.frame m g))

/-- The claim: both run, from equal finite arguments, to equal results and unchanged arguments. -/
theorem algebraic : Cert.algebraic_KernelKvIdeal_ReferenceKvIdeal_pre_finite := fun m g m' g' hpre harg => by
  have hv : ∀ c, (dats m 0 c).arrAt 8 Cert.KernelKvIdeal.cfg0.N = Cert.ReferenceKvIdeal.Value.res_main_v89 m' c
      ∧ (dats m 0 c).arrAt 9 Cert.KernelKvIdeal.cfg0.N = Cert.ReferenceKvIdeal.Value.res_main_v92 m' c
      ∧ (dats m 0 c).arrAt 10 Cert.KernelKvIdeal.cfg0.N = Cert.ReferenceKvIdeal.Value.res_main_v94 m' c := values m m' hpre harg
  exact ⟨fun c => (dats m 0 c).arrAt 8 Cert.KernelKvIdeal.cfg0.N, fun c => (dats m 0 c).arrAt 9 Cert.KernelKvIdeal.cfg0.N, fun c => (dats m 0 c).arrAt 10 Cert.KernelKvIdeal.cfg0.N,
    kernel_run m g, (θ_run Cert.ReferenceKvIdeal.defs _ _).mono (fun _ h c => ⟨(h c).1.trans (hv c).1.symm, (h c).2.1.trans (hv c).2.1.symm, (h c).2.2.1.trans (hv c).2.2.symm, (h c).2.2.2⟩)
      (Cert.ReferenceKvIdeal.Value.run (F := Ideal) m' g')⟩

end Cert.Kv
-- ==== Proof.Refs.lean ====
module

public import proofs.«01_k».proof.Proof.Gen.ReferenceGxIdeal.Run
public import proofs.«01_k».proof.Proof.Gen.ReferenceIxIdeal.Run
public import proofs.«01_k».proof.Proof.Gen.ReferenceIwIdeal.Run
public import proofs.«01_k».proof.Proof.Gen.ReferenceOxIdeal.Run
public import proofs.«01_k».proof.Proof.Gen.ReferenceOwIdeal.Run
public import proofs.«01_k».proof.Proof.Gen.ReferenceIfIdeal.Run
public import proofs.«01_k».proof.Proof.Gen.ReferenceOfIdeal.Run
public import Idealize.ShloMosaic.Lib.Pointwise

/-! The plain products' references at an element. -/

@[expose] public section
set_option maxRecDepth 16384
noncomputable section
namespace Cert.Refs
open Idealize.ShloMosaic Idealize.ShloMosaic.TcCoe

section
open Cert.ReferenceGxIdeal Cert.ReferenceGxIdeal.Gen

def gx (w g : FVec Ideal S2048x11264 .f32) : FVec Ideal S2048x2048 .f32 :=
  Host.dotGeneral dot_S2048x11264_S2048x11264_S2048x2048_1_1_0_0_n_n none g w
theorem gx_apply (w g : FVec Ideal S2048x11264 .f32) (a b : Fin 2048) : gx w g (ix2 a b) = ∑ j, g (ix2 a j) * w (ix2 b j) := by
  pointwise [gx, dot_S2048x11264_S2048x11264_S2048x2048_1_1_0_0_n_n]
end

section
open Cert.ReferenceIxIdeal Cert.ReferenceIxIdeal.Gen

def inX (w g : FVec Ideal S2048x5120 .f32) (r : FVec Ideal S2048x2048 .f32) : FVec Ideal S2048x2048 .f32 :=
  addf (Host.dotGeneral dot_S2048x5120_S2048x5120_S2048x2048_1_1_0_0_n_n none g w) r
theorem inX_apply (w g : FVec Ideal S2048x5120 .f32) (r : FVec Ideal S2048x2048 .f32) (a b : Fin 2048) :
    inX w g r (ix2 a b) = (∑ j, g (ix2 a j) * w (ix2 b j)) + r (ix2 a b) := by
  pointwise [inX, dot_S2048x5120_S2048x5120_S2048x2048_1_1_0_0_n_n]
end

section
open Cert.ReferenceIwIdeal Cert.ReferenceIwIdeal.Gen

def inW (h : FVec Ideal S2048x2048 .f32) (g : FVec Ideal S2048x5120 .f32) : FVec Ideal S2048x5120 .bf16 :=
  truncf .bf16 (transpose S2048x5120 [1, 0] (Host.dotGeneral dot_S2048x5120_S2048x2048_S5120x2048_0_0_1_1_n_n none g h) transposes_S5120x2048_S2048x5120_1_0) bitsLt_bf16_f32
theorem inW_apply (h : FVec Ideal S2048x2048 .f32) (g : FVec Ideal S2048x5120 .f32) (d : Fin 2048) (j : Fin 5120) :
    inW h g (ix2 d j) = ∑ k, h (ix2 k d) * g (ix2 k j) := by
  pointwise [inW, dot_S2048x5120_S2048x2048_S5120x2048_0_0_1_1_n_n]
  exact Finset.sum_congr rfl fun k _ => mul_comm _ _
end

section
open Cert.ReferenceOxIdeal Cert.ReferenceOxIdeal.Gen

def outX (w x : FVec Ideal S2048x2048 .f32) : FVec Ideal S2048x2048 .f32 :=
  Host.dotGeneral dot_S2048x2048_S2048x2048_S2048x2048_1_1_0_0_n_n none x w
theorem outX_apply (w x : FVec Ideal S2048x2048 .f32) (a j : Fin 2048) : outX w x (ix2 a j) = ∑ k, x (ix2 a k) * w (ix2 j k) := by
  pointwise [outX, dot_S2048x2048_S2048x2048_S2048x2048_1_1_0_0_n_n]
end

section
open Cert.ReferenceOwIdeal Cert.ReferenceOwIdeal.Gen

def outW (h x : FVec Ideal S2048x2048 .f32) : FVec Ideal S2048x2048 .bf16 :=
  truncf .bf16 (transpose S2048x2048 [1, 0] (Host.dotGeneral dot_S2048x2048_S2048x2048_S2048x2048_0_0_1_1_n_n none x h) transposes_S2048x2048_S2048x2048_1_0) bitsLt_bf16_f32
theorem outW_apply (h x : FVec Ideal S2048x2048 .f32) (d j : Fin 2048) : outW h x (ix2 d j) = ∑ k, h (ix2 k d) * x (ix2 k j) := by
  pointwise [outW, dot_S2048x2048_S2048x2048_S2048x2048_0_0_1_1_n_n]
  exact Finset.sum_congr rfl fun k _ => mul_comm _ _
end

section
open Cert.ReferenceIfIdeal Cert.ReferenceIfIdeal.Gen

def inF (h : FVec Ideal S2048x2048 .f32) (w : FVec Ideal S2048x5120 .f32) : FVec Ideal S2048x5120 .f32 :=
  Host.dotGeneral dot_S2048x2048_S2048x5120_S2048x5120_1_0_0_1_n_n none h w
theorem inF_apply (h : FVec Ideal S2048x2048 .f32) (w : FVec Ideal S2048x5120 .f32) (a : Fin 2048) (j : Fin 5120) :
    inF h w (ix2 a j) = ∑ k, h (ix2 a k) * w (ix2 k j) := by
  pointwise [inF, dot_S2048x2048_S2048x5120_S2048x5120_1_0_0_1_n_n]
end

section
open Cert.ReferenceOfIdeal Cert.ReferenceOfIdeal.Gen

def outF (h w x : FVec Ideal S2048x2048 .f32) : FVec Ideal S2048x2048 .f32 :=
  addf x (Host.dotGeneral dot_S2048x2048_S2048x2048_S2048x2048_1_0_0_1_n_n none h w)
theorem outF_apply (h w x : FVec Ideal S2048x2048 .f32) (a j : Fin 2048) :
    outF h w x (ix2 a j) = (∑ k, h (ix2 a k) * w (ix2 k j)) + x (ix2 a j) := by
  pointwise [outF, dot_S2048x2048_S2048x2048_S2048x2048_1_0_0_1_n_n]
  exact add_comm _ _
end

end Cert.Refs
-- ==== Proof.Proj.lean ====
module

public import proofs.«01_k».proof.Proof.Gen.KernelIwIdeal.Value
public import proofs.«01_k».proof.Proof.Gen.KernelOwIdeal.Value
public import proofs.«01_k».proof.Proof.Gen.KernelOxIdeal.Value
public import proofs.«01_k».proof.Proof.Gen.KernelIfIdeal.Value
public import proofs.«01_k».proof.Proof.Gen.KernelOfIdeal.Value
public import Idealize.ShloMosaic.Lib.Pipeline.ValueKit.Tiles
public import Idealize.ShloMosaic.Lib.Pipeline.ValueKit.Geometry
public import Idealize.ShloMosaic.Lib.Pointwise

/-! The products of the input and the output projection that take one grid point a block of the result: the projections
    themselves, both gradients of the weights, and the output projection's gradient of its input. -/

@[expose] public section
set_option maxRecDepth 16384
noncomputable section

namespace Cert
theorem start2 : (![0, 0] : Fin 2 → ℕ) = fun _ => 0 := funext fun a => by fin_cases a <;> rfl
theorem ix2_of {a b : ℕ} (y : (⟨2, ![a, b]⟩ : Idealize.ShloMosaic.Shape).Idx) : ∃ (i : Fin a) (j : Fin b), y = Idealize.ShloMosaic.ix2 i j :=
  ⟨y 0, y 1, by funext x; fin_cases x <;> rfl⟩
end Cert

namespace Cert.KernelIwIdeal.Iw
open Idealize.ShloMosaic Idealize.ShloMosaic.TcCoe Idealize.ShloMosaic.StableHlo Cert.KernelIwIdeal.Gen

variable (m : (ℓ : Loc nD τ sig) → Buf (Elt Ideal) ℓ) (c : Dev nD)

abbrev argH : FVec Ideal S2048x2048 .f32 := m ((c.tc : Thread nD τ).loc main_arg0)
abbrev argG : FVec Ideal S2048x5120 .f32 := m ((c.tc : Thread nD τ).loc main_arg1)

theorem V_h : V m c main_v0 = truncf .bf16 (argH m c) bitsLt_bf16_f32 := by simp only [V, hostOps0]; after_results_simp
theorem V_g : V m c main_v1 = truncf .bf16 (argG m c) bitsLt_bf16_f32 := by simp only [V, hostOps0]; after_results_simp

theorem ix_0 : ∀ t : Fin cfg0.N, win0_0.index t = ![0, 0] := (by decide +kernel : ∀ t : Fin grid0.N, _)
theorem ix_1 : ∀ t : Fin cfg0.N, win0_1.index t = ![0, t.val] := (by decide +kernel : ∀ t : Fin grid0.N, _)
theorem ix_2 : ∀ t : Fin cfg0.N, win0_2.index t = ![0, t.val] := (by decide +kernel : ∀ t : Fin grid0.N, _)

/-- Column `b` of block `t`. -/
abbrev col (t : Fin cfg0.N) (b : Fin 512) : Fin 5120 := ⟨t.val * 512 + b.val, by have h : t.val < 10 := t.isLt; omega⟩

theorem iblk_0 (t : Fin cfg0.N) (k a : Fin 2048) : iblk m c 0 t (ix2 k a) = argH m c (ix2 k a) := by
  refine Eq.trans ?_ (congrFun (V_h m c) (ix2 k a))
  blk_simp [iblk]
  congr 1
  blk_ext [ix_0]
theorem iblk_1 (t : Fin cfg0.N) (k : Fin 2048) (b : Fin 512) : iblk m c 1 t (ix2 k b) = argG m c (ix2 k (col t b)) := by
  refine Eq.trans ?_ (congrFun (V_g m c) (ix2 k (col t b)))
  blk_simp [iblk]
  congr 1
  blk_ext [ix_1]

theorem out_apply (x : Vec Ideal S2048x2048 .bf16) (y : Vec Ideal S2048x512 .bf16) (a : Fin 2048) (b : Fin 512) :
    out0_2 x y (ix2 a b) = ∑ k, x (ix2 k a) * y (ix2 k b) := by
  unfold out0_2
  rw [View.canon_unit_zero start2, View.ld_unit_zero start2, View.ld_unit_zero start2]
  pointwise [k0_pay1, dot_S2048x2048_S2048x512_S2048x512_0_0_1_1_n_n]

/-- The result array is any that has these entries. -/
theorem final (W : FVec Ideal S2048x5120 .bf16) (hW : ∀ d j, W (ix2 d j) = ∑ k, argH m c (ix2 k d) * argG m c (ix2 k j)) :
    (dats m 0 c).arrAt 2 cfg0.N = W := by
  refine (dats m 0 c).arrAt_eq_of_covers 2 _ (by decide +kernel) fun t hf y => ?_
  blk_simp
  rw [after0_2]
  obtain ⟨a, b, rfl⟩ : ∃ (a : Fin 2048) (b : Fin 512), y = ix2 a b := ix2_of y
  refine (out_apply _ _ a b).trans (Eq.trans ?_ ((hW a (col t b)).symm.trans (congrArg W ?_)))
  · exact Finset.sum_congr rfl fun k _ => congrArg₂ (· * ·) (iblk_0 m c t k a) (iblk_1 m c t k b)
  · blk_ext [ix_2]

end Cert.KernelIwIdeal.Iw

namespace Cert.KernelOwIdeal.Ow
open Idealize.ShloMosaic Idealize.ShloMosaic.TcCoe Idealize.ShloMosaic.StableHlo Cert.KernelOwIdeal.Gen

variable (m : (ℓ : Loc nD τ sig) → Buf (Elt Ideal) ℓ) (c : Dev nD)

abbrev argM : FVec Ideal S2048x2048 .f32 := m ((c.tc : Thread nD τ).loc main_arg0)
abbrev argX : FVec Ideal S2048x2048 .f32 := m ((c.tc : Thread nD τ).loc main_arg1)

theorem V_m : V m c main_v0 = truncf .bf16 (argM m c) bitsLt_bf16_f32 := by simp only [V, hostOps0]; after_results_simp
theorem V_x : V m c main_v1 = truncf .bf16 (argX m c) bitsLt_bf16_f32 := by simp only [V, hostOps0]; after_results_simp

theorem ix_0 : ∀ t : Fin cfg0.N, win0_0.index t = ![0, 0] := (by decide +kernel : ∀ t : Fin grid0.N, _)
theorem ix_1 : ∀ t : Fin cfg0.N, win0_1.index t = ![0, t.val] := (by decide +kernel : ∀ t : Fin grid0.N, _)
theorem ix_2 : ∀ t : Fin cfg0.N, win0_2.index t = ![0, t.val] := (by decide +kernel : ∀ t : Fin grid0.N, _)

/-- Column `b` of block `t`. -/
abbrev col (t : Fin cfg0.N) (b : Fin 512) : Fin 2048 := ⟨t.val * 512 + b.val, by have h : t.val < 4 := t.isLt; omega⟩

theorem iblk_0 (t : Fin cfg0.N) (k a : Fin 2048) : iblk m c 0 t (ix2 k a) = argM m c (ix2 k a) := by
  refine Eq.trans ?_ (congrFun (V_m m c) (ix2 k a))
  blk_simp [iblk]
  congr 1
  blk_ext [ix_0]
theorem iblk_1 (t : Fin cfg0.N) (k : Fin 2048) (b : Fin 512) : iblk m c 1 t (ix2 k b) = argX m c (ix2 k (col t b)) := by
  refine Eq.trans ?_ (congrFun (V_x m c) (ix2 k (col t b)))
  blk_simp [iblk]
  congr 1
  blk_ext [ix_1]

theorem out_apply (x : Vec Ideal S2048x2048 .bf16) (y : Vec Ideal S2048x512 .bf16) (a : Fin 2048) (b : Fin 512) :
    out0_2 x y (ix2 a b) = ∑ k, x (ix2 k a) * y (ix2 k b) := by
  unfold out0_2
  rw [View.canon_unit_zero start2, View.ld_unit_zero start2, View.ld_unit_zero start2]
  pointwise [k0_pay1, dot_S2048x2048_S2048x512_S2048x512_0_0_1_1_n_n]

/-- The result array is any that has these entries. -/
theorem final (W : FVec Ideal S2048x2048 .bf16) (hW : ∀ d j, W (ix2 d j) = ∑ k, argM m c (ix2 k d) * argX m c (ix2 k j)) :
    (dats m 0 c).arrAt 2 cfg0.N = W := by
  refine (dats m 0 c).arrAt_eq_of_covers 2 _ (by decide +kernel) fun t hf y => ?_
  blk_simp
  rw [after0_2]
  obtain ⟨a, b, rfl⟩ : ∃ (a : Fin 2048) (b : Fin 512), y = ix2 a b := ix2_of y
  refine (out_apply _ _ a b).trans (Eq.trans ?_ ((hW a (col t b)).symm.trans (congrArg W ?_)))
  · exact Finset.sum_congr rfl fun k _ => congrArg₂ (· * ·) (iblk_0 m c t k a) (iblk_1 m c t k b)
  · blk_ext [ix_2]

end Cert.KernelOwIdeal.Ow

namespace Cert.KernelOxIdeal.Ox
open Idealize.ShloMosaic Idealize.ShloMosaic.TcCoe Idealize.ShloMosaic.StableHlo Cert.KernelOxIdeal.Gen

variable (m : (ℓ : Loc nD τ sig) → Buf (Elt Ideal) ℓ) (c : Dev nD)

abbrev argW : FVec Ideal S2048x2048 .f32 := m ((c.tc : Thread nD τ).loc main_arg0)
abbrev argX : FVec Ideal S2048x2048 .f32 := m ((c.tc : Thread nD τ).loc main_arg1)

theorem V_x : V m c main_v0 = truncf .bf16 (argX m c) bitsLt_bf16_f32 := by simp only [V, hostOps0]; after_results_simp
theorem V_w : V m c main_v1 = truncf .bf16 (argW m c) bitsLt_bf16_f32 := by simp only [V, hostOps0]; after_results_simp

theorem ix_0 : ∀ t : Fin cfg0.N, win0_0.index t = ![0, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, t.val] := (by decide +kernel : ∀ t : Fin grid0.N, _)

/-- Column `b` of block `t`. -/
abbrev col (t : Fin cfg0.N) (b : Fin 512) : Fin 2048 := ⟨t.val * 512 + b.val, by have h : t.val < 4 := t.isLt; omega⟩

theorem iblk_0 (t : Fin cfg0.N) (a k : Fin 2048) : iblk m c 0 t (ix2 a k) = argX m c (ix2 a k) := by
  refine Eq.trans ?_ (congrFun (V_x m c) (ix2 a k))
  blk_simp [iblk]
  congr 1
  blk_ext [ix_0]
theorem iblk_1 (t : Fin cfg0.N) (b : Fin 512) (k : Fin 2048) : iblk m c 1 t (ix2 b k) = argW m c (ix2 (col t b) k) := by
  refine Eq.trans ?_ (congrFun (V_w m c) (ix2 (col t b) k))
  blk_simp [iblk]
  congr 1
  blk_ext [ix_1]

theorem out_apply (x : Vec Ideal S2048x2048 .bf16) (y : Vec Ideal S512x2048 .bf16) (a : Fin 2048) (b : Fin 512) :
    out0_2 x y (ix2 a b) = ∑ k, x (ix2 a k) * y (ix2 b k) := by
  unfold out0_2
  rw [View.canon_unit_zero start2, View.ld_unit_zero start2, View.ld_unit_zero start2]
  pointwise [k0_pay1, dot_S2048x2048_S512x2048_S2048x512_1_1_0_0_n_n]

/-- The result array is any that has these entries. -/
theorem final (W : FVec Ideal S2048x2048 .f32) (hW : ∀ a j, W (ix2 a j) = ∑ k, argX m c (ix2 a k) * argW m c (ix2 j k)) :
    (dats m 0 c).arrAt 2 cfg0.N = W := by
  refine (dats m 0 c).arrAt_eq_of_covers 2 _ (by decide +kernel) fun t hf y => ?_
  blk_simp
  rw [after0_2]
  obtain ⟨a, b, rfl⟩ : ∃ (a : Fin 2048) (b : Fin 512), y = ix2 a b := ix2_of y
  refine (out_apply _ _ a b).trans (Eq.trans ?_ ((hW a (col t b)).symm.trans (congrArg W ?_)))
  · exact Finset.sum_congr rfl fun k _ => congrArg₂ (· * ·) (iblk_0 m c t a k) (iblk_1 m c t b k)
  · blk_ext [ix_2]

end Cert.KernelOxIdeal.Ox

namespace Cert.KernelIfIdeal.If
open Idealize.ShloMosaic Idealize.ShloMosaic.TcCoe Idealize.ShloMosaic.StableHlo Cert.KernelIfIdeal.Gen

variable (m : (ℓ : Loc nD τ sig) → Buf (Elt Ideal) ℓ) (c : Dev nD)

abbrev argH : FVec Ideal S2048x2048 .f32 := m ((c.tc : Thread nD τ).loc main_arg0)
abbrev argW : FVec Ideal S2048x5120 .f32 := m ((c.tc : Thread nD τ).loc main_arg1)

theorem V_h : V m c main_v0 = truncf .bf16 (argH m c) bitsLt_bf16_f32 := by simp only [V, hostOps0]; after_results_simp
theorem V_w : V m c main_v1 = truncf .bf16 (argW m c) bitsLt_bf16_f32 := by simp only [V, hostOps0]; after_results_simp

theorem ix_0 : ∀ t : Fin cfg0.N, win0_0.index t = ![0, 0] := (by decide +kernel : ∀ t : Fin grid0.N, _)
theorem ix_1 : ∀ t : Fin cfg0.N, win0_1.index t = ![0, t.val] := (by decide +kernel : ∀ t : Fin grid0.N, _)
theorem ix_2 : ∀ t : Fin cfg0.N, win0_2.index t = ![0, t.val] := (by decide +kernel : ∀ t : Fin grid0.N, _)

/-- Column `b` of block `t`. -/
abbrev col (t : Fin cfg0.N) (b : Fin 512) : Fin 5120 := ⟨t.val * 512 + b.val, by have h : t.val < 10 := t.isLt; omega⟩

theorem iblk_0 (t : Fin cfg0.N) (a k : Fin 2048) : iblk m c 0 t (ix2 a k) = argH m c (ix2 a k) := by
  refine Eq.trans ?_ (congrFun (V_h m c) (ix2 a k))
  blk_simp [iblk]
  congr 1
  blk_ext [ix_0]
theorem iblk_1 (t : Fin cfg0.N) (k : Fin 2048) (b : Fin 512) : iblk m c 1 t (ix2 k b) = argW m c (ix2 k (col t b)) := by
  refine Eq.trans ?_ (congrFun (V_w m c) (ix2 k (col t b)))
  blk_simp [iblk]
  congr 1
  blk_ext [ix_1]

theorem out_apply (x : Vec Ideal S2048x2048 .bf16) (y : Vec Ideal S2048x512 .bf16) (a : Fin 2048) (b : Fin 512) :
    out0_2 x y (ix2 a b) = ∑ k, x (ix2 a k) * y (ix2 k b) := by
  unfold out0_2
  rw [View.canon_unit_zero start2, View.ld_unit_zero start2, View.ld_unit_zero start2]
  pointwise [k0_pay1, dot_S2048x2048_S2048x512_S2048x512_1_0_0_1_n_n]

/-- The result array is any that has these entries. -/
theorem final (W : FVec Ideal S2048x5120 .f32) (hW : ∀ a j, W (ix2 a j) = ∑ k, argH m c (ix2 a k) * argW m c (ix2 k j)) :
    (dats m 0 c).arrAt 2 cfg0.N = W := by
  refine (dats m 0 c).arrAt_eq_of_covers 2 _ (by decide +kernel) fun t hf y => ?_
  blk_simp
  rw [after0_2]
  obtain ⟨a, b, rfl⟩ : ∃ (a : Fin 2048) (b : Fin 512), y = ix2 a b := ix2_of y
  refine (out_apply _ _ a b).trans (Eq.trans ?_ ((hW a (col t b)).symm.trans (congrArg W ?_)))
  · exact Finset.sum_congr rfl fun k _ => congrArg₂ (· * ·) (iblk_0 m c t a k) (iblk_1 m c t k b)
  · blk_ext [ix_2]

end Cert.KernelIfIdeal.If

namespace Cert.KernelOfIdeal.Of
open Idealize.ShloMosaic Idealize.ShloMosaic.TcCoe Idealize.ShloMosaic.StableHlo Cert.KernelOfIdeal.Gen

variable (m : (ℓ : Loc nD τ sig) → Buf (Elt Ideal) ℓ) (c : Dev nD)

abbrev argM : FVec Ideal S2048x2048 .f32 := m ((c.tc : Thread nD τ).loc main_arg0)
abbrev argW : FVec Ideal S2048x2048 .f32 := m ((c.tc : Thread nD τ).loc main_arg1)
abbrev argX : FVec Ideal S2048x2048 .f32 := m ((c.tc : Thread nD τ).loc main_arg2)

theorem V_m : V m c main_v0 = truncf .bf16 (argM m c) bitsLt_bf16_f32 := by simp only [V, hostOps0]; after_results_simp
theorem V_w : V m c main_v1 = truncf .bf16 (argW m c) bitsLt_bf16_f32 := by simp only [V, hostOps0]; after_results_simp
theorem V_x : V m c main_arg2 = argX m c := by simp only [V, hostOps0]; after_results_simp

theorem ix_0 : ∀ t : Fin cfg0.N, win0_0.index t = ![t.val / 2, 0] := (by decide +kernel : ∀ t : Fin grid0.N, _)
theorem ix_1 : ∀ t : Fin cfg0.N, win0_1.index t = ![0, t.val % 2] := (by decide +kernel : ∀ t : Fin grid0.N, _)
theorem ix_2 : ∀ t : Fin cfg0.N, win0_2.index t = ![t.val / 2, t.val % 2] := (by decide +kernel : ∀ t : Fin grid0.N, _)
theorem ix_3 : ∀ t : Fin cfg0.N, win0_3.index t = ![t.val / 2, t.val % 2] := (by decide +kernel : ∀ t : Fin grid0.N, _)

/-- Row `a` and column `b` of block `t`. -/
abbrev row (t : Fin cfg0.N) (a : Fin 1024) : Fin 2048 := ⟨t.val / 2 * 1024 + a.val, by have h : t.val < 4 := t.isLt; omega⟩
abbrev col (t : Fin cfg0.N) (b : Fin 1024) : Fin 2048 := ⟨t.val % 2 * 1024 + b.val, by omega⟩

theorem iblk_0 (t : Fin cfg0.N) (a : Fin 1024) (k : Fin 2048) : iblk m c 0 t (ix2 a k) = argM m c (ix2 (row t a) k) := by
  refine Eq.trans ?_ (congrFun (V_m m c) (ix2 (row t a) k))
  blk_simp [iblk]
  congr 1
  blk_ext [ix_0]
theorem iblk_1 (t : Fin cfg0.N) (k : Fin 2048) (b : Fin 1024) : iblk m c 1 t (ix2 k b) = argW m c (ix2 k (col t b)) := by
  refine Eq.trans ?_ (congrFun (V_w m c) (ix2 k (col t b)))
  blk_simp [iblk]
  congr 1
  blk_ext [ix_1]
theorem iblk_2 (t : Fin cfg0.N) (a b : Fin 1024) : iblk m c 2 t (ix2 a b) = argX m c (ix2 (row t a) (col t b)) := by
  refine Eq.trans ?_ (congrFun (V_x m c) (ix2 (row t a) (col t b)))
  blk_simp [iblk]
  congr 1
  blk_ext [ix_2]

theorem out_apply (x : Vec Ideal S1024x2048 .bf16) (y : Vec Ideal S2048x1024 .bf16) (z : Vec Ideal S1024x1024 .f32) (a b : Fin 1024) :
    out0_3 x y z (ix2 a b) = (∑ k, x (ix2 a k) * y (ix2 k b)) + z (ix2 a b) := by
  unfold out0_3
  rw [View.canon_unit_zero start2, View.ld_unit_zero start2, View.ld_unit_zero start2, View.ld_unit_zero start2]
  pointwise [k0_pay1, dot_S1024x2048_S2048x1024_S1024x1024_1_0_0_1_n_n]

/-- The result array is any that has these entries. -/
theorem final (W : FVec Ideal S2048x2048 .f32)
    (hW : ∀ a j, W (ix2 a j) = (∑ k, argM m c (ix2 a k) * argW m c (ix2 k j)) + argX m c (ix2 a j)) :
    (dats m 0 c).arrAt 3 cfg0.N = W := by
  refine (dats m 0 c).arrAt_eq_of_covers 3 _ (by decide +kernel) fun t hf y => ?_
  blk_simp
  rw [after0_3]
  obtain ⟨a, b, rfl⟩ : ∃ (a : Fin 1024) (b : Fin 1024), y = ix2 a b := ix2_of y
  refine (out_apply _ _ _ a b).trans (Eq.trans ?_ ((hW (row t a) (col t b)).symm.trans (congrArg W ?_)))
  · exact congrArg₂ (· + ·) (Finset.sum_congr rfl fun k _ => congrArg₂ (· * ·) (iblk_0 m c t a k) (iblk_1 m c t k b)) (iblk_2 m c t a b)
  · blk_ext [ix_3]

end Cert.KernelOfIdeal.Of
-- ==== Proof.Ix.lean ====
module

public import proofs.«01_k».proof.Proof.Gen.KernelIxIdeal.Value
public import Idealize.ShloMosaic.Lib.Pipeline.ValueKit.Tiles
public import Idealize.ShloMosaic.Lib.Pipeline.ValueKit.Geometry
public import Idealize.ShloMosaic.Lib.Pointwise

/-! The gradient of the input projection's input: a product over the 5120 columns, which a carried block accumulates in
    two steps of 2560, and the residual added at the second. -/

@[expose] public section
set_option maxRecDepth 16384
noncomputable section
namespace Cert.KernelIxIdeal.Ix
open Idealize.ShloMosaic Idealize.ShloMosaic.TcCoe Idealize.ShloMosaic.StableHlo Cert.KernelIxIdeal.Gen

theorem start2 : (![0, 0] : Fin 2 → ℕ) = fun _ => 0 := funext fun a => by fin_cases a <;> rfl

/-! ## What a point leaves -/

section body
variable (c : Dev nD) (i : grid0.Coords) (p3 : Memref sig .tc .vmem S1024x2560 .bf16) (h3 : p3.IsWhole) (p4 : Memref sig .tc .vmem S512x2560 .bf16)
  (h4 : p4.IsWhole) (p5 : Memref sig .tc .vmem S1024x512 .f32) (h5 : p5.IsWhole) (p6 : Memref sig .tc .vmem S1024x512 .f32) (h6 : p6.IsWhole)
  (p7 : Memref sig .tc .vmem S1024x512 .f32) (h7 : p7.IsWhole)
  (x : Vec Ideal S1024x2560 .bf16) (y : Vec Ideal S512x2560 .bf16) (r z : Vec Ideal S1024x512 .f32)

theorem sout_A (hc0 : cond0_0 i) (hc1 : ¬cond0_1 i) (hc2 : ¬cond0_2 i) :
    sout0_A_0 c i p3 h3 p4 h4 p5 h5 p6 h6 p7 h7 hc0 hc1 hc2 x y r = k0_pay1 x y := by
  unfold sout0_A_0
  rw [View.read_writes_eq_canon _ _ _ (scover0_A_0 c i p3 h3 p4 h4 p5 h5 p6 h6 p7 h7 hc0 hc1 hc2 x y r)]
  unfold kernelRun0_A
  dsimp only
  rw [View.canon_unit_zero start2]
  unfold k0_pay2
  simp only [View.readAt_eq_ld, h3.read_unread, h4.read_unread, View.ld_unit_zero (S := S1024x2560) start2,
    View.ld_unit_zero (S := S512x2560) start2, shapeCast_self]

theorem out_B (hc0 : ¬cond0_0 i) (hc1 : cond0_1 i) (hc2 : cond0_2 i) :
    out0_B_3 c i p3 h3 p4 h4 p5 h5 p6 h6 p7 h7 hc0 hc1 hc2 x y r z = (addf (addf z (k0_pay1 x y)) r : FVec Ideal S1024x512 .f32) := by
  unfold out0_B_3
  rw [View.read_writes_eq_canon _ _ _ (cover0_B_3 c i p3 h3 p4 h4 p5 h5 p6 h6 p7 h7 hc0 hc1 hc2 x y r z)]
  unfold kernelRun0_B
  dsimp only
  sl_unfold_words
  rw [View.canon_unit_zero start2, View.readCov_unit_zero (S := S1024x512) _ start2]
  unfold k0_pay4 k0_pay3
  simp only [View.readAt_eq_ld, h3.read_unread, h4.read_unread, h5.read_unread, h7.read_unread, View.ld_unit_zero (S := S1024x2560) start2,
    View.ld_unit_zero (S := S512x2560) start2, View.ld_unit_zero (S := S1024x512) start2, shapeCast_self]
end body

theorem pay1_apply (x : Vec Ideal S1024x2560 .bf16) (y : Vec Ideal S512x2560 .bf16) (a : Fin 1024) (b : Fin 512) :
    k0_pay1 x y (ix2 a b) = ∑ k, x (ix2 a k) * y (ix2 b k) := by
  pointwise [k0_pay1, dot_S1024x2560_S512x2560_S1024x512_1_1_0_0_n_n]

/-! ## The blocks -/

variable (m : (ℓ : Loc nD τ sig) → Buf (Elt Ideal) ℓ) (c : Dev nD)

abbrev argW : FVec Ideal S2048x5120 .f32 := m ((c.tc : Thread nD τ).loc main_arg0)
abbrev argG : FVec Ideal S2048x5120 .f32 := m ((c.tc : Thread nD τ).loc main_arg1)
abbrev argR : FVec Ideal S2048x2048 .f32 := m ((c.tc : Thread nD τ).loc main_arg2)

theorem V_g : V m c main_v0 = truncf .bf16 (argG m c) bitsLt_bf16_f32 := by simp only [V, hostOps0]; after_results_simp
theorem V_w : V m c main_v1 = truncf .bf16 (argW m c) bitsLt_bf16_f32 := by simp only [V, hostOps0]; after_results_simp
theorem V_r : V m c main_arg2 = argR m c := by simp only [V, hostOps0]; after_results_simp

theorem ix_0 : ∀ t : Fin cfg0.N, win0_0.index t = ![t.val / 8, t.val % 2] := (by decide +kernel : ∀ t : Fin grid0.N, _)
theorem ix_1 : ∀ t : Fin cfg0.N, win0_1.index t = ![t.val / 2 % 4, t.val % 2] := (by decide +kernel : ∀ t : Fin grid0.N, _)
theorem ix_2 : ∀ t : Fin cfg0.N, win0_2.index t = ![t.val / 8, t.val / 2 % 4] := (by decide +kernel : ∀ t : Fin grid0.N, _)
theorem ix_3 : ∀ t : Fin cfg0.N, win0_3.index t = ![t.val / 8, t.val / 2 % 4] := (by decide +kernel : ∀ t : Fin grid0.N, _)

/-- The row of the result at row `a` of the block the point `t` works on, its column, and the column the product runs over. -/
abbrev row (t : Fin cfg0.N) (a : Fin 1024) : Fin 2048 := ⟨t.val / 8 * 1024 + a.val, by have h : t.val < 16 := t.isLt; omega⟩
abbrev col (t : Fin cfg0.N) (b : Fin 512) : Fin 2048 := ⟨t.val / 2 % 4 * 512 + b.val, by omega⟩
abbrev mid (t : Fin cfg0.N) (k : Fin 2560) : Fin 5120 := ⟨t.val % 2 * 2560 + k.val, by omega⟩

theorem iblk_0 (t : Fin cfg0.N) (a : Fin 1024) (k : Fin 2560) : iblk m c 0 t (ix2 a k) = argG m c (ix2 (row t a) (mid t k)) := by
  refine Eq.trans ?_ (congrFun (V_g m c) (ix2 (row t a) (mid t k)))
  blk_simp [iblk]
  congr 1
  blk_ext [ix_0]
theorem iblk_1 (t : Fin cfg0.N) (b : Fin 512) (k : Fin 2560) : iblk m c 1 t (ix2 b k) = argW m c (ix2 (col t b) (mid t k)) := by
  refine Eq.trans ?_ (congrFun (V_w m c) (ix2 (col t b) (mid t k)))
  blk_simp [iblk]
  congr 1
  blk_ext [ix_1]
theorem iblk_2 (t : Fin cfg0.N) (a : Fin 1024) (b : Fin 512) : iblk m c 2 t (ix2 a b) = argR m c (ix2 (row t a) (col t b)) := by
  refine Eq.trans ?_ (congrFun (V_r m c) (ix2 (row t a) (col t b)))
  blk_simp [iblk]
  congr 1
  blk_ext [ix_2]

/-- One step's product. -/
def step (t : Fin cfg0.N) : FVec Ideal S1024x512 .f32 := k0_pay1 (iblk m c 0 t) (iblk m c 1 t)

theorem step_apply (t : Fin cfg0.N) (a : Fin 1024) (b : Fin 512) :
    step m c t (ix2 a b) = ∑ k, argG m c (ix2 (row t a) (mid t k)) * argW m c (ix2 (col t b) (mid t k)) :=
  (pay1_apply _ _ a b).trans (Finset.sum_congr rfl fun k _ => congrArg₂ (· * ·) (iblk_0 m c t a k) (iblk_1 m c t b k))

/-! ## The carried block, and the result -/

theorem carried (t : Fin cfg0.N) (h : t.val % 2 = 0) : (outsAt0 m c t.val t.isLt).2 = step m c t := by
  rw [outsAt0_A m c t h (by omega) (by omega)]
  dsimp only
  rw [sout_A]
  rfl
theorem flushed (t : Fin cfg0.N) (h : t.val % 2 = 1) :
    (outsAt0 m c t.val t.isLt).1
      = (addf (addf (outsAt0 m c (t.val - 1) (Nat.lt_of_le_of_lt (Nat.sub_le _ _) t.isLt)).2 (step m c t)) (iblk m c 2 t) : FVec Ideal S1024x512 .f32) := by
  rw [outsAt0_B m c t (by omega) h h]
  dsimp only
  rw [out_B]
  rfl

theorem second_eq (n : ℕ) (h : 2 * n + 1 < cfg0.N) :
    (outsAt0 m c (2 * n + 1) h).1
      = (addf (addf (step m c ⟨2 * n, by omega⟩) (step m c ⟨2 * n + 1, h⟩)) (iblk m c 2 ⟨2 * n + 1, h⟩) : FVec Ideal S1024x512 .f32) :=
  (flushed m c ⟨2 * n + 1, h⟩ (by show (2 * n + 1) % 2 = 1; omega)).trans
    (congrArg (fun z : FVec Ideal S1024x512 .f32 => addf (addf z _) _) (carried m c ⟨2 * n, by omega⟩ (by show (2 * n) % 2 = 0; omega)))

theorem second_apply (n : ℕ) (h : 2 * n + 1 < cfg0.N) (a : Fin 1024) (b : Fin 512) :
    (outsAt0 m c (2 * n + 1) h).1 (ix2 a b)
      = (∑ j, argG m c (ix2 (row ⟨2 * n + 1, h⟩ a) j) * argW m c (ix2 (col ⟨2 * n + 1, h⟩ b) j))
        + argR m c (ix2 (row ⟨2 * n + 1, h⟩ a) (col ⟨2 * n + 1, h⟩ b)) := by
  rw [second_eq, ← Fin.sum_mul_add_fin 2 2560 fun j => argG m c (ix2 (row ⟨2 * n + 1, h⟩ a) j) * argW m c (ix2 (col ⟨2 * n + 1, h⟩ b) j),
    Fin.sum_univ_two]
  have e : ∀ (s : Fin 2), step m c ⟨2 * n + s.val, by omega⟩ (ix2 a b)
      = ∑ k : Fin 2560, argG m c (ix2 (row ⟨2 * n + 1, h⟩ a) ⟨s.val * 2560 + k.val, by omega⟩) * argW m c (ix2 (col ⟨2 * n + 1, h⟩ b) ⟨s.val * 2560 + k.val, by omega⟩) := fun s => by
    have hr : row (⟨2 * n + s.val, by omega⟩ : Fin cfg0.N) a = row ⟨2 * n + 1, h⟩ a := Fin.ext (by show (2 * n + s.val) / 8 * 1024 + a.val = (2 * n + 1) / 8 * 1024 + a.val; omega)
    have hc : col (⟨2 * n + s.val, by omega⟩ : Fin cfg0.N) b = col ⟨2 * n + 1, h⟩ b := Fin.ext (by show (2 * n + s.val) / 2 % 4 * 512 + b.val = (2 * n + 1) / 2 % 4 * 512 + b.val; omega)
    have hm : ∀ k, mid (⟨2 * n + s.val, by omega⟩ : Fin cfg0.N) k = ⟨s.val * 2560 + k.val, by omega⟩ := fun k => Fin.ext (by show (2 * n + s.val) % 2 * 2560 + k.val = s.val * 2560 + k.val; omega)
    rw [step_apply, hr, hc]
    exact Finset.sum_congr rfl fun k _ => by rw [hm]
  exact congrArg₂ (· + ·) (congrArg₂ (· + ·) (e 0) (e 1)) (iblk_2 m c ⟨2 * n + 1, h⟩ a b)

theorem last_apply (t : Fin cfg0.N) (h : t.val % 2 = 1) (a : Fin 1024) (b : Fin 512) :
    (outsAt0 m c t.val t.isLt).1 (ix2 a b)
      = (∑ j, argG m c (ix2 (row t a) j) * argW m c (ix2 (col t b) j)) + argR m c (ix2 (row t a) (col t b)) := by
  obtain ⟨v, hv⟩ := t
  obtain ⟨n, rfl⟩ : ∃ n, v = 2 * n + 1 := ⟨v / 2, by dsimp only at h; omega⟩
  exact second_apply m c n hv a b

/-- The result array is any that has these entries. -/
theorem final (W : FVec Ideal S2048x2048 .f32)
    (hW : ∀ a b, W (ix2 a b) = (∑ j, argG m c (ix2 a j) * argW m c (ix2 b j)) + argR m c (ix2 a b)) :
    (dats m 0 c).arrAt 3 cfg0.N = W := by
  refine (dats m 0 c).arrAt_eq_of_covers 3 _ (by decide +kernel) fun t hf y => ?_
  have h1 : t.val % 2 = 1 := (flush0_3 t).mp hf
  blk_simp
  rw [after0_3]
  obtain ⟨a, b, rfl⟩ : ∃ (a : Fin 1024) (b : Fin 512), y = ix2 a b := ⟨y 0, y 1, by funext x; fin_cases x <;> rfl⟩
  refine (last_apply m c t h1 a b).trans ((hW _ _).symm.trans (congrArg W ?_))
  blk_ext [ix_3]

end Cert.KernelIxIdeal.Ix
-- ==== Proof.Gw.lean ====
module

public import proofs.«01_k».proof.Proof.Gen.KernelGwIdeal.Value
public import proofs.«01_k».proof.Proof.Gen.ReferenceGwIdeal.Run
public import Idealize.ShloMosaic.Lib.Pipeline.ValueKit.Tiles
public import Idealize.ShloMosaic.Lib.Pipeline.ValueKit.Geometry
public import Idealize.ShloMosaic.Lib.Pointwise

/-! The gradient of the gate and up projections' weights: a product over the rows. The cotangent comes as two planes, the
    result goes to four chips, each with 2816 of the 11264 columns. -/

@[expose] public section
set_option maxRecDepth 16384
noncomputable section
namespace Cert.KernelGwIdeal.Gw
open Idealize.ShloMosaic Idealize.ShloMosaic.TcCoe Idealize.ShloMosaic.StableHlo Cert.KernelGwIdeal.Gen

variable (m : (ℓ : Loc nD τ sig) → Buf (Elt Ideal) ℓ) (c : Dev nD)

abbrev argH : FVec Ideal S2048x2048 .f32 := m ((c.tc : Thread nD τ).loc main_arg0)
abbrev argG : FVec Ideal S2048x11264 .f32 := m ((c.tc : Thread nD τ).loc main_arg1)

/-- The cotangent as two planes. -/
def planes (g : FVec Ideal S2048x11264 .f32) : FVec Ideal S2x2048x5632 .bf16 :=
  truncf .bf16 (transpose S2x2048x5632 [1, 0, 2] (shapeCast S2048x2x5632 g shapeCasts_S2048x11264_S2048x2x5632) transposes_S2048x2x5632_S2x2048x5632_1_0_2) bitsLt_bf16_f32

theorem planes_apply (g : FVec Ideal S2048x11264 .f32) (p : Fin 2) (k : Fin 2048) (j : Fin 5632) :
    planes g (ix3 p k j) = g (ix2 k ⟨p.val * 5632 + j.val, by omega⟩) := by
  pointwise [planes]

theorem V_h : V m c main_v0 = truncf .bf16 (argH m c) bitsLt_bf16_f32 := by
  simp only [V, hostOps0]
  after_results_simp
theorem V_g : V m c main_v3 = planes (argG m c) := by
  simp only [V, hostOps0]
  after_results_simp
  rfl

theorem ix_0 : ∀ t : Fin cfg0.N, win0_0.index t = ![0, t.val / 8] := (by decide +kernel : ∀ t : Fin grid0.N, _)
theorem ix_1 : ∀ t : Fin cfg0.N, win0_1.index t = ![t.val % 8 / 4, 0, t.val % 4] := (by decide +kernel : ∀ t : Fin grid0.N, _)
theorem ix_2 : ∀ t : Fin cfg0.N, win0_2.index t = ![t.val % 8 / 2, t.val / 8, t.val % 2] := (by decide +kernel : ∀ t : Fin grid0.N, _)

/-- The row of the weights at row `a` of block `t`, and the column of the cotangent at its column `b`. -/
abbrev row (t : Fin cfg0.N) (a : Fin 1024) : Fin 2048 := ⟨t.val / 8 * 1024 + a.val, by have h : t.val < 16 := t.isLt; omega⟩
abbrev col (t : Fin cfg0.N) (b : Fin 1408) : Fin 11264 := ⟨t.val % 8 * 1408 + b.val, by omega⟩

theorem iblk_0 (t : Fin cfg0.N) (k : Fin 2048) (a : Fin 1024) : iblk m c 0 t (ix2 k a) = argH m c (ix2 k (row t a)) := by
  refine Eq.trans ?_ (congrFun (V_h m c) (ix2 k (row t a)))
  blk_simp [iblk]
  congr 1
  blk_ext [ix_0]
theorem iblk_1 (t : Fin cfg0.N) (k : Fin 2048) (b : Fin 1408) : iblk m c 1 t (ix3 0 k b) = argG m c (ix2 k (col t b)) := by
  refine Eq.trans ?_ ((congrFun (V_g m c) (ix3 ⟨t.val % 8 / 4, by omega⟩ k ⟨t.val % 4 * 1408 + b.val, by omega⟩)).trans ((planes_apply _ _ _ _).trans (congrArg (fun j => argG m c (ix2 k j)) (Fin.ext ?_))))
  · blk_simp [iblk]
    congr 1
    blk_ext [ix_1]
  · show t.val % 8 / 4 * 5632 + (t.val % 4 * 1408 + b.val) = t.val % 8 * 1408 + b.val
    omega

/-- What the body leaves in the result's block: the product of the blocks over their rows. -/
theorem out_apply (x : Vec Ideal S2048x1024 .bf16) (y : Vec Ideal S1x2048x1408 .bf16) (a : Fin 1024) (b : Fin 1408) :
    out0_2 x y (ix3 0 a b) = ∑ k, x (ix2 k a) * y (ix3 0 k b) := by
  have h0 : (![0, 0] : Fin 2 → ℕ) = fun _ => 0 := funext fun a => by fin_cases a <;> rfl
  have h1 : (![0, 0, 0] : Fin 3 → ℕ) = fun _ => 0 := funext fun a => by fin_cases a <;> rfl
  unfold out0_2
  rw [View.canon_unit_zero h1, View.ld_unit_zero h0, View.ld_unit_zero h1]
  pointwise [k0_pay1, dot_S2048x1024_S2048x1408_S1024x1408_0_0_1_1_n_n]

/-- The result array is any that has these entries. -/
theorem final (W : FVec Ideal S4x2048x2816 .bf16)
    (hW : ∀ q d j, W (ix3 q d j) = ∑ k, argH m c (ix2 k d) * argG m c (ix2 k ⟨q.val * 2816 + j.val, by omega⟩)) :
    (dats m 0 c).arrAt 2 cfg0.N = W := by
  refine (dats m 0 c).arrAt_eq_of_covers 2 _ (by decide +kernel) fun t hf y => ?_
  blk_simp
  rw [after0_2]
  obtain ⟨a, b, rfl⟩ : ∃ (a : Fin 1024) (b : Fin 1408), y = ix3 0 a b := ⟨y 1, y 2, by funext a; fin_cases a <;> first | exact Fin.fin_one_eq_zero _ | rfl⟩
  refine (out_apply _ _ a b).trans (Eq.trans ?_ ((hW ⟨t.val % 8 / 2, by omega⟩ (row t a) ⟨t.val % 2 * 1408 + b.val, by omega⟩).symm.trans (congrArg W ?_)))
  · refine Finset.sum_congr rfl fun k _ => congrArg₂ (· * ·) (iblk_0 m c t k a) ((iblk_1 m c t k b).trans (congrArg (fun j => argG m c (ix2 k j)) (Fin.ext ?_)))
    show t.val % 8 * 1408 + b.val = t.val % 8 / 2 * 2816 + (t.val % 2 * 1408 + b.val)
    omega
  · blk_ext [ix_2]

end Cert.KernelGwIdeal.Gw

namespace Cert.ReferenceGwIdeal.Gw
open Idealize.ShloMosaic Idealize.ShloMosaic.TcCoe Cert.ReferenceGwIdeal Cert.ReferenceGwIdeal.Gen

/-- The reference's result. -/
def res (h : FVec Ideal S2048x2048 .f32) (g : FVec Ideal S2048x11264 .f32) : FVec Ideal S4x2048x2816 .bf16 :=
  truncf .bf16 (transpose S4x2048x2816 [1, 0, 2] (shapeCast S2048x4x2816 (transpose S2048x11264 [1, 0] (Host.dotGeneral dot_S2048x11264_S2048x2048_S11264x2048_0_0_1_1_n_n none g h) transposes_S11264x2048_S2048x11264_1_0) shapeCasts_S2048x11264_S2048x4x2816) transposes_S2048x4x2816_S4x2048x2816_1_0_2) bitsLt_bf16_f32

theorem res_apply (h : FVec Ideal S2048x2048 .f32) (g : FVec Ideal S2048x11264 .f32) (q : Fin 4) (d : Fin 2048) (j : Fin 2816) :
    res h g (ix3 q d j) = ∑ k, h (ix2 k d) * g (ix2 k ⟨q.val * 2816 + j.val, by omega⟩) := by
  pointwise [res, dot_S2048x11264_S2048x2048_S11264x2048_0_0_1_1_n_n]
  exact Finset.sum_congr rfl fun k _ => mul_comm _ _

end Cert.ReferenceGwIdeal.Gw
-- ==== Proof.Gx.lean ====
module

public import proofs.«01_k».proof.Proof.Gw
public import proofs.«01_k».proof.Proof.Gen.KernelGxIdeal.Value
public import proofs.«01_k».proof.Proof.Gen.ReferenceGxIdeal.Run
public import Idealize.ShloMosaic.Lib.Pipeline.ValueKit.Tiles
public import Idealize.ShloMosaic.Lib.Pipeline.ValueKit.Geometry
public import Idealize.ShloMosaic.Lib.Pointwise

/-! The gradient of the gate and up projections' input: a product over the 11264 columns, which a carried block
    accumulates in four steps of 2816. -/

@[expose] public section
set_option maxRecDepth 16384
noncomputable section
namespace Cert.KernelGxIdeal.Gx
open Idealize.ShloMosaic Idealize.ShloMosaic.TcCoe Idealize.ShloMosaic.StableHlo Cert.KernelGxIdeal.Gen Cert.KernelGwIdeal.Gw

theorem start2 : (![0, 0] : Fin 2 → ℕ) = fun _ => 0 := funext fun a => by fin_cases a <;> rfl
theorem start3 : (![0, 0, 0] : Fin 3 → ℕ) = fun _ => 0 := funext fun a => by fin_cases a <;> rfl

/-! ## What a point leaves -/

section body
variable (c : Dev nD) (i : grid0.Coords) (p3 : Memref sig .tc .vmem S1x1024x2816 .bf16) (h3 : p3.IsWhole) (p4 : Memref sig .tc .vmem S1x1024x2816 .bf16)
  (h4 : p4.IsWhole) (p5 : Memref sig .tc .vmem S1024x1024 .f32) (h5 : p5.IsWhole) (p6 : Memref sig .tc .vmem S1024x1024 .f32) (h6 : p6.IsWhole)
  (x y : Vec Ideal S1x1024x2816 .bf16) (z : Vec Ideal S1024x1024 .f32)

theorem sout_A (hc0 : cond0_0 i) (hc1 : ¬cond0_1 i) (hc2 : ¬cond0_2 i) :
    sout0_A_0 c i p3 h3 p4 h4 p5 h5 p6 h6 hc0 hc1 hc2 x y = k0_pay1 x y := by
  unfold sout0_A_0
  rw [View.read_writes_eq_canon _ _ _ (scover0_A_0 c i p3 h3 p4 h4 p5 h5 p6 h6 hc0 hc1 hc2 x y)]
  unfold kernelRun0_A
  dsimp only
  rw [View.canon_unit_zero start2]
  unfold k0_pay2
  simp only [View.readAt_eq_ld, h3.read_unread, h4.read_unread, View.ld_unit_zero (S := S1x1024x2816) start3, shapeCast_self]

theorem sout_B (hc0 : ¬cond0_0 i) (hc1 : cond0_1 i) (hc2 : ¬cond0_2 i) :
    sout0_B_0 c i p3 h3 p4 h4 p5 h5 p6 h6 hc0 hc1 hc2 x y z = addf z (k0_pay1 x y) := by
  unfold sout0_B_0
  rw [View.read_writes_eq_canon _ _ _ (scover0_B_0 c i p3 h3 p4 h4 p5 h5 p6 h6 hc0 hc1 hc2 x y z)]
  unfold kernelRun0_B
  dsimp only
  rw [View.canon_unit_zero start2]
  unfold k0_pay3
  simp only [View.readAt_eq_ld, h3.read_unread, h4.read_unread, h6.read_unread, View.ld_unit_zero (S := S1x1024x2816) start3,
    View.ld_unit_zero (S := S1024x1024) start2, shapeCast_self]

theorem out_C (hc0 : ¬cond0_0 i) (hc1 : cond0_1 i) (hc2 : cond0_2 i) :
    out0_C_2 c i p3 h3 p4 h4 p5 h5 p6 h6 hc0 hc1 hc2 x y z = addf z (k0_pay1 x y) := by
  unfold out0_C_2
  rw [View.read_writes_eq_canon _ _ _ (cover0_C_2 c i p3 h3 p4 h4 p5 h5 p6 h6 hc0 hc1 hc2 x y z)]
  unfold kernelRun0_C
  dsimp only
  sl_unfold_words
  rw [View.canon_unit_zero start2, View.readCov_unit_zero (S := S1024x1024) _ start2]
  unfold k0_pay3
  simp only [View.readAt_eq_ld, h3.read_unread, h4.read_unread, h6.read_unread, View.ld_unit_zero (S := S1x1024x2816) start3,
    View.ld_unit_zero (S := S1024x1024) start2, shapeCast_self]
end body

theorem pay1_apply (x y : Vec Ideal S1x1024x2816 .bf16) (a b : Fin 1024) :
    k0_pay1 x y (ix2 a b) = ∑ k, x (ix3 0 a k) * y (ix3 0 b k) := by
  pointwise [k0_pay1, dot_S1024x2816_S1024x2816_S1024x1024_1_1_0_0_n_n]

/-! ## The blocks -/

variable (m : (ℓ : Loc nD τ sig) → Buf (Elt Ideal) ℓ) (c : Dev nD)

abbrev argW : FVec Ideal S2048x11264 .f32 := m ((c.tc : Thread nD τ).loc main_arg0)
abbrev argG : FVec Ideal S2048x11264 .f32 := m ((c.tc : Thread nD τ).loc main_arg1)

/-- The weights as the four chips' columns. -/
def chips (w : FVec Ideal S2048x11264 .f32) : FVec Ideal S4x2048x2816 .bf16 :=
  truncf .bf16 (transpose S4x2048x2816 [1, 0, 2] (shapeCast S2048x4x2816 w shapeCasts_S2048x11264_S2048x4x2816) transposes_S2048x4x2816_S4x2048x2816_1_0_2) bitsLt_bf16_f32

theorem chips_apply (w : FVec Ideal S2048x11264 .f32) (q : Fin 4) (k : Fin 2048) (j : Fin 2816) :
    chips w (ix3 q k j) = w (ix2 k ⟨q.val * 2816 + j.val, by omega⟩) := by
  pointwise [chips]

theorem V_g : V m c main_v2 = planes (argG m c) := by
  simp only [V, hostOps0]
  after_results_simp
  rfl
theorem V_w : V m c main_v5 = chips (argW m c) := by
  simp only [V, hostOps0]
  after_results_simp
  rfl

theorem ix_0 : ∀ t : Fin cfg0.N, win0_0.index t = ![t.val % 4 / 2, t.val / 8, t.val % 2] := (by decide +kernel : ∀ t : Fin grid0.N, _)
theorem ix_1 : ∀ t : Fin cfg0.N, win0_1.index t = ![t.val % 4, t.val / 4 % 2, 0] := (by decide +kernel : ∀ t : Fin grid0.N, _)
theorem ix_2 : ∀ t : Fin cfg0.N, win0_2.index t = ![t.val / 8, t.val / 4 % 2] := (by decide +kernel : ∀ t : Fin grid0.N, _)

/-- The row of the result at row `a` of the block the point `t` works on, its column, and the column the product runs over. -/
abbrev row (t : Fin cfg0.N) (a : Fin 1024) : Fin 2048 := ⟨t.val / 8 * 1024 + a.val, by have h : t.val < 16 := t.isLt; omega⟩
abbrev col (t : Fin cfg0.N) (b : Fin 1024) : Fin 2048 := ⟨t.val / 4 % 2 * 1024 + b.val, by omega⟩
abbrev mid (t : Fin cfg0.N) (k : Fin 2816) : Fin 11264 := ⟨t.val % 4 * 2816 + k.val, by omega⟩

theorem iblk_0 (t : Fin cfg0.N) (a : Fin 1024) (k : Fin 2816) : iblk m c 0 t (ix3 0 a k) = argG m c (ix2 (row t a) (mid t k)) := by
  refine Eq.trans ?_ ((congrFun (V_g m c) (ix3 ⟨t.val % 4 / 2, by omega⟩ (row t a) ⟨t.val % 2 * 2816 + k.val, by omega⟩)).trans
    ((planes_apply _ _ _ _).trans (congrArg (fun j => argG m c (ix2 (row t a) j)) (Fin.ext ?_))))
  · blk_simp [iblk]
    congr 1
    blk_ext [ix_0]
  · show t.val % 4 / 2 * 5632 + (t.val % 2 * 2816 + k.val) = t.val % 4 * 2816 + k.val
    omega
theorem iblk_1 (t : Fin cfg0.N) (b : Fin 1024) (k : Fin 2816) : iblk m c 1 t (ix3 0 b k) = argW m c (ix2 (col t b) (mid t k)) := by
  refine Eq.trans ?_ ((congrFun (V_w m c) (ix3 ⟨t.val % 4, by omega⟩ (col t b) k)).trans (chips_apply _ _ _ _))
  blk_simp [iblk]
  congr 1
  blk_ext [ix_1]

/-- One step's product. -/
def step (t : Fin cfg0.N) : FVec Ideal S1024x1024 .f32 := k0_pay1 (iblk m c 0 t) (iblk m c 1 t)

theorem step_apply (t : Fin cfg0.N) (a b : Fin 1024) :
    step m c t (ix2 a b) = ∑ k, argG m c (ix2 (row t a) (mid t k)) * argW m c (ix2 (col t b) (mid t k)) :=
  (pay1_apply _ _ a b).trans (Finset.sum_congr rfl fun k _ => congrArg₂ (· * ·) (iblk_0 m c t a k) (iblk_1 m c t b k))

/-! ## The carried block, and the result -/

theorem carried_0 (t : Fin cfg0.N) (h : t.val % 4 = 0) : (outsAt0 m c t.val t.isLt).2 = step m c t := by
  rw [outsAt0_A m c t h (by omega) (by omega)]
  dsimp only
  rw [sout_A]
  rfl
theorem carried_succ (t : Fin cfg0.N) (h0 : 1 ≤ t.val % 4) (h1 : t.val % 4 < 3) :
    (outsAt0 m c t.val t.isLt).2 = (addf (outsAt0 m c (t.val - 1) (Nat.lt_of_le_of_lt (Nat.sub_le _ _) t.isLt)).2 (step m c t) : FVec Ideal S1024x1024 .f32) := by
  rw [outsAt0_B m c t (by omega) h0 (by omega)]
  dsimp only
  rw [sout_B]
  rfl
theorem flushed_last (t : Fin cfg0.N) (h : t.val % 4 = 3) :
    (outsAt0 m c t.val t.isLt).1 = (addf (outsAt0 m c (t.val - 1) (Nat.lt_of_le_of_lt (Nat.sub_le _ _) t.isLt)).2 (step m c t) : FVec Ideal S1024x1024 .f32) := by
  rw [outsAt0_C m c t (by omega) (by omega) h]
  dsimp only
  rw [out_C]
  rfl

/-- What the last of the four steps leaves: the sum of the four products. -/
theorem last_eq (n : ℕ) (h : 4 * n + 3 < cfg0.N) :
    (outsAt0 m c (4 * n + 3) h).1 = (addf (addf (addf (step m c ⟨4 * n, by omega⟩) (step m c ⟨4 * n + 1, by omega⟩)) (step m c ⟨4 * n + 2, by omega⟩)) (step m c ⟨4 * n + 3, h⟩) : FVec Ideal S1024x1024 .f32) := by
  refine (flushed_last m c ⟨4 * n + 3, h⟩ (by show (4 * n + 3) % 4 = 3; omega)).trans (congrArg (fun z : FVec Ideal S1024x1024 .f32 => addf z _) ?_)
  refine (carried_succ m c ⟨4 * n + 2, by omega⟩ (by show 1 ≤ (4 * n + 2) % 4; omega) (by show (4 * n + 2) % 4 < 3; omega)).trans (congrArg (fun z : FVec Ideal S1024x1024 .f32 => addf z _) ?_)
  refine (carried_succ m c ⟨4 * n + 1, by omega⟩ (by show 1 ≤ (4 * n + 1) % 4; omega) (by show (4 * n + 1) % 4 < 3; omega)).trans (congrArg (fun z : FVec Ideal S1024x1024 .f32 => addf z _) ?_)
  exact carried_0 m c ⟨4 * n, by omega⟩ (by show (4 * n) % 4 = 0; omega)

theorem fourth_apply (n : ℕ) (h : 4 * n + 3 < cfg0.N) (a b : Fin 1024) :
    (outsAt0 m c (4 * n + 3) h).1 (ix2 a b)
      = ∑ j, argG m c (ix2 (row ⟨4 * n + 3, h⟩ a) j) * argW m c (ix2 (col ⟨4 * n + 3, h⟩ b) j) := by
  rw [last_eq, ← Fin.sum_mul_add_fin 4 2816 fun j => argG m c (ix2 (row ⟨4 * n + 3, h⟩ a) j) * argW m c (ix2 (col ⟨4 * n + 3, h⟩ b) j),
    Fin.sum_univ_four]
  have e : ∀ (s : Fin 4), step m c ⟨4 * n + s.val, by omega⟩ (ix2 a b)
      = ∑ k : Fin 2816, argG m c (ix2 (row ⟨4 * n + 3, h⟩ a) ⟨s.val * 2816 + k.val, by omega⟩) * argW m c (ix2 (col ⟨4 * n + 3, h⟩ b) ⟨s.val * 2816 + k.val, by omega⟩) := fun s => by
    have hr : row (⟨4 * n + s.val, by omega⟩ : Fin cfg0.N) a = row ⟨4 * n + 3, h⟩ a := Fin.ext (by show (4 * n + s.val) / 8 * 1024 + a.val = (4 * n + 3) / 8 * 1024 + a.val; omega)
    have hc : col (⟨4 * n + s.val, by omega⟩ : Fin cfg0.N) b = col ⟨4 * n + 3, h⟩ b := Fin.ext (by show (4 * n + s.val) / 4 % 2 * 1024 + b.val = (4 * n + 3) / 4 % 2 * 1024 + b.val; omega)
    have hm : ∀ k, mid (⟨4 * n + s.val, by omega⟩ : Fin cfg0.N) k = ⟨s.val * 2816 + k.val, by omega⟩ := fun k => Fin.ext (by show (4 * n + s.val) % 4 * 2816 + k.val = s.val * 2816 + k.val; omega)
    rw [step_apply, hr, hc]
    exact Finset.sum_congr rfl fun k _ => by rw [hm]
  exact congrArg₂ (· + ·) (congrArg₂ (· + ·) (congrArg₂ (· + ·) (e 0) (e 1)) (e 2)) (e 3)

theorem last_apply (t : Fin cfg0.N) (h : t.val % 4 = 3) (a b : Fin 1024) :
    (outsAt0 m c t.val t.isLt).1 (ix2 a b) = ∑ j, argG m c (ix2 (row t a) j) * argW m c (ix2 (col t b) j) := by
  obtain ⟨v, hv⟩ := t
  obtain ⟨n, rfl⟩ : ∃ n, v = 4 * n + 3 := ⟨v / 4, by dsimp only at h; omega⟩
  exact fourth_apply m c n hv a b

/-- The result array is any that has these entries. -/
theorem final (W : FVec Ideal S2048x2048 .f32) (hW : ∀ a b, W (ix2 a b) = ∑ j, argG m c (ix2 a j) * argW m c (ix2 b j)) :
    (dats m 0 c).arrAt 2 cfg0.N = W := by
  refine (dats m 0 c).arrAt_eq_of_covers 2 _ (by decide +kernel) fun t hf y => ?_
  have h3 : t.val % 4 = 3 := (flush0_2 t).mp hf
  blk_simp
  rw [after0_2]
  obtain ⟨a, b, rfl⟩ : ∃ (a : Fin 1024) (b : Fin 1024), y = ix2 a b := ⟨y 0, y 1, by funext x; fin_cases x <;> rfl⟩
  refine (last_apply m c t h3 a b).trans ((hW _ _).symm.trans (congrArg W ?_))
  blk_ext [ix_2]

end Cert.KernelGxIdeal.Gx
-- ==== Proof.Dw.lean ====
module

public import proofs.«01_k».proof.Proof.Gen.KernelDwIdeal.Value
public import proofs.«01_k».proof.Proof.Gen.ReferenceDwIdeal.Run
public import Idealize.ShloMosaic.Lib.Pipeline.ValueKit.Tiles
public import Idealize.ShloMosaic.Lib.Pipeline.ValueKit.Geometry
public import Idealize.ShloMosaic.Lib.Pointwise

/-! The gradient of the down projection's weights: a product over the rows, by blocks of 512 of its rows. -/

@[expose] public section
set_option maxRecDepth 16384
noncomputable section
namespace Cert.KernelDwIdeal.Dw
open Idealize.ShloMosaic Idealize.ShloMosaic.TcCoe Idealize.ShloMosaic.StableHlo Cert.KernelDwIdeal.Gen

variable (m : (ℓ : Loc nD τ sig) → Buf (Elt Ideal) ℓ) (c : Dev nD)

abbrev argA : FVec Ideal S2048x5632 .f32 := m ((c.tc : Thread nD τ).loc main_arg0)
abbrev argY : FVec Ideal S2048x2048 .f32 := m ((c.tc : Thread nD τ).loc main_arg1)

theorem V_a : V m c main_v0 = truncf .bf16 (argA m c) bitsLt_bf16_f32 := by
  simp only [V, hostOps0]
  after_results_simp
theorem V_y : V m c main_v1 = truncf .bf16 (argY m c) bitsLt_bf16_f32 := by
  simp only [V, hostOps0]
  after_results_simp

theorem ix_0 : ∀ t : Fin cfg0.N, win0_0.index t = ![0, t.val] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

/-- Row `a` of the result's block `t`. -/
abbrev row (t : Fin cfg0.N) (a : Fin 512) : Fin 5632 := ⟨t.val * 512 + a.val, by have h : t.val < 11 := t.isLt; omega⟩

theorem iblk_0 (t : Fin cfg0.N) (k : Fin 2048) (a : Fin 512) : iblk m c 0 t (ix2 k a) = argA m c (ix2 k (row t a)) := by
  refine Eq.trans ?_ (congrFun (V_a m c) (ix2 k (row t a)))
  blk_simp [iblk]
  congr 1
  blk_ext [ix_0]
theorem iblk_1 (t : Fin cfg0.N) (k b : Fin 2048) : iblk m c 1 t (ix2 k b) = argY m c (ix2 k b) := by
  refine Eq.trans ?_ (congrFun (V_y m c) (ix2 k b))
  blk_simp [iblk]
  congr 1
  blk_ext [ix_1]

/-- What the body leaves in the result's block: the product of the blocks over their rows. -/
theorem out_apply (x : Vec Ideal S2048x512 .bf16) (y : Vec Ideal S2048x2048 .bf16) (a : Fin 512) (b : Fin 2048) :
    out0_2 x y (ix2 a b) = ∑ k, x (ix2 k a) * y (ix2 k b) := by
  have h0 : (![0, 0] : Fin 2 → ℕ) = fun _ => 0 := funext fun a => by fin_cases a <;> rfl
  unfold out0_2
  rw [View.canon_unit_zero h0, View.ld_unit_zero h0, View.ld_unit_zero h0]
  pointwise [k0_pay1, dot_S2048x512_S2048x2048_S512x2048_0_0_1_1_n_n]

/-- The result array is any that has these entries. -/
theorem final (W : FVec Ideal S5632x2048 .bf16) (hW : ∀ f d, W (ix2 f d) = ∑ k, argA m c (ix2 k f) * argY m c (ix2 k d)) :
    (dats m 0 c).arrAt 2 cfg0.N = W := by
  refine (dats m 0 c).arrAt_eq_of_covers 2 _ (by decide +kernel) fun t hf y => ?_
  blk_simp
  rw [after0_2]
  obtain ⟨a, b, rfl⟩ : ∃ (a : Fin 512) (b : Fin 2048), y = ix2 a b := ⟨y 0, y 1, by funext a; fin_cases a <;> rfl⟩
  refine (out_apply _ _ a b).trans (Eq.trans ?_ ((hW (row t a) b).symm.trans (congrArg W ?_)))
  · exact Finset.sum_congr rfl fun k _ => congrArg₂ (· * ·) (iblk_0 m c t k a) (iblk_1 m c t k b)
  · blk_ext [ix_2]

end Cert.KernelDwIdeal.Dw

namespace Cert.ReferenceDwIdeal.Dw
open Idealize.ShloMosaic Idealize.ShloMosaic.TcCoe Cert.ReferenceDwIdeal Cert.ReferenceDwIdeal.Gen

/-- The reference's result. -/
def res (a : FVec Ideal S2048x5632 .f32) (y : FVec Ideal S2048x2048 .f32) : FVec Ideal S5632x2048 .bf16 :=
  truncf .bf16 (transpose S5632x2048 [1, 0] (Host.dotGeneral dot_S2048x2048_S2048x5632_S2048x5632_0_0_1_1_n_n none y a) transposes_S2048x5632_S5632x2048_1_0) bitsLt_bf16_f32

theorem res_apply (a : FVec Ideal S2048x5632 .f32) (y : FVec Ideal S2048x2048 .f32) (f : Fin 5632) (d : Fin 2048) :
    res a y (ix2 f d) = ∑ k, a (ix2 k f) * y (ix2 k d) := by
  pointwise [res, dot_S2048x2048_S2048x5632_S2048x5632_0_0_1_1_n_n]
  exact Finset.sum_congr rfl fun k _ => mul_comm _ _

end Cert.ReferenceDwIdeal.Dw
-- ==== Proof.Two.lean ====
module

public import Idealize.ShloMosaic.Lib.Pipeline.FrameBody
public import Idealize.ShloMosaic.Lib.Pointwise
public import proofs.«01_k».proof.Proof.Real

/-! A block of two planes, each stored on its own: what the two stores leave at an element. And the gate of the
    feed-forward layer as a function of two numbers. -/

@[expose] public section
noncomputable section
namespace Cert.Two
open Idealize.ShloMosaic

variable {Val : EltTy → Type} [∀ e, Nonempty (Val e)] {e : EltTy} {n k : ℕ}

/-- A block of two planes, and one plane of it. -/
abbrev Both (n k : ℕ) : Shape := ⟨3, ![2, n, k]⟩
abbrev One (n k : ℕ) : Shape := ⟨3, ![1, n, k]⟩

theorem start3 : (![0, 0, 0] : Fin 3 → ℕ) = fun _ => 0 := funext fun a => by fin_cases a <;> rfl

/-- An element of a stored plane, as an element of the block. -/
theorem emb_plane (p : Fin 2) (inb : ∀ a, (![p.val, 0, 0] : Fin 3 → ℕ) a + (One n k).size a ≤ (Both n k).size a) (a : Fin n) (b : Fin k) :
    (Rect.unit (s := Both n k) ![p.val, 0, 0] (One n k).size inb).emb (ix3 0 a b) = (ix3 p a b : (Both n k).Idx) := by
  funext x
  apply Fin.ext
  fin_cases x <;> simp [Rect.emb, Rect.unit, ix3]

theorem canon_one (inb1 : ∀ a, (![1, 0, 0] : Fin 3 → ℕ) a + (One n k).size a ≤ (Both n k).size a)
    (w1 : (One n k).Idx → Val e) (L : List (View.Piece Val (Both n k) e)) (a : Fin n) (b : Fin k) :
    View.canon (⟨Rect.unit (s := Both n k) ![1, 0, 0] (One n k).size inb1, w1⟩ :: L) (ix3 1 a b) = w1 (ix3 0 a b) := by
  have h := View.canon_cons_emb (Rect.unit (s := Both n k) ![1, 0, 0] (One n k).size inb1) w1 L (ix3 0 a b)
  rwa [show (Rect.unit (s := Both n k) ![1, 0, 0] (One n k).size inb1).emb (ix3 0 a b) = (ix3 1 a b : (Both n k).Idx) from emb_plane 1 inb1 a b] at h

theorem canon_zero (inb1 : ∀ a, (![1, 0, 0] : Fin 3 → ℕ) a + (One n k).size a ≤ (Both n k).size a)
    (inb0 : ∀ a, (![0, 0, 0] : Fin 3 → ℕ) a + (One n k).size a ≤ (Both n k).size a)
    (w1 w0 : (One n k).Idx → Val e) (L : List (View.Piece Val (Both n k) e)) (a : Fin n) (b : Fin k) :
    View.canon (⟨Rect.unit (s := Both n k) ![1, 0, 0] (One n k).size inb1, w1⟩ :: ⟨Rect.unit (s := Both n k) ![0, 0, 0] (One n k).size inb0, w0⟩ :: L) (ix3 0 a b)
      = w0 (ix3 0 a b) := by
  have h := View.canon_cons_emb (Rect.unit (s := Both n k) ![0, 0, 0] (One n k).size inb0) w0 L (ix3 0 a b)
  rw [show (Rect.unit (s := Both n k) ![0, 0, 0] (One n k).size inb0).emb (ix3 0 a b) = (ix3 0 a b : (Both n k).Idx) from emb_plane 0 inb0 a b] at h
  refine (View.canon_cons_of_not_mem _ _ fun hm => ?_).trans h
  rw [Rect.mem_set_unit] at hm
  exact Nat.not_succ_le_zero 0 (hm 0).1

/-- The gate `1 / (1 + exp (-x))`, as the programs compute it. -/
def sig (x : EReal) : EReal := Ideal.div 1 (1 + Ideal.exp (-x))

theorem sig_real (x : ℝ) : sig (x : EReal) = ((1 / (1 + Real.exp (-x)) : ℝ) : EReal) := by
  have h : (1 : ℝ) + Real.exp (-x) ≠ 0 := (by positivity : (0 : ℝ) < 1 + Real.exp (-x)).ne'
  rw [sig, ← EReal.coe_neg, Ideal.exp_coe, ← EReal.coe_one, ← EReal.coe_add, Fox.div_real _ _ h]

theorem sig_top : sig ⊤ = 1 := by
  rw [sig, EReal.neg_top, Ideal.exp_bot, add_zero, ← EReal.coe_one, Fox.div_real _ _ one_ne_zero, div_one]

theorem sig_bot : sig ⊥ = 0 := by
  rw [sig, EReal.neg_bot, Ideal.exp_top, ← EReal.coe_one, EReal.coe_add_top]
  simp [Ideal.div]

/-- The derivative of `g * sig g` times a real `x`, factored and as the sum of the product rule. -/
theorem slope (x : ℝ) (g : EReal) :
    (x : EReal) * sig g * (1 + g * (1 - sig g)) = (x : EReal) * sig g + g * (x : EReal) * (sig g * (1 - sig g)) := by
  induction g with
  | bot => simp [sig_bot]
  | top =>
    rw [sig_top, show (1 : EReal) - 1 = 0 from by rw [← EReal.coe_one, ← EReal.coe_sub, sub_self, EReal.coe_zero]]
    simp
  | coe g =>
    rw [sig_real, ← EReal.coe_one]
    norm_cast
    ring

end Cert.Two
-- ==== Proof.Gf.lean ====
module

public import proofs.«01_k».proof.Proof.Gx
public import proofs.«01_k».proof.Proof.Two
public import proofs.«01_k».proof.Proof.Gen.KernelGfIdeal.Value
public import proofs.«01_k».proof.Proof.Gen.ReferenceGfIdeal.Run
public import Idealize.ShloMosaic.Lib.Pipeline.ValueKit.Tiles
public import Idealize.ShloMosaic.Lib.Pipeline.ValueKit.Geometry
public import Idealize.ShloMosaic.Lib.Pointwise

/-! The gate and up projections with the activation: a product whose result goes to two planes, and `silu` of the one
    times the other. -/

@[expose] public section
set_option maxRecDepth 16384
noncomputable section
namespace Cert.KernelGfIdeal.Gf
open Idealize.ShloMosaic Idealize.ShloMosaic.TcCoe Idealize.ShloMosaic.StableHlo Cert.KernelGfIdeal.Gen Cert.KernelGxIdeal.Gx

variable (m : (ℓ : Loc nD τ sig) → Buf (Elt Ideal) ℓ) (c : Dev nD)

abbrev argH : FVec Ideal S2048x2048 .f32 := m ((c.tc : Thread nD τ).loc main_arg0)
abbrev argU : FVec Ideal S2048x11264 .f32 := m ((c.tc : Thread nD τ).loc main_arg1)

theorem V_h : V m c main_v0 = truncf .bf16 (argH m c) bitsLt_bf16_f32 := by
  simp only [V, hostOps0]
  after_results_simp
theorem V_u : V m c main_v3 = chips (argU m c) := by
  simp only [V, hostOps0]
  after_results_simp
  rfl

theorem ix_0 : ∀ t : Fin cfg0.N, win0_0.index t = ![t.val / 22, 0] := (by decide +kernel : ∀ t : Fin grid0.N, _)
theorem ix_1 : ∀ t : Fin cfg0.N, win0_1.index t = ![t.val % 22 / 11, 0, t.val % 11] := (by decide +kernel : ∀ t : Fin grid0.N, _)
theorem ix_2 : ∀ t : Fin cfg0.N, win0_2.index t = ![t.val % 22 / 11 + 2, 0, t.val % 11] := (by decide +kernel : ∀ t : Fin grid0.N, _)
theorem ix_3 : ∀ t : Fin cfg0.N, win0_3.index t = ![0, t.val / 22, t.val % 22] := (by decide +kernel : ∀ t : Fin grid0.N, _)
theorem ix_4 : ∀ t : Fin cfg0.N, win0_4.index t = ![t.val / 22, t.val % 22] := (by decide +kernel : ∀ t : Fin grid0.N, _)

/-- The row and the column of a plane at row `a` and column `b` of block `t`. -/
abbrev row (t : Fin cfg0.N) (a : Fin 1024) : Fin 2048 := ⟨t.val / 22 * 1024 + a.val, by have h : t.val < 44 := t.isLt; omega⟩
abbrev col (t : Fin cfg0.N) (b : Fin 256) : Fin 5632 := ⟨t.val % 22 * 256 + b.val, by omega⟩

theorem iblk_0 (t : Fin cfg0.N) (a : Fin 1024) (k : Fin 2048) : iblk m c 0 t (ix2 a k) = argH m c (ix2 (row t a) k) := by
  refine Eq.trans ?_ (congrFun (V_h m c) (ix2 (row t a) k))
  blk_simp [iblk]
  congr 1
  blk_ext [ix_0]
theorem iblk_1 (t : Fin cfg0.N) (k : Fin 2048) (b : Fin 256) : iblk m c 1 t (ix3 0 k b) = argU m c (ix2 k ⟨0 * 5632 + (col t b).val, by omega⟩) := by
  refine Eq.trans ?_ ((congrFun (V_u m c) (ix3 ⟨t.val % 22 / 11, by omega⟩ k ⟨t.val % 11 * 256 + b.val, by omega⟩)).trans
    ((chips_apply _ _ _ _).trans (congrArg (fun j => argU m c (ix2 k j)) (Fin.ext ?_))))
  · blk_simp [iblk]
    congr 1
    blk_ext [ix_1]
  · show t.val % 22 / 11 * 2816 + (t.val % 11 * 256 + b.val) = 0 * 5632 + (t.val % 22 * 256 + b.val)
    omega
theorem iblk_2 (t : Fin cfg0.N) (k : Fin 2048) (b : Fin 256) : iblk m c 2 t (ix3 0 k b) = argU m c (ix2 k ⟨1 * 5632 + (col t b).val, by omega⟩) := by
  refine Eq.trans ?_ ((congrFun (V_u m c) (ix3 ⟨t.val % 22 / 11 + 2, by omega⟩ k ⟨t.val % 11 * 256 + b.val, by omega⟩)).trans
    ((chips_apply _ _ _ _).trans (congrArg (fun j => argU m c (ix2 k j)) (Fin.ext ?_))))
  · blk_simp [iblk]
    congr 1
    blk_ext [ix_2]
  · show (t.val % 22 / 11 + 2) * 2816 + (t.val % 11 * 256 + b.val) = 1 * 5632 + (t.val % 22 * 256 + b.val)
    omega

theorem pay2_apply (x : Vec Ideal S1024x2048 .bf16) (y : Vec Ideal S1x2048x256 .bf16) (a : Fin 1024) (b : Fin 256) :
    k0_pay2 x y (ix2 a b) = ∑ k, x (ix2 a k) * y (ix3 0 k b) := by
  pointwise [k0_pay2, k0_pay1, dot_S1024x2048_S2048x256_S1024x256_1_0_0_1_n_n]
theorem pay3_apply (x : Vec Ideal S1024x2048 .bf16) (y : Vec Ideal S1x2048x256 .bf16) (a : Fin 1024) (b : Fin 256) :
    k0_pay3 x y (ix2 a b) = ∑ k, x (ix2 a k) * y (ix3 0 k b) := pay2_apply x y a b

theorem pay4_apply (x : Vec Ideal S1024x2048 .bf16) (y : Vec Ideal S1x2048x256 .bf16) (a : Fin 1024) (b : Fin 256) :
    k0_pay4 x y (ix3 0 a b) = ∑ k, x (ix2 a k) * y (ix3 0 k b) := by
  refine Eq.trans ?_ (pay2_apply x y a b)
  pointwise [k0_pay4]
theorem pay5_apply (x : Vec Ideal S1024x2048 .bf16) (y : Vec Ideal S1x2048x256 .bf16) (a : Fin 1024) (b : Fin 256) :
    k0_pay5 x y (ix3 0 a b) = ∑ k, x (ix2 a k) * y (ix3 0 k b) := pay4_apply x y a b

theorem pay6_apply (x : Vec Ideal S1024x2048 .bf16) (y z : Vec Ideal S1x2048x256 .bf16) (a : Fin 1024) (b : Fin 256) :
    k0_pay6 x y z (ix2 a b) = k0_pay2 x y (ix2 a b) * Two.sig (k0_pay2 x y (ix2 a b)) * k0_pay3 x z (ix2 a b) := by
  pointwise [k0_pay6, Two.sig, zero_sub]

theorem plane_0 (x : Vec Ideal S1024x2048 .bf16) (y z : Vec Ideal S1x2048x256 .bf16) (a : Fin 1024) (b : Fin 256) :
    out0_3 x y z (ix3 0 a b) = ∑ k, x (ix2 a k) * y (ix3 0 k b) := by
  unfold out0_3
  rw [View.ld_unit_zero start2, View.ld_unit_zero start3, View.ld_unit_zero start3]
  exact (Two.canon_zero _ _ _ _ _ a b).trans (pay4_apply x y a b)
theorem plane_1 (x : Vec Ideal S1024x2048 .bf16) (y z : Vec Ideal S1x2048x256 .bf16) (a : Fin 1024) (b : Fin 256) :
    out0_3 x y z (ix3 1 a b) = ∑ k, x (ix2 a k) * z (ix3 0 k b) := by
  unfold out0_3
  rw [View.ld_unit_zero start2, View.ld_unit_zero start3, View.ld_unit_zero start3]
  exact (Two.canon_one _ _ _ a b).trans (pay5_apply x z a b)
theorem out4_apply (x : Vec Ideal S1024x2048 .bf16) (y z : Vec Ideal S1x2048x256 .bf16) (a : Fin 1024) (b : Fin 256) :
    out0_4 x y z (ix2 a b) = k0_pay2 x y (ix2 a b) * Two.sig (k0_pay2 x y (ix2 a b)) * k0_pay3 x z (ix2 a b) := by
  unfold out0_4
  rw [View.canon_unit_zero start2, View.ld_unit_zero start2, View.ld_unit_zero start3, View.ld_unit_zero start3]
  exact pay6_apply x y z a b

/-- An entry of the product: row `s`, column `j` of plane `p`. -/
def entry (h : FVec Ideal S2048x2048 .f32) (u : FVec Ideal S2048x11264 .f32) (p : Fin 2) (s : Fin 2048) (j : Fin 5632) : EReal :=
  ∑ k, h (ix2 s k) * u (ix2 k ⟨p.val * 5632 + j.val, by omega⟩)

/-- The blocks of step `t`. -/
abbrev bH (t : Fin cfg0.N) : FVec Ideal S1024x2048 .bf16 := iblk m c 0 t
abbrev bG (t : Fin cfg0.N) : FVec Ideal S1x2048x256 .bf16 := iblk m c 1 t
abbrev bU (t : Fin cfg0.N) : FVec Ideal S1x2048x256 .bf16 := iblk m c 2 t

theorem gate_apply (t : Fin cfg0.N) (a : Fin 1024) (b : Fin 256) :
    (∑ k, bH m c t (ix2 a k) * bG m c t (ix3 0 k b) : EReal) = entry (argH m c) (argU m c) 0 (row t a) (col t b) :=
  Finset.sum_congr rfl fun k _ => congrArg₂ (· * ·) (iblk_0 m c t a k) (iblk_1 m c t k b)
theorem up_apply (t : Fin cfg0.N) (a : Fin 1024) (b : Fin 256) :
    (∑ k, bH m c t (ix2 a k) * bU m c t (ix3 0 k b) : EReal) = entry (argH m c) (argU m c) 1 (row t a) (col t b) :=
  Finset.sum_congr rfl fun k _ => congrArg₂ (· * ·) (iblk_0 m c t a k) (iblk_2 m c t k b)

/-- The two result arrays are any that have these entries. -/
theorem final_planes (W : FVec Ideal S2x2048x5632 .bf16) (hW : ∀ p s j, W (ix3 p s j) = entry (argH m c) (argU m c) p s j) :
    (dats m 0 c).arrAt 3 cfg0.N = W := by
  refine (dats m 0 c).arrAt_eq_of_covers 3 _ (by decide +kernel) fun t hf y => ?_
  blk_simp
  rw [after0_3]
  obtain ⟨p, a, b, rfl⟩ : ∃ (p : Fin 2) (a : Fin 1024) (b : Fin 256), y = ix3 p a b := ⟨y 0, y 1, y 2, by funext x; fin_cases x <;> rfl⟩
  refine Eq.trans ?_ ((hW p (row t a) (col t b)).symm.trans (congrArg W ?_))
  · fin_cases p
    · exact (plane_0 _ _ _ a b).trans (gate_apply m c t a b)
    · exact (plane_1 _ _ _ a b).trans (up_apply m c t a b)
  · blk_ext [ix_3]

theorem final_act (W : FVec Ideal S2048x5632 .bf16)
    (hW : ∀ s j, W (ix2 s j) = entry (argH m c) (argU m c) 0 s j * Two.sig (entry (argH m c) (argU m c) 0 s j) * entry (argH m c) (argU m c) 1 s j) :
    (dats m 0 c).arrAt 4 cfg0.N = W := by
  refine (dats m 0 c).arrAt_eq_of_covers 4 _ (by decide +kernel) fun t hf y => ?_
  blk_simp
  rw [after0_4]
  obtain ⟨a, b, rfl⟩ : ∃ (a : Fin 1024) (b : Fin 256), y = ix2 a b := ⟨y 0, y 1, by funext x; fin_cases x <;> rfl⟩
  refine (out4_apply _ _ _ a b).trans (Eq.trans ?_ ((hW (row t a) (col t b)).symm.trans (congrArg W ?_)))
  · have hg := (pay2_apply (bH m c t) (bG m c t) a b).trans (gate_apply m c t a b)
    have hu := (pay3_apply (bH m c t) (bU m c t) a b).trans (up_apply m c t a b)
    exact congrArg₂ (fun g u : EReal => g * Two.sig g * u) hg hu
  · blk_ext [ix_4]

end Cert.KernelGfIdeal.Gf

namespace Cert.ReferenceGfIdeal.Gf
open Idealize.ShloMosaic Idealize.ShloMosaic.TcCoe Cert.ReferenceGfIdeal Cert.ReferenceGfIdeal.Gen

/-- The reference's product, its planes and its activation. -/
def prod (h : FVec Ideal S2048x2048 .f32) (u : FVec Ideal S2048x11264 .f32) : FVec Ideal S2048x11264 .f32 :=
  Host.dotGeneral dot_S2048x2048_S2048x11264_S2048x11264_1_0_0_1_n_n none h u
def resPlanes (g : FVec Ideal S2048x11264 .f32) : FVec Ideal S2x2048x5632 .bf16 :=
  truncf .bf16 (transpose S2x2048x5632 [1, 0, 2] (shapeCast S2048x2x5632 g shapeCasts_S2048x11264_S2048x2x5632) transposes_S2048x2x5632_S2x2048x5632_1_0_2) bitsLt_bf16_f32
def resAct (g : FVec Ideal S2048x11264 .f32) : FVec Ideal S2048x5632 .bf16 :=
  truncf .bf16 (mulf (mulf (extractStridedSlice S2048x5632 ![0, 0] g slices_S2048x11264_S2048x5632_0_0) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (extractStridedSlice S2048x5632 ![0, 0] g slices_S2048x11264_S2048x5632_0_0)))))) (extractStridedSlice S2048x5632 ![0, 5632] g slices_S2048x11264_S2048x5632_0_5632)) bitsLt_bf16_f32

theorem prod_apply (h : FVec Ideal S2048x2048 .f32) (u : FVec Ideal S2048x11264 .f32) (s : Fin 2048) (j : Fin 11264) :
    prod h u (ix2 s j) = ∑ k, h (ix2 s k) * u (ix2 k j) := by
  pointwise [prod, dot_S2048x2048_S2048x11264_S2048x11264_1_0_0_1_n_n]
theorem resPlanes_apply (g : FVec Ideal S2048x11264 .f32) (p : Fin 2) (s : Fin 2048) (j : Fin 5632) :
    resPlanes g (ix3 p s j) = g (ix2 s ⟨p.val * 5632 + j.val, by omega⟩) := by
  pointwise [resPlanes]
theorem resAct_apply (g : FVec Ideal S2048x11264 .f32) (s : Fin 2048) (j : Fin 5632) :
    resAct g (ix2 s j) = g (ix2 s ⟨0 * 5632 + j.val, by omega⟩) * Two.sig (g (ix2 s ⟨0 * 5632 + j.val, by omega⟩)) * g (ix2 s ⟨1 * 5632 + j.val, by omega⟩) := by
  pointwise [resAct, Two.sig]

end Cert.ReferenceGfIdeal.Gf
-- ==== Proof.Dx.lean ====
module

public import proofs.«01_k».proof.Pre_finite_down
public import proofs.«01_k».proof.Proof.Gw
public import proofs.«01_k».proof.Proof.Gf
public import proofs.«01_k».proof.Proof.KvFinite
public import proofs.«01_k».proof.Proof.Gen.KernelDxIdeal.Value
public import proofs.«01_k».proof.Proof.Gen.ReferenceDxIdeal.Run

/-! The gradient of the gate and up projections: the cotangent times the down projection's weights, and what the
    activation's derivative makes of it, on two planes. -/

@[expose] public section
set_option maxRecDepth 16384
noncomputable section

namespace Cert.Pre_finite_down
open Idealize.ShloMosaic

/-- The predicate's shape relations. -/
instance facts : Facts where
  slices_S2048x11264_S2048x5632_0_5632 := by decide
  bcast_S_S2048x5632 := by decide
  reducesTo_S2048x5632_S_d0_1 := by decide
  h_S_ := by decide
  bcast_S_S5632x2048 := by decide
  reducesTo_S5632x2048_S_d0_1 := by decide
  bcast_S_S2048x2048 := by decide
  reducesTo_S2048x2048_S_d0_1 := by decide
open Facts

/-- The up half of the first argument and the two other arguments hold reals. -/
theorem real_of_fn {g : FVec Ideal S2048x11264 .f32} {w : FVec Ideal S5632x2048 .f32} {y : FVec Ideal S2048x2048 .f32} (h : fn (F := Ideal) g w y = fun _ => 1#1) :
    (∀ (s : Fin 2048) (j : Fin 5632), ∃ r : ℝ, g (ix2 s ⟨1 * 5632 + j.val, by omega⟩) = (r : EReal)) ∧ (∀ i, ∃ r : ℝ, w i = (r : EReal)) ∧ (∀ i, ∃ r : ℝ, y i = (r : EReal)) := by
  have h0 := congrFun h (Shape.Idx.first h_S_)
  obtain ⟨h1, hy⟩ := Pre_finite.both h0
  obtain ⟨hg, hw⟩ := Pre_finite.both h1
  refine ⟨fun s j => ?_, Pre_finite.real_of_all w _ _ _ _ hw, Pre_finite.real_of_all y _ _ _ _ hy⟩
  obtain ⟨r, hr⟩ := Pre_finite.real_of_all _ _ _ _ _ hg (ix2 s j)
  refine ⟨r, Eq.trans ?_ hr⟩
  pointwise []

end Cert.Pre_finite_down

namespace Cert.KernelDxIdeal.Dx
open Idealize.ShloMosaic Idealize.ShloMosaic.TcCoe Idealize.ShloMosaic.StableHlo Cert.KernelDxIdeal.Gen Cert.KernelGxIdeal.Gx Cert.KernelGwIdeal.Gw

/-! ## The body -/

section body
variable (c : Dev nD) (i : grid0.Coords) (p2 : Memref sig .tc .vmem S1024x2048 .bf16) (h2 : p2.IsWhole) (p3 : Memref sig .tc .vmem S512x2048 .bf16) (h3 : p3.IsWhole)
  (p4 : Memref sig .tc .vmem S2x1024x512 .bf16) (h4 : p4.IsWhole) (p6 : Memref sig .tc .vmem S2x1024x512 .bf16) (h6 : p6.IsWhole)
  (x : Vec Ideal S1024x2048 .bf16) (y : Vec Ideal S512x2048 .bf16) (z : Vec Ideal S2x1024x512 .bf16)

/-- One plane of the block of two. -/
abbrev plane0 : Vec Ideal S1x1024x512 .bf16 := View.ld z (Rect.unit (s := S2x1024x512) ![0, 0, 0] S1x1024x512.size inb_S2x1024x512_S1x1024x512_0_0_0)
abbrev plane1 : Vec Ideal S1x1024x512 .bf16 := View.ld z (Rect.unit (s := S2x1024x512) ![1, 0, 0] S1x1024x512.size inb_S2x1024x512_S1x1024x512_1_0_0)

theorem out_eq : out0_A_3 c i p2 h2 p3 h3 p4 h4 p6 h6 x y z
    = View.canon [⟨Rect.unit (s := S2x1024x512) ![1, 0, 0] S1x1024x512.size inb_S2x1024x512_S1x1024x512_1_0_0, k0_pay1 (k0_pay6 x y (plane0 z))⟩,
        ⟨Rect.unit (s := S2x1024x512) ![0, 0, 0] S1x1024x512.size inb_S2x1024x512_S1x1024x512_0_0_0, k0_pay5 x y (plane0 z) (plane1 z)⟩] := by
  unfold out0_A_3
  rw [View.read_writes_eq_canon _ _ _ (cover0_A_3 c i p2 h2 p3 h3 p4 h4 p6 h6 x y z)]
  unfold kernelRun0_A
  dsimp only
  sl_unfold_words
  simp only [View.readAt_eq_ld, h2.read_unread, h3.read_unread, h4.read_unread, View.ld_unit_zero (S := S1024x2048) start2,
    View.ld_unit_zero (S := S512x2048) start2]
end body

theorem pay2_apply (x : Vec Ideal S1024x2048 .bf16) (y : Vec Ideal S512x2048 .bf16) (a : Fin 1024) (b : Fin 512) :
    k0_pay2 x y (ix2 a b) = ∑ k, x (ix2 a k) * y (ix2 b k) := by
  pointwise [k0_pay2, dot_S1024x2048_S512x2048_S1024x512_1_1_0_0_n_n]

theorem plane0_apply (z : Vec Ideal S2x1024x512 .bf16) (a : Fin 1024) (b : Fin 512) : plane0 z (ix3 0 a b) = z (ix3 0 a b) :=
  congrArg z (Two.emb_plane 0 inb_S2x1024x512_S1x1024x512_0_0_0 a b)
theorem plane1_apply (z : Vec Ideal S2x1024x512 .bf16) (a : Fin 1024) (b : Fin 512) : plane1 z (ix3 0 a b) = z (ix3 1 a b) :=
  congrArg z (Two.emb_plane 1 inb_S2x1024x512_S1x1024x512_1_0_0 a b)

/-- The gate's and the up projection's gradients, as the kernel computes them. -/
def dgate (d g u : EReal) : EReal := d * u * Two.sig g * (1 + g * (1 - Two.sig g))
def dup (d g : EReal) : EReal := d * g * Two.sig g

theorem pay5_apply (x : Vec Ideal S1024x2048 .bf16) (y : Vec Ideal S512x2048 .bf16) (g u : Vec Ideal S1x1024x512 .bf16) (a : Fin 1024) (b : Fin 512) :
    k0_pay5 x y g u (ix3 0 a b) = dgate (k0_pay2 x y (ix2 a b)) (g (ix3 0 a b)) (u (ix3 0 a b)) := by
  pointwise [k0_pay5, k0_pay4, k0_pay3, dgate, Two.sig, zero_sub]
theorem pay1_apply (x : Vec Ideal S1024x2048 .bf16) (y : Vec Ideal S512x2048 .bf16) (g : Vec Ideal S1x1024x512 .bf16) (a : Fin 1024) (b : Fin 512) :
    k0_pay1 (k0_pay6 x y g) (ix3 0 a b) = dup (k0_pay2 x y (ix2 a b)) (g (ix3 0 a b)) := by
  pointwise [k0_pay1, k0_pay6, k0_pay4, k0_pay3, dup, Two.sig, zero_sub]

/-! ## The blocks -/

variable (m : (ℓ : Loc nD τ sig) → Buf (Elt Ideal) ℓ) (c : Dev nD)

abbrev argU : FVec Ideal S2048x11264 .f32 := m ((c.tc : Thread nD τ).loc main_arg0)
abbrev argD : FVec Ideal S5632x2048 .f32 := m ((c.tc : Thread nD τ).loc main_arg1)
abbrev argY : FVec Ideal S2048x2048 .f32 := m ((c.tc : Thread nD τ).loc main_arg2)

theorem V_y : V m c main_v0 = truncf .bf16 (argY m c) bitsLt_bf16_f32 := by
  simp only [V, hostOps0]
  after_results_simp
theorem V_d : V m c main_v1 = truncf .bf16 (argD m c) bitsLt_bf16_f32 := by
  simp only [V, hostOps0]
  after_results_simp
theorem V_u : V m c main_v4 = planes (argU m c) := by
  simp only [V, hostOps0]
  after_results_simp
  rfl

theorem ix_0 : ∀ t : Fin cfg0.N, win0_0.index t = ![t.val / 11, 0] := (by decide +kernel : ∀ t : Fin grid0.N, _)
theorem ix_1 : ∀ t : Fin cfg0.N, win0_1.index t = ![t.val % 11, 0] := (by decide +kernel : ∀ t : Fin grid0.N, _)
theorem ix_2 : ∀ t : Fin cfg0.N, win0_2.index t = ![0, t.val / 11, t.val % 11] := (by decide +kernel : ∀ t : Fin grid0.N, _)
theorem ix_3 : ∀ t : Fin cfg0.N, win0_3.index t = ![0, t.val / 11, t.val % 11] := (by decide +kernel : ∀ t : Fin grid0.N, _)

/-- The row and the column of a plane at row `a` and column `b` of block `t`. -/
abbrev row (t : Fin cfg0.N) (a : Fin 1024) : Fin 2048 := ⟨t.val / 11 * 1024 + a.val, by have h : t.val < 22 := t.isLt; omega⟩
abbrev col (t : Fin cfg0.N) (b : Fin 512) : Fin 5632 := ⟨t.val % 11 * 512 + b.val, by omega⟩

theorem iblk_0 (t : Fin cfg0.N) (a : Fin 1024) (k : Fin 2048) : iblk m c 0 t (ix2 a k) = argY m c (ix2 (row t a) k) := by
  refine Eq.trans ?_ (congrFun (V_y m c) (ix2 (row t a) k))
  blk_simp [iblk]
  congr 1
  blk_ext [ix_0]
theorem iblk_1 (t : Fin cfg0.N) (b : Fin 512) (k : Fin 2048) : iblk m c 1 t (ix2 b k) = argD m c (ix2 (col t b) k) := by
  refine Eq.trans ?_ (congrFun (V_d m c) (ix2 (col t b) k))
  blk_simp [iblk]
  congr 1
  blk_ext [ix_1]
theorem iblk_2 (t : Fin cfg0.N) (p : Fin 2) (a : Fin 1024) (b : Fin 512) :
    iblk m c 2 t (ix3 p a b) = argU m c (ix2 (row t a) ⟨p.val * 5632 + (col t b).val, by omega⟩) := by
  refine Eq.trans ?_ ((congrFun (V_u m c) (ix3 p (row t a) (col t b))).trans (planes_apply _ _ _ _))
  blk_simp [iblk]
  congr 1
  blk_ext [ix_2]

/-- An entry of the activation's gradient. -/
def entry (d : FVec Ideal S5632x2048 .f32) (y : FVec Ideal S2048x2048 .f32) (s : Fin 2048) (j : Fin 5632) : EReal :=
  ∑ k, y (ix2 s k) * d (ix2 j k)

/-- The blocks of step `t`. -/
abbrev bY (t : Fin cfg0.N) : FVec Ideal S1024x2048 .bf16 := iblk m c 0 t
abbrev bD (t : Fin cfg0.N) : FVec Ideal S512x2048 .bf16 := iblk m c 1 t
abbrev bU (t : Fin cfg0.N) : FVec Ideal S2x1024x512 .bf16 := iblk m c 2 t

theorem blk_apply (t : Fin cfg0.N) (a : Fin 1024) (b : Fin 512) : k0_pay2 (F := Ideal) (bY m c t) (bD m c t) (ix2 a b) = entry (argD m c) (argY m c) (row t a) (col t b) :=
  (pay2_apply _ _ a b).trans (Finset.sum_congr rfl fun k _ => congrArg₂ (· * ·) (iblk_0 m c t a k) (iblk_1 m c t b k))

/-- The two halves of a row of the first argument. -/
abbrev gateAt (u : FVec Ideal S2048x11264 .f32) (s : Fin 2048) (j : Fin 5632) : EReal := u (ix2 s ⟨0 * 5632 + j.val, by omega⟩)
abbrev upAt (u : FVec Ideal S2048x11264 .f32) (s : Fin 2048) (j : Fin 5632) : EReal := u (ix2 s ⟨1 * 5632 + j.val, by omega⟩)

theorem outs_0 (t : Fin cfg0.N) (a : Fin 1024) (b : Fin 512) :
    outsAt0 m c t (ix3 0 a b) = dgate (entry (argD m c) (argY m c) (row t a) (col t b)) (gateAt (argU m c) (row t a) (col t b)) (upAt (argU m c) (row t a) (col t b)) := by
  unfold outsAt0
  rw [out_eq]
  refine (Two.canon_zero _ _ _ _ _ a b).trans ((pay5_apply _ _ _ _ a b).trans ?_)
  exact congr (congrArg₂ dgate (blk_apply m c t a b) ((plane0_apply _ a b).trans (iblk_2 m c t 0 a b))) ((plane1_apply _ a b).trans (iblk_2 m c t 1 a b))
theorem outs_1 (t : Fin cfg0.N) (a : Fin 1024) (b : Fin 512) :
    outsAt0 m c t (ix3 1 a b) = dup (entry (argD m c) (argY m c) (row t a) (col t b)) (gateAt (argU m c) (row t a) (col t b)) := by
  unfold outsAt0
  rw [out_eq]
  refine (Two.canon_one _ _ _ a b).trans ((pay1_apply _ _ _ a b).trans ?_)
  exact congrArg₂ dup (blk_apply m c t a b) ((plane0_apply _ a b).trans (iblk_2 m c t 0 a b))

/-- The result array is any that has these entries. -/
theorem final (W : FVec Ideal S2x2048x5632 .bf16)
    (h0 : ∀ s j, W (ix3 0 s j) = dgate (entry (argD m c) (argY m c) s j) (gateAt (argU m c) s j) (upAt (argU m c) s j))
    (h1 : ∀ s j, W (ix3 1 s j) = dup (entry (argD m c) (argY m c) s j) (gateAt (argU m c) s j)) :
    (dats m 0 c).arrAt 3 cfg0.N = W := by
  refine (dats m 0 c).arrAt_eq_of_covers 3 _ (by decide +kernel) fun t hf y => ?_
  blk_simp
  rw [after0_3]
  obtain ⟨p, a, b, rfl⟩ : ∃ (p : Fin 2) (a : Fin 1024) (b : Fin 512), y = ix3 p a b := ⟨y 0, y 1, y 2, by funext x; fin_cases x <;> rfl⟩
  refine Eq.trans ?_ (congrArg W (?_ : ix3 p (row t a) (col t b) = _))
  · fin_cases p
    · exact (outs_0 m c t a b).trans (h0 _ _).symm
    · exact (outs_1 m c t a b).trans (h1 _ _).symm
  · blk_ext [ix_3]

end Cert.KernelDxIdeal.Dx

namespace Cert.ReferenceDxIdeal.Dx
open Idealize.ShloMosaic Idealize.ShloMosaic.TcCoe Cert.ReferenceDxIdeal Cert.ReferenceDxIdeal.Gen
open Cert.KernelDxIdeal.Dx (entry gateAt upAt dgate dup)

/-- The halves of the first argument, the gate of the first, the activation's gradient. -/
def gate (u : FVec Ideal S2048x11264 .f32) : FVec Ideal S2048x5632 .f32 := extractStridedSlice S2048x5632 ![0, 0] u slices_S2048x11264_S2048x5632_0_0
def up (u : FVec Ideal S2048x11264 .f32) : FVec Ideal S2048x5632 .f32 := extractStridedSlice S2048x5632 ![0, 5632] u slices_S2048x11264_S2048x5632_0_5632
def one : FVec Ideal S2048x5632 .f32 := broadcastInDim S2048x5632 ![] bcast_S_S2048x5632 (constant S_ .f32 0x3F800000#32)
def sigm (u : FVec Ideal S2048x11264 .f32) : FVec Ideal S2048x5632 .f32 := Host.divf one (addf one (Host.exp (Host.negf (gate u))))
def da (d : FVec Ideal S5632x2048 .f32) (y : FVec Ideal S2048x2048 .f32) : FVec Ideal S2048x5632 .f32 :=
  Host.dotGeneral dot_S2048x2048_S5632x2048_S2048x5632_1_1_0_0_n_n none y d

/-- The reference's two gradients, and its result. -/
def left (u : FVec Ideal S2048x11264 .f32) (d : FVec Ideal S5632x2048 .f32) (y : FVec Ideal S2048x2048 .f32) : FVec Ideal S2048x5632 .f32 :=
  addf (mulf (mulf (da d y) (up u)) (sigm u)) (mulf (mulf (gate u) (mulf (da d y) (up u))) (mulf (sigm u) (subf one (sigm u))))
def right (u : FVec Ideal S2048x11264 .f32) (d : FVec Ideal S5632x2048 .f32) (y : FVec Ideal S2048x2048 .f32) : FVec Ideal S2048x5632 .f32 :=
  mulf (mulf (gate u) (sigm u)) (da d y)
def join (a b : FVec Ideal S2048x5632 .f32) : FVec Ideal S2x2048x5632 .bf16 :=
  truncf .bf16 (transpose S2x2048x5632 [1, 0, 2] (shapeCast S2048x2x5632 (concatenate S2048x11264 1 [⟨S2048x5632, a⟩, ⟨S2048x5632, b⟩] concatenates_S2048x5632_S2048x5632_S2048x11264_d1) shapeCasts_S2048x11264_S2048x2x5632) transposes_S2048x2x5632_S2x2048x5632_1_0_2) bitsLt_bf16_f32

theorem join_0 (a b : FVec Ideal S2048x5632 .f32) (s : Fin 2048) (j : Fin 5632) : join a b (ix3 0 s j) = a (ix2 s j) := by
  pointwise [join]
theorem join_1 (a b : FVec Ideal S2048x5632 .f32) (s : Fin 2048) (j : Fin 5632) : join a b (ix3 1 s j) = b (ix2 s j) := by
  pointwise [join]

theorem gate_apply (u : FVec Ideal S2048x11264 .f32) (s : Fin 2048) (j : Fin 5632) : gate u (ix2 s j) = gateAt u s j := by pointwise [gate, gateAt]
theorem up_apply (u : FVec Ideal S2048x11264 .f32) (s : Fin 2048) (j : Fin 5632) : up u (ix2 s j) = upAt u s j := by pointwise [up, upAt]
theorem one_apply (s : Fin 2048) (j : Fin 5632) : one (ix2 s j) = 1 := by pointwise [one]
theorem sigm_apply (u : FVec Ideal S2048x11264 .f32) (s : Fin 2048) (j : Fin 5632) : sigm u (ix2 s j) = Two.sig (gateAt u s j) := by
  rw [← gate_apply]
  pointwise [sigm, one, Two.sig]
theorem da_apply (d : FVec Ideal S5632x2048 .f32) (y : FVec Ideal S2048x2048 .f32) (s : Fin 2048) (j : Fin 5632) : da d y (ix2 s j) = entry d y s j := by
  pointwise [da, entry, dot_S2048x2048_S5632x2048_S2048x5632_1_1_0_0_n_n]

theorem right_apply (u : FVec Ideal S2048x11264 .f32) (d : FVec Ideal S5632x2048 .f32) (y : FVec Ideal S2048x2048 .f32) (s : Fin 2048) (j : Fin 5632) :
    right u d y (ix2 s j) = dup (entry d y s j) (gateAt u s j) := by
  show gate u (ix2 s j) * sigm u (ix2 s j) * da d y (ix2 s j) = _
  rw [gate_apply, sigm_apply, da_apply, dup, mul_comm (gateAt u s j * _), mul_assoc]

/-- Where the sum and the up half are reals, the product rule's sum is the factored form. -/
theorem left_apply (u : FVec Ideal S2048x11264 .f32) (d : FVec Ideal S5632x2048 .f32) (y : FVec Ideal S2048x2048 .f32) (s : Fin 2048) (j : Fin 5632)
    (hd : ∃ r : ℝ, entry d y s j = (r : EReal)) (hu : ∃ r : ℝ, upAt u s j = (r : EReal)) :
    left u d y (ix2 s j) = dgate (entry d y s j) (gateAt u s j) (upAt u s j) := by
  show da d y (ix2 s j) * up u (ix2 s j) * sigm u (ix2 s j) + gate u (ix2 s j) * (da d y (ix2 s j) * up u (ix2 s j)) * (sigm u (ix2 s j) * (one (ix2 s j) - sigm u (ix2 s j))) = _
  rw [gate_apply, up_apply, one_apply, sigm_apply, da_apply, dgate]
  obtain ⟨a, ha⟩ := hd
  obtain ⟨b, hb⟩ := hu
  rw [ha, hb, ← EReal.coe_mul]
  exact (Two.slope (a * b) _).symm

theorem entry_real (d : FVec Ideal S5632x2048 .f32) (y : FVec Ideal S2048x2048 .f32) (hd : ∀ i, ∃ r : ℝ, d i = (r : EReal)) (hy : ∀ i, ∃ r : ℝ, y i = (r : EReal))
    (s : Fin 2048) (j : Fin 5632) : ∃ r : ℝ, entry d y s j = (r : EReal) := by
  choose f hf using hd
  choose g hg using hy
  refine ⟨∑ k, g (ix2 s k) * f (ix2 j k), Eq.trans (Finset.sum_congr rfl fun k _ => ?_) (Fox.coe_sum _ _)⟩
  rw [hf, hg, EReal.coe_mul]

end Cert.ReferenceDxIdeal.Dx
-- ==== Proof.Dl.lean ====
module

public import proofs.«01_k».proof.Proof.Gen.KernelDlIdeal.Value
public import proofs.«01_k».proof.Proof.Gen.KernelDl.Frame
public import proofs.«01_k».proof.Proof.Gen.ReferenceDlIdeal.Run
public import proofs.«01_k».proof.Proof.Real
public import Idealize.ShloMosaic.Lib.Pipeline.ValueKit.Tiles
public import Idealize.ShloMosaic.Lib.Pipeline.ValueKit.Geometry
public import Idealize.ShloMosaic.Lib.Pointwise

/-! The down projection with the loss: a product over the 5632 columns, which a carried block accumulates in two steps of
    2816; at the second step the residual is added and the target taken away, the difference is scaled into the loss's
    gradient, and its square's sum over the tile joins the loss, which the last tile leaves whole. -/

@[expose] public section
set_option maxRecDepth 16384
noncomputable section
namespace Cert.Fox

/-- Terms that are not negative, each scaled, make the scaled sum. -/
theorem sum_scaled {ι : Type} (s : Finset ι) (f : ι → EReal) (c : EReal) (h : ∀ i, 0 ≤ f i) : ∑ i ∈ s, f i * c = (∑ i ∈ s, f i) * c := by
  classical
  induction s using Finset.induction_on with
  | empty => simp
  | insert a s ha ih => rw [Finset.sum_insert ha, Finset.sum_insert ha, ih, EReal.right_distrib_of_nonneg (h a) (Finset.sum_nonneg fun i _ => h i)]

theorem square_nonneg (x : EReal) : 0 ≤ x * x := by
  rcases le_total 0 x with h | h
  · exact mul_nonneg h h
  · exact EReal.mul_nonneg_iff.mpr (Or.inr ⟨h, h⟩)

end Cert.Fox

namespace Cert.KernelDlIdeal.Dl
open Idealize.ShloMosaic Idealize.ShloMosaic.TcCoe Idealize.ShloMosaic.StableHlo Cert.KernelDlIdeal.Gen

theorem start2 : (![0, 0] : Fin 2 → ℕ) = fun _ => 0 := funext fun a => by fin_cases a <;> rfl

/-! ## What a point leaves -/

section body
variable (c : Dev nD) (i : grid0.Coords) (p3 : Memref sig .tc .vmem S1024x2816 .bf16) (h3 : p3.IsWhole) (p4 : Memref sig .tc .vmem S2816x512 .bf16)
  (h4 : p4.IsWhole) (p5 : Memref sig .tc .vmem S1024x512 .f32) (h5 : p5.IsWhole) (p6 : Memref sig .tc .vmem S1024x512 .f32) (h6 : p6.IsWhole)
  (p7 : Memref sig .tc .vmem S1024x512 .f32) (h7 : p7.IsWhole) (p8 : Memref sig .tc .vmem S1024x512 .bf16) (h8 : p8.IsWhole)
  (p9 : Memref sig .tc .vmem S1x128 .f32) (h9 : p9.IsWhole) (p10 : Memref sig .tc .vmem S1024x512 .f32) (h10 : p10.IsWhole)
  (x : Vec Ideal S1024x2816 .bf16) (y : Vec Ideal S2816x512 .bf16) (r g z : Vec Ideal S1024x512 .f32) (l : Vec Ideal S1x128 .f32)

theorem sout_A (hc0 : cond0_0 i) (hc1 : ¬cond0_1 i) (hc2 : ¬cond0_2 i) :
    sout0_A_0 c i p3 h3 p4 h4 p5 h5 p6 h6 p7 h7 p8 h8 p9 h9 p10 h10 hc0 hc1 hc2 x y r g = k0_pay1 x y := by
  unfold sout0_A_0
  rw [View.read_writes_eq_canon _ _ _ (scover0_A_0 c i p3 h3 p4 h4 p5 h5 p6 h6 p7 h7 p8 h8 p9 h9 p10 h10 hc0 hc1 hc2 x y r g)]
  unfold kernelRun0_A
  dsimp only
  rw [View.canon_unit_zero start2]
  unfold k0_pay2
  simp only [View.readAt_eq_ld, h3.read_unread, h4.read_unread, View.ld_unit_zero (S := S1024x2816) start2,
    View.ld_unit_zero (S := S2816x512) start2, shapeCast_self]

theorem outs_B (hc0 : ¬cond0_0 i) (hc1 : cond0_1 i) (hc2 : cond0_2 i) (hc3 : cond0_3 i) (hc4 : ¬cond0_4 i) :
    out0_B_4 c i p3 h3 p4 h4 p5 h5 p6 h6 p7 h7 p8 h8 p9 h9 p10 h10 hc0 hc1 hc2 hc3 hc4 x y r g z = k0_pay5 (addf z (k0_pay1 x y)) r g
      ∧ out0_B_5 c i p3 h3 p4 h4 p5 h5 p6 h6 p7 h7 p8 h8 p9 h9 p10 h10 hc0 hc1 hc2 hc3 hc4 x y r g z = k0_pay6 (addf z (k0_pay1 x y)) r g
      ∧ out0_B_6 c i p3 h3 p4 h4 p5 h5 p6 h6 p7 h7 p8 h8 p9 h9 p10 h10 hc0 hc1 hc2 hc3 hc4 x y r g z = k0_pay7 (addf z (k0_pay1 x y)) r g := by
  unfold out0_B_4 out0_B_5 out0_B_6
  rw [View.read_writes_eq_canon _ _ _ (cover0_B_4 c i p3 h3 p4 h4 p5 h5 p6 h6 p7 h7 p8 h8 p9 h9 p10 h10 hc0 hc1 hc2 hc3 hc4 x y r g z),
    View.read_writes_eq_canon _ _ _ (cover0_B_5 c i p3 h3 p4 h4 p5 h5 p6 h6 p7 h7 p8 h8 p9 h9 p10 h10 hc0 hc1 hc2 hc3 hc4 x y r g z),
    View.read_writes_eq_canon _ _ _ (cover0_B_6 c i p3 h3 p4 h4 p5 h5 p6 h6 p7 h7 p8 h8 p9 h9 p10 h10 hc0 hc1 hc2 hc3 hc4 x y r g z)]
  unfold kernelRun0_B
  dsimp only
  sl_unfold_words
  rw [View.canon_unit_zero start2, View.canon_unit_zero start2, View.canon_unit_zero start2, View.readCov_unit_zero (S := S1024x512) _ start2]
  unfold k0_pay3
  simp only [View.readAt_eq_ld, h3.read_unread, h4.read_unread, h5.read_unread, h6.read_unread, h9.read_unread, h10.read_unread,
    View.ld_unit_zero (S := S1024x2816) start2, View.ld_unit_zero (S := S2816x512) start2, View.ld_unit_zero (S := S1024x512) start2,
    View.ld_unit_zero (S := S1x128) start2, shapeCast_self, and_self]

theorem outs_C (hc0 : ¬cond0_0 i) (hc1 : cond0_1 i) (hc2 : cond0_2 i) (hc3 : ¬cond0_3 i) (hc4 : cond0_4 i) :
    out0_C_4 c i p3 h3 p4 h4 p5 h5 p6 h6 p7 h7 p8 h8 p9 h9 p10 h10 hc0 hc1 hc2 hc3 hc4 x y r g l z = k0_pay5 (addf z (k0_pay1 x y)) r g
      ∧ out0_C_5 c i p3 h3 p4 h4 p5 h5 p6 h6 p7 h7 p8 h8 p9 h9 p10 h10 hc0 hc1 hc2 hc3 hc4 x y r g l z = k0_pay6 (addf z (k0_pay1 x y)) r g
      ∧ out0_C_6 c i p3 h3 p4 h4 p5 h5 p6 h6 p7 h7 p8 h8 p9 h9 p10 h10 hc0 hc1 hc2 hc3 hc4 x y r g l z = k0_pay8 (addf z (k0_pay1 x y)) r g l := by
  unfold out0_C_4 out0_C_5 out0_C_6
  rw [View.read_writes_eq_canon _ _ _ (cover0_C_4 c i p3 h3 p4 h4 p5 h5 p6 h6 p7 h7 p8 h8 p9 h9 p10 h10 hc0 hc1 hc2 hc3 hc4 x y r g l z),
    View.read_writes_eq_canon _ _ _ (cover0_C_5 c i p3 h3 p4 h4 p5 h5 p6 h6 p7 h7 p8 h8 p9 h9 p10 h10 hc0 hc1 hc2 hc3 hc4 x y r g l z),
    View.read_writes_eq_canon _ _ _ (cover0_C_6 c i p3 h3 p4 h4 p5 h5 p6 h6 p7 h7 p8 h8 p9 h9 p10 h10 hc0 hc1 hc2 hc3 hc4 x y r g l z)]
  unfold kernelRun0_C
  dsimp only
  sl_unfold_words
  rw [View.canon_unit_zero start2, View.canon_unit_zero start2, View.canon_unit_zero start2, View.readCov_unit_zero (S := S1024x512) _ start2]
  unfold k0_pay3
  simp only [View.readAt_eq_ld, h3.read_unread, h4.read_unread, h5.read_unread, h6.read_unread, h9.read_unread, h10.read_unread,
    View.ld_unit_zero (S := S1024x2816) start2, View.ld_unit_zero (S := S2816x512) start2, View.ld_unit_zero (S := S1024x512) start2,
    View.ld_unit_zero (S := S1x128) start2, shapeCast_self, and_self]

end body

theorem pay1_apply (x : Vec Ideal S1024x2816 .bf16) (y : Vec Ideal S2816x512 .bf16) (a : Fin 1024) (b : Fin 512) :
    k0_pay1 x y (ix2 a b) = ∑ k, x (ix2 a k) * y (ix2 k b) := by
  pointwise [k0_pay1, dot_S1024x2816_S2816x512_S1024x512_1_0_0_1_n_n]
theorem pay4_apply (z x g : Vec Ideal S1024x512 .f32) (a : Fin 1024) (b : Fin 512) :
    k0_pay4 z x g (ix2 a b) = z (ix2 a b) + x (ix2 a b) - g (ix2 a b) := by
  pointwise [k0_pay4]
theorem pay5_apply (z x g : Vec Ideal S1024x512 .f32) (a : Fin 1024) (b : Fin 512) :
    k0_pay5 z x g (ix2 a b) = k0_pay4 z x g (ix2 a b) * Ideal.ofBits .f32 0x3A000000#32 := by
  pointwise [k0_pay5]
theorem pay6_apply (z x g : Vec Ideal S1024x512 .f32) (a : Fin 1024) (b : Fin 512) :
    k0_pay6 z x g (ix2 a b) = k0_pay5 z x g (ix2 a b) := by
  pointwise [k0_pay6]
theorem pay7_apply (z x g : Vec Ideal S1024x512 .f32) (l : Fin 128) :
    k0_pay7 z x g (ix2 0 l) = (∑ a : Fin 1024, ∑ b : Fin 512, k0_pay4 z x g (ix2 a b) * k0_pay4 z x g (ix2 a b)) * Ideal.ofBits .f32 0x39800000#32 := by
  pointwise [k0_pay7]
theorem pay8_apply (z x g : Vec Ideal S1024x512 .f32) (v : Vec Ideal S1x128 .f32) (l : Fin 128) :
    k0_pay8 z x g v (ix2 0 l) = v (ix2 0 l) + k0_pay7 z x g (ix2 0 l) := by
  pointwise [k0_pay8]
/-! ## The blocks -/

variable (m : (ℓ : Loc nD τ sig) → Buf (Elt Ideal) ℓ) (c : Dev nD)

abbrev argA : FVec Ideal S2048x5632 .f32 := m ((c.tc : Thread nD τ).loc main_arg0)
abbrev argW : FVec Ideal S5632x2048 .f32 := m ((c.tc : Thread nD τ).loc main_arg1)
abbrev argX : FVec Ideal S2048x2048 .f32 := m ((c.tc : Thread nD τ).loc main_arg2)
abbrev argT : FVec Ideal S2048x2048 .f32 := m ((c.tc : Thread nD τ).loc main_arg3)

theorem V_a : V m c main_v0 = truncf .bf16 (argA m c) bitsLt_bf16_f32 := by simp only [V, hostOps0]; after_results_simp
theorem V_w : V m c main_v1 = truncf .bf16 (argW m c) bitsLt_bf16_f32 := by simp only [V, hostOps0]; after_results_simp
theorem V_x : V m c main_arg2 = argX m c := by simp only [V, hostOps0]; after_results_simp
theorem V_t : V m c main_arg3 = argT m c := by simp only [V, hostOps0]; after_results_simp

theorem ix_0 : ∀ t : Fin cfg0.N, win0_0.index t = ![t.val / 8, t.val % 2] := (by decide +kernel : ∀ t : Fin grid0.N, _)
theorem ix_1 : ∀ t : Fin cfg0.N, win0_1.index t = ![t.val % 2, t.val / 2 % 4] := (by decide +kernel : ∀ t : Fin grid0.N, _)
theorem ix_2 : ∀ t : Fin cfg0.N, win0_2.index t = ![t.val / 8, t.val / 2 % 4] := (by decide +kernel : ∀ t : Fin grid0.N, _)
theorem ix_3 : ∀ t : Fin cfg0.N, win0_3.index t = ![t.val / 8, t.val / 2 % 4] := (by decide +kernel : ∀ t : Fin grid0.N, _)
theorem ix_4 : ∀ t : Fin cfg0.N, win0_4.index t = ![t.val / 8, t.val / 2 % 4] := (by decide +kernel : ∀ t : Fin grid0.N, _)
theorem ix_5 : ∀ t : Fin cfg0.N, win0_5.index t = ![t.val / 8, t.val / 2 % 4] := (by decide +kernel : ∀ t : Fin grid0.N, _)
theorem ix_6 : ∀ t : Fin cfg0.N, win0_6.index t = ![0, 0] := (by decide +kernel : ∀ t : Fin grid0.N, _)

/-- The row of the result at row `a` of the block the point `t` works on, its column, and the column the product runs over. -/
abbrev row (t : Fin cfg0.N) (a : Fin 1024) : Fin 2048 := ⟨t.val / 8 * 1024 + a.val, by have h : t.val < 16 := t.isLt; omega⟩
abbrev col (t : Fin cfg0.N) (b : Fin 512) : Fin 2048 := ⟨t.val / 2 % 4 * 512 + b.val, by omega⟩
abbrev mid (t : Fin cfg0.N) (k : Fin 2816) : Fin 5632 := ⟨t.val % 2 * 2816 + k.val, by omega⟩

theorem iblk_0 (t : Fin cfg0.N) (a : Fin 1024) (k : Fin 2816) : iblk m c 0 t (ix2 a k) = argA m c (ix2 (row t a) (mid t k)) := by
  refine Eq.trans ?_ (congrFun (V_a m c) (ix2 (row t a) (mid t k)))
  blk_simp [iblk]
  congr 1
  blk_ext [ix_0]
theorem iblk_1 (t : Fin cfg0.N) (k : Fin 2816) (b : Fin 512) : iblk m c 1 t (ix2 k b) = argW m c (ix2 (mid t k) (col t b)) := by
  refine Eq.trans ?_ (congrFun (V_w m c) (ix2 (mid t k) (col t b)))
  blk_simp [iblk]
  congr 1
  blk_ext [ix_1]
theorem iblk_2 (t : Fin cfg0.N) (a : Fin 1024) (b : Fin 512) : iblk m c 2 t (ix2 a b) = argX m c (ix2 (row t a) (col t b)) := by
  refine Eq.trans ?_ (congrFun (V_x m c) (ix2 (row t a) (col t b)))
  blk_simp [iblk]
  congr 1
  blk_ext [ix_2]
theorem iblk_3 (t : Fin cfg0.N) (a : Fin 1024) (b : Fin 512) : iblk m c 3 t (ix2 a b) = argT m c (ix2 (row t a) (col t b)) := by
  refine Eq.trans ?_ (congrFun (V_t m c) (ix2 (row t a) (col t b)))
  blk_simp [iblk]
  congr 1
  blk_ext [ix_3]

/-- One step's product, and two steps' sum. -/
def step (t : Fin cfg0.N) : FVec Ideal S1024x512 .f32 := k0_pay1 (iblk m c 0 t) (iblk m c 1 t)
def both (t : Fin cfg0.N) : FVec Ideal S1024x512 .f32 := addf (step m c ⟨t.val - 1, Nat.lt_of_le_of_lt (Nat.sub_le _ _) t.isLt⟩) (step m c t)

theorem step_apply (t : Fin cfg0.N) (a : Fin 1024) (b : Fin 512) :
    step m c t (ix2 a b) = ∑ k, argA m c (ix2 (row t a) (mid t k)) * argW m c (ix2 (mid t k) (col t b)) :=
  (pay1_apply _ _ a b).trans (Finset.sum_congr rfl fun k _ => congrArg₂ (· * ·) (iblk_0 m c t a k) (iblk_1 m c t k b))

/-! ## What the points leave -/

theorem carried (t : Fin cfg0.N) (h : t.val % 2 = 0) : (outsAt0 m c t.val t.isLt).2.2.2 = step m c t := by
  rw [outsAt0_A m c t h (by omega) (by omega)]
  dsimp only
  rw [sout_A]
  rfl
theorem kept (t : Fin cfg0.N) (h : t.val % 2 = 0) :
    (outsAt0 m c t.val t.isLt).2.2.1 = (outsAt0 m c (t.val - 1) (Nat.lt_of_le_of_lt (Nat.sub_le _ _) t.isLt)).2.2.1 := by
  rw [outsAt0_A m c t h (by omega) (by omega)]
  rfl
theorem before (t : Fin cfg0.N) (h : t.val % 2 = 1) :
    (outsAt0 m c (t.val - 1) (Nat.lt_of_le_of_lt (Nat.sub_le _ _) t.isLt)).2.2.2 = step m c ⟨t.val - 1, Nat.lt_of_le_of_lt (Nat.sub_le _ _) t.isLt⟩ :=
  carried m c ⟨t.val - 1, Nat.lt_of_le_of_lt (Nat.sub_le _ _) t.isLt⟩ (by show (t.val - 1) % 2 = 0; omega)

theorem first_tile (t : Fin cfg0.N) (h : t.val % 2 = 1) (h2 : t.val < 2) :
    (outsAt0 m c t.val t.isLt).1 = k0_pay5 (both m c t) (iblk m c 2 t) (iblk m c 3 t)
      ∧ (outsAt0 m c t.val t.isLt).2.1 = k0_pay6 (both m c t) (iblk m c 2 t) (iblk m c 3 t)
      ∧ (outsAt0 m c t.val t.isLt).2.2.1 = k0_pay7 (both m c t) (iblk m c 2 t) (iblk m c 3 t) := by
  rw [outsAt0_B m c t (by omega) h h h2 (by omega), before m c t h]
  dsimp only
  refine ⟨?_, ?_, ?_⟩
  · rw [(outs_B ..).1]
    rfl
  · rw [(outs_B ..).2.1]
    rfl
  · rw [(outs_B ..).2.2]
    rfl
theorem later_tile (t : Fin cfg0.N) (h : t.val % 2 = 1) (h2 : 2 ≤ t.val) :
    (outsAt0 m c t.val t.isLt).1 = k0_pay5 (both m c t) (iblk m c 2 t) (iblk m c 3 t)
      ∧ (outsAt0 m c t.val t.isLt).2.1 = k0_pay6 (both m c t) (iblk m c 2 t) (iblk m c 3 t)
      ∧ (outsAt0 m c t.val t.isLt).2.2.1 = k0_pay8 (both m c t) (iblk m c 2 t) (iblk m c 3 t) (outsAt0 m c (t.val - 1) (Nat.lt_of_le_of_lt (Nat.sub_le _ _) t.isLt)).2.2.1 := by
  rw [outsAt0_C m c t (by omega) h h (by omega) h2, before m c t h]
  dsimp only
  refine ⟨?_, ?_, ?_⟩
  · rw [(outs_C ..).1]
    rfl
  · rw [(outs_C ..).2.1]
    rfl
  · rw [(outs_C ..).2.2]
    rfl

/-- The difference from the target at an entry. -/
def entry (a j : Fin 2048) : EReal := (∑ k, argA m c (ix2 a k) * argW m c (ix2 k j)) + argX m c (ix2 a j) - argT m c (ix2 a j)

theorem both_apply (n : ℕ) (h : 2 * n + 1 < cfg0.N) (a : Fin 1024) (b : Fin 512) :
    both m c ⟨2 * n + 1, h⟩ (ix2 a b) = ∑ k, argA m c (ix2 (row ⟨2 * n + 1, h⟩ a) k) * argW m c (ix2 k (col ⟨2 * n + 1, h⟩ b)) := by
  rw [← Fin.sum_mul_add_fin 2 2816 fun k => argA m c (ix2 (row ⟨2 * n + 1, h⟩ a) k) * argW m c (ix2 k (col ⟨2 * n + 1, h⟩ b)), Fin.sum_univ_two]
  have e : ∀ (s : Fin 2), step m c ⟨2 * n + s.val, by omega⟩ (ix2 a b)
      = ∑ k : Fin 2816, argA m c (ix2 (row ⟨2 * n + 1, h⟩ a) ⟨s.val * 2816 + k.val, by omega⟩) * argW m c (ix2 ⟨s.val * 2816 + k.val, by omega⟩ (col ⟨2 * n + 1, h⟩ b)) := fun s => by
    have hr : row (⟨2 * n + s.val, by omega⟩ : Fin cfg0.N) a = row ⟨2 * n + 1, h⟩ a := Fin.ext (by show (2 * n + s.val) / 8 * 1024 + a.val = (2 * n + 1) / 8 * 1024 + a.val; omega)
    have hc : col (⟨2 * n + s.val, by omega⟩ : Fin cfg0.N) b = col ⟨2 * n + 1, h⟩ b := Fin.ext (by show (2 * n + s.val) / 2 % 4 * 512 + b.val = (2 * n + 1) / 2 % 4 * 512 + b.val; omega)
    have hm : ∀ k, mid (⟨2 * n + s.val, by omega⟩ : Fin cfg0.N) k = ⟨s.val * 2816 + k.val, by omega⟩ := fun k => Fin.ext (by show (2 * n + s.val) % 2 * 2816 + k.val = s.val * 2816 + k.val; omega)
    rw [step_apply, hr, hc]
    exact Finset.sum_congr rfl fun k _ => by rw [hm]
  exact congrArg₂ (· + ·) (e 0) (e 1)

/-- The difference of a tile that its second step completes. -/
theorem pay4_entry (t : Fin cfg0.N) (h : t.val % 2 = 1) (a : Fin 1024) (b : Fin 512) :
    k0_pay4 (both m c t) (iblk m c 2 t) (iblk m c 3 t) (ix2 a b) = entry m c (row t a) (col t b) := by
  obtain ⟨v, hv⟩ := t
  obtain ⟨n, rfl⟩ : ∃ n, v = 2 * n + 1 := ⟨v / 2, by dsimp only at h; omega⟩
  exact (pay4_apply _ _ _ a b).trans (congrArg₂ (· - ·) (congrArg₂ (· + ·) (both_apply m c n hv a b) (iblk_2 m c _ a b)) (iblk_3 m c _ a b))

theorem grad_apply (t : Fin cfg0.N) (h : t.val % 2 = 1) (a : Fin 1024) (b : Fin 512) :
    (outsAt0 m c t.val t.isLt).1 (ix2 a b) = entry m c (row t a) (col t b) * Ideal.ofBits .f32 0x3A000000#32
      ∧ (outsAt0 m c t.val t.isLt).2.1 (ix2 a b) = entry m c (row t a) (col t b) * Ideal.ofBits .f32 0x3A000000#32 := by
  have e : (outsAt0 m c t.val t.isLt).1 = k0_pay5 (both m c t) (iblk m c 2 t) (iblk m c 3 t)
      ∧ (outsAt0 m c t.val t.isLt).2.1 = k0_pay6 (both m c t) (iblk m c 2 t) (iblk m c 3 t) := by
    by_cases h2 : t.val < 2
    · exact ⟨(first_tile m c t h h2).1, (first_tile m c t h h2).2.1⟩
    · exact ⟨(later_tile m c t h (by omega)).1, (later_tile m c t h (by omega)).2.1⟩
  have e5 := (pay5_apply (both m c t) (iblk m c 2 t) (iblk m c 3 t) a b).trans (congrArg (· * _) (pay4_entry m c t h a b))
  exact ⟨(congrFun e.1 _).trans e5, (congrFun e.2 _).trans ((pay6_apply _ _ _ a b).trans e5)⟩

/-- A tile's part of the loss: its squares' sum, scaled. -/
def square (i : ℕ) : EReal :=
  if h : i < 8 then ∑ a : Fin 1024, ∑ b : Fin 512, entry m c ⟨i / 4 * 1024 + a.val, by omega⟩ ⟨i % 4 * 512 + b.val, by omega⟩ * entry m c ⟨i / 4 * 1024 + a.val, by omega⟩ ⟨i % 4 * 512 + b.val, by omega⟩ else 0

theorem pay7_square (n : ℕ) (h : 2 * n + 1 < cfg0.N) (l : Fin 128) :
    k0_pay7 (both m c ⟨2 * n + 1, h⟩) (iblk m c 2 ⟨2 * n + 1, h⟩) (iblk m c 3 ⟨2 * n + 1, h⟩) (ix2 0 l) = square m c n * Ideal.ofBits .f32 0x39800000#32 := by
  have hN : 2 * n + 1 < 16 := h
  rw [pay7_apply, square, dif_pos (by omega : n < 8)]
  refine congrArg (· * _) (Finset.sum_congr rfl fun a _ => Finset.sum_congr rfl fun b _ => ?_)
  have hr : row (⟨2 * n + 1, h⟩ : Fin cfg0.N) a = ⟨n / 4 * 1024 + a.val, by omega⟩ := Fin.ext (by show (2 * n + 1) / 8 * 1024 + a.val = n / 4 * 1024 + a.val; omega)
  have hc : col (⟨2 * n + 1, h⟩ : Fin cfg0.N) b = ⟨n % 4 * 512 + b.val, by omega⟩ := Fin.ext (by show (2 * n + 1) / 2 % 4 * 512 + b.val = n % 4 * 512 + b.val; omega)
  rw [pay4_entry m c _ (by show (2 * n + 1) % 2 = 1; omega), hr, hc]

/-- After a tile's second step the loss holds the parts of the tiles so far. -/
theorem loss_so_far (l : Fin 128) : ∀ (n : ℕ) (h : 2 * n + 1 < cfg0.N),
    (outsAt0 m c (2 * n + 1) h).2.2.1 (ix2 0 l) = ∑ i ∈ Finset.range (n + 1), square m c i * Ideal.ofBits .f32 0x39800000#32
  | 0, h => by
    rw [Finset.sum_range_one, ← pay7_square m c 0 h l]
    exact congrFun (first_tile m c ⟨1, h⟩ rfl (by show 1 < 2; omega)).2.2 _
  | n + 1, h => by
    rw [Finset.sum_range_succ, ← pay7_square m c (n + 1) h l, ← loss_so_far l n (by omega)]
    refine (congrFun (later_tile m c ⟨2 * (n + 1) + 1, h⟩ (by show (2 * (n + 1) + 1) % 2 = 1; omega) (by show 2 ≤ 2 * (n + 1) + 1; omega)).2.2 _).trans
      ((pay8_apply _ _ _ _ l).trans (congrArg (· + _) (congrFun (kept m c ⟨2 * (n + 1), by omega⟩ (by show (2 * (n + 1)) % 2 = 0; omega)) _)))

/-- The tiles' parts are the whole array's sum of squares, scaled. -/
theorem total : ∑ i ∈ Finset.range 8, square m c i * Ideal.ofBits .f32 0x39800000#32
    = (∑ a, ∑ j, entry m c a j * entry m c a j) * Ideal.ofBits .f32 0x39800000#32 := by
  have hn : ∀ i, 0 ≤ square m c i := fun i => by
    unfold square
    split
    · exact Finset.sum_nonneg fun a _ => Finset.sum_nonneg fun b _ => Cert.Fox.square_nonneg _
    · exact le_rfl
  rw [Cert.Fox.sum_scaled _ _ _ hn]
  congr 1
  rw [Finset.sum_range, ← Fin.sum_mul_add_fin 2 4 fun i : Fin 8 => square m c i.val,
    ← Fin.sum_mul_add_fin 2 1024 fun a => ∑ j, entry m c a j * entry m c a j]
  refine Finset.sum_congr rfl fun p _ => ?_
  have e : ∀ a : Fin 2048, ∑ j, entry m c a j * entry m c a j
      = ∑ q : Fin 4, ∑ b : Fin 512, entry m c a ⟨q.val * 512 + b.val, by omega⟩ * entry m c a ⟨q.val * 512 + b.val, by omega⟩ := fun a =>
    (Fin.sum_mul_add_fin 4 512 fun j => entry m c a j * entry m c a j).symm
  simp only [e]
  rw [Finset.sum_comm]
  refine Finset.sum_congr rfl fun q _ => ?_
  rw [square, dif_pos (by omega)]
  refine Finset.sum_congr rfl fun a _ => Finset.sum_congr rfl fun b _ => ?_
  have h1 : (p.val * 4 + q.val) / 4 = p.val := by omega
  have h2 : (p.val * 4 + q.val) % 4 = q.val := by omega
  simp only [h1, h2]

/-! ## The results -/

/-- Each result array is any that has these entries. -/
theorem final_grad (W : FVec Ideal S2048x2048 .f32) (hW : ∀ a j, W (ix2 a j) = entry m c a j * Ideal.ofBits .f32 0x3A000000#32) :
    (dats m 0 c).arrAt 4 cfg0.N = W := by
  refine (dats m 0 c).arrAt_eq_of_covers 4 _ (by decide +kernel) fun t hf y => ?_
  have h1 : t.val % 2 = 1 := (flush0_4 t).mp hf
  blk_simp
  rw [after0_4]
  obtain ⟨a, b, rfl⟩ : ∃ (a : Fin 1024) (b : Fin 512), y = ix2 a b := ⟨y 0, y 1, by funext x; fin_cases x <;> rfl⟩
  refine (grad_apply m c t h1 a b).1.trans ((hW _ _).symm.trans (congrArg W ?_))
  blk_ext [ix_4]
theorem final_half (W : FVec Ideal S2048x2048 .bf16) (hW : ∀ a j, W (ix2 a j) = entry m c a j * Ideal.ofBits .f32 0x3A000000#32) :
    (dats m 0 c).arrAt 5 cfg0.N = W := by
  refine (dats m 0 c).arrAt_eq_of_covers 5 _ (by decide +kernel) fun t hf y => ?_
  have h1 : t.val % 2 = 1 := (flush0_5 t).mp hf
  blk_simp
  rw [after0_5]
  obtain ⟨a, b, rfl⟩ : ∃ (a : Fin 1024) (b : Fin 512), y = ix2 a b := ⟨y 0, y 1, by funext x; fin_cases x <;> rfl⟩
  refine (grad_apply m c t h1 a b).2.trans ((hW _ _).symm.trans (congrArg W ?_))
  blk_ext [ix_5]
theorem final_loss (W : FVec Ideal S1x128 .f32)
    (hW : ∀ l, W (ix2 0 l) = (∑ a, ∑ j, entry m c a j * entry m c a j) * Ideal.ofBits .f32 0x39800000#32) :
    (dats m 0 c).arrAt 6 cfg0.N = W := by
  refine (dats m 0 c).arrAt_eq_of_covers 6 _ (by decide +kernel) fun t hf y => ?_
  have h1 : t.val % 16 = 15 := (flush0_6 t).mp hf
  obtain rfl : t = ⟨2 * 7 + 1, by decide⟩ := Fin.ext (by have h : t.val < 16 := t.isLt; show t.val = 15; omega)
  blk_simp
  rw [after0_6]
  obtain ⟨l, rfl⟩ : ∃ l : Fin 128, y = ix2 0 l := ⟨y 1, by funext x; fin_cases x <;> [exact Subsingleton.elim (α := Fin 1) _ _; rfl]⟩
  refine (loss_so_far m c l 7 _).trans ((total m c).trans ((hW l).symm.trans (congrArg W ?_)))
  blk_ext [ix_6]

end Cert.KernelDlIdeal.Dl

namespace Cert.ReferenceDlIdeal.Dl
open Idealize.ShloMosaic Idealize.ShloMosaic.TcCoe Idealize.ShloMosaic.StableHlo Cert.ReferenceDlIdeal.Gen

/-- The reference's difference from the target, the gradient of its loss there, and the loss. -/
def err (act : FVec Ideal S2048x5632 .f32) (w : FVec Ideal S5632x2048 .f32) (x t : FVec Ideal S2048x2048 .f32) : FVec Ideal S2048x2048 .f32 :=
  subf (addf x (Host.dotGeneral dot_S2048x5632_S5632x2048_S2048x2048_1_0_0_1_n_n none act w)) t
def grad (e : FVec Ideal S2048x2048 .f32) : FVec Ideal S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32)))
    (broadcastInDim S2048 ![] bcast_S_S2048 (constant S_ .f32 0x45000000#32)))) (mulf (broadcastInDim S2048x2048 ![] bcast_S_S2048x2048 (constant S_ .f32 0x40000000#32)) e)
def loss (e : FVec Ideal S2048x2048 .f32) : FVec Ideal S1x128 .f32 :=
  broadcastInDim S1x128 ![] bcast_S_S1x128 (mulf (constant S_ .f32 0x3F000000#32) (Host.reduceAdd (Host.divf (Host.reduceAdd (mulf e e) (constant S_ .f32 0x00000000#32) reducesTo_S2048x2048_S2048_d1 h_S_)
    (broadcastInDim S2048 ![] bcast_S_S2048 (constant S_ .f32 0x45000000#32))) (constant S_ .f32 0x00000000#32) reducesTo_S2048_S_d0 h_S_))

theorem err_apply (act : FVec Ideal S2048x5632 .f32) (w : FVec Ideal S5632x2048 .f32) (x t : FVec Ideal S2048x2048 .f32) (a j : Fin 2048) :
    err act w x t (ix2 a j) = x (ix2 a j) + (∑ k, act (ix2 a k) * w (ix2 k j)) - t (ix2 a j) := by
  pointwise [err, dot_S2048x5632_S5632x2048_S2048x2048_1_0_0_1_n_n]
theorem ofBits_half : Ideal.ofBits .f32 0x3F000000#32 = ((1 / 2 : ℝ) : EReal) := by
  simp [Ideal.ofBits, Ideal.ieee, -EReal.coe_mul]; norm_num
theorem ofBits_width : Ideal.ofBits .f32 0x45000000#32 = ((2048 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_inv : Ideal.ofBits .f32 0x3A000000#32 = ((1 / 2048 : ℝ) : EReal) := by
  simp [Ideal.ofBits, Ideal.ieee, -EReal.coe_mul]; norm_num
theorem ofBits_inv_half : Ideal.ofBits .f32 0x39800000#32 = ((1 / 4096 : ℝ) : EReal) := by
  simp [Ideal.ofBits, Ideal.ieee, -EReal.coe_mul]; norm_num

theorem grad_apply (e : FVec Ideal S2048x2048 .f32) (a j : Fin 2048) :
    grad e (ix2 a j) = e (ix2 a j) * Ideal.ofBits .f32 0x3A000000#32 := by
  pointwise [grad]
  rw [ofBits_half, ofBits_width, ofBits_two, ofBits_inv, Cert.Fox.div_real _ _ (by norm_num), ← mul_assoc, ← EReal.coe_mul, mul_comm]
  norm_num
theorem loss_apply (e : FVec Ideal S2048x2048 .f32) (l : Fin 128) :
    loss e (ix2 0 l) = (∑ a : Fin 2048, ∑ j : Fin 2048, e (ix2 a j) * e (ix2 a j)) * Ideal.ofBits .f32 0x39800000#32 := by
  pointwise [loss]
  rw [ofBits_half, ofBits_width, ofBits_inv_half]
  simp only [Ideal.div_coe (show (2048 : ℝ) ≠ 0 by norm_num)]
  rw [Cert.Fox.sum_scaled _ _ _ fun a => Finset.sum_nonneg fun j _ => Cert.Fox.square_nonneg _, mul_comm, mul_assoc, ← EReal.coe_mul]
  norm_num
end Cert.ReferenceDlIdeal.Dl
-- ==== Proof.Nb.lean ====
module

public import proofs.«01_k».proof.Proof.Gen.KernelNbIdeal.Value
public import proofs.«01_k».proof.Proof.Gen.KernelNb.Frame
public import proofs.«01_k».proof.Proof.Gen.ReferenceNbIdeal.Run
public import proofs.«01_k».proof.Proof.Dl
public import Idealize.ShloMosaic.Lib.Pipeline.ValueKit.Tiles
public import Idealize.ShloMosaic.Lib.Pipeline.ValueKit.Geometry
public import Idealize.ShloMosaic.Lib.Pointwise

/-! The norm's gradients: a row's input gradient needs the row alone; the gain's gradient is a sum over the rows, which
    the points add up in blocks of 256. The row's mean square plus the small constant is a positive real or infinite; its inverse
    root is then a real that is not negative, and multiplying by such a real goes through every sum. -/

@[expose] public section
set_option maxRecDepth 16384
noncomputable section
namespace Cert.Fox.Norm
open Idealize.ShloMosaic

theorem ofBits_eps : Ideal.ofBits .f32 0x358637BD#32 = ((8796093 / 8796093022208 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_width : Ideal.ofBits .f32 0x45000000#32 = ((2048 : ℝ) : EReal) := Cert.ReferenceDlIdeal.Dl.ofBits_width

/-- A row's mean square plus the small constant, and its inverse root. -/
def var (x : Fin 2048 → EReal) : EReal := Ideal.div (∑ k, x k * x k) (Ideal.ofBits .f32 0x45000000#32) + Ideal.ofBits .f32 0x358637BD#32
def root (x : Fin 2048 → EReal) : EReal := Ideal.rsqrt (var x)

/-- The inverse root is a real that is not negative, and over the mean square it is its own cube. -/
theorem root_real (x : Fin 2048 → EReal) : ∃ r : ℝ, 0 ≤ r ∧ root x = r ∧ Ideal.div (root x) (var x) = ((r * r * r : ℝ) : EReal) := by
  have h0 : 0 ≤ ∑ k, x k * x k := Finset.sum_nonneg fun k _ => square_nonneg _
  have hv : var x = (∑ k, x k * x k) * ((1 / 2048 : ℝ) : EReal) + ((8796093 / 8796093022208 : ℝ) : EReal) := by
    rw [var, ofBits_width, ofBits_eps, Ideal.div_coe (by norm_num)]
  unfold root
  rw [hv]
  induction h : ∑ k, x k * x k using EReal.rec with
  | bot => rw [h] at h0; simp at h0
  | top =>
    refine ⟨0, le_rfl, ?_⟩
    rw [EReal.top_mul_coe_of_pos (by norm_num), EReal.top_add_coe, Ideal.rsqrt_top]
    exact ⟨rfl, by simp [Ideal.div]⟩
  | coe s =>
    rw [h] at h0
    have hs : 0 ≤ s := EReal.coe_nonneg.mp h0
    have hp : 0 < s * (1 / 2048) + 8796093 / 8796093022208 := by positivity
    refine ⟨(Real.sqrt (s * (1 / 2048) + 8796093 / 8796093022208))⁻¹, by positivity, ?_⟩
    rw [← EReal.coe_mul, ← EReal.coe_add, Ideal.rsqrt_coe, if_neg (not_lt.mpr hp.le), if_neg hp.ne', Ideal.div_coe hp.ne', ← EReal.coe_mul]
    refine ⟨rfl, congrArg _ ?_⟩
    generalize s * (1 / 2048) + 8796093 / 8796093022208 = v at hp ⊢
    rw [mul_assoc, ← mul_inv, Real.mul_self_sqrt hp.le, one_div]

/-- Multiplying by a real that is not negative goes through a sum. -/
theorem sum_mul_real {ι : Type} (s : Finset ι) (f : ι → EReal) (r : ℝ) (h : 0 ≤ r) : ∑ i ∈ s, f i * (r : EReal) = (∑ i ∈ s, f i) * r := by
  classical
  induction s using Finset.induction_on with
  | empty => simp
  | insert a s ha ih =>
    rw [Finset.sum_insert ha, Finset.sum_insert ha, ih, EReal.right_distrib_of_nonneg_of_ne_top (EReal.coe_nonneg.mpr h) (EReal.coe_ne_top r)]

/-- What the reference adds twice. -/
def half (x d : Fin 2048 → EReal) : EReal :=
  Ideal.div ((∑ k, x k * d k) * (Ideal.ofBits .f32 0xBF000000#32 * Ideal.div (root x) (var x))) (Ideal.ofBits .f32 0x45000000#32)

/-- The input gradient at an entry, the kernel's way and the reference's. -/
theorem grad_eq (x d : Fin 2048 → EReal) (j : Fin 2048) :
    root x * (d j - x j * root x * Ideal.div (∑ k, d k * (x k * root x)) (Ideal.ofBits .f32 0x45000000#32))
      = d j * root x + x j * half x d + half x d * x j := by
  obtain ⟨r, hr, e, e3⟩ := root_real x
  unfold half
  rw [e3, e, ofBits_width, ofBits_neg_half, Ideal.div_coe (by norm_num), Ideal.div_coe (by norm_num)]
  have hs : ∑ k, d k * (x k * (r : EReal)) = (∑ k, x k * d k) * r := by
    rw [← sum_mul_real _ _ r hr]
    exact Finset.sum_congr rfl fun k _ => by rw [← mul_assoc, mul_comm (d k)]
  rw [hs]
  generalize ∑ k, x k * d k = S
  rw [sub_eq_add_neg, EReal.left_distrib_of_nonneg_of_ne_top (EReal.coe_nonneg.mpr hr) (EReal.coe_ne_top r), add_assoc, mul_comm (d j)]
  refine congrArg _ ?_
  have e1 : x j * (S * (((-(1 / 2) : ℝ) : EReal) * ((r * r * r : ℝ) : EReal)) * ((1 / 2048 : ℝ) : EReal))
      = x j * S * ((-(1 / 2) * (r * r * r) * (1 / 2048) : ℝ) : EReal) := by
    rw [EReal.coe_mul (-(1 / 2) * (r * r * r)), EReal.coe_mul (-(1 / 2))]; ac_rfl
  have e2 : (r : EReal) * (x j * r * (S * r * ((1 / 2048 : ℝ) : EReal))) = x j * S * ((r * r * r * (1 / 2048) : ℝ) : EReal) := by
    rw [EReal.coe_mul (r * r * r), EReal.coe_mul (r * r), EReal.coe_mul r]; ac_rfl
  rw [mul_comm _ (x j), e1, mul_neg, e2]
  generalize x j * S = y
  have e4 : y * ((-(1 / 2) * (r * r * r) * (1 / 2048) : ℝ) : EReal) + y * ((-(1 / 2) * (r * r * r) * (1 / 2048) : ℝ) : EReal)
      = y * ((-(r * r * r * (1 / 2048)) : ℝ) : EReal) := by
    have e5 : (-(r * r * r * (1 / 2048)) : ℝ) = (-(1 / 2) * (r * r * r) * (1 / 2048)) * (1 + 1) := by ring
    rw [e5]
    generalize -(1 / 2) * (r * r * r) * (1 / 2048) = q
    rw [EReal.coe_mul, EReal.coe_add, ← mul_assoc, EReal.left_distrib_of_nonneg (by simp) (by simp)]
    simp
  rw [e4, EReal.coe_neg, mul_neg]

end Cert.Fox.Norm

namespace Cert.KernelNbIdeal.Nb
open Idealize.ShloMosaic Idealize.ShloMosaic.TcCoe Idealize.ShloMosaic.StableHlo Cert.KernelNbIdeal.Gen Cert.Fox.Norm

theorem start2 : (![0, 0] : Fin 2 → ℕ) = fun _ => 0 := funext fun a => by fin_cases a <;> rfl

/-! ## What a point leaves -/

section body
variable (c : Dev nD) (i : grid0.Coords) (p1 : Memref sig .tc .vmem S256x2048 .f32) (h1 : p1.IsWhole) (p2 : Memref sig .tc .vmem S1x2048 .f32)
  (h2 : p2.IsWhole) (p3 : Memref sig .tc .vmem S256x2048 .f32) (h3 : p3.IsWhole) (p4 : Memref sig .tc .vmem S256x2048 .f32) (h4 : p4.IsWhole)
  (p5 : Memref sig .tc .vmem S256x2048 .f32) (h5 : p5.IsWhole) (p6 : Memref sig .tc .vmem S256x2048 .bf16) (h6 : p6.IsWhole)
  (p7 : Memref sig .tc .vmem S1x2048 .f32) (h7 : p7.IsWhole) (x d r : Vec Ideal S256x2048 .f32) (g l : Vec Ideal S1x2048 .f32)

theorem outs_A (hc0 : cond0_0 i) (hc1 : ¬cond0_1 i) :
    out0_A_4 c i p1 h1 p2 h2 p3 h3 p4 h4 p5 h5 p6 h6 p7 h7 hc0 hc1 x g d r = k0_pay5 x g d r
      ∧ out0_A_5 c i p1 h1 p2 h2 p3 h3 p4 h4 p5 h5 p6 h6 p7 h7 hc0 hc1 x g d r = k0_pay6 x g d r
      ∧ out0_A_6 c i p1 h1 p2 h2 p3 h3 p4 h4 p5 h5 p6 h6 p7 h7 hc0 hc1 x g d r = k0_pay4 x d := by
  unfold out0_A_4 out0_A_5 out0_A_6
  rw [View.read_writes_eq_canon _ _ _ (cover0_A_4 c i p1 h1 p2 h2 p3 h3 p4 h4 p5 h5 p6 h6 p7 h7 hc0 hc1 x g d r),
    View.read_writes_eq_canon _ _ _ (cover0_A_5 c i p1 h1 p2 h2 p3 h3 p4 h4 p5 h5 p6 h6 p7 h7 hc0 hc1 x g d r),
    View.read_writes_eq_canon _ _ _ (cover0_A_6 c i p1 h1 p2 h2 p3 h3 p4 h4 p5 h5 p6 h6 p7 h7 hc0 hc1 x g d r)]
  unfold kernelRun0_A
  dsimp only
  sl_unfold_words
  rw [View.canon_unit_zero start2, View.canon_unit_zero start2, View.canon_unit_zero start2]
  simp only [View.readAt_eq_ld, h1.read_unread, h2.read_unread, h3.read_unread, h4.read_unread,
    View.ld_unit_zero (S := S256x2048) start2, View.ld_unit_zero (S := S1x2048) start2, shapeCast_self, and_self]

theorem outs_B (hc0 : ¬cond0_0 i) (hc1 : cond0_1 i) :
    out0_B_4 c i p1 h1 p2 h2 p3 h3 p4 h4 p5 h5 p6 h6 p7 h7 hc0 hc1 x g d r l = k0_pay5 x g d r
      ∧ out0_B_5 c i p1 h1 p2 h2 p3 h3 p4 h4 p5 h5 p6 h6 p7 h7 hc0 hc1 x g d r l = k0_pay6 x g d r
      ∧ out0_B_6 c i p1 h1 p2 h2 p3 h3 p4 h4 p5 h5 p6 h6 p7 h7 hc0 hc1 x g d r l = k0_pay1 (k0_pay4 x d) l := by
  unfold out0_B_4 out0_B_5 out0_B_6
  rw [View.read_writes_eq_canon _ _ _ (cover0_B_4 c i p1 h1 p2 h2 p3 h3 p4 h4 p5 h5 p6 h6 p7 h7 hc0 hc1 x g d r l),
    View.read_writes_eq_canon _ _ _ (cover0_B_5 c i p1 h1 p2 h2 p3 h3 p4 h4 p5 h5 p6 h6 p7 h7 hc0 hc1 x g d r l),
    View.read_writes_eq_canon _ _ _ (cover0_B_6 c i p1 h1 p2 h2 p3 h3 p4 h4 p5 h5 p6 h6 p7 h7 hc0 hc1 x g d r l)]
  unfold kernelRun0_B
  dsimp only
  sl_unfold_words
  rw [View.canon_unit_zero start2, View.canon_unit_zero start2, View.canon_unit_zero start2]
  simp only [View.readAt_eq_ld, h1.read_unread, h2.read_unread, h3.read_unread, h4.read_unread, h7.read_unread,
    View.ld_unit_zero (S := S256x2048) start2, View.ld_unit_zero (S := S1x2048) start2, shapeCast_self, and_self]

end body

theorem pay1_apply (z l : Vec Ideal S1x2048 .f32) (b : Fin 2048) : k0_pay1 z l (ix2 0 b) = l (ix2 0 b) + z (ix2 0 b) := by
  pointwise [k0_pay1]
theorem pay2_apply (x : Vec Ideal S256x2048 .f32) (a : Fin 256) : k0_pay2 x (ix2 a 0) = root fun k => x (ix2 a k) := by
  pointwise [k0_pay2, root, var]
theorem pay3_apply (x : Vec Ideal S256x2048 .f32) (a : Fin 256) (b : Fin 2048) :
    k0_pay3 x (ix2 a b) = x (ix2 a b) * k0_pay2 x (ix2 a 0) := by
  pointwise [k0_pay3]
theorem pay4_apply (x d : Vec Ideal S256x2048 .f32) (b : Fin 2048) :
    k0_pay4 x d (ix2 0 b) = ∑ a, d (ix2 a b) * k0_pay3 x (ix2 a b) := by
  pointwise [k0_pay4]
theorem pay5_apply (x d r : Vec Ideal S256x2048 .f32) (g : Vec Ideal S1x2048 .f32) (a : Fin 256) (b : Fin 2048) :
    k0_pay5 x g d r (ix2 a b) = k0_pay2 x (ix2 a 0) * (d (ix2 a b) * g (ix2 0 b) - k0_pay3 x (ix2 a b)
      * Ideal.div (∑ k, d (ix2 a k) * g (ix2 0 k) * k0_pay3 x (ix2 a k)) (Ideal.ofBits .f32 0x45000000#32)) + r (ix2 a b) := by
  pointwise [k0_pay5]
theorem pay6_apply (x d r : Vec Ideal S256x2048 .f32) (g : Vec Ideal S1x2048 .f32) (a : Fin 256) (b : Fin 2048) :
    k0_pay6 x g d r (ix2 a b) = k0_pay5 x g d r (ix2 a b) := by
  pointwise [k0_pay6]

/-! ## The blocks -/

variable (m : (ℓ : Loc nD τ sig) → Buf (Elt Ideal) ℓ) (c : Dev nD)

abbrev argX : FVec Ideal S2048x2048 .f32 := m ((c.tc : Thread nD τ).loc main_arg0)
abbrev argG : FVec Ideal S2048 .f32 := m ((c.tc : Thread nD τ).loc main_arg1)
abbrev argD : FVec Ideal S2048x2048 .f32 := m ((c.tc : Thread nD τ).loc main_arg2)
abbrev argR : FVec Ideal S2048x2048 .f32 := m ((c.tc : Thread nD τ).loc main_arg3)

theorem V_x : V m c main_arg0 = argX m c := by simp only [V, hostOps0]; after_results_simp
theorem V_g : V m c main_v0 = shapeCast S1x2048 (argG m c) shapeCasts_S2048_S1x2048 := by simp only [V, hostOps0]; after_results_simp; rfl
theorem V_d : V m c main_arg2 = argD m c := by simp only [V, hostOps0]; after_results_simp
theorem V_r : V m c main_arg3 = argR m c := by simp only [V, hostOps0]; after_results_simp

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![0, 0] := (by decide +kernel : ∀ t : Fin grid0.N, _)

/-- The row of the array at row `a` of the block the point `t` works on. -/
abbrev row (t : Fin cfg0.N) (a : Fin 256) : Fin 2048 := ⟨t.val * 256 + a.val, by have h : t.val < 8 := t.isLt; omega⟩

theorem iblk_0 (t : Fin cfg0.N) (a : Fin 256) (k : Fin 2048) : iblk m c 0 t (ix2 a k) = argX m c (ix2 (row t a) k) := by
  refine Eq.trans ?_ (congrFun (V_x m c) (ix2 (row t a) k))
  blk_simp [iblk]
  congr 1
  blk_ext [ix_0]
theorem gain_apply (g : FVec Ideal S2048 .f32) (k : Fin 2048) : shapeCast S1x2048 g shapeCasts_S2048_S1x2048 (ix2 0 k) = g (ix1 k) := by
  pointwise []
theorem iblk_1 (t : Fin cfg0.N) (k : Fin 2048) : iblk m c 1 t (ix2 0 k) = argG m c (ix1 k) := by
  refine Eq.trans ?_ ((congrFun (V_g m c) (ix2 0 k)).trans (gain_apply _ k))
  blk_simp [iblk]
  congr 1
  blk_ext [ix_1]
theorem iblk_2 (t : Fin cfg0.N) (a : Fin 256) (k : Fin 2048) : iblk m c 2 t (ix2 a k) = argD m c (ix2 (row t a) k) := by
  refine Eq.trans ?_ (congrFun (V_d m c) (ix2 (row t a) k))
  blk_simp [iblk]
  congr 1
  blk_ext [ix_2]
theorem iblk_3 (t : Fin cfg0.N) (a : Fin 256) (k : Fin 2048) : iblk m c 3 t (ix2 a k) = argR m c (ix2 (row t a) k) := by
  refine Eq.trans ?_ (congrFun (V_r m c) (ix2 (row t a) k))
  blk_simp [iblk]
  congr 1
  blk_ext [ix_3]

/-- A row of the input, and the incoming gradient of that row times the gain. -/
def rowX (a k : Fin 2048) : EReal := argX m c (ix2 a k)
def rowD (a k : Fin 2048) : EReal := argD m c (ix2 a k) * argG m c (ix1 k)

theorem root_blk (t : Fin cfg0.N) (a : Fin 256) : k0_pay2 (iblk m c 0 t) (ix2 a 0) = root (rowX m c (row t a)) :=
  (pay2_apply _ a).trans (congrArg root (funext fun k => iblk_0 m c t a k))
theorem unit_blk (t : Fin cfg0.N) (a : Fin 256) (k : Fin 2048) :
    k0_pay3 (iblk m c 0 t) (ix2 a k) = rowX m c (row t a) k * root (rowX m c (row t a)) :=
  (pay3_apply _ a k).trans (congrArg₂ (· * ·) (iblk_0 m c t a k) (root_blk m c t a))

/-- The input gradient at an entry, with the residual's. -/
def entry (a j : Fin 2048) : EReal :=
  rowD m c a j * root (rowX m c a) + rowX m c a j * half (rowX m c a) (rowD m c a) + half (rowX m c a) (rowD m c a) * rowX m c a j + argR m c (ix2 a j)

theorem pay5_entry (t : Fin cfg0.N) (a : Fin 256) (b : Fin 2048) :
    k0_pay5 (iblk m c 0 t) (iblk m c 1 t) (iblk m c 2 t) (iblk m c 3 t) (ix2 a b) = entry m c (row t a) b := by
  unfold entry
  rw [← grad_eq]
  refine (pay5_apply _ _ _ _ a b).trans (congrArg₂ (· + ·) (congrArg₂ (· * ·) (root_blk m c t a) (congrArg₂ (· - ·)
    (congrArg₂ (· * ·) (iblk_2 m c t a b) (iblk_1 m c t b)) (congrArg₂ (· * ·) (unit_blk m c t a b) (congrArg (Ideal.div · _) ?_)))) (iblk_3 m c t a b))
  exact Finset.sum_congr rfl fun k _ => congrArg₂ (· * ·) (congrArg₂ (· * ·) (iblk_2 m c t a k) (iblk_1 m c t k)) (unit_blk m c t a k)

/-- A block's part of the gain's gradient. -/
def part (b : Fin 2048) (i : ℕ) : EReal :=
  if h : i < 8 then ∑ a : Fin 256, argD m c (ix2 ⟨i * 256 + a.val, by omega⟩ b) * (rowX m c ⟨i * 256 + a.val, by omega⟩ b * root (rowX m c ⟨i * 256 + a.val, by omega⟩)) else 0

theorem pay4_part (t : Fin cfg0.N) (b : Fin 2048) : k0_pay4 (iblk m c 0 t) (iblk m c 2 t) (ix2 0 b) = part m c b t.val := by
  have h : t.val < 8 := t.isLt
  rw [pay4_apply, part, dif_pos h]
  exact Finset.sum_congr rfl fun a _ => congrArg₂ (· * ·) (iblk_2 m c t a b) (unit_blk m c t a b)

theorem first (t : Fin cfg0.N) (h : t.val = 0) :
    (outsAt0 m c t.val t.isLt).1 = k0_pay5 (iblk m c 0 t) (iblk m c 1 t) (iblk m c 2 t) (iblk m c 3 t)
      ∧ (outsAt0 m c t.val t.isLt).2.1 = k0_pay6 (iblk m c 0 t) (iblk m c 1 t) (iblk m c 2 t) (iblk m c 3 t)
      ∧ (outsAt0 m c t.val t.isLt).2.2 = k0_pay4 (iblk m c 0 t) (iblk m c 2 t) := by
  rw [outsAt0_A m c t (by omega) (by omega)]
  dsimp only
  refine ⟨?_, ?_, ?_⟩
  · rw [(outs_A ..).1]
  · rw [(outs_A ..).2.1]
  · rw [(outs_A ..).2.2]
theorem later (t : Fin cfg0.N) (h : 1 ≤ t.val) :
    (outsAt0 m c t.val t.isLt).1 = k0_pay5 (iblk m c 0 t) (iblk m c 1 t) (iblk m c 2 t) (iblk m c 3 t)
      ∧ (outsAt0 m c t.val t.isLt).2.1 = k0_pay6 (iblk m c 0 t) (iblk m c 1 t) (iblk m c 2 t) (iblk m c 3 t)
      ∧ (outsAt0 m c t.val t.isLt).2.2 = k0_pay1 (k0_pay4 (iblk m c 0 t) (iblk m c 2 t)) (outsAt0 m c (t.val - 1) (Nat.lt_of_le_of_lt (Nat.sub_le _ _) t.isLt)).2.2 := by
  have h8 : t.val < 8 := t.isLt
  rw [outsAt0_B m c t (by omega) h]
  dsimp only
  refine ⟨?_, ?_, ?_⟩
  · rw [(outs_B ..).1]
  · rw [(outs_B ..).2.1]
  · rw [(outs_B ..).2.2]

theorem grad_apply (t : Fin cfg0.N) (a : Fin 256) (b : Fin 2048) :
    (outsAt0 m c t.val t.isLt).1 (ix2 a b) = entry m c (row t a) b ∧ (outsAt0 m c t.val t.isLt).2.1 (ix2 a b) = entry m c (row t a) b := by
  have e : (outsAt0 m c t.val t.isLt).1 = k0_pay5 (iblk m c 0 t) (iblk m c 1 t) (iblk m c 2 t) (iblk m c 3 t)
      ∧ (outsAt0 m c t.val t.isLt).2.1 = k0_pay6 (iblk m c 0 t) (iblk m c 1 t) (iblk m c 2 t) (iblk m c 3 t) := by
    by_cases h : t.val = 0
    · exact ⟨(first m c t h).1, (first m c t h).2.1⟩
    · exact ⟨(later m c t (by omega)).1, (later m c t (by omega)).2.1⟩
  exact ⟨(congrFun e.1 _).trans (pay5_entry m c t a b), (congrFun e.2 _).trans ((pay6_apply _ _ _ _ a b).trans (pay5_entry m c t a b))⟩

/-- After a point the gain's gradient holds the parts of the blocks so far. -/
theorem gain_so_far (b : Fin 2048) : ∀ (n : ℕ) (h : n < cfg0.N), (outsAt0 m c n h).2.2 (ix2 0 b) = ∑ i ∈ Finset.range (n + 1), part m c b i
  | 0, h => by
    rw [Finset.sum_range_one]
    exact (congrFun (first m c ⟨0, h⟩ rfl).2.2 _).trans (pay4_part m c ⟨0, h⟩ b)
  | n + 1, h => by
    rw [Finset.sum_range_succ, ← gain_so_far b n (by omega)]
    exact (congrFun (later m c ⟨n + 1, h⟩ (by show 1 ≤ n + 1; omega)).2.2 _).trans
      ((pay1_apply _ _ b).trans (congrArg (_ + ·) (pay4_part m c ⟨n + 1, h⟩ b)))

theorem total (b : Fin 2048) : ∑ i ∈ Finset.range 8, part m c b i = ∑ a, rowX m c a b * root (rowX m c a) * argD m c (ix2 a b) := by
  rw [Finset.sum_range, ← Fin.sum_mul_add_fin 8 256 fun a => rowX m c a b * root (rowX m c a) * argD m c (ix2 a b)]
  refine Finset.sum_congr rfl fun i _ => ?_
  rw [part, dif_pos i.isLt]
  exact Finset.sum_congr rfl fun a _ => mul_comm _ _

/-! ## The results -/

/-- Each result array is any that has these entries. -/
theorem final_grad (W : FVec Ideal S2048x2048 .f32) (hW : ∀ a j, W (ix2 a j) = entry m c a j) : (dats m 0 c).arrAt 4 cfg0.N = W := by
  refine (dats m 0 c).arrAt_eq_of_covers 4 _ (by decide +kernel) fun t hf y => ?_
  blk_simp
  rw [after0_4]
  obtain ⟨a, b, rfl⟩ : ∃ (a : Fin 256) (b : Fin 2048), y = ix2 a b := ⟨y 0, y 1, by funext x; fin_cases x <;> rfl⟩
  refine (grad_apply m c t a b).1.trans ((hW _ _).symm.trans (congrArg W ?_))
  blk_ext [ix_4]
theorem final_half (W : FVec Ideal S2048x2048 .bf16) (hW : ∀ a j, W (ix2 a j) = entry m c a j) : (dats m 0 c).arrAt 5 cfg0.N = W := by
  refine (dats m 0 c).arrAt_eq_of_covers 5 _ (by decide +kernel) fun t hf y => ?_
  blk_simp
  rw [after0_5]
  obtain ⟨a, b, rfl⟩ : ∃ (a : Fin 256) (b : Fin 2048), y = ix2 a b := ⟨y 0, y 1, by funext x; fin_cases x <;> rfl⟩
  refine (grad_apply m c t a b).2.trans ((hW _ _).symm.trans (congrArg W ?_))
  blk_ext [ix_5]
theorem final_gain (W : FVec Ideal S1x2048 .f32) (hW : ∀ b, W (ix2 0 b) = ∑ a, rowX m c a b * root (rowX m c a) * argD m c (ix2 a b)) :
    (dats m 0 c).arrAt 6 cfg0.N = W := by
  refine (dats m 0 c).arrAt_eq_of_covers 6 _ (by decide +kernel) fun t hf y => ?_
  have h1 : t.val = 7 := by have h : t.val < 8 := t.isLt; have := (flush0_6 t).mp hf; omega
  blk_simp
  rw [after0_6]
  obtain ⟨b, rfl⟩ : ∃ b : Fin 2048, y = ix2 0 b := ⟨y 1, by funext x; fin_cases x <;> [exact Subsingleton.elim (α := Fin 1) _ _; rfl]⟩
  refine (gain_so_far m c b t.val t.isLt).trans (((congrArg (fun n => ∑ i ∈ Finset.range (n + 1), part m c b i) h1).trans (total m c b)).trans ((hW b).symm.trans (congrArg W ?_)))
  blk_ext [ix_6]

end Cert.KernelNbIdeal.Nb

namespace Cert.ReferenceNbIdeal.Nb
open Idealize.ShloMosaic Idealize.ShloMosaic.TcCoe Idealize.ShloMosaic.StableHlo Cert.ReferenceNbIdeal.Gen Cert.Fox.Norm

/-- The reference's mean square plus the small constant, the incoming gradient times the gain, what it adds twice, and the gradients. -/
def rowVar (x : FVec Ideal S2048x2048 .f32) : FVec Ideal S2048x1 .f32 :=
  addf (Host.divf (broadcastInDim S2048x1 ![0] bcast_S2048_S2048x1_0 (Host.reduceAdd (mulf x x) (constant S_ .f32 0x00000000#32) reducesTo_S2048x2048_S2048_d1 h_S_))
    (broadcastInDim S2048x1 ![] bcast_S_S2048x1 (constant S_ .f32 0x45000000#32))) (broadcastInDim S2048x1 ![] bcast_S_S2048x1 (constant S_ .f32 0x358637BD#32))
def scaled (g : FVec Ideal S2048 .f32) (d : FVec Ideal S2048x2048 .f32) : FVec Ideal S2048x2048 .f32 :=
  mulf d (broadcastInDim S2048x2048 ![0, 1] bcast_S1x2048_S2048x2048_0_1 (broadcastInDim S1x2048 ![1] bcast_S2048_S1x2048_1 g))
def halves (x e : FVec Ideal S2048x2048 .f32) : FVec Ideal S2048x2048 .f32 :=
  broadcastInDim S2048x2048 ![0] bcast_S2048_S2048x2048_0 (Host.reduceAdd (Host.divf (mulf (shapeCast _ (Host.reduceAdd (mulf x e) (constant S_ .f32 0x00000000#32)
    reducesTo_S2048x2048_S2048_d1 h_S_) shapeCasts_S2048_S2048x1) (mulf (broadcastInDim S2048x1 ![] bcast_S_S2048x1 (constant S_ .f32 0xBF000000#32))
    (Host.divf (Host.rsqrt (rowVar x)) (rowVar x)))) (broadcastInDim S2048x1 ![] bcast_S_S2048x1 (constant S_ .f32 0x45000000#32)))
    (constant S_ .f32 0x00000000#32) reducesTo_S2048x1_S2048_d1 h_S_)
def grad (x : FVec Ideal S2048x2048 .f32) (g : FVec Ideal S2048 .f32) (d r : FVec Ideal S2048x2048 .f32) : FVec Ideal S2048x2048 .f32 :=
  addf (addf (addf (mulf (scaled g d) (broadcastInDim S2048x2048 ![0, 1] bcast_S2048x1_S2048x2048_0_1 (Host.rsqrt (rowVar x)))) (mulf x (halves x (scaled g d))))
    (mulf (halves x (scaled g d)) x)) r
def gain (x d : FVec Ideal S2048x2048 .f32) : FVec Ideal S1x2048 .f32 :=
  shapeCast _ (Host.reduceAdd (shapeCast _ (Host.reduceAdd (mulf (mulf x (broadcastInDim S2048x2048 ![0, 1] bcast_S2048x1_S2048x2048_0_1 (Host.rsqrt (rowVar x)))) d)
    (constant S_ .f32 0x00000000#32) reducesTo_S2048x2048_S2048_d0 h_S_) shapeCasts_S2048_S1x2048) (constant S_ .f32 0x00000000#32) reducesTo_S1x2048_S2048_d0 h_S_) shapeCasts_S2048_S1x2048

theorem var_apply (x : FVec Ideal S2048x2048 .f32) (a : Fin 2048) : rowVar x (ix2 a 0) = var fun k => x (ix2 a k) := by
  pointwise [rowVar, var]
theorem scaled_apply (g : FVec Ideal S2048 .f32) (d : FVec Ideal S2048x2048 .f32) (a j : Fin 2048) :
    scaled g d (ix2 a j) = d (ix2 a j) * g (ix1 j) := by
  pointwise [scaled]
theorem halves_apply (x e : FVec Ideal S2048x2048 .f32) (a j : Fin 2048) :
    halves x e (ix2 a j) = half (fun k => x (ix2 a k)) fun k => e (ix2 a k) := by
  unfold half root
  rw [← var_apply]
  pointwise [halves]
  exact Fin.sum_univ_one _
theorem grad_apply (x : FVec Ideal S2048x2048 .f32) (g : FVec Ideal S2048 .f32) (d r : FVec Ideal S2048x2048 .f32) (a j : Fin 2048) :
    grad x g d r (ix2 a j) = scaled g d (ix2 a j) * Ideal.rsqrt (rowVar x (ix2 a 0)) + x (ix2 a j) * halves x (scaled g d) (ix2 a j)
      + halves x (scaled g d) (ix2 a j) * x (ix2 a j) + r (ix2 a j) := by
  pointwise [grad]
theorem gain_apply (x d : FVec Ideal S2048x2048 .f32) (b : Fin 2048) :
    gain x d (ix2 0 b) = ∑ a, x (ix2 a b) * Ideal.rsqrt (rowVar x (ix2 a 0)) * d (ix2 a b) := by
  pointwise [gain]
  exact Fin.sum_univ_one _

end Cert.ReferenceNbIdeal.Nb
-- ==== Proof.Claims.lean ====
module

public import proofs.«01_k».proof.Defs
public import proofs.«01_k».proof.Proof.Refs
public import proofs.«01_k».proof.Proof.Proj
public import proofs.«01_k».proof.Proof.Ix
public import proofs.«01_k».proof.Proof.Gx
public import proofs.«01_k».proof.Proof.Gw
public import proofs.«01_k».proof.Proof.Dw
public import proofs.«01_k».proof.Proof.Gf
public import proofs.«01_k».proof.Proof.Dx
public import proofs.«01_k».proof.Proof.Dl
public import proofs.«01_k».proof.Proof.Nb

/-! The value claims of the products: each kernel's result is its reference's, by the entries of both. -/

@[expose] public section
set_option maxRecDepth 16384
noncomputable section
namespace Cert.Claims
open Idealize.ShloMosaic Idealize.ShloMosaic.TcCoe Idealize.SL.Sem

/-- A run's result, by an equation of it. -/
theorem valued {nD : ℕ} {τ : Topo} {sig : RefSig} {Val : EltTy → Type} {w : WPT (PUnit × MemSt nD τ sig Val)} {β : Dev nD → Type}
    {f : PUnit × MemSt nD τ sig Val → (c : Dev nD) → β c} {B : PUnit × MemSt nD τ sig Val → Dev nD → Prop} {v v' : (c : Dev nD) → β c}
    (h : w fun r => ∀ c, f r c = v c ∧ B r c) (e : ∀ c, v c = v' c) : w fun r => ∀ c, f r c = v' c ∧ B r c :=
  w.mono (fun _ hr c => ⟨(hr c).1.trans (e c), (hr c).2⟩) h

/-- A run of a program without semaphores: what it keeps, with every semaphore at zero. -/
theorem framed {nD : ℕ} {τ : Topo} {sig : RefSig} {Val : EltTy → Type} {w : WPT (PUnit × MemSt nD τ sig Val)}
    {A B : PUnit × MemSt nD τ sig Val → Dev nD → Prop} (h0 : sig.nSem + sig.nDmaSem = 0)
    (h : w fun r => ∀ c, A r c ∧ B r c) : w fun r => (∀ c, B r c) ∧ r.2.sem = fun _ => 0 :=
  w.mono (fun r hr => ⟨fun c => (hr c).2, sem_eq_zero_of_no_sems h0 r.2⟩) h

/-- A function of three arguments at equal ones. -/
theorem congr_three {α β γ δ : Type} (f : α → β → γ → δ) {a a' : α} {b b' : β} {c c' : γ} (h : a = a' ∧ b = b' ∧ c = c') : f a b c = f a' b' c' := by
  rw [h.1, h.2.1, h.2.2]

theorem algebraic_Gx : Cert.algebraic_KernelGxIdeal_ReferenceGxIdeal := fun m g m' g' _ h =>
  ⟨_, valued (Cert.KernelGxIdeal.Value.run_blocks m g) fun c => Cert.KernelGxIdeal.Gx.final m c _ (Refs.gx_apply _ _),
    valued (Cert.ReferenceGxIdeal.Value.run m' g') fun c => congrArg₂ Refs.gx (h c).1 (h c).2⟩
theorem algebraic_Gw : Cert.algebraic_KernelGwIdeal_ReferenceGwIdeal := fun m g m' g' _ h =>
  ⟨_, valued (Cert.KernelGwIdeal.Value.run_blocks m g) fun c => Cert.KernelGwIdeal.Gw.final m c _ (Cert.ReferenceGwIdeal.Gw.res_apply _ _),
    valued (Cert.ReferenceGwIdeal.Value.run m' g') fun c => congrArg₂ Cert.ReferenceGwIdeal.Gw.res (h c).1 (h c).2⟩
theorem algebraic_Dw : Cert.algebraic_KernelDwIdeal_ReferenceDwIdeal := fun m g m' g' _ h =>
  ⟨_, valued (Cert.KernelDwIdeal.Value.run_blocks m g) fun c => Cert.KernelDwIdeal.Dw.final m c _ (Cert.ReferenceDwIdeal.Dw.res_apply _ _),
    valued (Cert.ReferenceDwIdeal.Value.run m' g') fun c => congrArg₂ Cert.ReferenceDwIdeal.Dw.res (h c).1 (h c).2⟩
theorem algebraic_Ix : Cert.algebraic_KernelIxIdeal_ReferenceIxIdeal := fun m g m' g' _ h =>
  ⟨_, valued (Cert.KernelIxIdeal.Value.run_blocks m g) fun c => Cert.KernelIxIdeal.Ix.final m c _ (Refs.inX_apply _ _ _),
    valued (Cert.ReferenceIxIdeal.Value.run m' g') fun c => congr_three Refs.inX (h c)⟩
theorem algebraic_Iw : Cert.algebraic_KernelIwIdeal_ReferenceIwIdeal := fun m g m' g' _ h =>
  ⟨_, valued (Cert.KernelIwIdeal.Value.run_blocks m g) fun c => Cert.KernelIwIdeal.Iw.final m c _ (Refs.inW_apply _ _),
    valued (Cert.ReferenceIwIdeal.Value.run m' g') fun c => congrArg₂ Refs.inW (h c).1 (h c).2⟩
theorem algebraic_Ox : Cert.algebraic_KernelOxIdeal_ReferenceOxIdeal := fun m g m' g' _ h =>
  ⟨_, valued (Cert.KernelOxIdeal.Value.run_blocks m g) fun c => Cert.KernelOxIdeal.Ox.final m c _ (Refs.outX_apply _ _),
    valued (Cert.ReferenceOxIdeal.Value.run m' g') fun c => congrArg₂ Refs.outX (h c).1 (h c).2⟩
theorem algebraic_Ow : Cert.algebraic_KernelOwIdeal_ReferenceOwIdeal := fun m g m' g' _ h =>
  ⟨_, valued (Cert.KernelOwIdeal.Value.run_blocks m g) fun c => Cert.KernelOwIdeal.Ow.final m c _ (Refs.outW_apply _ _),
    valued (Cert.ReferenceOwIdeal.Value.run m' g') fun c => congrArg₂ Refs.outW (h c).1 (h c).2⟩
theorem algebraic_If : Cert.algebraic_KernelIfIdeal_ReferenceIfIdeal := fun m g m' g' _ h =>
  ⟨_, valued (Cert.KernelIfIdeal.Value.run_blocks m g) fun c => Cert.KernelIfIdeal.If.final m c _ (Refs.inF_apply _ _),
    valued (Cert.ReferenceIfIdeal.Value.run m' g') fun c => congrArg₂ Refs.inF (h c).1 (h c).2⟩
theorem algebraic_Of : Cert.algebraic_KernelOfIdeal_ReferenceOfIdeal := fun m g m' g' _ h =>
  ⟨_, valued (Cert.KernelOfIdeal.Value.run_blocks m g) fun c => Cert.KernelOfIdeal.Of.final m c _ (Refs.outF_apply _ _ _),
    valued (Cert.ReferenceOfIdeal.Value.run m' g') fun c => congr_three Refs.outF (h c)⟩

section
open Cert.ReferenceGfIdeal.Gf

theorem planes_entry (h : FVec Ideal Cert.ReferenceGfIdeal.S2048x2048 .f32) (u : FVec Ideal Cert.ReferenceGfIdeal.S2048x11264 .f32) (p : Fin 2) (s : Fin 2048) (j : Fin 5632) :
    resPlanes (prod h u) (ix3 p s j) = Cert.KernelGfIdeal.Gf.entry h u p s j := (resPlanes_apply _ p s j).trans (prod_apply h u s _)
theorem act_entry (h : FVec Ideal Cert.ReferenceGfIdeal.S2048x2048 .f32) (u : FVec Ideal Cert.ReferenceGfIdeal.S2048x11264 .f32) (s : Fin 2048) (j : Fin 5632) :
    resAct (prod h u) (ix2 s j) = Cert.KernelGfIdeal.Gf.entry h u 0 s j * Two.sig (Cert.KernelGfIdeal.Gf.entry h u 0 s j) * Cert.KernelGfIdeal.Gf.entry h u 1 s j := by
  rw [resAct_apply, prod_apply, prod_apply]
  rfl
end

theorem algebraic_Gf : Cert.algebraic_KernelGfIdeal_ReferenceGfIdeal := fun m g m' g' _ h =>
  ⟨fun c => Cert.ReferenceGfIdeal.Gf.resPlanes (Cert.ReferenceGfIdeal.Gf.prod (Cert.KernelGfIdeal.Gf.argH m c) (Cert.KernelGfIdeal.Gf.argU m c)),
    fun c => Cert.ReferenceGfIdeal.Gf.resAct (Cert.ReferenceGfIdeal.Gf.prod (Cert.KernelGfIdeal.Gf.argH m c) (Cert.KernelGfIdeal.Gf.argU m c)),
    (θ_run Cert.KernelGfIdeal.defs _ _).mono (fun _ hr c => ⟨(hr c).1.trans (Cert.KernelGfIdeal.Gf.final_planes m c _ (planes_entry _ _)),
      (hr c).2.1.trans (Cert.KernelGfIdeal.Gf.final_act m c _ (act_entry _ _)), (hr c).2.2⟩) (Cert.KernelGfIdeal.Value.run_blocks m g),
    (θ_run Cert.ReferenceGfIdeal.defs _ _).mono (fun _ hr c =>
      ⟨(hr c).1.trans (congrArg Cert.ReferenceGfIdeal.Gf.resPlanes (congrArg₂ Cert.ReferenceGfIdeal.Gf.prod (h c).1 (h c).2)),
      (hr c).2.1.trans (congrArg Cert.ReferenceGfIdeal.Gf.resAct (congrArg₂ Cert.ReferenceGfIdeal.Gf.prod (h c).1 (h c).2)), (hr c).2.2⟩) (Cert.ReferenceGfIdeal.Value.run m' g')⟩

section
open Cert.ReferenceDxIdeal.Dx

/-- The reference's result of the activation's gradient. -/
def dxRes (u : FVec Ideal Cert.ReferenceDxIdeal.S2048x11264 .f32) (d : FVec Ideal Cert.ReferenceDxIdeal.S5632x2048 .f32) (y : FVec Ideal Cert.ReferenceDxIdeal.S2048x2048 .f32) :
    FVec Ideal Cert.ReferenceDxIdeal.S2x2048x5632 .bf16 := join (left u d y) (right u d y)
end

theorem final_Dx (m : (ℓ : Loc Cert.KernelDxIdeal.nD Cert.KernelDxIdeal.τ Cert.KernelDxIdeal.sig) → Buf (Elt Ideal) ℓ) (h : Cert.Pre_KernelDxIdeal_finite_down m) (c : Dev Cert.KernelDxIdeal.nD) :
    (Cert.KernelDxIdeal.Gen.dats m 0 c).arrAt 3 Cert.KernelDxIdeal.cfg0.N
      = dxRes (Cert.KernelDxIdeal.Dx.argU m c) (Cert.KernelDxIdeal.Dx.argD m c) (Cert.KernelDxIdeal.Dx.argY m c) := by
  obtain ⟨hu, hd, hy⟩ := Cert.Pre_finite_down.real_of_fn (h c)
  exact Cert.KernelDxIdeal.Dx.final m c _
    (fun s j => (Cert.ReferenceDxIdeal.Dx.join_0 _ _ s j).trans (Cert.ReferenceDxIdeal.Dx.left_apply _ _ _ s j (Cert.ReferenceDxIdeal.Dx.entry_real _ _ hd hy s j) (hu s j)))
    (fun s j => (Cert.ReferenceDxIdeal.Dx.join_1 _ _ s j).trans (Cert.ReferenceDxIdeal.Dx.right_apply _ _ _ s j))

theorem algebraic_Dx : Cert.algebraic_KernelDxIdeal_ReferenceDxIdeal_pre_finite_down := fun m g m' g' hp h =>
  ⟨_, valued (Cert.KernelDxIdeal.Value.run_blocks m g) fun c => final_Dx m hp c,
    valued (Cert.ReferenceDxIdeal.Value.run m' g') fun c => congr_three dxRes (h c)⟩

section
open Cert.ReferenceDlIdeal.Dl Cert.KernelDlIdeal.Dl

/-- The reference's difference from the target at a device's arguments. -/
def errAt (m : (ℓ : Loc Cert.KernelDlIdeal.nD Cert.KernelDlIdeal.τ Cert.KernelDlIdeal.sig) → Buf (Elt Ideal) ℓ) (c : Dev Cert.KernelDlIdeal.nD) :
    FVec Ideal Cert.ReferenceDlIdeal.S2048x2048 .f32 := err (argA m c) (argW m c) (argX m c) (argT m c)

theorem errAt_apply (m : (ℓ : Loc Cert.KernelDlIdeal.nD Cert.KernelDlIdeal.τ Cert.KernelDlIdeal.sig) → Buf (Elt Ideal) ℓ) (c : Dev Cert.KernelDlIdeal.nD)
    (a j : Fin 2048) : errAt m c (ix2 a j) = entry m c a j := (err_apply _ _ _ _ a j).trans (congrArg (· - _) (add_comm _ _))

theorem algebraic_Dl : Cert.algebraic_KernelDlIdeal_ReferenceDlIdeal := fun m g m' g' _ h =>
  have e : ∀ c, err _ _ _ _ = errAt m c := fun c => congr (congr_three err ⟨(h c).1, (h c).2.1, (h c).2.2.1⟩) (h c).2.2.2
  ⟨fun c => grad (errAt m c), fun c => truncf .bf16 (grad (errAt m c)) Cert.ReferenceDlIdeal.Gen.bitsLt_bf16_f32, fun c => loss (errAt m c),
    (θ_run Cert.KernelDlIdeal.defs _ _).mono (fun _ hr c =>
      ⟨(hr c).1.trans (final_grad m c _ fun a j => (Cert.ReferenceDlIdeal.Dl.grad_apply _ a j).trans (congrArg (· * _) (errAt_apply m c a j))),
      (hr c).2.1.trans (final_half m c _ fun a j => (Cert.ReferenceDlIdeal.Dl.grad_apply _ a j).trans (congrArg (· * _) (errAt_apply m c a j))),
      (hr c).2.2.1.trans (final_loss m c _ fun l => (loss_apply _ l).trans (congrArg (· * _) (Finset.sum_congr rfl fun a _ => Finset.sum_congr rfl fun j _ =>
        congrArg₂ (· * ·) (errAt_apply m c a j) (errAt_apply m c a j)))), (hr c).2.2.2⟩) (Cert.KernelDlIdeal.Value.run_blocks m g),
    (θ_run Cert.ReferenceDlIdeal.defs _ _).mono (fun _ hr c =>
      ⟨(hr c).1.trans (congrArg grad (e c)), (hr c).2.1.trans (congrArg (fun x => truncf .bf16 (grad x) Cert.ReferenceDlIdeal.Gen.bitsLt_bf16_f32) (e c)),
      (hr c).2.2.1.trans (congrArg loss (e c)), (hr c).2.2.2⟩) (Cert.ReferenceDlIdeal.Value.run m' g')⟩
end

section
open Cert.KernelNbIdeal.Nb Cert.Fox.Norm

/-- The reference's gradients at a device's arguments. -/
def normAt (m : (ℓ : Loc Cert.KernelNbIdeal.nD Cert.KernelNbIdeal.τ Cert.KernelNbIdeal.sig) → Buf (Elt Ideal) ℓ) (c : Dev Cert.KernelNbIdeal.nD) :
    FVec Ideal Cert.ReferenceNbIdeal.S2048x2048 .f32 := Cert.ReferenceNbIdeal.Nb.grad (argX m c) (argG m c) (argD m c) (argR m c)
def gainAt (m : (ℓ : Loc Cert.KernelNbIdeal.nD Cert.KernelNbIdeal.τ Cert.KernelNbIdeal.sig) → Buf (Elt Ideal) ℓ) (c : Dev Cert.KernelNbIdeal.nD) :
    FVec Ideal Cert.ReferenceNbIdeal.S1x2048 .f32 := Cert.ReferenceNbIdeal.Nb.gain (argX m c) (argD m c)

theorem normAt_apply (m : (ℓ : Loc Cert.KernelNbIdeal.nD Cert.KernelNbIdeal.τ Cert.KernelNbIdeal.sig) → Buf (Elt Ideal) ℓ) (c : Dev Cert.KernelNbIdeal.nD)
    (a j : Fin 2048) : normAt m c (ix2 a j) = entry m c a j := by
  have hr := congrArg Ideal.rsqrt (Cert.ReferenceNbIdeal.Nb.var_apply (argX m c) a)
  have hs := fun k => Cert.ReferenceNbIdeal.Nb.scaled_apply (argG m c) (argD m c) a k
  have hh := (Cert.ReferenceNbIdeal.Nb.halves_apply (argX m c) (Cert.ReferenceNbIdeal.Nb.scaled (argG m c) (argD m c)) a j).trans
    (congrArg (half _) (funext hs))
  exact (Cert.ReferenceNbIdeal.Nb.grad_apply _ _ _ _ a j).trans (congrArg (· + _) (congrArg₂ (· + ·) (congrArg₂ (· + ·) (congrArg₂ (· * ·) (hs j) hr)
    (congrArg (_ * ·) hh)) (congrArg (· * _) hh)))
theorem gainAt_apply (m : (ℓ : Loc Cert.KernelNbIdeal.nD Cert.KernelNbIdeal.τ Cert.KernelNbIdeal.sig) → Buf (Elt Ideal) ℓ) (c : Dev Cert.KernelNbIdeal.nD)
    (b : Fin 2048) : gainAt m c (ix2 0 b) = ∑ a, rowX m c a b * root (rowX m c a) * argD m c (ix2 a b) :=
  (Cert.ReferenceNbIdeal.Nb.gain_apply _ _ b).trans (Finset.sum_congr rfl fun a _ =>
    congrArg (· * _) (congrArg (_ * ·) (congrArg Ideal.rsqrt (Cert.ReferenceNbIdeal.Nb.var_apply _ a))))

theorem algebraic_Nb : Cert.algebraic_KernelNbIdeal_ReferenceNbIdeal := fun m g m' g' _ h =>
  have e : ∀ c, Cert.ReferenceNbIdeal.Nb.grad _ _ _ _ = normAt m c := fun c =>
    congr (congr_three Cert.ReferenceNbIdeal.Nb.grad ⟨(h c).1, (h c).2.1, (h c).2.2.1⟩) (h c).2.2.2
  ⟨normAt m, fun c => truncf .bf16 (normAt m c) Cert.ReferenceNbIdeal.Gen.bitsLt_bf16_f32, gainAt m,
    (θ_run Cert.KernelNbIdeal.defs _ _).mono (fun _ hr c => ⟨(hr c).1.trans (final_grad m c _ (normAt_apply m c)),
      (hr c).2.1.trans (final_half m c _ (normAt_apply m c)), (hr c).2.2.1.trans (final_gain m c _ (gainAt_apply m c)), (hr c).2.2.2⟩)
      (Cert.KernelNbIdeal.Value.run_blocks m g),
    (θ_run Cert.ReferenceNbIdeal.defs _ _).mono (fun _ hr c =>
      ⟨(hr c).1.trans (e c), (hr c).2.1.trans (congrArg (fun x => truncf .bf16 x Cert.ReferenceNbIdeal.Gen.bitsLt_bf16_f32) (e c)),
      (hr c).2.2.1.trans (congrArg₂ Cert.ReferenceNbIdeal.Nb.gain (h c).1 (h c).2.2.1), (hr c).2.2.2⟩) (Cert.ReferenceNbIdeal.Value.run m' g')⟩
end

end Cert.Claims
-- ==== Proof.lean ====
module

public import proofs.«01_k».proof.Defs
public import proofs.«01_k».proof.Proof.KvSame
public import proofs.«01_k».proof.Proof.KvClaim
public import proofs.«01_k».proof.Proof.Claims
public import proofs.«01_k».proof.Proof.Gen.ReferenceKvIdeal.Run
public import proofs.«01_k».proof.Proof.Gen.KernelDx.Frame
public import proofs.«01_k».proof.Proof.Gen.KernelGx.Frame
public import proofs.«01_k».proof.Proof.Gen.KernelGw.Frame
public import proofs.«01_k».proof.Proof.Gen.KernelDw.Frame
public import proofs.«01_k».proof.Proof.Gen.KernelIx.Frame
public import proofs.«01_k».proof.Proof.Gen.KernelIw.Frame
public import proofs.«01_k».proof.Proof.Gen.KernelOx.Frame
public import proofs.«01_k».proof.Proof.Gen.KernelOw.Frame
public import proofs.«01_k».proof.Proof.Gen.KernelGf.Frame
public import proofs.«01_k».proof.Proof.Gen.KernelIf.Frame
public import proofs.«01_k».proof.Proof.Gen.KernelOf.Frame
public import proofs.«01_k».proof.Proof.Gen.KernelDl.Frame
public import proofs.«01_k».proof.Proof.Gen.KernelNb.Frame
public import Idealize.ShloMosaic.Adequacy
public import Idealize.ShloMosaic.Init

@[expose] public section

noncomputable section

namespace Cert.Proof

open Idealize.ShloMosaic Idealize.SL.Sem

/-- The reference's frame is its generated run read at the arguments; it declares no semaphore. -/
theorem frame_refKv : Cert.quiescent_ReferenceKvIdeal := fun m ρ _ =>
  (θ_run Cert.ReferenceKvIdeal.defs _ _).mono
    (fun r h => ⟨fun c => (h c).2.2.2, sem_eq_zero_of_no_sems rfl r.2⟩) (Cert.ReferenceKvIdeal.Value.run (F := Ideal) m ρ)

theorem frame_refGf : Cert.quiescent_ReferenceGfIdeal := fun m ρ _ =>
  (θ_run Cert.ReferenceGfIdeal.defs _ _).mono
    (fun r h => ⟨fun c => (h c).2.2, sem_eq_zero_of_no_sems rfl r.2⟩) (Cert.ReferenceGfIdeal.Value.run (F := Ideal) m ρ)

theorem frame_refDl : Cert.quiescent_ReferenceDlIdeal := fun m ρ _ =>
  (θ_run Cert.ReferenceDlIdeal.defs _ _).mono
    (fun r h => ⟨fun c => (h c).2.2.2, sem_eq_zero_of_no_sems rfl r.2⟩) (Cert.ReferenceDlIdeal.Value.run (F := Ideal) m ρ)

theorem frame_refNb : Cert.quiescent_ReferenceNbIdeal := fun m ρ _ =>
  (θ_run Cert.ReferenceNbIdeal.defs _ _).mono
    (fun r h => ⟨fun c => (h c).2.2.2, sem_eq_zero_of_no_sems rfl r.2⟩) (Cert.ReferenceNbIdeal.Value.run (F := Ideal) m ρ)

theorem claim : Cert.Claim := ⟨Cert.KernelKv.Gen.facts, Cert.KernelKvIdeal.Gen.facts, Cert.ReferenceKvIdeal.Gen.facts,
  Cert.KernelDx.Gen.facts, Cert.KernelDxIdeal.Gen.facts, Cert.ReferenceDxIdeal.Gen.facts,
  Cert.KernelGx.Gen.facts, Cert.KernelGxIdeal.Gen.facts, Cert.ReferenceGxIdeal.Gen.facts,
  Cert.KernelGw.Gen.facts, Cert.KernelGwIdeal.Gen.facts, Cert.ReferenceGwIdeal.Gen.facts,
  Cert.KernelDw.Gen.facts, Cert.KernelDwIdeal.Gen.facts, Cert.ReferenceDwIdeal.Gen.facts,
  Cert.KernelIx.Gen.facts, Cert.KernelIxIdeal.Gen.facts, Cert.ReferenceIxIdeal.Gen.facts,
  Cert.KernelIw.Gen.facts, Cert.KernelIwIdeal.Gen.facts, Cert.ReferenceIwIdeal.Gen.facts,
  Cert.KernelOx.Gen.facts, Cert.KernelOxIdeal.Gen.facts, Cert.ReferenceOxIdeal.Gen.facts,
  Cert.KernelOw.Gen.facts, Cert.KernelOwIdeal.Gen.facts, Cert.ReferenceOwIdeal.Gen.facts,
  Cert.KernelGf.Gen.facts, Cert.KernelGfIdeal.Gen.facts, Cert.ReferenceGfIdeal.Gen.facts,
  Cert.KernelIf.Gen.facts, Cert.KernelIfIdeal.Gen.facts, Cert.ReferenceIfIdeal.Gen.facts,
  Cert.KernelOf.Gen.facts, Cert.KernelOfIdeal.Gen.facts, Cert.ReferenceOfIdeal.Gen.facts,
  Cert.KernelDl.Gen.facts, Cert.KernelDlIdeal.Gen.facts, Cert.ReferenceDlIdeal.Gen.facts,
  Cert.KernelNb.Gen.facts, Cert.KernelNbIdeal.Gen.facts, Cert.ReferenceNbIdeal.Gen.facts,
  Cert.Pre_finite.facts, Cert.Pre_finite_down.facts,
  Cert.KernelKvIdeal.Kv.frame_bits, Cert.KernelKvIdeal.Kv.frame_ideal, fun m g _ => Cert.KernelKvIdeal.Kv.frame_ideal m g trivial,
  frame_refKv, fun m g _ => frame_refKv m g trivial,
  fun m g _ => Cert.KernelDx.Gen.frame m g, fun m g _ => Cert.KernelDxIdeal.Gen.frame m g, fun m g _ => Cert.KernelDxIdeal.Gen.frame m g,
    fun m g _ => Claims.framed rfl (Cert.ReferenceDxIdeal.Value.run m g), fun m g _ => Claims.framed rfl (Cert.ReferenceDxIdeal.Value.run m g),
  fun m g _ => Cert.KernelGx.Gen.frame m g, fun m g _ => Cert.KernelGxIdeal.Gen.frame m g, fun m g _ => Claims.framed rfl (Cert.ReferenceGxIdeal.Value.run m g),
  fun m g _ => Cert.KernelGw.Gen.frame m g, fun m g _ => Cert.KernelGwIdeal.Gen.frame m g, fun m g _ => Claims.framed rfl (Cert.ReferenceGwIdeal.Value.run m g),
  fun m g _ => Cert.KernelDw.Gen.frame m g, fun m g _ => Cert.KernelDwIdeal.Gen.frame m g, fun m g _ => Claims.framed rfl (Cert.ReferenceDwIdeal.Value.run m g),
  fun m g _ => Cert.KernelIx.Gen.frame m g, fun m g _ => Cert.KernelIxIdeal.Gen.frame m g, fun m g _ => Claims.framed rfl (Cert.ReferenceIxIdeal.Value.run m g),
  fun m g _ => Cert.KernelIw.Gen.frame m g, fun m g _ => Cert.KernelIwIdeal.Gen.frame m g, fun m g _ => Claims.framed rfl (Cert.ReferenceIwIdeal.Value.run m g),
  fun m g _ => Cert.KernelOx.Gen.frame m g, fun m g _ => Cert.KernelOxIdeal.Gen.frame m g, fun m g _ => Claims.framed rfl (Cert.ReferenceOxIdeal.Value.run m g),
  fun m g _ => Cert.KernelOw.Gen.frame m g, fun m g _ => Cert.KernelOwIdeal.Gen.frame m g, fun m g _ => Claims.framed rfl (Cert.ReferenceOwIdeal.Value.run m g),
  fun m g _ => Cert.KernelGf.Gen.frame m g, fun m g _ => Cert.KernelGfIdeal.Gen.frame m g, frame_refGf,
  fun m g _ => Cert.KernelIf.Gen.frame m g, fun m g _ => Cert.KernelIfIdeal.Gen.frame m g, fun m g _ => Claims.framed rfl (Cert.ReferenceIfIdeal.Value.run m g),
  fun m g _ => Cert.KernelOf.Gen.frame m g, fun m g _ => Cert.KernelOfIdeal.Gen.frame m g, fun m g _ => Claims.framed rfl (Cert.ReferenceOfIdeal.Value.run m g),
  fun m g _ => Cert.KernelDl.Gen.frame m g, fun m g _ => Cert.KernelDlIdeal.Gen.frame m g, frame_refDl,
  fun m g _ => Cert.KernelNb.Gen.frame m g, fun m g _ => Cert.KernelNbIdeal.Gen.frame m g, frame_refNb,
  trivial, Cert.Kv.algebraic,
  trivial, Claims.algebraic_Dx,
  trivial, Claims.algebraic_Gx,
  trivial, Claims.algebraic_Gw,
  trivial, Claims.algebraic_Dw,
  trivial, Claims.algebraic_Ix,
  trivial, Claims.algebraic_Iw,
  trivial, Claims.algebraic_Ox,
  trivial, Claims.algebraic_Ow,
  trivial, Claims.algebraic_Gf,
  trivial, Claims.algebraic_If,
  trivial, Claims.algebraic_Of,
  trivial, Claims.algebraic_Dl,
  trivial, Claims.algebraic_Nb⟩

end Cert.Proof

end
